-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v171)) (v1 : (c : Dev Cert.KernelIdeal.nD) → Buf (Elt Ideal) ((c.tc : Thread Cert.KernelIdeal.nD Cert.KernelIdeal.τ).loc Cert.KernelIdeal.main_v174)) (v2 : (c : Dev Cert.KernelIdeal.nD) → Buf (Elt Ideal) ((c.tc : Thread Cert.KernelIdeal.nD Cert.KernelIdeal.τ).loc Cert.KernelIdeal.main_v170)) (v3 : (c : Dev Cert.KernelIdeal.nD) → Buf (Elt Ideal) ((c.tc : Thread Cert.KernelIdeal.nD Cert.KernelIdeal.τ).loc Cert.KernelIdeal.main_v380)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_v174) = v1 c
          ∧ r.2.mem ((c.tc : Thread Cert.KernelIdeal.nD Cert.KernelIdeal.τ).loc Cert.KernelIdeal.main_v170) = v2 c
          ∧ r.2.mem ((c.tc : Thread Cert.KernelIdeal.nD Cert.KernelIdeal.τ).loc Cert.KernelIdeal.main_v380) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v652) = v0 c
          ∧ r.2.mem ((c.tc : Thread Cert.ReferenceIdeal.nD Cert.ReferenceIdeal.τ).loc Cert.ReferenceIdeal.main_v655) = v1 c
          ∧ r.2.mem ((c.tc : Thread Cert.ReferenceIdeal.nD Cert.ReferenceIdeal.τ).loc Cert.ReferenceIdeal.main_v437) = v2 c
          ∧ r.2.mem ((c.tc : Thread Cert.ReferenceIdeal.nD Cert.ReferenceIdeal.τ).loc Cert.ReferenceIdeal.main_v647) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S32x16x64x64 : Shape := ⟨4, ![32, 16, 64, 64]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S64x64x4x4 : Shape := ⟨4, ![64, 64, 4, 4]⟩
abbrev S1024x64 : Shape := ⟨2, ![1024, 64]⟩
abbrev S32x64x4x4 : Shape := ⟨4, ![32, 64, 4, 4]⟩
abbrev S1x32x4x4 : Shape := ⟨4, ![1, 32, 4, 4]⟩
abbrev S1 : Shape := ⟨1, ![1]⟩
abbrev S_ : Shape := ⟨0, ![]⟩

class Facts : Prop where
  bcast_S_S32x16x64x64 : S_.BroadcastsInDim S32x16x64x64 (![] : Fin 0 → Fin S32x16x64x64.rank)
  reducesTo_S32x16x64x64_S_d0_1_2_3 : S32x16x64x64.ReducesTo [0, 1, 2, 3] S_
  h_S_ : 0 < S_.numel
  bcast_S_S32x1x4x4 : S_.BroadcastsInDim S32x1x4x4 (![] : Fin 0 → Fin S32x1x4x4.rank)
  reducesTo_S32x1x4x4_S_d0_1_2_3 : S32x1x4x4.ReducesTo [0, 1, 2, 3] S_
  bcast_S_S32 : S_.BroadcastsInDim S32 (![] : Fin 0 → Fin S32.rank)
  reducesTo_S32_S_d0 : S32.ReducesTo [0] S_
  bcast_S_S64x32x4x4 : S_.BroadcastsInDim S64x32x4x4 (![] : Fin 0 → Fin S64x32x4x4.rank)
  reducesTo_S64x32x4x4_S_d0_1_2_3 : S64x32x4x4.ReducesTo [0, 1, 2, 3] S_
  bcast_S_S64 : S_.BroadcastsInDim S64 (![] : Fin 0 → Fin S64.rank)
  reducesTo_S64_S_d0 : S64.ReducesTo [0] S_
  bcast_S_S64x64x4x4 : S_.BroadcastsInDim S64x64x4x4 (![] : Fin 0 → Fin S64x64x4x4.rank)
  reducesTo_S64x64x4x4_S_d0_1_2_3 : S64x64x4x4.ReducesTo [0, 1, 2, 3] S_

variable [Facts]

def fn_part1 {F : FTy → Type} [FloatOps F] (main_arg4 : FVec F S64 .f32) (main_arg5 : FVec F S64x64x4x4 .f32) (main_arg6 : FVec F S64 .f32) (main_v13 : IVec S_ 1) (main_v16 : IVec S64x32x4x4 1) : IVec S_ 1 :=
  let main_c_5 : IVec S_ 1 := constantI S_ 1 1#1
  let main_v17 : IVec S_ 1 := (fun x v => Host.reduce IntOp.andi x v reducesTo_S64x32x4x4_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64x4x4 .f32 := Host.absf main_arg5
  let main_cst_8 : FVec F S_ .f32 := constant S_ .f32 0x7F800000#32
  let main_v25 : FVec F S64x64x4x4 .f32 := broadcastInDim S64x64x4x4 ![] bcast_S_S64x64x4x4 main_cst_8
  let main_v26 : IVec S64x64x4x4 1 := cmpf .olt main_v24 main_v25
  let main_c_9 : IVec S_ 1 := constantI S_ 1 1#1
  let main_v27 : IVec S_ 1 := (fun x v => Host.reduce IntOp.andi x v reducesTo_S64x64x4x4_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32x16x64x64 .f32) (main_arg1 : FVec F S32x1x4x4 .f32) (main_arg2 : FVec F S32 .f32) (main_arg3 : FVec F S64x32x4x4 .f32) (main_arg4 : FVec F S64 .f32) (main_arg5 : FVec F S64x64x4x4 .f32) (main_arg6 : FVec F S64 .f32) (main_arg7 : FVec F S1024x64 .f32) (main_arg8 : FVec F S64x64x4x4 .f32) (main_arg9 : FVec F S64 .f32) (main_arg10 : FVec F S32x64x4x4 .f32) (main_arg11 : FVec F S32 .f32) (main_arg12 : FVec F S1x32x4x4 .f32) (main_arg13 : FVec F S1 .f32) : IVec S_ 1 :=
  let main_v0 : FVec F S32x16x64x64 .f32 := Host.absf main_arg0
  let main_cst : FVec F S_ .f32 := constant S_ .f32 0x7F800000#32
  let main_v1 : FVec F S32x16x64x64 .f32 := broadcastInDim S32x16x64x64 ![] bcast_S_S32x16x64x64 main_cst
  let main_v2 : IVec S32x16x64x64 1 := cmpf .olt main_v0 main_v1
  let main_c : IVec S_ 1 := constantI S_ 1 1#1
  let main_v3 : IVec S_ 1 := (fun x v => Host.reduce IntOp.andi x v reducesTo_S32x16x64x64_S_d0_1_2_3 h_S_) main_v2 main_c
  let main_v4 : FVec F S32x1x4x4 .f32 := Host.absf main_arg1
  let main_cst_0 : FVec F S_ .f32 := constant S_ .f32 0x7F800000#32
  let main_v5 : FVec F S32x1x4x4 .f32 := broadcastInDim S32x1x4x4 ![] bcast_S_S32x1x4x4 main_cst_0
  let main_v6 : IVec S32x1x4x4 1 := cmpf .olt main_v4 main_v5
  let main_c_1 : IVec S_ 1 := constantI S_ 1 1#1
  let main_v7 : IVec S_ 1 := (fun x v => Host.reduce IntOp.andi x v reducesTo_S32x1x4x4_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32x4x4 .f32 := Host.absf main_arg3
  let main_cst_4 : FVec F S_ .f32 := constant S_ .f32 0x7F800000#32
  let main_v15 : FVec F S64x32x4x4 .f32 := broadcastInDim S64x32x4x4 ![] bcast_S_S64x32x4x4 main_cst_4
  let main_v16 : IVec S64x32x4x4 1 := cmpf .olt main_v14 main_v15
  fn_part1 (F := F) main_arg4 main_arg5 main_arg6 main_v13 main_v16
-- ==== Kernel.lean ====
abbrev S32x16x64x64 : Shape := ⟨4, ![32, 16, 64, 64]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S64x64x4x4 : Shape := ⟨4, ![64, 64, 4, 4]⟩
abbrev S1024x64 : Shape := ⟨2, ![1024, 64]⟩
abbrev S32x64x4x4 : Shape := ⟨4, ![32, 64, 4, 4]⟩
abbrev S1x32x4x4 : Shape := ⟨4, ![1, 32, 4, 4]⟩
abbrev S1 : Shape := ⟨1, ![1]⟩
abbrev S512x64x64x1 : Shape := ⟨4, ![512, 64, 64, 1]⟩
abbrev S_ : Shape := ⟨0, ![]⟩
abbrev S512x66x66x1 : Shape := ⟨4, ![512, 66, 66, 1]⟩
abbrev S512x33x33x1 : Shape := ⟨4, ![512, 33, 33, 1]⟩
abbrev S512x32x32x1 : Shape := ⟨4, ![512, 32, 32, 1]⟩
abbrev S512x33x32x1 : Shape := ⟨4, ![512, 33, 32, 1]⟩
abbrev S512x32x33x1 : Shape := ⟨4, ![512, 32, 33, 1]⟩
abbrev S512x32x32x1x1 : Shape := ⟨5, ![512, 32, 32, 1, 1]⟩
abbrev S512x32x32x16x1 : Shape := ⟨5, ![512, 32, 32, 16, 1]⟩
abbrev S524288x16 : Shape := ⟨2, ![524288, 16]⟩
abbrev S4x4x1x32 : Shape := ⟨4, ![4, 4, 1, 32]⟩
abbrev S16x32 : Shape := ⟨2, ![16, 32]⟩
abbrev S1x32 : Shape := ⟨2, ![1, 32]⟩
abbrev S524288x32 : Shape := ⟨2, ![524288, 32]⟩
abbrev S8192x16 : Shape := ⟨2, ![8192, 16]⟩
abbrev S8192x32 : Shape := ⟨2, ![8192, 32]⟩
abbrev S512x32x32x32 : Shape := ⟨4, ![512, 32, 32, 32]⟩
abbrev S512x34x34x32 : Shape := ⟨4, ![512, 34, 34, 32]⟩
abbrev S512x17x17x32 : Shape := ⟨4, ![512, 17, 17, 32]⟩
abbrev S512x16x16x32 : Shape := ⟨4, ![512, 16, 16, 32]⟩
abbrev S512x17x16x32 : Shape := ⟨4, ![512, 17, 16, 32]⟩
abbrev S512x16x17x32 : Shape := ⟨4, ![512, 16, 17, 32]⟩
abbrev S512x16x16x1x32 : Shape := ⟨5, ![512, 16, 16, 1, 32]⟩
abbrev S512x16x16x16x32 : Shape := ⟨5, ![512, 16, 16, 16, 32]⟩
abbrev S512x16x16x16x4x8 : Shape := ⟨6, ![512, 16, 16, 16, 4, 8]⟩
abbrev S512x16x16x4x16x8 : Shape := ⟨6, ![512, 16, 16, 4, 16, 8]⟩
abbrev S131072x512 : Shape := ⟨2, ![131072, 512]⟩
abbrev S4x4x32x64 : Shape := ⟨4, ![4, 4, 32, 64]⟩
abbrev S16x4x8x64 : Shape := ⟨4, ![16, 4, 8, 64]⟩
abbrev S4x16x8x64 : Shape := ⟨4, ![4, 16, 8, 64]⟩
abbrev S512x64 : Shape := ⟨2, ![512, 64]⟩
abbrev S1x64 : Shape := ⟨2, ![1, 64]⟩
abbrev S131072x64 : Shape := ⟨2, ![131072, 64]⟩
abbrev S4096x512 : Shape := ⟨2, ![4096, 512]⟩
abbrev S4096x64 : Shape := ⟨2, ![4096, 64]⟩
abbrev S4096x128 : Shape := ⟨2, ![4096, 128]⟩
abbrev S128x64 : Shape := ⟨2, ![128, 64]⟩
abbrev S512x16x16x64 : Shape := ⟨4, ![512, 16, 16, 64]⟩
abbrev S512x18x18x64 : Shape := ⟨4, ![512, 18, 18, 64]⟩
abbrev S512x9x9x64 : Shape := ⟨4, ![512, 9, 9, 64]⟩
abbrev S512x8x8x64 : Shape := ⟨4, ![512, 8, 8, 64]⟩
abbrev S512x9x8x64 : Shape := ⟨4, ![512, 9, 8, 64]⟩
abbrev S512x8x9x64 : Shape := ⟨4, ![512, 8, 9, 64]⟩
abbrev S512x8x8x1x64 : Shape := ⟨5, ![512, 8, 8, 1, 64]⟩
abbrev S512x8x8x16x64 : Shape := ⟨5, ![512, 8, 8, 16, 64]⟩
abbrev S32768x1024 : Shape := ⟨2, ![32768, 1024]⟩
abbrev S4x4x64x64 : Shape := ⟨4, ![4, 4, 64, 64]⟩
abbrev S32768x64 : Shape := ⟨2, ![32768, 64]⟩
abbrev S2048x1024 : Shape := ⟨2, ![2048, 1024]⟩
abbrev S2048x64 : Shape := ⟨2, ![2048, 64]⟩
abbrev S2048x256 : Shape := ⟨2, ![2048, 256]⟩
abbrev S256x64 : Shape := ⟨2, ![256, 64]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S16x1x2048 : Shape := ⟨3, ![16, 1, 2048]⟩
abbrev S16x1x1 : Shape := ⟨3, ![16, 1, 1]⟩
abbrev S2048x1 : Shape := ⟨2, ![2048, 1]⟩
abbrev S1x1x2048 : Shape := ⟨3, ![1, 1, 2048]⟩
abbrev S32x64 : Shape := ⟨2, ![32, 64]⟩
abbrev S1x1x1 : Shape := ⟨3, ![1, 1, 1]⟩
abbrev S2048 : Shape := ⟨1, ![2048]⟩
abbrev S32x64x64 : Shape := ⟨3, ![32, 64, 64]⟩
abbrev S1x2048x64 : Shape := ⟨3, ![1, 2048, 64]⟩
abbrev S32x16x64 : Shape := ⟨3, ![32, 16, 64]⟩
abbrev S32x16x1 : Shape := ⟨3, ![32, 16, 1]⟩
abbrev S32x16 : Shape := ⟨2, ![32, 16]⟩
abbrev S512x10x10x64 : Shape := ⟨4, ![512, 10, 10, 64]⟩
abbrev S512x8x8x4x64 : Shape := ⟨5, ![512, 8, 8, 4, 64]⟩
abbrev S32768x256 : Shape := ⟨2, ![32768, 256]⟩
abbrev S1x32768x256 : Shape := ⟨3, ![1, 32768, 256]⟩
abbrev S4x32768x256 : Shape := ⟨3, ![4, 32768, 256]⟩
abbrev S64x64x2x2 : Shape := ⟨4, ![64, 64, 2, 2]⟩
abbrev S2x2x64x64 : Shape := ⟨4, ![2, 2, 64, 64]⟩
abbrev S1x256x64 : Shape := ⟨3, ![1, 256, 64]⟩
abbrev S4x256x64 : Shape := ⟨3, ![4, 256, 64]⟩
abbrev S1x1x64 : Shape := ⟨3, ![1, 1, 64]⟩
abbrev S4x32768x64 : Shape := ⟨3, ![4, 32768, 64]⟩
abbrev S1x2048x256 : Shape := ⟨3, ![1, 2048, 256]⟩
abbrev S2x2x512x8x8x64 : Shape := ⟨6, ![2, 2, 512, 8, 8, 64]⟩
abbrev S512x8x2x8x2x64 : Shape := ⟨6, ![512, 8, 2, 8, 2, 64]⟩
abbrev S512x16x16x1x64 : Shape := ⟨5, ![512, 16, 16, 1, 64]⟩
abbrev S512x16x16x4x64 : Shape := ⟨5, ![512, 16, 16, 4, 64]⟩
abbrev S131072x256 : Shape := ⟨2, ![131072, 256]⟩
abbrev S1x131072x256 : Shape := ⟨3, ![1, 131072, 256]⟩
abbrev S4x131072x256 : Shape := ⟨3, ![4, 131072, 256]⟩
abbrev S32x64x2x2 : Shape := ⟨4, ![32, 64, 2, 2]⟩
abbrev S2x2x64x32 : Shape := ⟨4, ![2, 2, 64, 32]⟩
abbrev S256x32 : Shape := ⟨2, ![256, 32]⟩
abbrev S1x256x32 : Shape := ⟨3, ![1, 256, 32]⟩
abbrev S4x256x32 : Shape := ⟨3, ![4, 256, 32]⟩
abbrev S1x1x32 : Shape := ⟨3, ![1, 1, 32]⟩
abbrev S4x131072x32 : Shape := ⟨3, ![4, 131072, 32]⟩
abbrev S1x4096x256 : Shape := ⟨3, ![1, 4096, 256]⟩
abbrev S1x4096x32 : Shape := ⟨3, ![1, 4096, 32]⟩
abbrev S4096x256 : Shape := ⟨2, ![4096, 256]⟩
abbrev S4096x32 : Shape := ⟨2, ![4096, 32]⟩
abbrev S2x2x512x16x16x32 : Shape := ⟨6, ![2, 2, 512, 16, 16, 32]⟩
abbrev S512x16x2x16x2x32 : Shape := ⟨6, ![512, 16, 2, 16, 2, 32]⟩
abbrev S512x32x32x1x32 : Shape := ⟨5, ![512, 32, 32, 1, 32]⟩
abbrev S512x32x32x4x32 : Shape := ⟨5, ![512, 32, 32, 4, 32]⟩
abbrev S524288x128 : Shape := ⟨2, ![524288, 128]⟩
abbrev S1x524288x128 : Shape := ⟨3, ![1, 524288, 128]⟩
abbrev S4x524288x128 : Shape := ⟨3, ![4, 524288, 128]⟩
abbrev S1x32x2x2 : Shape := ⟨4, ![1, 32, 2, 2]⟩
abbrev S2x2x32x1 : Shape := ⟨4, ![2, 2, 32, 1]⟩
abbrev S128x1 : Shape := ⟨2, ![128, 1]⟩
abbrev S1x128x1 : Shape := ⟨3, ![1, 128, 1]⟩
abbrev S4x128x1 : Shape := ⟨3, ![4, 128, 1]⟩
abbrev S4x524288x1 : Shape := ⟨3, ![4, 524288, 1]⟩
abbrev S1x8192x128 : Shape := ⟨3, ![1, 8192, 128]⟩
abbrev S1x8192x1 : Shape := ⟨3, ![1, 8192, 1]⟩
abbrev S8192x128 : Shape := ⟨2, ![8192, 128]⟩
abbrev S8192x1 : Shape := ⟨2, ![8192, 1]⟩
abbrev S1x1 : Shape := ⟨2, ![1, 1]⟩
abbrev S2x2x512x32x32x1 : Shape := ⟨6, ![2, 2, 512, 32, 32, 1]⟩
abbrev S512x32x2x32x2x1 : Shape := ⟨6, ![512, 32, 2, 32, 2, 1]⟩
abbrev S512x1x64x64 : Shape := ⟨4, ![512, 1, 64, 64]⟩

abbrev nBuf : Space → Nat
  | .hbm => 415
  | .vmem => 53
  | .smem => 0
  | _ => 0

abbrev hbmTy0_0 (i : Nat) : BufTy := match i % 128 with
  | 0 => ⟨S32x16x64x64, .f32⟩
  | 1 => ⟨S32x1x4x4, .f32⟩
  | 2 => ⟨S32, .f32⟩
  | 3 => ⟨S64x32x4x4, .f32⟩
  | 4 => ⟨S64, .f32⟩
  | 5 => ⟨S64x64x4x4, .f32⟩
  | 6 => ⟨S64, .f32⟩
  | 7 => ⟨S1024x64, .f32⟩
  | 8 => ⟨S64x64x4x4, .f32⟩
  | 9 => ⟨S64, .f32⟩
  | 10 => ⟨S32x64x4x4, .f32⟩
  | 11 => ⟨S32, .f32⟩
  | 12 => ⟨S1x32x4x4, .f32⟩
  | 13 => ⟨S1, .f32⟩
  | 14 => ⟨S512x64x64x1, .f32⟩
  | 15 => ⟨S_, .i32⟩
  | 16 => ⟨S_, .f32⟩
  | 17 => ⟨S512x66x66x1, .f32⟩
  | 18 => ⟨S512x33x33x1, .f32⟩
  | 19 => ⟨S512x32x32x1, .f32⟩
  | 20 => ⟨S512x33x33x1, .f32⟩
  | 21 => ⟨S512x32x32x1, .f32⟩
  | 22 => ⟨S512x33x32x1, .f32⟩
  | 23 => ⟨S512x32x32x1, .f32⟩
  | 24 => ⟨S512x33x32x1, .f32⟩
  | 25 => ⟨S512x32x32x1, .f32⟩
  | 26 => ⟨S512x33x33x1, .f32⟩
  | 27 => ⟨S512x32x32x1, .f32⟩
  | 28 => ⟨S512x33x33x1, .f32⟩
  | 29 => ⟨S512x32x32x1, .f32⟩
  | 30 => ⟨S512x33x32x1, .f32⟩
  | 31 => ⟨S512x32x32x1, .f32⟩
  | 32 => ⟨S512x33x32x1, .f32⟩
  | 33 => ⟨S512x32x32x1, .f32⟩
  | 34 => ⟨S512x32x33x1, .f32⟩
  | 35 => ⟨S512x32x32x1, .f32⟩
  | 36 => ⟨S512x32x33x1, .f32⟩
  | 37 => ⟨S512x32x32x1, .f32⟩
  | 38 => ⟨S512x32x32x1, .f32⟩
  | 39 => ⟨S512x32x32x1, .f32⟩
  | 40 => ⟨S512x32x33x1, .f32⟩
  | 41 => ⟨S512x32x32x1, .f32⟩
  | 42 => ⟨S512x32x33x1, .f32⟩
  | 43 => ⟨S512x32x32x1, .f32⟩
  | 44 => ⟨S512x32x32x1, .f32⟩
  | 45 => ⟨S512x32x32x1, .f32⟩
  | 46 => ⟨S512x32x32x1x1, .f32⟩
  | 47 => ⟨S512x32x32x1x1, .f32⟩
  | 48 => ⟨S512x32x32x1x1, .f32⟩
  | 49 => ⟨S512x32x32x1x1, .f32⟩
  | 50 => ⟨S512x32x32x1x1, .f32⟩
  | 51 => ⟨S512x32x32x1x1, .f32⟩
  | 52 => ⟨S512x32x32x1x1, .f32⟩
  | 53 => ⟨S512x32x32x1x1, .f32⟩
  | 54 => ⟨S512x32x32x1x1, .f32⟩
  | 55 => ⟨S512x32x32x1x1, .f32⟩
  | 56 => ⟨S512x32x32x1x1, .f32⟩
  | 57 => ⟨S512x32x32x1x1, .f32⟩
  | 58 => ⟨S512x32x32x1x1, .f32⟩
  | 59 => ⟨S512x32x32x1x1, .f32⟩
  | 60 => ⟨S512x32x32x1x1, .f32⟩
  | 61 => ⟨S512x32x32x1x1, .f32⟩
  | 62 => ⟨S512x32x32x16x1, .f32⟩
  | 63 => ⟨S524288x16, .f32⟩
  | 64 => ⟨S4x4x1x32, .f32⟩
  | 65 => ⟨S16x32, .f32⟩
  | 66 => ⟨S1x32, .f32⟩
  | 67 => ⟨S524288x32, .f32⟩
  | 68 => ⟨S512x32x32x32, .f32⟩
  | 69 => ⟨S_, .i32⟩
  | 70 => ⟨S_, .f32⟩
  | 71 => ⟨S512x34x34x32, .f32⟩
  | 72 => ⟨S512x17x17x32, .f32⟩
  | 73 => ⟨S512x16x16x32, .f32⟩
  | 74 => ⟨S512x17x17x32, .f32⟩
  | 75 => ⟨S512x16x16x32, .f32⟩
  | 76 => ⟨S512x17x16x32, .f32⟩
  | 77 => ⟨S512x16x16x32, .f32⟩
  | 78 => ⟨S512x17x16x32, .f32⟩
  | 79 => ⟨S512x16x16x32, .f32⟩
  | 80 => ⟨S512x17x17x32, .f32⟩
  | 81 => ⟨S512x16x16x32, .f32⟩
  | 82 => ⟨S512x17x17x32, .f32⟩
  | 83 => ⟨S512x16x16x32, .f32⟩
  | 84 => ⟨S512x17x16x32, .f32⟩
  | 85 => ⟨S512x16x16x32, .f32⟩
  | 86 => ⟨S512x17x16x32, .f32⟩
  | 87 => ⟨S512x16x16x32, .f32⟩
  | 88 => ⟨S512x16x17x32, .f32⟩
  | 89 => ⟨S512x16x16x32, .f32⟩
  | 90 => ⟨S512x16x17x32, .f32⟩
  | 91 => ⟨S512x16x16x32, .f32⟩
  | 92 => ⟨S512x16x16x32, .f32⟩
  | 93 => ⟨S512x16x16x32, .f32⟩
  | 94 => ⟨S512x16x17x32, .f32⟩
  | 95 => ⟨S512x16x16x32, .f32⟩
  | 96 => ⟨S512x16x17x32, .f32⟩
  | 97 => ⟨S512x16x16x32, .f32⟩
  | 98 => ⟨S512x16x16x32, .f32⟩
  | 99 => ⟨S512x16x16x32, .f32⟩
  | 100 => ⟨S512x16x16x1x32, .f32⟩
  | 101 => ⟨S512x16x16x1x32, .f32⟩
  | 102 => ⟨S512x16x16x1x32, .f32⟩
  | 103 => ⟨S512x16x16x1x32, .f32⟩
  | 104 => ⟨S512x16x16x1x32, .f32⟩
  | 105 => ⟨S512x16x16x1x32, .f32⟩
  | 106 => ⟨S512x16x16x1x32, .f32⟩
  | 107 => ⟨S512x16x16x1x32, .f32⟩
  | 108 => ⟨S512x16x16x1x32, .f32⟩
  | 109 => ⟨S512x16x16x1x32, .f32⟩
  | 110 => ⟨S512x16x16x1x32, .f32⟩
  | 111 => ⟨S512x16x16x1x32, .f32⟩
  | 112 => ⟨S512x16x16x1x32, .f32⟩
  | 113 => ⟨S512x16x16x1x32, .f32⟩
  | 114 => ⟨S512x16x16x1x32, .f32⟩
  | 115 => ⟨S512x16x16x1x32, .f32⟩
  | 116 => ⟨S512x16x16x16x32, .f32⟩
  | 117 => ⟨S512x16x16x16x4x8, .f32⟩
  | 118 => ⟨S512x16x16x4x16x8, .f32⟩
  | 119 => ⟨S131072x512, .f32⟩
  | 120 => ⟨S4x4x32x64, .f32⟩
  | 121 => ⟨S16x4x8x64, .f32⟩
  | 122 => ⟨S4x16x8x64, .f32⟩
  | 123 => ⟨S512x64, .f32⟩
  | 124 => ⟨S1x64, .f32⟩
  | 125 => ⟨S131072x64, .f32⟩
  | 126 => ⟨S512x16x16x64, .f32⟩
  | 127 => ⟨S_, .i32⟩
  | _ => ⟨S32x16x64x64, .f32⟩

abbrev hbmTy0_1 (i : Nat) : BufTy := match i % 128 with
  | 0 => ⟨S_, .f32⟩
  | 1 => ⟨S512x18x18x64, .f32⟩
  | 2 => ⟨S512x9x9x64, .f32⟩
  | 3 => ⟨S512x8x8x64, .f32⟩
  | 4 => ⟨S512x9x9x64, .f32⟩
  | 5 => ⟨S512x8x8x64, .f32⟩
  | 6 => ⟨S512x9x8x64, .f32⟩
  | 7 => ⟨S512x8x8x64, .f32⟩
  | 8 => ⟨S512x9x8x64, .f32⟩
  | 9 => ⟨S512x8x8x64, .f32⟩
  | 10 => ⟨S512x9x9x64, .f32⟩
  | 11 => ⟨S512x8x8x64, .f32⟩
  | 12 => ⟨S512x9x9x64, .f32⟩
  | 13 => ⟨S512x8x8x64, .f32⟩
  | 14 => ⟨S512x9x8x64, .f32⟩
  | 15 => ⟨S512x8x8x64, .f32⟩
  | 16 => ⟨S512x9x8x64, .f32⟩
  | 17 => ⟨S512x8x8x64, .f32⟩
  | 18 => ⟨S512x8x9x64, .f32⟩
  | 19 => ⟨S512x8x8x64, .f32⟩
  | 20 => ⟨S512x8x9x64, .f32⟩
  | 21 => ⟨S512x8x8x64, .f32⟩
  | 22 => ⟨S512x8x8x64, .f32⟩
  | 23 => ⟨S512x8x8x64, .f32⟩
  | 24 => ⟨S512x8x9x64, .f32⟩
  | 25 => ⟨S512x8x8x64, .f32⟩
  | 26 => ⟨S512x8x9x64, .f32⟩
  | 27 => ⟨S512x8x8x64, .f32⟩
  | 28 => ⟨S512x8x8x64, .f32⟩
  | 29 => ⟨S512x8x8x64, .f32⟩
  | 30 => ⟨S512x8x8x1x64, .f32⟩
  | 31 => ⟨S512x8x8x1x64, .f32⟩
  | 32 => ⟨S512x8x8x1x64, .f32⟩
  | 33 => ⟨S512x8x8x1x64, .f32⟩
  | 34 => ⟨S512x8x8x1x64, .f32⟩
  | 35 => ⟨S512x8x8x1x64, .f32⟩
  | 36 => ⟨S512x8x8x1x64, .f32⟩
  | 37 => ⟨S512x8x8x1x64, .f32⟩
  | 38 => ⟨S512x8x8x1x64, .f32⟩
  | 39 => ⟨S512x8x8x1x64, .f32⟩
  | 40 => ⟨S512x8x8x1x64, .f32⟩
  | 41 => ⟨S512x8x8x1x64, .f32⟩
  | 42 => ⟨S512x8x8x1x64, .f32⟩
  | 43 => ⟨S512x8x8x1x64, .f32⟩
  | 44 => ⟨S512x8x8x1x64, .f32⟩
  | 45 => ⟨S512x8x8x1x64, .f32⟩
  | 46 => ⟨S512x8x8x16x64, .f32⟩
  | 47 => ⟨S32768x1024, .f32⟩
  | 48 => ⟨S4x4x64x64, .f32⟩
  | 49 => ⟨S1024x64, .f32⟩
  | 50 => ⟨S1x64, .f32⟩
  | 51 => ⟨S32768x64, .f32⟩
  | 52 => ⟨S32768x64, .f32⟩
  | 53 => ⟨S_, .f32⟩
  | 54 => ⟨S32768, .f32⟩
  | 55 => ⟨S32768x1, .f32⟩
  | 56 => ⟨S1024x64, .f32⟩
  | 57 => ⟨S_, .f32⟩
  | 58 => ⟨S1024, .f32⟩
  | 59 => ⟨S1x1024, .f32⟩
  | 60 => ⟨S16x1x2048, .i32⟩
  | 61 => ⟨S32768x64, .f32⟩
  | 62 => ⟨S512x64, .f32⟩
  | 63 => ⟨S16x1x1, .f32⟩
  | 64 => ⟨S32768, .i32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S32x16x64, .f32⟩
  | 72 => ⟨S32x16x64, .i32⟩
  | 73 => ⟨S32x16x1, .i32⟩
  | 74 => ⟨S32x16, .i32⟩
  | 75 => ⟨S512x8x8x64, .f32⟩
  | 76 => ⟨S_, .i32⟩
  | 77 => ⟨S_, .f32⟩
  | 78 => ⟨S512x10x10x64, .f32⟩
  | 79 => ⟨S512x8x8x64, .f32⟩
  | 80 => ⟨S512x8x8x64, .f32⟩
  | 81 => ⟨S512x8x8x64, .f32⟩
  | 82 => ⟨S512x8x8x64, .f32⟩
  | 83 => ⟨S512x8x8x1x64, .f32⟩
  | 84 => ⟨S512x8x8x1x64, .f32⟩
  | 85 => ⟨S512x8x8x1x64, .f32⟩
  | 86 => ⟨S512x8x8x1x64, .f32⟩
  | 87 => ⟨S512x8x8x4x64, .f32⟩
  | 88 => ⟨S32768x256, .f32⟩
  | 89 => ⟨S512x8x8x64, .f32⟩
  | 90 => ⟨S512x8x8x64, .f32⟩
  | 91 => ⟨S512x8x8x64, .f32⟩
  | 92 => ⟨S512x8x8x64, .f32⟩
  | 93 => ⟨S512x8x8x1x64, .f32⟩
  | 94 => ⟨S512x8x8x1x64, .f32⟩
  | 95 => ⟨S512x8x8x1x64, .f32⟩
  | 96 => ⟨S512x8x8x1x64, .f32⟩
  | 97 => ⟨S512x8x8x4x64, .f32⟩
  | 98 => ⟨S32768x256, .f32⟩
  | 99 => ⟨S512x8x8x64, .f32⟩
  | 100 => ⟨S512x8x8x64, .f32⟩
  | 101 => ⟨S512x8x8x64, .f32⟩
  | 102 => ⟨S512x8x8x64, .f32⟩
  | 103 => ⟨S512x8x8x1x64, .f32⟩
  | 104 => ⟨S512x8x8x1x64, .f32⟩
  | 105 => ⟨S512x8x8x1x64, .f32⟩
  | 106 => ⟨S512x8x8x1x64, .f32⟩
  | 107 => ⟨S512x8x8x4x64, .f32⟩
  | 108 => ⟨S32768x256, .f32⟩
  | 109 => ⟨S512x8x8x64, .f32⟩
  | 110 => ⟨S512x8x8x64, .f32⟩
  | 111 => ⟨S512x8x8x64, .f32⟩
  | 112 => ⟨S512x8x8x64, .f32⟩
  | 113 => ⟨S512x8x8x1x64, .f32⟩
  | 114 => ⟨S512x8x8x1x64, .f32⟩
  | 115 => ⟨S512x8x8x1x64, .f32⟩
  | 116 => ⟨S512x8x8x1x64, .f32⟩
  | 117 => ⟨S512x8x8x4x64, .f32⟩
  | 118 => ⟨S32768x256, .f32⟩
  | 119 => ⟨S1x32768x256, .f32⟩
  | 120 => ⟨S1x32768x256, .f32⟩
  | 121 => ⟨S1x32768x256, .f32⟩
  | 122 => ⟨S1x32768x256, .f32⟩
  | 123 => ⟨S4x32768x256, .f32⟩
  | 124 => ⟨S64x64x2x2, .f32⟩
  | 125 => ⟨S2x2x64x64, .f32⟩
  | 126 => ⟨S256x64, .f32⟩
  | 127 => ⟨S64x64x2x2, .f32⟩
  | _ => ⟨S32x16x64x64, .f32⟩

abbrev hbmTy0_2 (i : Nat) : BufTy := match i % 128 with
  | 0 => ⟨S2x2x64x64, .f32⟩
  | 1 => ⟨S256x64, .f32⟩
  | 2 => ⟨S64x64x2x2, .f32⟩
  | 3 => ⟨S2x2x64x64, .f32⟩
  | 4 => ⟨S256x64, .f32⟩
  | 5 => ⟨S64x64x2x2, .f32⟩
  | 6 => ⟨S2x2x64x64, .f32⟩
  | 7 => ⟨S256x64, .f32⟩
  | 8 => ⟨S1x256x64, .f32⟩
  | 9 => ⟨S1x256x64, .f32⟩
  | 10 => ⟨S1x256x64, .f32⟩
  | 11 => ⟨S1x256x64, .f32⟩
  | 12 => ⟨S4x256x64, .f32⟩
  | 13 => ⟨S1x1x64, .f32⟩
  | 14 => ⟨S4x32768x64, .f32⟩
  | 15 => ⟨S2x2x512x8x8x64, .f32⟩
  | 16 => ⟨S512x8x2x8x2x64, .f32⟩
  | 17 => ⟨S512x16x16x64, .f32⟩
  | 18 => ⟨S_, .i32⟩
  | 19 => ⟨S_, .f32⟩
  | 20 => ⟨S512x18x18x64, .f32⟩
  | 21 => ⟨S512x16x16x64, .f32⟩
  | 22 => ⟨S512x16x16x64, .f32⟩
  | 23 => ⟨S512x16x16x64, .f32⟩
  | 24 => ⟨S512x16x16x64, .f32⟩
  | 25 => ⟨S512x16x16x1x64, .f32⟩
  | 26 => ⟨S512x16x16x1x64, .f32⟩
  | 27 => ⟨S512x16x16x1x64, .f32⟩
  | 28 => ⟨S512x16x16x1x64, .f32⟩
  | 29 => ⟨S512x16x16x4x64, .f32⟩
  | 30 => ⟨S131072x256, .f32⟩
  | 31 => ⟨S512x16x16x64, .f32⟩
  | 32 => ⟨S512x16x16x64, .f32⟩
  | 33 => ⟨S512x16x16x64, .f32⟩
  | 34 => ⟨S512x16x16x64, .f32⟩
  | 35 => ⟨S512x16x16x1x64, .f32⟩
  | 36 => ⟨S512x16x16x1x64, .f32⟩
  | 37 => ⟨S512x16x16x1x64, .f32⟩
  | 38 => ⟨S512x16x16x1x64, .f32⟩
  | 39 => ⟨S512x16x16x4x64, .f32⟩
  | 40 => ⟨S131072x256, .f32⟩
  | 41 => ⟨S512x16x16x64, .f32⟩
  | 42 => ⟨S512x16x16x64, .f32⟩
  | 43 => ⟨S512x16x16x64, .f32⟩
  | 44 => ⟨S512x16x16x64, .f32⟩
  | 45 => ⟨S512x16x16x1x64, .f32⟩
  | 46 => ⟨S512x16x16x1x64, .f32⟩
  | 47 => ⟨S512x16x16x1x64, .f32⟩
  | 48 => ⟨S512x16x16x1x64, .f32⟩
  | 49 => ⟨S512x16x16x4x64, .f32⟩
  | 50 => ⟨S131072x256, .f32⟩
  | 51 => ⟨S512x16x16x64, .f32⟩
  | 52 => ⟨S512x16x16x64, .f32⟩
  | 53 => ⟨S512x16x16x64, .f32⟩
  | 54 => ⟨S512x16x16x64, .f32⟩
  | 55 => ⟨S512x16x16x1x64, .f32⟩
  | 56 => ⟨S512x16x16x1x64, .f32⟩
  | 57 => ⟨S512x16x16x1x64, .f32⟩
  | 58 => ⟨S512x16x16x1x64, .f32⟩
  | 59 => ⟨S512x16x16x4x64, .f32⟩
  | 60 => ⟨S131072x256, .f32⟩
  | 61 => ⟨S1x131072x256, .f32⟩
  | 62 => ⟨S1x131072x256, .f32⟩
  | 63 => ⟨S1x131072x256, .f32⟩
  | 64 => ⟨S1x131072x256, .f32⟩
  | 65 => ⟨S4x131072x256, .f32⟩
  | 66 => ⟨S32x64x2x2, .f32⟩
  | 67 => ⟨S2x2x64x32, .f32⟩
  | 68 => ⟨S256x32, .f32⟩
  | 69 => ⟨S32x64x2x2, .f32⟩
  | 70 => ⟨S2x2x64x32, .f32⟩
  | 71 => ⟨S256x32, .f32⟩
  | 72 => ⟨S32x64x2x2, .f32⟩
  | 73 => ⟨S2x2x64x32, .f32⟩
  | 74 => ⟨S256x32, .f32⟩
  | 75 => ⟨S32x64x2x2, .f32⟩
  | 76 => ⟨S2x2x64x32, .f32⟩
  | 77 => ⟨S256x32, .f32⟩
  | 78 => ⟨S1x256x32, .f32⟩
  | 79 => ⟨S1x256x32, .f32⟩
  | 80 => ⟨S1x256x32, .f32⟩
  | 81 => ⟨S1x256x32, .f32⟩
  | 82 => ⟨S4x256x32, .f32⟩
  | 83 => ⟨S1x1x32, .f32⟩
  | 84 => ⟨S4x131072x32, .f32⟩
  | 85 => ⟨S2x2x512x16x16x32, .f32⟩
  | 86 => ⟨S512x16x2x16x2x32, .f32⟩
  | 87 => ⟨S512x32x32x32, .f32⟩
  | 88 => ⟨S_, .i32⟩
  | 89 => ⟨S_, .f32⟩
  | 90 => ⟨S512x34x34x32, .f32⟩
  | 91 => ⟨S512x32x32x32, .f32⟩
  | 92 => ⟨S512x32x32x32, .f32⟩
  | 93 => ⟨S512x32x32x32, .f32⟩
  | 94 => ⟨S512x32x32x32, .f32⟩
  | 95 => ⟨S512x32x32x1x32, .f32⟩
  | 96 => ⟨S512x32x32x1x32, .f32⟩
  | 97 => ⟨S512x32x32x1x32, .f32⟩
  | 98 => ⟨S512x32x32x1x32, .f32⟩
  | 99 => ⟨S512x32x32x4x32, .f32⟩
  | 100 => ⟨S524288x128, .f32⟩
  | 101 => ⟨S512x32x32x32, .f32⟩
  | 102 => ⟨S512x32x32x32, .f32⟩
  | 103 => ⟨S512x32x32x32, .f32⟩
  | 104 => ⟨S512x32x32x32, .f32⟩
  | 105 => ⟨S512x32x32x1x32, .f32⟩
  | 106 => ⟨S512x32x32x1x32, .f32⟩
  | 107 => ⟨S512x32x32x1x32, .f32⟩
  | 108 => ⟨S512x32x32x1x32, .f32⟩
  | 109 => ⟨S512x32x32x4x32, .f32⟩
  | 110 => ⟨S524288x128, .f32⟩
  | 111 => ⟨S512x32x32x32, .f32⟩
  | 112 => ⟨S512x32x32x32, .f32⟩
  | 113 => ⟨S512x32x32x32, .f32⟩
  | 114 => ⟨S512x32x32x32, .f32⟩
  | 115 => ⟨S512x32x32x1x32, .f32⟩
  | 116 => ⟨S512x32x32x1x32, .f32⟩
  | 117 => ⟨S512x32x32x1x32, .f32⟩
  | 118 => ⟨S512x32x32x1x32, .f32⟩
  | 119 => ⟨S512x32x32x4x32, .f32⟩
  | 120 => ⟨S524288x128, .f32⟩
  | 121 => ⟨S512x32x32x32, .f32⟩
  | 122 => ⟨S512x32x32x32, .f32⟩
  | 123 => ⟨S512x32x32x32, .f32⟩
  | 124 => ⟨S512x32x32x32, .f32⟩
  | 125 => ⟨S512x32x32x1x32, .f32⟩
  | 126 => ⟨S512x32x32x1x32, .f32⟩
  | 127 => ⟨S512x32x32x1x32, .f32⟩
  | _ => ⟨S32x16x64x64, .f32⟩

abbrev hbmTy0_3 (i : Nat) : BufTy := match i % 128 with
  | 0 => ⟨S512x32x32x1x32, .f32⟩
  | 1 => ⟨S512x32x32x4x32, .f32⟩
  | 2 => ⟨S524288x128, .f32⟩
  | 3 => ⟨S1x524288x128, .f32⟩
  | 4 => ⟨S1x524288x128, .f32⟩
  | 5 => ⟨S1x524288x128, .f32⟩
  | 6 => ⟨S1x524288x128, .f32⟩
  | 7 => ⟨S4x524288x128, .f32⟩
  | 8 => ⟨S1x32x2x2, .f32⟩
  | 9 => ⟨S2x2x32x1, .f32⟩
  | 10 => ⟨S128x1, .f32⟩
  | 11 => ⟨S1x32x2x2, .f32⟩
  | 12 => ⟨S2x2x32x1, .f32⟩
  | 13 => ⟨S128x1, .f32⟩
  | 14 => ⟨S1x32x2x2, .f32⟩
  | 15 => ⟨S2x2x32x1, .f32⟩
  | 16 => ⟨S128x1, .f32⟩
  | 17 => ⟨S1x32x2x2, .f32⟩
  | 18 => ⟨S2x2x32x1, .f32⟩
  | 19 => ⟨S128x1, .f32⟩
  | 20 => ⟨S1x128x1, .f32⟩
  | 21 => ⟨S1x128x1, .f32⟩
  | 22 => ⟨S1x128x1, .f32⟩
  | 23 => ⟨S1x128x1, .f32⟩
  | 24 => ⟨S4x128x1, .f32⟩
  | 25 => ⟨S1x1x1, .f32⟩
  | 26 => ⟨S4x524288x1, .f32⟩
  | 27 => ⟨S2x2x512x32x32x1, .f32⟩
  | 28 => ⟨S512x32x2x32x2x1, .f32⟩
  | 29 => ⟨S512x64x64x1, .f32⟩
  | 30 => ⟨S512x1x64x64, .f32⟩
  | _ => ⟨S32x16x64x64, .f32⟩

abbrev hbmTy (i : Nat) : BufTy := match i / 128 with
  | 0 => hbmTy0_0 i
  | 1 => hbmTy0_1 i
  | 2 => hbmTy0_2 i
  | 3 => hbmTy0_3 i
  | _ => ⟨S32x16x64x64, .f32⟩

abbrev bufTy : (tb : Table) → Fin (tcTables nBuf tb) → BufTy
  | .hbm, ⟨i, _⟩ => hbmTy i
  | .local _ .vmem, ⟨0, _⟩ => ⟨S8192x16, .f32⟩
  | .local _ .vmem, ⟨1, _⟩ => ⟨S8192x16, .f32⟩
  | .local _ .vmem, ⟨2, _⟩ => ⟨S16x32, .f32⟩
  | .local _ .vmem, ⟨3, _⟩ => ⟨S1x32, .f32⟩
  | .local _ .vmem, ⟨4, _⟩ => ⟨S8192x32, .f32⟩
  | .local _ .vmem, ⟨5, _⟩ => ⟨S8192x32, .f32⟩
  | .local _ .vmem, ⟨6, _⟩ => ⟨S4096x512, .f32⟩
  | .local _ .vmem, ⟨7, _⟩ => ⟨S4096x512, .f32⟩
  | .local _ .vmem, ⟨8, _⟩ => ⟨S512x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | .local _ .vmem, ⟨12, _⟩ => ⟨S2048x1024, .f32⟩
  | .local _ .vmem, ⟨13, _⟩ => ⟨S2048x1024, .f32⟩
  | .local _ .vmem, ⟨14, _⟩ => ⟨S1024x64, .f32⟩
  | .local _ .vmem, ⟨15, _⟩ => ⟨S1x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S1024x64, .f32⟩
  | .local _ .vmem, ⟨21, _⟩ => ⟨S2048x1, .f32⟩
  | .local _ .vmem, ⟨22, _⟩ => ⟨S2048x1, .f32⟩
  | .local _ .vmem, ⟨23, _⟩ => ⟨S1x1024, .f32⟩
  | .local _ .vmem, ⟨24, _⟩ => ⟨S1x1x2048, .i32⟩
  | .local _ .vmem, ⟨25, _⟩ => ⟨S1x1x2048, .i32⟩
  | .local _ .vmem, ⟨26, _⟩ => ⟨S2048x64, .f32⟩
  | .local _ .vmem, ⟨27, _⟩ => ⟨S2048x64, .f32⟩
  | .local _ .vmem, ⟨28, _⟩ => ⟨S32x64, .f32⟩
  | .local _ .vmem, ⟨29, _⟩ => ⟨S32x64, .f32⟩
  | .local _ .vmem, ⟨30, _⟩ => ⟨S1x1x1, .f32⟩
  | .local _ .vmem, ⟨31, _⟩ => ⟨S1x1x1, .f32⟩
  | .local _ .vmem, ⟨32, _⟩ => ⟨S1x2048x256, .f32⟩
  | .local _ .vmem, ⟨33, _⟩ => ⟨S1x2048x256, .f32⟩
  | .local _ .vmem, ⟨34, _⟩ => ⟨S1x256x64, .f32⟩
  | .local _ .vmem, ⟨35, _⟩ => ⟨S1x256x64, .f32⟩
  | .local _ .vmem, ⟨36, _⟩ => ⟨S1x1x64, .f32⟩
  | .local _ .vmem, ⟨37, _⟩ => ⟨S1x2048x64, .f32⟩
  | .local _ .vmem, ⟨38, _⟩ => ⟨S1x2048x64, .f32⟩
  | .local _ .vmem, ⟨39, _⟩ => ⟨S1x4096x256, .f32⟩
  | .local _ .vmem, ⟨40, _⟩ => ⟨S1x4096x256, .f32⟩
  | .local _ .vmem, ⟨41, _⟩ => ⟨S1x256x32, .f32⟩
  | .local _ .vmem, ⟨42, _⟩ => ⟨S1x256x32, .f32⟩
  | .local _ .vmem, ⟨43, _⟩ => ⟨S1x1x32, .f32⟩
  | .local _ .vmem, ⟨44, _⟩ => ⟨S1x4096x32, .f32⟩
  | .local _ .vmem, ⟨45, _⟩ => ⟨S1x4096x32, .f32⟩
  | .local _ .vmem, ⟨46, _⟩ => ⟨S1x8192x128, .f32⟩
  | .local _ .vmem, ⟨47, _⟩ => ⟨S1x8192x128, .f32⟩
  | .local _ .vmem, ⟨48, _⟩ => ⟨S1x128x1, .f32⟩
  | .local _ .vmem, ⟨49, _⟩ => ⟨S1x128x1, .f32⟩
  | .local _ .vmem, ⟨50, _⟩ => ⟨S1x1x1, .f32⟩
  | .local _ .vmem, ⟨51, _⟩ => ⟨S1x8192x1, .f32⟩
  | .local _ .vmem, ⟨52, _⟩ => ⟨S1x8192x1, .f32⟩
  | _, _ => ⟨S32x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_0 : Ref sig .tc := ⟨.hbm, 69, rfl⟩
abbrev main_call1_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_c_1 : Ref sig .tc := ⟨.hbm, 127, rfl⟩
abbrev main_call2_v0 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_cst : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_cst_2 : Ref sig .tc := ⟨.hbm, 185, rfl⟩
abbrev main_v164 : Ref sig .tc := ⟨.hbm, 186, rfl⟩
abbrev main_v165 : Ref sig .tc := ⟨.hbm, 187, rfl⟩
abbrev main_v166_0 : Ref sig .tc := ⟨.hbm, 188, rfl⟩
abbrev main_v166_1 : Ref sig .tc := ⟨.hbm, 189, rfl⟩
abbrev main_v166_2 : Ref sig .tc := ⟨.hbm, 190, rfl⟩
abbrev main_v166_3 : Ref sig .tc := ⟨.hbm, 191, rfl⟩
abbrev main_v167 : Ref sig .tc := ⟨.hbm, 192, rfl⟩
abbrev main_cst_3 : Ref sig .tc := ⟨.hbm, 193, rfl⟩
abbrev main_v168 : Ref sig .tc := ⟨.hbm, 194, rfl⟩
abbrev main_cst_4 : Ref sig .tc := ⟨.hbm, 195, rfl⟩
abbrev main_v169 : Ref sig .tc := ⟨.hbm, 196, rfl⟩
abbrev main_cst_5 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_c_6 : Ref sig .tc := ⟨.hbm, 204, rfl⟩
abbrev main_call3_v0 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_c_7 : Ref sig .tc := ⟨.hbm, 274, rfl⟩
abbrev main_call4_v0 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_v311 : Ref sig .tc := ⟨.hbm, 343, rfl⟩
abbrev main_c_8 : Ref sig .tc := ⟨.hbm, 344, rfl⟩
abbrev main_call5_v0 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_v364 : Ref sig .tc := ⟨.hbm, 398, rfl⟩
abbrev main_v365 : Ref sig .tc := ⟨.hbm, 399, rfl⟩
abbrev main_v366 : Ref sig .tc := ⟨.hbm, 400, rfl⟩
abbrev main_v367 : Ref sig .tc := ⟨.hbm, 401, rfl⟩
abbrev main_v368 : Ref sig .tc := ⟨.hbm, 402, rfl⟩
abbrev main_v369 : Ref sig .tc := ⟨.hbm, 403, rfl⟩
abbrev main_v370 : Ref sig .tc := ⟨.hbm, 404, rfl⟩
abbrev main_v371 : Ref sig .tc := ⟨.hbm, 405, rfl⟩
abbrev main_v372 : Ref sig .tc := ⟨.hbm, 406, rfl⟩
abbrev main_v373 : Ref sig .tc := ⟨.hbm, 407, rfl⟩
abbrev main_v374 : Ref sig .tc := ⟨.hbm, 408, rfl⟩
abbrev main_v375 : Ref sig .tc := ⟨.hbm, 409, rfl⟩
abbrev main_v376 : Ref sig .tc := ⟨.hbm, 410, rfl⟩
abbrev main_v377 : Ref sig .tc := ⟨.hbm, 411, rfl⟩
abbrev main_v378 : Ref sig .tc := ⟨.hbm, 412, rfl⟩
abbrev main_v379 : Ref sig .tc := ⟨.hbm, 413, rfl⟩
abbrev main_v380 : Ref sig .tc := ⟨.hbm, 414, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem6_1 : DmaSem sig := 29
abbrev cc3_sem7_0 : DmaSem sig := 30
abbrev cc3_sem7_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem3_1 : DmaSem sig := 52

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x2048 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2048x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S32x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨2, ![4, 16], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S1x1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 32], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x4096x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x256x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 1 → Memref sig .tc .vmem S1x1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1x4096x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![4, 64], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x8192x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x128x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 1 → Memref sig .tc .vmem S1x1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1x8192x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]
-- ==== ReferenceIdeal.lean ====
abbrev S32x16x64x64 : Shape := ⟨4, ![32, 16, 64, 64]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S64x64x4x4 : Shape := ⟨4, ![64, 64, 4, 4]⟩
abbrev S1024x64 : Shape := ⟨2, ![1024, 64]⟩
abbrev S32x64x4x4 : Shape := ⟨4, ![32, 64, 4, 4]⟩
abbrev S1x32x4x4 : Shape := ⟨4, ![1, 32, 4, 4]⟩
abbrev S1 : Shape := ⟨1, ![1]⟩
abbrev S_ : Shape := ⟨0, ![]⟩
abbrev S1024 : Shape := ⟨1, ![1024]⟩
abbrev S1x1024 : Shape := ⟨2, ![1, 1024]⟩
abbrev S32x1x16 : Shape := ⟨3, ![32, 1, 16]⟩
abbrev S16x1x32 : Shape := ⟨3, ![16, 1, 32]⟩
abbrev S1x1x32 : Shape := ⟨3, ![1, 1, 32]⟩
abbrev S1x32 : Shape := ⟨2, ![1, 32]⟩
abbrev S64x32x16 : Shape := ⟨3, ![64, 32, 16]⟩
abbrev S16x32x64 : Shape := ⟨3, ![16, 32, 64]⟩
abbrev S1x32x64 : Shape := ⟨3, ![1, 32, 64]⟩
abbrev S32x64 : Shape := ⟨2, ![32, 64]⟩
abbrev S64x64x16 : Shape := ⟨3, ![64, 64, 16]⟩
abbrev S16x64x64 : Shape := ⟨3, ![16, 64, 64]⟩
abbrev S1x64x64 : Shape := ⟨3, ![1, 64, 64]⟩
abbrev S64x64 : Shape := ⟨2, ![64, 64]⟩
abbrev S32x64x16 : Shape := ⟨3, ![32, 64, 16]⟩
abbrev S16x64x32 : Shape := ⟨3, ![16, 64, 32]⟩
abbrev S1x64x32 : Shape := ⟨3, ![1, 64, 32]⟩
abbrev S64x32 : Shape := ⟨2, ![64, 32]⟩
abbrev S1x32x16 : Shape := ⟨3, ![1, 32, 16]⟩
abbrev S16x32x1 : Shape := ⟨3, ![16, 32, 1]⟩
abbrev S1x32x1 : Shape := ⟨3, ![1, 32, 1]⟩
abbrev S32x1 : Shape := ⟨2, ![32, 1]⟩
abbrev S512x64x64x1 : Shape := ⟨4, ![512, 64, 64, 1]⟩
abbrev S512x66x66x1 : Shape := ⟨4, ![512, 66, 66, 1]⟩
abbrev S512x32x32x1 : Shape := ⟨4, ![512, 32, 32, 1]⟩
abbrev S524288x1 : Shape := ⟨2, ![524288, 1]⟩
abbrev S524288x32 : Shape := ⟨2, ![524288, 32]⟩
abbrev S512x32x32x32 : Shape := ⟨4, ![512, 32, 32, 32]⟩
abbrev S512x34x34x32 : Shape := ⟨4, ![512, 34, 34, 32]⟩
abbrev S512x16x16x32 : Shape := ⟨4, ![512, 16, 16, 32]⟩
abbrev S131072x32 : Shape := ⟨2, ![131072, 32]⟩
abbrev S131072x64 : Shape := ⟨2, ![131072, 64]⟩
abbrev S1x64 : Shape := ⟨2, ![1, 64]⟩
abbrev S512x16x16x64 : Shape := ⟨4, ![512, 16, 16, 64]⟩
abbrev S512x18x18x64 : Shape := ⟨4, ![512, 18, 18, 64]⟩
abbrev S512x8x8x64 : Shape := ⟨4, ![512, 8, 8, 64]⟩
abbrev S32768x64 : Shape := ⟨2, ![32768, 64]⟩
abbrev S32768 : Shape := ⟨1, ![32768]⟩
abbrev S32768x1 : Shape := ⟨2, ![32768, 1]⟩
abbrev S32768x1024 : Shape := ⟨2, ![32768, 1024]⟩
abbrev S64x1024 : Shape := ⟨2, ![64, 1024]⟩
abbrev S1x1 : Shape := ⟨2, ![1, 1]⟩
abbrev S512x19x19x64 : Shape := ⟨4, ![512, 19, 19, 64]⟩
abbrev S512x35x35x64 : Shape := ⟨4, ![512, 35, 35, 64]⟩
abbrev S512x32x32x64 : Shape := ⟨4, ![512, 32, 32, 64]⟩
abbrev S524288x64 : Shape := ⟨2, ![524288, 64]⟩
abbrev S512x67x67x32 : Shape := ⟨4, ![512, 67, 67, 32]⟩
abbrev S512x64x64x32 : Shape := ⟨4, ![512, 64, 64, 32]⟩
abbrev S2097152x32 : Shape := ⟨2, ![2097152, 32]⟩
abbrev S2097152x1 : Shape := ⟨2, ![2097152, 1]⟩
abbrev S512x1x64x64 : Shape := ⟨4, ![512, 1, 64, 64]⟩
abbrev S512x64x64 : Shape := ⟨3, ![512, 64, 64]⟩
abbrev S512x64 : Shape := ⟨2, ![512, 64]⟩
abbrev S32x16x64 : Shape := ⟨3, ![32, 16, 64]⟩
abbrev S32x16x1 : Shape := ⟨3, ![32, 16, 1]⟩
abbrev S32x16 : Shape := ⟨2, ![32, 16]⟩

abbrev nBuf : Space → Nat
  | .hbm => 726
  | .vmem => 0
  | .smem => 0
  | _ => 0

abbrev hbmTy0_0 (i : Nat) : BufTy := match i % 128 with
  | 0 => ⟨S32x16x64x64, .f32⟩
  | 1 => ⟨S32x1x4x4, .f32⟩
  | 2 => ⟨S32, .f32⟩
  | 3 => ⟨S64x32x4x4, .f32⟩
  | 4 => ⟨S64, .f32⟩
  | 5 => ⟨S64x64x4x4, .f32⟩
  | 6 => ⟨S64, .f32⟩
  | 7 => ⟨S1024x64, .f32⟩
  | 8 => ⟨S64x64x4x4, .f32⟩
  | 9 => ⟨S64, .f32⟩
  | 10 => ⟨S32x64x4x4, .f32⟩
  | 11 => ⟨S32, .f32⟩
  | 12 => ⟨S1x32x4x4, .f32⟩
  | 13 => ⟨S1, .f32⟩
  | 14 => ⟨S1024x64, .f32⟩
  | 15 => ⟨S_, .f32⟩
  | 16 => ⟨S1024, .f32⟩
  | 17 => ⟨S1x1024, .f32⟩
  | 18 => ⟨S32x1x16, .f32⟩
  | 19 => ⟨S16x1x32, .f32⟩
  | 20 => ⟨S1x1x32, .f32⟩
  | 21 => ⟨S1x32, .f32⟩
  | 22 => ⟨S1x1x32, .f32⟩
  | 23 => ⟨S1x32, .f32⟩
  | 24 => ⟨S1x1x32, .f32⟩
  | 25 => ⟨S1x32, .f32⟩
  | 26 => ⟨S1x1x32, .f32⟩
  | 27 => ⟨S1x32, .f32⟩
  | 28 => ⟨S1x1x32, .f32⟩
  | 29 => ⟨S1x32, .f32⟩
  | 30 => ⟨S1x1x32, .f32⟩
  | 31 => ⟨S1x32, .f32⟩
  | 32 => ⟨S1x1x32, .f32⟩
  | 33 => ⟨S1x32, .f32⟩
  | 34 => ⟨S1x1x32, .f32⟩
  | 35 => ⟨S1x32, .f32⟩
  | 36 => ⟨S1x1x32, .f32⟩
  | 37 => ⟨S1x32, .f32⟩
  | 38 => ⟨S1x1x32, .f32⟩
  | 39 => ⟨S1x32, .f32⟩
  | 40 => ⟨S1x1x32, .f32⟩
  | 41 => ⟨S1x32, .f32⟩
  | 42 => ⟨S1x1x32, .f32⟩
  | 43 => ⟨S1x32, .f32⟩
  | 44 => ⟨S1x1x32, .f32⟩
  | 45 => ⟨S1x32, .f32⟩
  | 46 => ⟨S1x1x32, .f32⟩
  | 47 => ⟨S1x32, .f32⟩
  | 48 => ⟨S1x1x32, .f32⟩
  | 49 => ⟨S1x32, .f32⟩
  | 50 => ⟨S1x1x32, .f32⟩
  | 51 => ⟨S1x32, .f32⟩
  | 52 => ⟨S64x32x16, .f32⟩
  | 53 => ⟨S16x32x64, .f32⟩
  | 54 => ⟨S1x32x64, .f32⟩
  | 55 => ⟨S32x64, .f32⟩
  | 56 => ⟨S1x32x64, .f32⟩
  | 57 => ⟨S32x64, .f32⟩
  | 58 => ⟨S1x32x64, .f32⟩
  | 59 => ⟨S32x64, .f32⟩
  | 60 => ⟨S1x32x64, .f32⟩
  | 61 => ⟨S32x64, .f32⟩
  | 62 => ⟨S1x32x64, .f32⟩
  | 63 => ⟨S32x64, .f32⟩
  | 64 => ⟨S1x32x64, .f32⟩
  | 65 => ⟨S32x64, .f32⟩
  | 66 => ⟨S1x32x64, .f32⟩
  | 67 => ⟨S32x64, .f32⟩
  | 68 => ⟨S1x32x64, .f32⟩
  | 69 => ⟨S32x64, .f32⟩
  | 70 => ⟨S1x32x64, .f32⟩
  | 71 => ⟨S32x64, .f32⟩
  | 72 => ⟨S1x32x64, .f32⟩
  | 73 => ⟨S32x64, .f32⟩
  | 74 => ⟨S1x32x64, .f32⟩
  | 75 => ⟨S32x64, .f32⟩
  | 76 => ⟨S1x32x64, .f32⟩
  | 77 => ⟨S32x64, .f32⟩
  | 78 => ⟨S1x32x64, .f32⟩
  | 79 => ⟨S32x64, .f32⟩
  | 80 => ⟨S1x32x64, .f32⟩
  | 81 => ⟨S32x64, .f32⟩
  | 82 => ⟨S1x32x64, .f32⟩
  | 83 => ⟨S32x64, .f32⟩
  | 84 => ⟨S1x32x64, .f32⟩
  | 85 => ⟨S32x64, .f32⟩
  | 86 => ⟨S64x64x16, .f32⟩
  | 87 => ⟨S16x64x64, .f32⟩
  | 88 => ⟨S1x64x64, .f32⟩
  | 89 => ⟨S64x64, .f32⟩
  | 90 => ⟨S1x64x64, .f32⟩
  | 91 => ⟨S64x64, .f32⟩
  | 92 => ⟨S1x64x64, .f32⟩
  | 93 => ⟨S64x64, .f32⟩
  | 94 => ⟨S1x64x64, .f32⟩
  | 95 => ⟨S64x64, .f32⟩
  | 96 => ⟨S1x64x64, .f32⟩
  | 97 => ⟨S64x64, .f32⟩
  | 98 => ⟨S1x64x64, .f32⟩
  | 99 => ⟨S64x64, .f32⟩
  | 100 => ⟨S1x64x64, .f32⟩
  | 101 => ⟨S64x64, .f32⟩
  | 102 => ⟨S1x64x64, .f32⟩
  | 103 => ⟨S64x64, .f32⟩
  | 104 => ⟨S1x64x64, .f32⟩
  | 105 => ⟨S64x64, .f32⟩
  | 106 => ⟨S1x64x64, .f32⟩
  | 107 => ⟨S64x64, .f32⟩
  | 108 => ⟨S1x64x64, .f32⟩
  | 109 => ⟨S64x64, .f32⟩
  | 110 => ⟨S1x64x64, .f32⟩
  | 111 => ⟨S64x64, .f32⟩
  | 112 => ⟨S1x64x64, .f32⟩
  | 113 => ⟨S64x64, .f32⟩
  | 114 => ⟨S1x64x64, .f32⟩
  | 115 => ⟨S64x64, .f32⟩
  | 116 => ⟨S1x64x64, .f32⟩
  | 117 => ⟨S64x64, .f32⟩
  | 118 => ⟨S1x64x64, .f32⟩
  | 119 => ⟨S64x64, .f32⟩
  | 120 => ⟨S64x64x16, .f32⟩
  | 121 => ⟨S16x64x64, .f32⟩
  | 122 => ⟨S1x64x64, .f32⟩
  | 123 => ⟨S64x64, .f32⟩
  | 124 => ⟨S1x64x64, .f32⟩
  | 125 => ⟨S64x64, .f32⟩
  | 126 => ⟨S1x64x64, .f32⟩
  | 127 => ⟨S64x64, .f32⟩
  | _ => ⟨S32x16x64x64, .f32⟩

abbrev hbmTy0_1 (i : Nat) : BufTy := match i % 128 with
  | 0 => ⟨S1x64x64, .f32⟩
  | 1 => ⟨S64x64, .f32⟩
  | 2 => ⟨S1x64x64, .f32⟩
  | 3 => ⟨S64x64, .f32⟩
  | 4 => ⟨S1x64x64, .f32⟩
  | 5 => ⟨S64x64, .f32⟩
  | 6 => ⟨S1x64x64, .f32⟩
  | 7 => ⟨S64x64, .f32⟩
  | 8 => ⟨S1x64x64, .f32⟩
  | 9 => ⟨S64x64, .f32⟩
  | 10 => ⟨S1x64x64, .f32⟩
  | 11 => ⟨S64x64, .f32⟩
  | 12 => ⟨S1x64x64, .f32⟩
  | 13 => ⟨S64x64, .f32⟩
  | 14 => ⟨S1x64x64, .f32⟩
  | 15 => ⟨S64x64, .f32⟩
  | 16 => ⟨S1x64x64, .f32⟩
  | 17 => ⟨S64x64, .f32⟩
  | 18 => ⟨S1x64x64, .f32⟩
  | 19 => ⟨S64x64, .f32⟩
  | 20 => ⟨S1x64x64, .f32⟩
  | 21 => ⟨S64x64, .f32⟩
  | 22 => ⟨S1x64x64, .f32⟩
  | 23 => ⟨S64x64, .f32⟩
  | 24 => ⟨S1x64x64, .f32⟩
  | 25 => ⟨S64x64, .f32⟩
  | 26 => ⟨S32x64x16, .f32⟩
  | 27 => ⟨S16x64x32, .f32⟩
  | 28 => ⟨S1x64x32, .f32⟩
  | 29 => ⟨S64x32, .f32⟩
  | 30 => ⟨S1x64x32, .f32⟩
  | 31 => ⟨S64x32, .f32⟩
  | 32 => ⟨S1x64x32, .f32⟩
  | 33 => ⟨S64x32, .f32⟩
  | 34 => ⟨S1x64x32, .f32⟩
  | 35 => ⟨S64x32, .f32⟩
  | 36 => ⟨S1x64x32, .f32⟩
  | 37 => ⟨S64x32, .f32⟩
  | 38 => ⟨S1x64x32, .f32⟩
  | 39 => ⟨S64x32, .f32⟩
  | 40 => ⟨S1x64x32, .f32⟩
  | 41 => ⟨S64x32, .f32⟩
  | 42 => ⟨S1x64x32, .f32⟩
  | 43 => ⟨S64x32, .f32⟩
  | 44 => ⟨S1x64x32, .f32⟩
  | 45 => ⟨S64x32, .f32⟩
  | 46 => ⟨S1x64x32, .f32⟩
  | 47 => ⟨S64x32, .f32⟩
  | 48 => ⟨S1x64x32, .f32⟩
  | 49 => ⟨S64x32, .f32⟩
  | 50 => ⟨S1x64x32, .f32⟩
  | 51 => ⟨S64x32, .f32⟩
  | 52 => ⟨S1x64x32, .f32⟩
  | 53 => ⟨S64x32, .f32⟩
  | 54 => ⟨S1x64x32, .f32⟩
  | 55 => ⟨S64x32, .f32⟩
  | 56 => ⟨S1x64x32, .f32⟩
  | 57 => ⟨S64x32, .f32⟩
  | 58 => ⟨S1x64x32, .f32⟩
  | 59 => ⟨S64x32, .f32⟩
  | 60 => ⟨S1x32x16, .f32⟩
  | 61 => ⟨S16x32x1, .f32⟩
  | 62 => ⟨S1x32x1, .f32⟩
  | 63 => ⟨S32x1, .f32⟩
  | 64 => ⟨S1x32x1, .f32⟩
  | 65 => ⟨S32x1, .f32⟩
  | 66 => ⟨S1x32x1, .f32⟩
  | 67 => ⟨S32x1, .f32⟩
  | 68 => ⟨S1x32x1, .f32⟩
  | 69 => ⟨S32x1, .f32⟩
  | 70 => ⟨S1x32x1, .f32⟩
  | 71 => ⟨S32x1, .f32⟩
  | 72 => ⟨S1x32x1, .f32⟩
  | 73 => ⟨S32x1, .f32⟩
  | 74 => ⟨S1x32x1, .f32⟩
  | 75 => ⟨S32x1, .f32⟩
  | 76 => ⟨S1x32x1, .f32⟩
  | 77 => ⟨S32x1, .f32⟩
  | 78 => ⟨S1x32x1, .f32⟩
  | 79 => ⟨S32x1, .f32⟩
  | 80 => ⟨S1x32x1, .f32⟩
  | 81 => ⟨S32x1, .f32⟩
  | 82 => ⟨S1x32x1, .f32⟩
  | 83 => ⟨S32x1, .f32⟩
  | 84 => ⟨S1x32x1, .f32⟩
  | 85 => ⟨S32x1, .f32⟩
  | 86 => ⟨S1x32x1, .f32⟩
  | 87 => ⟨S32x1, .f32⟩
  | 88 => ⟨S1x32x1, .f32⟩
  | 89 => ⟨S32x1, .f32⟩
  | 90 => ⟨S1x32x1, .f32⟩
  | 91 => ⟨S32x1, .f32⟩
  | 92 => ⟨S1x32x1, .f32⟩
  | 93 => ⟨S32x1, .f32⟩
  | 94 => ⟨S512x64x64x1, .f32⟩
  | 95 => ⟨S_, .i32⟩
  | 96 => ⟨S_, .f32⟩
  | 97 => ⟨S512x66x66x1, .f32⟩
  | 98 => ⟨S512x32x32x1, .f32⟩
  | 99 => ⟨S524288x1, .f32⟩
  | 100 => ⟨S524288x32, .f32⟩
  | 101 => ⟨S512x32x32x1, .f32⟩
  | 102 => ⟨S524288x1, .f32⟩
  | 103 => ⟨S524288x32, .f32⟩
  | 104 => ⟨S524288x32, .f32⟩
  | 105 => ⟨S512x32x32x1, .f32⟩
  | 106 => ⟨S524288x1, .f32⟩
  | 107 => ⟨S524288x32, .f32⟩
  | 108 => ⟨S524288x32, .f32⟩
  | 109 => ⟨S512x32x32x1, .f32⟩
  | 110 => ⟨S524288x1, .f32⟩
  | 111 => ⟨S524288x32, .f32⟩
  | 112 => ⟨S524288x32, .f32⟩
  | 113 => ⟨S512x32x32x1, .f32⟩
  | 114 => ⟨S524288x1, .f32⟩
  | 115 => ⟨S524288x32, .f32⟩
  | 116 => ⟨S524288x32, .f32⟩
  | 117 => ⟨S512x32x32x1, .f32⟩
  | 118 => ⟨S524288x1, .f32⟩
  | 119 => ⟨S524288x32, .f32⟩
  | 120 => ⟨S524288x32, .f32⟩
  | 121 => ⟨S512x32x32x1, .f32⟩
  | 122 => ⟨S524288x1, .f32⟩
  | 123 => ⟨S524288x32, .f32⟩
  | 124 => ⟨S524288x32, .f32⟩
  | 125 => ⟨S512x32x32x1, .f32⟩
  | 126 => ⟨S524288x1, .f32⟩
  | 127 => ⟨S524288x32, .f32⟩
  | _ => ⟨S32x16x64x64, .f32⟩

abbrev hbmTy0_2 (i : Nat) : BufTy := match i % 128 with
  | 0 => ⟨S524288x32, .f32⟩
  | 1 => ⟨S512x32x32x1, .f32⟩
  | 2 => ⟨S524288x1, .f32⟩
  | 3 => ⟨S524288x32, .f32⟩
  | 4 => ⟨S524288x32, .f32⟩
  | 5 => ⟨S512x32x32x1, .f32⟩
  | 6 => ⟨S524288x1, .f32⟩
  | 7 => ⟨S524288x32, .f32⟩
  | 8 => ⟨S524288x32, .f32⟩
  | 9 => ⟨S512x32x32x1, .f32⟩
  | 10 => ⟨S524288x1, .f32⟩
  | 11 => ⟨S524288x32, .f32⟩
  | 12 => ⟨S524288x32, .f32⟩
  | 13 => ⟨S512x32x32x1, .f32⟩
  | 14 => ⟨S524288x1, .f32⟩
  | 15 => ⟨S524288x32, .f32⟩
  | 16 => ⟨S524288x32, .f32⟩
  | 17 => ⟨S512x32x32x1, .f32⟩
  | 18 => ⟨S524288x1, .f32⟩
  | 19 => ⟨S524288x32, .f32⟩
  | 20 => ⟨S524288x32, .f32⟩
  | 21 => ⟨S512x32x32x1, .f32⟩
  | 22 => ⟨S524288x1, .f32⟩
  | 23 => ⟨S524288x32, .f32⟩
  | 24 => ⟨S524288x32, .f32⟩
  | 25 => ⟨S512x32x32x1, .f32⟩
  | 26 => ⟨S524288x1, .f32⟩
  | 27 => ⟨S524288x32, .f32⟩
  | 28 => ⟨S524288x32, .f32⟩
  | 29 => ⟨S512x32x32x1, .f32⟩
  | 30 => ⟨S524288x1, .f32⟩
  | 31 => ⟨S524288x32, .f32⟩
  | 32 => ⟨S524288x32, .f32⟩
  | 33 => ⟨S1x32, .f32⟩
  | 34 => ⟨S524288x32, .f32⟩
  | 35 => ⟨S524288x32, .f32⟩
  | 36 => ⟨S_, .f32⟩
  | 37 => ⟨S524288x32, .f32⟩
  | 38 => ⟨S524288x32, .f32⟩
  | 39 => ⟨S512x32x32x32, .f32⟩
  | 40 => ⟨S_, .i32⟩
  | 41 => ⟨S_, .f32⟩
  | 42 => ⟨S512x34x34x32, .f32⟩
  | 43 => ⟨S512x16x16x32, .f32⟩
  | 44 => ⟨S131072x32, .f32⟩
  | 45 => ⟨S131072x64, .f32⟩
  | 46 => ⟨S512x16x16x32, .f32⟩
  | 47 => ⟨S131072x32, .f32⟩
  | 48 => ⟨S131072x64, .f32⟩
  | 49 => ⟨S131072x64, .f32⟩
  | 50 => ⟨S512x16x16x32, .f32⟩
  | 51 => ⟨S131072x32, .f32⟩
  | 52 => ⟨S131072x64, .f32⟩
  | 53 => ⟨S131072x64, .f32⟩
  | 54 => ⟨S512x16x16x32, .f32⟩
  | 55 => ⟨S131072x32, .f32⟩
  | 56 => ⟨S131072x64, .f32⟩
  | 57 => ⟨S131072x64, .f32⟩
  | 58 => ⟨S512x16x16x32, .f32⟩
  | 59 => ⟨S131072x32, .f32⟩
  | 60 => ⟨S131072x64, .f32⟩
  | 61 => ⟨S131072x64, .f32⟩
  | 62 => ⟨S512x16x16x32, .f32⟩
  | 63 => ⟨S131072x32, .f32⟩
  | 64 => ⟨S131072x64, .f32⟩
  | 65 => ⟨S131072x64, .f32⟩
  | 66 => ⟨S512x16x16x32, .f32⟩
  | 67 => ⟨S131072x32, .f32⟩
  | 68 => ⟨S131072x64, .f32⟩
  | 69 => ⟨S131072x64, .f32⟩
  | 70 => ⟨S512x16x16x32, .f32⟩
  | 71 => ⟨S131072x32, .f32⟩
  | 72 => ⟨S131072x64, .f32⟩
  | 73 => ⟨S131072x64, .f32⟩
  | 74 => ⟨S512x16x16x32, .f32⟩
  | 75 => ⟨S131072x32, .f32⟩
  | 76 => ⟨S131072x64, .f32⟩
  | 77 => ⟨S131072x64, .f32⟩
  | 78 => ⟨S512x16x16x32, .f32⟩
  | 79 => ⟨S131072x32, .f32⟩
  | 80 => ⟨S131072x64, .f32⟩
  | 81 => ⟨S131072x64, .f32⟩
  | 82 => ⟨S512x16x16x32, .f32⟩
  | 83 => ⟨S131072x32, .f32⟩
  | 84 => ⟨S131072x64, .f32⟩
  | 85 => ⟨S131072x64, .f32⟩
  | 86 => ⟨S512x16x16x32, .f32⟩
  | 87 => ⟨S131072x32, .f32⟩
  | 88 => ⟨S131072x64, .f32⟩
  | 89 => ⟨S131072x64, .f32⟩
  | 90 => ⟨S512x16x16x32, .f32⟩
  | 91 => ⟨S131072x32, .f32⟩
  | 92 => ⟨S131072x64, .f32⟩
  | 93 => ⟨S131072x64, .f32⟩
  | 94 => ⟨S512x16x16x32, .f32⟩
  | 95 => ⟨S131072x32, .f32⟩
  | 96 => ⟨S131072x64, .f32⟩
  | 97 => ⟨S131072x64, .f32⟩
  | 98 => ⟨S512x16x16x32, .f32⟩
  | 99 => ⟨S131072x32, .f32⟩
  | 100 => ⟨S131072x64, .f32⟩
  | 101 => ⟨S131072x64, .f32⟩
  | 102 => ⟨S512x16x16x32, .f32⟩
  | 103 => ⟨S131072x32, .f32⟩
  | 104 => ⟨S131072x64, .f32⟩
  | 105 => ⟨S131072x64, .f32⟩
  | 106 => ⟨S1x64, .f32⟩
  | 107 => ⟨S131072x64, .f32⟩
  | 108 => ⟨S131072x64, .f32⟩
  | 109 => ⟨S_, .f32⟩
  | 110 => ⟨S131072x64, .f32⟩
  | 111 => ⟨S131072x64, .f32⟩
  | 112 => ⟨S512x16x16x64, .f32⟩
  | 113 => ⟨S_, .i32⟩
  | 114 => ⟨S_, .f32⟩
  | 115 => ⟨S512x18x18x64, .f32⟩
  | 116 => ⟨S512x8x8x64, .f32⟩
  | 117 => ⟨S32768x64, .f32⟩
  | 118 => ⟨S32768x64, .f32⟩
  | 119 => ⟨S512x8x8x64, .f32⟩
  | 120 => ⟨S32768x64, .f32⟩
  | 121 => ⟨S32768x64, .f32⟩
  | 122 => ⟨S32768x64, .f32⟩
  | 123 => ⟨S512x8x8x64, .f32⟩
  | 124 => ⟨S32768x64, .f32⟩
  | 125 => ⟨S32768x64, .f32⟩
  | 126 => ⟨S32768x64, .f32⟩
  | 127 => ⟨S512x8x8x64, .f32⟩
  | _ => ⟨S32x16x64x64, .f32⟩

abbrev hbmTy0_3 (i : Nat) : BufTy := match i % 128 with
  | 0 => ⟨S32768x64, .f32⟩
  | 1 => ⟨S32768x64, .f32⟩
  | 2 => ⟨S32768x64, .f32⟩
  | 3 => ⟨S512x8x8x64, .f32⟩
  | 4 => ⟨S32768x64, .f32⟩
  | 5 => ⟨S32768x64, .f32⟩
  | 6 => ⟨S32768x64, .f32⟩
  | 7 => ⟨S512x8x8x64, .f32⟩
  | 8 => ⟨S32768x64, .f32⟩
  | 9 => ⟨S32768x64, .f32⟩
  | 10 => ⟨S32768x64, .f32⟩
  | 11 => ⟨S512x8x8x64, .f32⟩
  | 12 => ⟨S32768x64, .f32⟩
  | 13 => ⟨S32768x64, .f32⟩
  | 14 => ⟨S32768x64, .f32⟩
  | 15 => ⟨S512x8x8x64, .f32⟩
  | 16 => ⟨S32768x64, .f32⟩
  | 17 => ⟨S32768x64, .f32⟩
  | 18 => ⟨S32768x64, .f32⟩
  | 19 => ⟨S512x8x8x64, .f32⟩
  | 20 => ⟨S32768x64, .f32⟩
  | 21 => ⟨S32768x64, .f32⟩
  | 22 => ⟨S32768x64, .f32⟩
  | 23 => ⟨S512x8x8x64, .f32⟩
  | 24 => ⟨S32768x64, .f32⟩
  | 25 => ⟨S32768x64, .f32⟩
  | 26 => ⟨S32768x64, .f32⟩
  | 27 => ⟨S512x8x8x64, .f32⟩
  | 28 => ⟨S32768x64, .f32⟩
  | 29 => ⟨S32768x64, .f32⟩
  | 30 => ⟨S32768x64, .f32⟩
  | 31 => ⟨S512x8x8x64, .f32⟩
  | 32 => ⟨S32768x64, .f32⟩
  | 33 => ⟨S32768x64, .f32⟩
  | 34 => ⟨S32768x64, .f32⟩
  | 35 => ⟨S512x8x8x64, .f32⟩
  | 36 => ⟨S32768x64, .f32⟩
  | 37 => ⟨S32768x64, .f32⟩
  | 38 => ⟨S32768x64, .f32⟩
  | 39 => ⟨S512x8x8x64, .f32⟩
  | 40 => ⟨S32768x64, .f32⟩
  | 41 => ⟨S32768x64, .f32⟩
  | 42 => ⟨S32768x64, .f32⟩
  | 43 => ⟨S512x8x8x64, .f32⟩
  | 44 => ⟨S32768x64, .f32⟩
  | 45 => ⟨S32768x64, .f32⟩
  | 46 => ⟨S32768x64, .f32⟩
  | 47 => ⟨S512x8x8x64, .f32⟩
  | 48 => ⟨S32768x64, .f32⟩
  | 49 => ⟨S32768x64, .f32⟩
  | 50 => ⟨S32768x64, .f32⟩
  | 51 => ⟨S1x64, .f32⟩
  | 52 => ⟨S32768x64, .f32⟩
  | 53 => ⟨S32768x64, .f32⟩
  | 54 => ⟨S32768x64, .f32⟩
  | 55 => ⟨S_, .f32⟩
  | 56 => ⟨S32768, .f32⟩
  | 57 => ⟨S32768x1, .f32⟩
  | 58 => ⟨S32768x1024, .f32⟩
  | 59 => ⟨S32768x1024, .f32⟩
  | 60 => ⟨S32768x1024, .f32⟩
  | 61 => ⟨S64x1024, .f32⟩
  | 62 => ⟨S32768x1024, .f32⟩
  | 63 => ⟨S_, .f32⟩
  | 64 => ⟨S32768x1024, .f32⟩
  | 65 => ⟨S32768x1024, .f32⟩
  | 66 => ⟨S32768x1024, .f32⟩
  | 67 => ⟨S_, .f32⟩
  | 68 => ⟨S_, .f32⟩
  | 69 => ⟨S32768x1024, .f32⟩
  | 70 => ⟨S32768x1024, .f32⟩
  | 71 => ⟨S32768x1024, .f32⟩
  | 72 => ⟨S32768x1024, .i32⟩
  | 73 => ⟨S_, .f32⟩
  | 74 => ⟨S_, .i32⟩
  | 75 => ⟨S32768, .f32⟩
  | 76 => ⟨S32768, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S32768x1, .i32⟩
  | 85 => ⟨S1, .i32⟩
  | 86 => ⟨S_, .i32⟩
  | 87 => ⟨S32768x1, .i32⟩
  | 88 => ⟨S32768x1, .i1⟩
  | 89 => ⟨S1x1, .i32⟩
  | 90 => ⟨S32768x1, .i32⟩
  | 91 => ⟨S32768x1, .i1⟩
  | 92 => ⟨S32768x1, .i1⟩
  | 93 => ⟨S_, .i1⟩
  | 94 => ⟨S32768, .i1⟩
  | 95 => ⟨S32768x64, .f32⟩
  | 96 => ⟨S32768x64, .i1⟩
  | 97 => ⟨S_, .f32⟩
  | 98 => ⟨S32768x64, .f32⟩
  | 99 => ⟨S32768x64, .f32⟩
  | 100 => ⟨S32768x64, .f32⟩
  | 101 => ⟨S32768x64, .f32⟩
  | 102 => ⟨S_, .f32⟩
  | 103 => ⟨S_, .f32⟩
  | 104 => ⟨S_, .f32⟩
  | 105 => ⟨S_, .f32⟩
  | 106 => ⟨S32768x64, .f32⟩
  | 107 => ⟨S32768x64, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S32768x64, .f32⟩
  | 116 => ⟨S32768x64, .f32⟩
  | 117 => ⟨S512x8x8x64, .f32⟩
  | 118 => ⟨S_, .f32⟩
  | 119 => ⟨S512x19x19x64, .f32⟩
  | 120 => ⟨S512x16x16x64, .f32⟩
  | 121 => ⟨S131072x64, .f32⟩
  | 122 => ⟨S131072x64, .f32⟩
  | 123 => ⟨S512x16x16x64, .f32⟩
  | 124 => ⟨S131072x64, .f32⟩
  | 125 => ⟨S131072x64, .f32⟩
  | 126 => ⟨S131072x64, .f32⟩
  | 127 => ⟨S512x16x16x64, .f32⟩
  | _ => ⟨S32x16x64x64, .f32⟩

abbrev hbmTy0_4 (i : Nat) : BufTy := match i % 128 with
  | 0 => ⟨S131072x64, .f32⟩
  | 1 => ⟨S131072x64, .f32⟩
  | 2 => ⟨S131072x64, .f32⟩
  | 3 => ⟨S512x16x16x64, .f32⟩
  | 4 => ⟨S131072x64, .f32⟩
  | 5 => ⟨S131072x64, .f32⟩
  | 6 => ⟨S131072x64, .f32⟩
  | 7 => ⟨S512x16x16x64, .f32⟩
  | 8 => ⟨S131072x64, .f32⟩
  | 9 => ⟨S131072x64, .f32⟩
  | 10 => ⟨S131072x64, .f32⟩
  | 11 => ⟨S512x16x16x64, .f32⟩
  | 12 => ⟨S131072x64, .f32⟩
  | 13 => ⟨S131072x64, .f32⟩
  | 14 => ⟨S131072x64, .f32⟩
  | 15 => ⟨S512x16x16x64, .f32⟩
  | 16 => ⟨S131072x64, .f32⟩
  | 17 => ⟨S131072x64, .f32⟩
  | 18 => ⟨S131072x64, .f32⟩
  | 19 => ⟨S512x16x16x64, .f32⟩
  | 20 => ⟨S131072x64, .f32⟩
  | 21 => ⟨S131072x64, .f32⟩
  | 22 => ⟨S131072x64, .f32⟩
  | 23 => ⟨S512x16x16x64, .f32⟩
  | 24 => ⟨S131072x64, .f32⟩
  | 25 => ⟨S131072x64, .f32⟩
  | 26 => ⟨S131072x64, .f32⟩
  | 27 => ⟨S512x16x16x64, .f32⟩
  | 28 => ⟨S131072x64, .f32⟩
  | 29 => ⟨S131072x64, .f32⟩
  | 30 => ⟨S131072x64, .f32⟩
  | 31 => ⟨S512x16x16x64, .f32⟩
  | 32 => ⟨S131072x64, .f32⟩
  | 33 => ⟨S131072x64, .f32⟩
  | 34 => ⟨S131072x64, .f32⟩
  | 35 => ⟨S512x16x16x64, .f32⟩
  | 36 => ⟨S131072x64, .f32⟩
  | 37 => ⟨S131072x64, .f32⟩
  | 38 => ⟨S131072x64, .f32⟩
  | 39 => ⟨S512x16x16x64, .f32⟩
  | 40 => ⟨S131072x64, .f32⟩
  | 41 => ⟨S131072x64, .f32⟩
  | 42 => ⟨S131072x64, .f32⟩
  | 43 => ⟨S512x16x16x64, .f32⟩
  | 44 => ⟨S131072x64, .f32⟩
  | 45 => ⟨S131072x64, .f32⟩
  | 46 => ⟨S131072x64, .f32⟩
  | 47 => ⟨S512x16x16x64, .f32⟩
  | 48 => ⟨S131072x64, .f32⟩
  | 49 => ⟨S131072x64, .f32⟩
  | 50 => ⟨S131072x64, .f32⟩
  | 51 => ⟨S512x16x16x64, .f32⟩
  | 52 => ⟨S131072x64, .f32⟩
  | 53 => ⟨S131072x64, .f32⟩
  | 54 => ⟨S131072x64, .f32⟩
  | 55 => ⟨S1x64, .f32⟩
  | 56 => ⟨S131072x64, .f32⟩
  | 57 => ⟨S131072x64, .f32⟩
  | 58 => ⟨S_, .f32⟩
  | 59 => ⟨S131072x64, .f32⟩
  | 60 => ⟨S131072x64, .f32⟩
  | 61 => ⟨S512x16x16x64, .f32⟩
  | 62 => ⟨S_, .f32⟩
  | 63 => ⟨S512x35x35x64, .f32⟩
  | 64 => ⟨S512x32x32x64, .f32⟩
  | 65 => ⟨S524288x64, .f32⟩
  | 66 => ⟨S524288x32, .f32⟩
  | 67 => ⟨S512x32x32x64, .f32⟩
  | 68 => ⟨S524288x64, .f32⟩
  | 69 => ⟨S524288x32, .f32⟩
  | 70 => ⟨S524288x32, .f32⟩
  | 71 => ⟨S512x32x32x64, .f32⟩
  | 72 => ⟨S524288x64, .f32⟩
  | 73 => ⟨S524288x32, .f32⟩
  | 74 => ⟨S524288x32, .f32⟩
  | 75 => ⟨S512x32x32x64, .f32⟩
  | 76 => ⟨S524288x64, .f32⟩
  | 77 => ⟨S524288x32, .f32⟩
  | 78 => ⟨S524288x32, .f32⟩
  | 79 => ⟨S512x32x32x64, .f32⟩
  | 80 => ⟨S524288x64, .f32⟩
  | 81 => ⟨S524288x32, .f32⟩
  | 82 => ⟨S524288x32, .f32⟩
  | 83 => ⟨S512x32x32x64, .f32⟩
  | 84 => ⟨S524288x64, .f32⟩
  | 85 => ⟨S524288x32, .f32⟩
  | 86 => ⟨S524288x32, .f32⟩
  | 87 => ⟨S512x32x32x64, .f32⟩
  | 88 => ⟨S524288x64, .f32⟩
  | 89 => ⟨S524288x32, .f32⟩
  | 90 => ⟨S524288x32, .f32⟩
  | 91 => ⟨S512x32x32x64, .f32⟩
  | 92 => ⟨S524288x64, .f32⟩
  | 93 => ⟨S524288x32, .f32⟩
  | 94 => ⟨S524288x32, .f32⟩
  | 95 => ⟨S512x32x32x64, .f32⟩
  | 96 => ⟨S524288x64, .f32⟩
  | 97 => ⟨S524288x32, .f32⟩
  | 98 => ⟨S524288x32, .f32⟩
  | 99 => ⟨S512x32x32x64, .f32⟩
  | 100 => ⟨S524288x64, .f32⟩
  | 101 => ⟨S524288x32, .f32⟩
  | 102 => ⟨S524288x32, .f32⟩
  | 103 => ⟨S512x32x32x64, .f32⟩
  | 104 => ⟨S524288x64, .f32⟩
  | 105 => ⟨S524288x32, .f32⟩
  | 106 => ⟨S524288x32, .f32⟩
  | 107 => ⟨S512x32x32x64, .f32⟩
  | 108 => ⟨S524288x64, .f32⟩
  | 109 => ⟨S524288x32, .f32⟩
  | 110 => ⟨S524288x32, .f32⟩
  | 111 => ⟨S512x32x32x64, .f32⟩
  | 112 => ⟨S524288x64, .f32⟩
  | 113 => ⟨S524288x32, .f32⟩
  | 114 => ⟨S524288x32, .f32⟩
  | 115 => ⟨S512x32x32x64, .f32⟩
  | 116 => ⟨S524288x64, .f32⟩
  | 117 => ⟨S524288x32, .f32⟩
  | 118 => ⟨S524288x32, .f32⟩
  | 119 => ⟨S512x32x32x64, .f32⟩
  | 120 => ⟨S524288x64, .f32⟩
  | 121 => ⟨S524288x32, .f32⟩
  | 122 => ⟨S524288x32, .f32⟩
  | 123 => ⟨S512x32x32x64, .f32⟩
  | 124 => ⟨S524288x64, .f32⟩
  | 125 => ⟨S524288x32, .f32⟩
  | 126 => ⟨S524288x32, .f32⟩
  | 127 => ⟨S1x32, .f32⟩
  | _ => ⟨S32x16x64x64, .f32⟩

abbrev hbmTy0_5 (i : Nat) : BufTy := match i % 128 with
  | 0 => ⟨S524288x32, .f32⟩
  | 1 => ⟨S524288x32, .f32⟩
  | 2 => ⟨S_, .f32⟩
  | 3 => ⟨S524288x32, .f32⟩
  | 4 => ⟨S524288x32, .f32⟩
  | 5 => ⟨S512x32x32x32, .f32⟩
  | 6 => ⟨S_, .f32⟩
  | 7 => ⟨S512x67x67x32, .f32⟩
  | 8 => ⟨S512x64x64x32, .f32⟩
  | 9 => ⟨S2097152x32, .f32⟩
  | 10 => ⟨S2097152x1, .f32⟩
  | 11 => ⟨S512x64x64x32, .f32⟩
  | 12 => ⟨S2097152x32, .f32⟩
  | 13 => ⟨S2097152x1, .f32⟩
  | 14 => ⟨S2097152x1, .f32⟩
  | 15 => ⟨S512x64x64x32, .f32⟩
  | 16 => ⟨S2097152x32, .f32⟩
  | 17 => ⟨S2097152x1, .f32⟩
  | 18 => ⟨S2097152x1, .f32⟩
  | 19 => ⟨S512x64x64x32, .f32⟩
  | 20 => ⟨S2097152x32, .f32⟩
  | 21 => ⟨S2097152x1, .f32⟩
  | 22 => ⟨S2097152x1, .f32⟩
  | 23 => ⟨S512x64x64x32, .f32⟩
  | 24 => ⟨S2097152x32, .f32⟩
  | 25 => ⟨S2097152x1, .f32⟩
  | 26 => ⟨S2097152x1, .f32⟩
  | 27 => ⟨S512x64x64x32, .f32⟩
  | 28 => ⟨S2097152x32, .f32⟩
  | 29 => ⟨S2097152x1, .f32⟩
  | 30 => ⟨S2097152x1, .f32⟩
  | 31 => ⟨S512x64x64x32, .f32⟩
  | 32 => ⟨S2097152x32, .f32⟩
  | 33 => ⟨S2097152x1, .f32⟩
  | 34 => ⟨S2097152x1, .f32⟩
  | 35 => ⟨S512x64x64x32, .f32⟩
  | 36 => ⟨S2097152x32, .f32⟩
  | 37 => ⟨S2097152x1, .f32⟩
  | 38 => ⟨S2097152x1, .f32⟩
  | 39 => ⟨S512x64x64x32, .f32⟩
  | 40 => ⟨S2097152x32, .f32⟩
  | 41 => ⟨S2097152x1, .f32⟩
  | 42 => ⟨S2097152x1, .f32⟩
  | 43 => ⟨S512x64x64x32, .f32⟩
  | 44 => ⟨S2097152x32, .f32⟩
  | 45 => ⟨S2097152x1, .f32⟩
  | 46 => ⟨S2097152x1, .f32⟩
  | 47 => ⟨S512x64x64x32, .f32⟩
  | 48 => ⟨S2097152x32, .f32⟩
  | 49 => ⟨S2097152x1, .f32⟩
  | 50 => ⟨S2097152x1, .f32⟩
  | 51 => ⟨S512x64x64x32, .f32⟩
  | 52 => ⟨S2097152x32, .f32⟩
  | 53 => ⟨S2097152x1, .f32⟩
  | 54 => ⟨S2097152x1, .f32⟩
  | 55 => ⟨S512x64x64x32, .f32⟩
  | 56 => ⟨S2097152x32, .f32⟩
  | 57 => ⟨S2097152x1, .f32⟩
  | 58 => ⟨S2097152x1, .f32⟩
  | 59 => ⟨S512x64x64x32, .f32⟩
  | 60 => ⟨S2097152x32, .f32⟩
  | 61 => ⟨S2097152x1, .f32⟩
  | 62 => ⟨S2097152x1, .f32⟩
  | 63 => ⟨S512x64x64x32, .f32⟩
  | 64 => ⟨S2097152x32, .f32⟩
  | 65 => ⟨S2097152x1, .f32⟩
  | 66 => ⟨S2097152x1, .f32⟩
  | 67 => ⟨S512x64x64x32, .f32⟩
  | 68 => ⟨S2097152x32, .f32⟩
  | 69 => ⟨S2097152x1, .f32⟩
  | 70 => ⟨S2097152x1, .f32⟩
  | 71 => ⟨S1x1, .f32⟩
  | 72 => ⟨S2097152x1, .f32⟩
  | 73 => ⟨S2097152x1, .f32⟩
  | 74 => ⟨S2097152x1, .f32⟩
  | 75 => ⟨S512x1x64x64, .f32⟩
  | 76 => ⟨S512x64x64, .f32⟩
  | 77 => ⟨S_, .f32⟩
  | 78 => ⟨S512x64, .f32⟩
  | 79 => ⟨S_, .f32⟩
  | 80 => ⟨S512x64, .f32⟩
  | 81 => ⟨S512x64, .f32⟩
  | 82 => ⟨S32x16x64, .f32⟩
  | 83 => ⟨S32x16x64, .i32⟩
  | 84 => ⟨S32x16x1, .i32⟩
  | 85 => ⟨S32x16, .i32⟩
  | _ => ⟨S32x16x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x16x64x64, .f32⟩

abbrev bufTy : (tb : Table) → Fin (tcTables nBuf tb) → BufTy
  | .hbm, ⟨i, _⟩ => hbmTy i
  | _, _ => ⟨S32x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_c : Ref sig .tc := ⟨.hbm, 223, rfl⟩
abbrev main_call0_v0 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_call1_cst : Ref sig .tc := ⟨.hbm, 292, rfl⟩
abbrev main_call1_v0 : Ref sig .tc := ⟨.hbm, 293, rfl⟩
abbrev main_v275 : Ref sig .tc := ⟨.hbm, 294, rfl⟩
abbrev main_v276 : Ref sig .tc := ⟨.hbm, 295, rfl⟩
abbrev main_c_0 : Ref sig .tc := ⟨.hbm, 296, rfl⟩
abbrev main_call2_v0 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_v291 : Ref sig .tc := ⟨.hbm, 312, rfl⟩
abbrev main_v292 : Ref sig .tc := ⟨.hbm, 313, rfl⟩
abbrev main_v293 : Ref sig .tc := ⟨.hbm, 314, rfl⟩
abbrev main_v294 : Ref sig .tc := ⟨.hbm, 315, rfl⟩
abbrev main_v295 : Ref sig .tc := ⟨.hbm, 316, rfl⟩
abbrev main_v296 : Ref sig .tc := ⟨.hbm, 317, rfl⟩
abbrev main_v297 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_v305 : Ref sig .tc := ⟨.hbm, 326, rfl⟩
abbrev main_v306 : Ref sig .tc := ⟨.hbm, 327, rfl⟩
abbrev main_v307 : Ref sig .tc := ⟨.hbm, 328, rfl⟩
abbrev main_v308 : Ref sig .tc := ⟨.hbm, 329, rfl⟩
abbrev main_v309 : Ref sig .tc := ⟨.hbm, 330, rfl⟩
abbrev main_v310 : Ref sig .tc := ⟨.hbm, 331, rfl⟩
abbrev main_v311 : Ref sig .tc := ⟨.hbm, 332, rfl⟩
abbrev main_v312 : Ref sig .tc := ⟨.hbm, 333, rfl⟩
abbrev main_v313 : Ref sig .tc := ⟨.hbm, 334, rfl⟩
abbrev main_v314 : Ref sig .tc := ⟨.hbm, 335, rfl⟩
abbrev main_v315 : Ref sig .tc := ⟨.hbm, 336, rfl⟩
abbrev main_v316 : Ref sig .tc := ⟨.hbm, 337, rfl⟩
abbrev main_v317 : Ref sig .tc := ⟨.hbm, 338, rfl⟩
abbrev main_v318 : Ref sig .tc := ⟨.hbm, 339, rfl⟩
abbrev main_v319 : Ref sig .tc := ⟨.hbm, 340, rfl⟩
abbrev main_v320 : Ref sig .tc := ⟨.hbm, 341, rfl⟩
abbrev main_v321 : Ref sig .tc := ⟨.hbm, 342, rfl⟩
abbrev main_v322 : Ref sig .tc := ⟨.hbm, 343, rfl⟩
abbrev main_v323 : Ref sig .tc := ⟨.hbm, 344, rfl⟩
abbrev main_v324 : Ref sig .tc := ⟨.hbm, 345, rfl⟩
abbrev main_v325 : Ref sig .tc := ⟨.hbm, 346, rfl⟩
abbrev main_v326 : Ref sig .tc := ⟨.hbm, 347, rfl⟩
abbrev main_v327 : Ref sig .tc := ⟨.hbm, 348, rfl⟩
abbrev main_v328 : Ref sig .tc := ⟨.hbm, 349, rfl⟩
abbrev main_v329 : Ref sig .tc := ⟨.hbm, 350, rfl⟩
abbrev main_v330 : Ref sig .tc := ⟨.hbm, 351, rfl⟩
abbrev main_v331 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_v335 : Ref sig .tc := ⟨.hbm, 356, rfl⟩
abbrev main_v336 : Ref sig .tc := ⟨.hbm, 357, rfl⟩
abbrev main_v337 : Ref sig .tc := ⟨.hbm, 358, rfl⟩
abbrev main_v338 : Ref sig .tc := ⟨.hbm, 359, rfl⟩
abbrev main_v339 : Ref sig .tc := ⟨.hbm, 360, rfl⟩
abbrev main_v340 : Ref sig .tc := ⟨.hbm, 361, rfl⟩
abbrev main_v341 : Ref sig .tc := ⟨.hbm, 362, rfl⟩
abbrev main_v342 : Ref sig .tc := ⟨.hbm, 363, rfl⟩
abbrev main_v343 : Ref sig .tc := ⟨.hbm, 364, rfl⟩
abbrev main_call3_cst : Ref sig .tc := ⟨.hbm, 365, rfl⟩
abbrev main_call3_v0 : Ref sig .tc := ⟨.hbm, 366, rfl⟩
abbrev main_v344 : Ref sig .tc := ⟨.hbm, 367, rfl⟩
abbrev main_v345 : Ref sig .tc := ⟨.hbm, 368, rfl⟩
abbrev main_c_1 : Ref sig .tc := ⟨.hbm, 369, rfl⟩
abbrev main_call4_v0 : Ref sig .tc := ⟨.hbm, 370, rfl⟩
abbrev main_v346 : Ref sig .tc := ⟨.hbm, 371, rfl⟩
abbrev main_v347 : Ref sig .tc := ⟨.hbm, 372, rfl⟩
abbrev main_v348 : Ref sig .tc := ⟨.hbm, 373, rfl⟩
abbrev main_v349 : Ref sig .tc := ⟨.hbm, 374, rfl⟩
abbrev main_v350 : Ref sig .tc := ⟨.hbm, 375, rfl⟩
abbrev main_v351 : Ref sig .tc := ⟨.hbm, 376, rfl⟩
abbrev main_v352 : Ref sig .tc := ⟨.hbm, 377, rfl⟩
abbrev main_v353 : Ref sig .tc := ⟨.hbm, 378, rfl⟩
abbrev main_v354 : Ref sig .tc := ⟨.hbm, 379, rfl⟩
abbrev main_v355 : Ref sig .tc := ⟨.hbm, 380, rfl⟩
abbrev main_v356 : Ref sig .tc := ⟨.hbm, 381, rfl⟩
abbrev main_v357 : Ref sig .tc := ⟨.hbm, 382, rfl⟩
abbrev main_v358 : Ref sig .tc := ⟨.hbm, 383, rfl⟩
abbrev main_v359 : Ref sig .tc := ⟨.hbm, 384, rfl⟩
abbrev main_v360 : Ref sig .tc := ⟨.hbm, 385, rfl⟩
abbrev main_v361 : Ref sig .tc := ⟨.hbm, 386, rfl⟩
abbrev main_v362 : Ref sig .tc := ⟨.hbm, 387, rfl⟩
abbrev main_v363 : Ref sig .tc := ⟨.hbm, 388, rfl⟩
abbrev main_v364 : Ref sig .tc := ⟨.hbm, 389, rfl⟩
abbrev main_v365 : Ref sig .tc := ⟨.hbm, 390, rfl⟩
abbrev main_v366 : Ref sig .tc := ⟨.hbm, 391, rfl⟩
abbrev main_v367 : Ref sig .tc := ⟨.hbm, 392, rfl⟩
abbrev main_v368 : Ref sig .tc := ⟨.hbm, 393, rfl⟩
abbrev main_v369 : Ref sig .tc := ⟨.hbm, 394, rfl⟩
abbrev main_v370 : Ref sig .tc := ⟨.hbm, 395, rfl⟩
abbrev main_v371 : Ref sig .tc := ⟨.hbm, 396, rfl⟩
abbrev main_v372 : Ref sig .tc := ⟨.hbm, 397, rfl⟩
abbrev main_v373 : Ref sig .tc := ⟨.hbm, 398, rfl⟩
abbrev main_v374 : Ref sig .tc := ⟨.hbm, 399, rfl⟩
abbrev main_v375 : Ref sig .tc := ⟨.hbm, 400, rfl⟩
abbrev main_v376 : Ref sig .tc := ⟨.hbm, 401, rfl⟩
abbrev main_v377 : Ref sig .tc := ⟨.hbm, 402, rfl⟩
abbrev main_v378 : Ref sig .tc := ⟨.hbm, 403, rfl⟩
abbrev main_v379 : Ref sig .tc := ⟨.hbm, 404, rfl⟩
abbrev main_v380 : Ref sig .tc := ⟨.hbm, 405, rfl⟩
abbrev main_v381 : Ref sig .tc := ⟨.hbm, 406, rfl⟩
abbrev main_v382 : Ref sig .tc := ⟨.hbm, 407, rfl⟩
abbrev main_v383 : Ref sig .tc := ⟨.hbm, 408, rfl⟩
abbrev main_v384 : Ref sig .tc := ⟨.hbm, 409, rfl⟩
abbrev main_v385 : Ref sig .tc := ⟨.hbm, 410, rfl⟩
abbrev main_v386 : Ref sig .tc := ⟨.hbm, 411, rfl⟩
abbrev main_v387 : Ref sig .tc := ⟨.hbm, 412, rfl⟩
abbrev main_v388 : Ref sig .tc := ⟨.hbm, 413, rfl⟩
abbrev main_v389 : Ref sig .tc := ⟨.hbm, 414, rfl⟩
abbrev main_v390 : Ref sig .tc := ⟨.hbm, 415, rfl⟩
abbrev main_v391 : Ref sig .tc := ⟨.hbm, 416, rfl⟩
abbrev main_v392 : Ref sig .tc := ⟨.hbm, 417, rfl⟩
abbrev main_v393 : Ref sig .tc := ⟨.hbm, 418, rfl⟩
abbrev main_v394 : Ref sig .tc := ⟨.hbm, 419, rfl⟩
abbrev main_v395 : Ref sig .tc := ⟨.hbm, 420, rfl⟩
abbrev main_v396 : Ref sig .tc := ⟨.hbm, 421, rfl⟩
abbrev main_v397 : Ref sig .tc := ⟨.hbm, 422, rfl⟩
abbrev main_v398 : Ref sig .tc := ⟨.hbm, 423, rfl⟩
abbrev main_v399 : Ref sig .tc := ⟨.hbm, 424, rfl⟩
abbrev main_v400 : Ref sig .tc := ⟨.hbm, 425, rfl⟩
abbrev main_v401 : Ref sig .tc := ⟨.hbm, 426, rfl⟩
abbrev main_v402 : Ref sig .tc := ⟨.hbm, 427, rfl⟩
abbrev main_v403 : Ref sig .tc := ⟨.hbm, 428, rfl⟩
abbrev main_v404 : Ref sig .tc := ⟨.hbm, 429, rfl⟩
abbrev main_v405 : Ref sig .tc := ⟨.hbm, 430, rfl⟩
abbrev main_v406 : Ref sig .tc := ⟨.hbm, 431, rfl⟩
abbrev main_v407 : Ref sig .tc := ⟨.hbm, 432, rfl⟩
abbrev main_v408 : Ref sig .tc := ⟨.hbm, 433, rfl⟩
abbrev main_v409 : Ref sig .tc := ⟨.hbm, 434, rfl⟩
abbrev main_v410 : Ref sig .tc := ⟨.hbm, 435, rfl⟩
abbrev main_v411 : Ref sig .tc := ⟨.hbm, 436, rfl⟩
abbrev main_v412 : Ref sig .tc := ⟨.hbm, 437, rfl⟩
abbrev main_v413 : Ref sig .tc := ⟨.hbm, 438, rfl⟩
abbrev main_cst_2 : Ref sig .tc := ⟨.hbm, 439, rfl⟩
abbrev main_v414 : Ref sig .tc := ⟨.hbm, 440, rfl⟩
abbrev main_v415 : Ref sig .tc := ⟨.hbm, 441, rfl⟩
abbrev main_v416 : Ref sig .tc := ⟨.hbm, 442, rfl⟩
abbrev main_v417 : Ref sig .tc := ⟨.hbm, 443, rfl⟩
abbrev main_v418 : Ref sig .tc := ⟨.hbm, 444, rfl⟩
abbrev main_v419 : Ref sig .tc := ⟨.hbm, 445, rfl⟩
abbrev main_v420 : Ref sig .tc := ⟨.hbm, 446, rfl⟩
abbrev main_cst_3 : Ref sig .tc := ⟨.hbm, 447, rfl⟩
abbrev main_v421 : Ref sig .tc := ⟨.hbm, 448, rfl⟩
abbrev main_v422 : Ref sig .tc := ⟨.hbm, 449, rfl⟩
abbrev main_v423 : Ref sig .tc := ⟨.hbm, 450, rfl⟩
abbrev main_cst_4 : Ref sig .tc := ⟨.hbm, 451, rfl⟩
abbrev main_call5_v0 : Ref sig .tc := ⟨.hbm, 452, rfl⟩
abbrev main_call5_v1 : Ref sig .tc := ⟨.hbm, 453, rfl⟩
abbrev main_v424 : Ref sig .tc := ⟨.hbm, 454, rfl⟩
abbrev main_v425 : Ref sig .tc := ⟨.hbm, 455, rfl⟩
abbrev main_call6_v0 : Ref sig .tc := ⟨.hbm, 456, rfl⟩
abbrev main_call6_cst : Ref sig .tc := ⟨.hbm, 457, rfl⟩
abbrev main_call6_c : Ref sig .tc := ⟨.hbm, 458, rfl⟩
abbrev main_call6_v1_0 : Ref sig .tc := ⟨.hbm, 459, rfl⟩
abbrev main_v426 : Ref sig .tc := ⟨.hbm, 460, rfl⟩
abbrev main_call7_c : Ref sig .tc := ⟨.hbm, 461, rfl⟩
abbrev main_call7_v0 : Ref sig .tc := ⟨.hbm, 462, rfl⟩
abbrev main_call7_v1 : Ref sig .tc := ⟨.hbm, 463, rfl⟩
abbrev main_call7_c_0 : Ref sig .tc := ⟨.hbm, 464, rfl⟩
abbrev main_call7_v2 : Ref sig .tc := ⟨.hbm, 465, rfl⟩
abbrev main_call7_v3 : Ref sig .tc := ⟨.hbm, 466, rfl⟩
abbrev main_call7_v4 : Ref sig .tc := ⟨.hbm, 467, rfl⟩
abbrev main_call7_v5 : Ref sig .tc := ⟨.hbm, 468, rfl⟩
abbrev main_call7_c_1 : Ref sig .tc := ⟨.hbm, 469, rfl⟩
abbrev main_call7_c_2 : Ref sig .tc := ⟨.hbm, 470, rfl⟩
abbrev main_call7_v6 : Ref sig .tc := ⟨.hbm, 471, rfl⟩
abbrev main_call7_v7 : Ref sig .tc := ⟨.hbm, 472, rfl⟩
abbrev main_call7_v8 : Ref sig .tc := ⟨.hbm, 473, rfl⟩
abbrev main_call7_v9 : Ref sig .tc := ⟨.hbm, 474, rfl⟩
abbrev main_call7_v10 : Ref sig .tc := ⟨.hbm, 475, rfl⟩
abbrev main_call7_v11 : Ref sig .tc := ⟨.hbm, 476, rfl⟩
abbrev main_call7_c_3 : Ref sig .tc := ⟨.hbm, 477, rfl⟩
abbrev main_call7_v12 : Ref sig .tc := ⟨.hbm, 478, rfl⟩
abbrev main_call7_v13 : Ref sig .tc := ⟨.hbm, 479, rfl⟩
abbrev main_call7_v14 : Ref sig .tc := ⟨.hbm, 480, rfl⟩
abbrev main_call7_cst : Ref sig .tc := ⟨.hbm, 481, rfl⟩
abbrev main_call7_v15 : Ref sig .tc := ⟨.hbm, 482, rfl⟩
abbrev main_v427 : Ref sig .tc := ⟨.hbm, 483, rfl⟩
abbrev main_v428 : Ref sig .tc := ⟨.hbm, 484, rfl⟩
abbrev main_v429 : Ref sig .tc := ⟨.hbm, 485, rfl⟩
abbrev main_cst_5 : Ref sig .tc := ⟨.hbm, 486, rfl⟩
abbrev main_v430 : Ref sig .tc := ⟨.hbm, 487, rfl⟩
abbrev main_cst_6 : Ref sig .tc := ⟨.hbm, 488, rfl⟩
abbrev main_v431 : Ref sig .tc := ⟨.hbm, 489, rfl⟩
abbrev main_v432 : Ref sig .tc := ⟨.hbm, 490, rfl⟩
abbrev main_v433 : Ref sig .tc := ⟨.hbm, 491, rfl⟩
abbrev main_cst_7 : Ref sig .tc := ⟨.hbm, 492, rfl⟩
abbrev main_v434 : Ref sig .tc := ⟨.hbm, 493, rfl⟩
abbrev main_cst_8 : Ref sig .tc := ⟨.hbm, 494, rfl⟩
abbrev main_v435 : Ref sig .tc := ⟨.hbm, 495, rfl⟩
abbrev main_cst_9 : Ref sig .tc := ⟨.hbm, 496, rfl⟩
abbrev main_v436 : Ref sig .tc := ⟨.hbm, 497, rfl⟩
abbrev main_v437 : Ref sig .tc := ⟨.hbm, 498, rfl⟩
abbrev main_v438 : Ref sig .tc := ⟨.hbm, 499, rfl⟩
abbrev main_v439 : Ref sig .tc := ⟨.hbm, 500, rfl⟩
abbrev main_v440 : Ref sig .tc := ⟨.hbm, 501, rfl⟩
abbrev main_cst_10 : Ref sig .tc := ⟨.hbm, 502, rfl⟩
abbrev main_v441 : Ref sig .tc := ⟨.hbm, 503, rfl⟩
abbrev main_v442 : Ref sig .tc := ⟨.hbm, 504, rfl⟩
abbrev main_v443 : Ref sig .tc := ⟨.hbm, 505, rfl⟩
abbrev main_v444 : Ref sig .tc := ⟨.hbm, 506, rfl⟩
abbrev main_v445 : Ref sig .tc := ⟨.hbm, 507, rfl⟩
abbrev main_v446 : Ref sig .tc := ⟨.hbm, 508, rfl⟩
abbrev main_v447 : Ref sig .tc := ⟨.hbm, 509, rfl⟩
abbrev main_v448 : Ref sig .tc := ⟨.hbm, 510, rfl⟩
abbrev main_v449 : Ref sig .tc := ⟨.hbm, 511, rfl⟩
abbrev main_v450 : Ref sig .tc := ⟨.hbm, 512, rfl⟩
abbrev main_v451 : Ref sig .tc := ⟨.hbm, 513, rfl⟩
abbrev main_v452 : Ref sig .tc := ⟨.hbm, 514, rfl⟩
abbrev main_v453 : Ref sig .tc := ⟨.hbm, 515, rfl⟩
abbrev main_v454 : Ref sig .tc := ⟨.hbm, 516, rfl⟩
abbrev main_v455 : Ref sig .tc := ⟨.hbm, 517, rfl⟩
abbrev main_v456 : Ref sig .tc := ⟨.hbm, 518, rfl⟩
abbrev main_v457 : Ref sig .tc := ⟨.hbm, 519, rfl⟩
abbrev main_v458 : Ref sig .tc := ⟨.hbm, 520, rfl⟩
abbrev main_v459 : Ref sig .tc := ⟨.hbm, 521, rfl⟩
abbrev main_v460 : Ref sig .tc := ⟨.hbm, 522, rfl⟩
abbrev main_v461 : Ref sig .tc := ⟨.hbm, 523, rfl⟩
abbrev main_v462 : Ref sig .tc := ⟨.hbm, 524, rfl⟩
abbrev main_v463 : Ref sig .tc := ⟨.hbm, 525, rfl⟩
abbrev main_v464 : Ref sig .tc := ⟨.hbm, 526, rfl⟩
abbrev main_v465 : Ref sig .tc := ⟨.hbm, 527, rfl⟩
abbrev main_v466 : Ref sig .tc := ⟨.hbm, 528, rfl⟩
abbrev main_v467 : Ref sig .tc := ⟨.hbm, 529, rfl⟩
abbrev main_v468 : Ref sig .tc := ⟨.hbm, 530, rfl⟩
abbrev main_v469 : Ref sig .tc := ⟨.hbm, 531, rfl⟩
abbrev main_v470 : Ref sig .tc := ⟨.hbm, 532, rfl⟩
abbrev main_v471 : Ref sig .tc := ⟨.hbm, 533, rfl⟩
abbrev main_v472 : Ref sig .tc := ⟨.hbm, 534, rfl⟩
abbrev main_v473 : Ref sig .tc := ⟨.hbm, 535, rfl⟩
abbrev main_v474 : Ref sig .tc := ⟨.hbm, 536, rfl⟩
abbrev main_v475 : Ref sig .tc := ⟨.hbm, 537, rfl⟩
abbrev main_v476 : Ref sig .tc := ⟨.hbm, 538, rfl⟩
abbrev main_v477 : Ref sig .tc := ⟨.hbm, 539, rfl⟩
abbrev main_v478 : Ref sig .tc := ⟨.hbm, 540, rfl⟩
abbrev main_v479 : Ref sig .tc := ⟨.hbm, 541, rfl⟩
abbrev main_v480 : Ref sig .tc := ⟨.hbm, 542, rfl⟩
abbrev main_v481 : Ref sig .tc := ⟨.hbm, 543, rfl⟩
abbrev main_v482 : Ref sig .tc := ⟨.hbm, 544, rfl⟩
abbrev main_v483 : Ref sig .tc := ⟨.hbm, 545, rfl⟩
abbrev main_v484 : Ref sig .tc := ⟨.hbm, 546, rfl⟩
abbrev main_v485 : Ref sig .tc := ⟨.hbm, 547, rfl⟩
abbrev main_v486 : Ref sig .tc := ⟨.hbm, 548, rfl⟩
abbrev main_v487 : Ref sig .tc := ⟨.hbm, 549, rfl⟩
abbrev main_v488 : Ref sig .tc := ⟨.hbm, 550, rfl⟩
abbrev main_v489 : Ref sig .tc := ⟨.hbm, 551, rfl⟩
abbrev main_v490 : Ref sig .tc := ⟨.hbm, 552, rfl⟩
abbrev main_v491 : Ref sig .tc := ⟨.hbm, 553, rfl⟩
abbrev main_v492 : Ref sig .tc := ⟨.hbm, 554, rfl⟩
abbrev main_v493 : Ref sig .tc := ⟨.hbm, 555, rfl⟩
abbrev main_v494 : Ref sig .tc := ⟨.hbm, 556, rfl⟩
abbrev main_v495 : Ref sig .tc := ⟨.hbm, 557, rfl⟩
abbrev main_v496 : Ref sig .tc := ⟨.hbm, 558, rfl⟩
abbrev main_v497 : Ref sig .tc := ⟨.hbm, 559, rfl⟩
abbrev main_v498 : Ref sig .tc := ⟨.hbm, 560, rfl⟩
abbrev main_v499 : Ref sig .tc := ⟨.hbm, 561, rfl⟩
abbrev main_v500 : Ref sig .tc := ⟨.hbm, 562, rfl⟩
abbrev main_v501 : Ref sig .tc := ⟨.hbm, 563, rfl⟩
abbrev main_v502 : Ref sig .tc := ⟨.hbm, 564, rfl⟩
abbrev main_v503 : Ref sig .tc := ⟨.hbm, 565, rfl⟩
abbrev main_v504 : Ref sig .tc := ⟨.hbm, 566, rfl⟩
abbrev main_v505 : Ref sig .tc := ⟨.hbm, 567, rfl⟩
abbrev main_v506 : Ref sig .tc := ⟨.hbm, 568, rfl⟩
abbrev main_v507 : Ref sig .tc := ⟨.hbm, 569, rfl⟩
abbrev main_call8_cst : Ref sig .tc := ⟨.hbm, 570, rfl⟩
abbrev main_call8_v0 : Ref sig .tc := ⟨.hbm, 571, rfl⟩
abbrev main_v508 : Ref sig .tc := ⟨.hbm, 572, rfl⟩
abbrev main_v509 : Ref sig .tc := ⟨.hbm, 573, rfl⟩
abbrev main_cst_11 : Ref sig .tc := ⟨.hbm, 574, rfl⟩
abbrev main_v510 : Ref sig .tc := ⟨.hbm, 575, rfl⟩
abbrev main_v511 : Ref sig .tc := ⟨.hbm, 576, rfl⟩
abbrev main_v512 : Ref sig .tc := ⟨.hbm, 577, rfl⟩
abbrev main_v513 : Ref sig .tc := ⟨.hbm, 578, rfl⟩
abbrev main_v514 : Ref sig .tc := ⟨.hbm, 579, rfl⟩
abbrev main_v515 : Ref sig .tc := ⟨.hbm, 580, rfl⟩
abbrev main_v516 : Ref sig .tc := ⟨.hbm, 581, rfl⟩
abbrev main_v517 : Ref sig .tc := ⟨.hbm, 582, rfl⟩
abbrev main_v518 : Ref sig .tc := ⟨.hbm, 583, rfl⟩
abbrev main_v519 : Ref sig .tc := ⟨.hbm, 584, rfl⟩
abbrev main_v520 : Ref sig .tc := ⟨.hbm, 585, rfl⟩
abbrev main_v521 : Ref sig .tc := ⟨.hbm, 586, rfl⟩
abbrev main_v522 : Ref sig .tc := ⟨.hbm, 587, rfl⟩
abbrev main_v523 : Ref sig .tc := ⟨.hbm, 588, rfl⟩
abbrev main_v524 : Ref sig .tc := ⟨.hbm, 589, rfl⟩
abbrev main_v525 : Ref sig .tc := ⟨.hbm, 590, rfl⟩
abbrev main_v526 : Ref sig .tc := ⟨.hbm, 591, rfl⟩
abbrev main_v527 : Ref sig .tc := ⟨.hbm, 592, rfl⟩
abbrev main_v528 : Ref sig .tc := ⟨.hbm, 593, rfl⟩
abbrev main_v529 : Ref sig .tc := ⟨.hbm, 594, rfl⟩
abbrev main_v530 : Ref sig .tc := ⟨.hbm, 595, rfl⟩
abbrev main_v531 : Ref sig .tc := ⟨.hbm, 596, rfl⟩
abbrev main_v532 : Ref sig .tc := ⟨.hbm, 597, rfl⟩
abbrev main_v533 : Ref sig .tc := ⟨.hbm, 598, rfl⟩
abbrev main_v534 : Ref sig .tc := ⟨.hbm, 599, rfl⟩
abbrev main_v535 : Ref sig .tc := ⟨.hbm, 600, rfl⟩
abbrev main_v536 : Ref sig .tc := ⟨.hbm, 601, rfl⟩
abbrev main_v537 : Ref sig .tc := ⟨.hbm, 602, rfl⟩
abbrev main_v538 : Ref sig .tc := ⟨.hbm, 603, rfl⟩
abbrev main_v539 : Ref sig .tc := ⟨.hbm, 604, rfl⟩
abbrev main_v540 : Ref sig .tc := ⟨.hbm, 605, rfl⟩
abbrev main_v541 : Ref sig .tc := ⟨.hbm, 606, rfl⟩
abbrev main_v542 : Ref sig .tc := ⟨.hbm, 607, rfl⟩
abbrev main_v543 : Ref sig .tc := ⟨.hbm, 608, rfl⟩
abbrev main_v544 : Ref sig .tc := ⟨.hbm, 609, rfl⟩
abbrev main_v545 : Ref sig .tc := ⟨.hbm, 610, rfl⟩
abbrev main_v546 : Ref sig .tc := ⟨.hbm, 611, rfl⟩
abbrev main_v547 : Ref sig .tc := ⟨.hbm, 612, rfl⟩
abbrev main_v548 : Ref sig .tc := ⟨.hbm, 613, rfl⟩
abbrev main_v549 : Ref sig .tc := ⟨.hbm, 614, rfl⟩
abbrev main_v550 : Ref sig .tc := ⟨.hbm, 615, rfl⟩
abbrev main_v551 : Ref sig .tc := ⟨.hbm, 616, rfl⟩
abbrev main_v552 : Ref sig .tc := ⟨.hbm, 617, rfl⟩
abbrev main_v553 : Ref sig .tc := ⟨.hbm, 618, rfl⟩
abbrev main_v554 : Ref sig .tc := ⟨.hbm, 619, rfl⟩
abbrev main_v555 : Ref sig .tc := ⟨.hbm, 620, rfl⟩
abbrev main_v556 : Ref sig .tc := ⟨.hbm, 621, rfl⟩
abbrev main_v557 : Ref sig .tc := ⟨.hbm, 622, rfl⟩
abbrev main_v558 : Ref sig .tc := ⟨.hbm, 623, rfl⟩
abbrev main_v559 : Ref sig .tc := ⟨.hbm, 624, rfl⟩
abbrev main_v560 : Ref sig .tc := ⟨.hbm, 625, rfl⟩
abbrev main_v561 : Ref sig .tc := ⟨.hbm, 626, rfl⟩
abbrev main_v562 : Ref sig .tc := ⟨.hbm, 627, rfl⟩
abbrev main_v563 : Ref sig .tc := ⟨.hbm, 628, rfl⟩
abbrev main_v564 : Ref sig .tc := ⟨.hbm, 629, rfl⟩
abbrev main_v565 : Ref sig .tc := ⟨.hbm, 630, rfl⟩
abbrev main_v566 : Ref sig .tc := ⟨.hbm, 631, rfl⟩
abbrev main_v567 : Ref sig .tc := ⟨.hbm, 632, rfl⟩
abbrev main_v568 : Ref sig .tc := ⟨.hbm, 633, rfl⟩
abbrev main_v569 : Ref sig .tc := ⟨.hbm, 634, rfl⟩
abbrev main_v570 : Ref sig .tc := ⟨.hbm, 635, rfl⟩
abbrev main_v571 : Ref sig .tc := ⟨.hbm, 636, rfl⟩
abbrev main_v572 : Ref sig .tc := ⟨.hbm, 637, rfl⟩
abbrev main_v573 : Ref sig .tc := ⟨.hbm, 638, rfl⟩
abbrev main_v574 : Ref sig .tc := ⟨.hbm, 639, rfl⟩
abbrev main_v575 : Ref sig .tc := ⟨.hbm, 640, rfl⟩
abbrev main_v576 : Ref sig .tc := ⟨.hbm, 641, rfl⟩
abbrev main_call9_cst : Ref sig .tc := ⟨.hbm, 642, rfl⟩
abbrev main_call9_v0 : Ref sig .tc := ⟨.hbm, 643, rfl⟩
abbrev main_v577 : Ref sig .tc := ⟨.hbm, 644, rfl⟩
abbrev main_v578 : Ref sig .tc := ⟨.hbm, 645, rfl⟩
abbrev main_cst_12 : Ref sig .tc := ⟨.hbm, 646, rfl⟩
abbrev main_v579 : Ref sig .tc := ⟨.hbm, 647, rfl⟩
abbrev main_v580 : Ref sig .tc := ⟨.hbm, 648, rfl⟩
abbrev main_v581 : Ref sig .tc := ⟨.hbm, 649, rfl⟩
abbrev main_v582 : Ref sig .tc := ⟨.hbm, 650, rfl⟩
abbrev main_v583 : Ref sig .tc := ⟨.hbm, 651, rfl⟩
abbrev main_v584 : Ref sig .tc := ⟨.hbm, 652, rfl⟩
abbrev main_v585 : Ref sig .tc := ⟨.hbm, 653, rfl⟩
abbrev main_v586 : Ref sig .tc := ⟨.hbm, 654, rfl⟩
abbrev main_v587 : Ref sig .tc := ⟨.hbm, 655, rfl⟩
abbrev main_v588 : Ref sig .tc := ⟨.hbm, 656, rfl⟩
abbrev main_v589 : Ref sig .tc := ⟨.hbm, 657, rfl⟩
abbrev main_v590 : Ref sig .tc := ⟨.hbm, 658, rfl⟩
abbrev main_v591 : Ref sig .tc := ⟨.hbm, 659, rfl⟩
abbrev main_v592 : Ref sig .tc := ⟨.hbm, 660, rfl⟩
abbrev main_v593 : Ref sig .tc := ⟨.hbm, 661, rfl⟩
abbrev main_v594 : Ref sig .tc := ⟨.hbm, 662, rfl⟩
abbrev main_v595 : Ref sig .tc := ⟨.hbm, 663, rfl⟩
abbrev main_v596 : Ref sig .tc := ⟨.hbm, 664, rfl⟩
abbrev main_v597 : Ref sig .tc := ⟨.hbm, 665, rfl⟩
abbrev main_v598 : Ref sig .tc := ⟨.hbm, 666, rfl⟩
abbrev main_v599 : Ref sig .tc := ⟨.hbm, 667, rfl⟩
abbrev main_v600 : Ref sig .tc := ⟨.hbm, 668, rfl⟩
abbrev main_v601 : Ref sig .tc := ⟨.hbm, 669, rfl⟩
abbrev main_v602 : Ref sig .tc := ⟨.hbm, 670, rfl⟩
abbrev main_v603 : Ref sig .tc := ⟨.hbm, 671, rfl⟩
abbrev main_v604 : Ref sig .tc := ⟨.hbm, 672, rfl⟩
abbrev main_v605 : Ref sig .tc := ⟨.hbm, 673, rfl⟩
abbrev main_v606 : Ref sig .tc := ⟨.hbm, 674, rfl⟩
abbrev main_v607 : Ref sig .tc := ⟨.hbm, 675, rfl⟩
abbrev main_v608 : Ref sig .tc := ⟨.hbm, 676, rfl⟩
abbrev main_v609 : Ref sig .tc := ⟨.hbm, 677, rfl⟩
abbrev main_v610 : Ref sig .tc := ⟨.hbm, 678, rfl⟩
abbrev main_v611 : Ref sig .tc := ⟨.hbm, 679, rfl⟩
abbrev main_v612 : Ref sig .tc := ⟨.hbm, 680, rfl⟩
abbrev main_v613 : Ref sig .tc := ⟨.hbm, 681, rfl⟩
abbrev main_v614 : Ref sig .tc := ⟨.hbm, 682, rfl⟩
abbrev main_v615 : Ref sig .tc := ⟨.hbm, 683, rfl⟩
abbrev main_v616 : Ref sig .tc := ⟨.hbm, 684, rfl⟩
abbrev main_v617 : Ref sig .tc := ⟨.hbm, 685, rfl⟩
abbrev main_v618 : Ref sig .tc := ⟨.hbm, 686, rfl⟩
abbrev main_v619 : Ref sig .tc := ⟨.hbm, 687, rfl⟩
abbrev main_v620 : Ref sig .tc := ⟨.hbm, 688, rfl⟩
abbrev main_v621 : Ref sig .tc := ⟨.hbm, 689, rfl⟩
abbrev main_v622 : Ref sig .tc := ⟨.hbm, 690, rfl⟩
abbrev main_v623 : Ref sig .tc := ⟨.hbm, 691, rfl⟩
abbrev main_v624 : Ref sig .tc := ⟨.hbm, 692, rfl⟩
abbrev main_v625 : Ref sig .tc := ⟨.hbm, 693, rfl⟩
abbrev main_v626 : Ref sig .tc := ⟨.hbm, 694, rfl⟩
abbrev main_v627 : Ref sig .tc := ⟨.hbm, 695, rfl⟩
abbrev main_v628 : Ref sig .tc := ⟨.hbm, 696, rfl⟩
abbrev main_v629 : Ref sig .tc := ⟨.hbm, 697, rfl⟩
abbrev main_v630 : Ref sig .tc := ⟨.hbm, 698, rfl⟩
abbrev main_v631 : Ref sig .tc := ⟨.hbm, 699, rfl⟩
abbrev main_v632 : Ref sig .tc := ⟨.hbm, 700, rfl⟩
abbrev main_v633 : Ref sig .tc := ⟨.hbm, 701, rfl⟩
abbrev main_v634 : Ref sig .tc := ⟨.hbm, 702, rfl⟩
abbrev main_v635 : Ref sig .tc := ⟨.hbm, 703, rfl⟩
abbrev main_v636 : Ref sig .tc := ⟨.hbm, 704, rfl⟩
abbrev main_v637 : Ref sig .tc := ⟨.hbm, 705, rfl⟩
abbrev main_v638 : Ref sig .tc := ⟨.hbm, 706, rfl⟩
abbrev main_v639 : Ref sig .tc := ⟨.hbm, 707, rfl⟩
abbrev main_v640 : Ref sig .tc := ⟨.hbm, 708, rfl⟩
abbrev main_v641 : Ref sig .tc := ⟨.hbm, 709, rfl⟩
abbrev main_v642 : Ref sig .tc := ⟨.hbm, 710, rfl⟩
abbrev main_v643 : Ref sig .tc := ⟨.hbm, 711, rfl⟩
abbrev main_v644 : Ref sig .tc := ⟨.hbm, 712, rfl⟩
abbrev main_v645 : Ref sig .tc := ⟨.hbm, 713, rfl⟩
abbrev main_v646 : Ref sig .tc := ⟨.hbm, 714, rfl⟩
abbrev main_v647 : Ref sig .tc := ⟨.hbm, 715, rfl⟩
abbrev main_v648 : Ref sig .tc := ⟨.hbm, 716, rfl⟩
abbrev main_cst_13 : Ref sig .tc := ⟨.hbm, 717, rfl⟩
abbrev main_v649 : Ref sig .tc := ⟨.hbm, 718, rfl⟩
abbrev main_cst_14 : Ref sig .tc := ⟨.hbm, 719, rfl⟩
abbrev main_v650 : Ref sig .tc := ⟨.hbm, 720, rfl⟩
abbrev main_v651 : Ref sig .tc := ⟨.hbm, 721, rfl⟩
abbrev main_v652 : Ref sig .tc := ⟨.hbm, 722, rfl⟩
abbrev main_v653 : Ref sig .tc := ⟨.hbm, 723, rfl⟩
abbrev main_v654 : Ref sig .tc := ⟨.hbm, 724, rfl⟩
abbrev main_v655 : Ref sig .tc := ⟨.hbm, 725, rfl⟩

abbrev nD : Nat := 1
abbrev τ : Topo := Topo.v7x

variable {F : FTy → Type} [FloatOps F]
-- ==== Proof.KRun.lean ====
/-
  The kernel's run at the ideal instance: every buffer that outlives it ends at what the last boundary holds.
-/
module

public import proofs.«01_k».proof.Proof.Gen.KernelIdeal.Frame
public import Idealize.ShloMosaic.PureOps.Ideal

@[expose] public section

set_option maxRecDepth 16384

noncomputable section

namespace Cert.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The kernel runs to the end, and every buffer that is not scoped holds what the last boundary's contents say. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W27 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h hz => fun c => h c)

end Cert.KVal
end
-- ==== Proof.Best.lean ====
/-
  The first place where a row of values is least, as the two programs find it.
-/
module

public import Idealize.ShloMosaic.Lib.Pointwise

@[expose] public section

noncomputable section

namespace Cert.Best

open Idealize.ShloMosaic

/-- `k` is the first place where `f` is least. -/
def IsBest (f : Fin 1024 → EReal) (k : Fin 1024) : Prop := (∀ j, f k ≤ f j) ∧ ∀ j, f j ≤ f k → k ≤ j

theorem exists_best (f : Fin 1024 → EReal) : ∃ k, IsBest f k := by
  classical
  obtain ⟨k, hk⟩ : ∃ k, ∀ j, f k ≤ f j := Finite.exists_min f
  have hne : (Finset.univ.filter fun k => ∀ j, f k ≤ f j).Nonempty := ⟨k, by simpa using hk⟩
  have hm := (Finset.mem_filter.1 (Finset.min'_mem _ hne)).2
  exact ⟨Finset.min' _ hne, hm, fun j hj => Finset.min'_le _ _ (Finset.mem_filter.2 ⟨Finset.mem_univ _, fun i => hj.trans (hm i)⟩)⟩

/-- The first place where `f` is least. -/
def best (f : Fin 1024 → EReal) : Fin 1024 := Classical.choose (exists_best f)

theorem best_spec (f : Fin 1024 → EReal) : IsBest f (best f) := Classical.choose_spec (exists_best f)

theorem best_eq {f : Fin 1024 → EReal} {k : Fin 1024} (h : IsBest f k) : best f = k :=
  le_antisymm ((best_spec f).2 _ (h.1 _)) (h.2 _ ((best_spec f).1 _))

theorem toInt_ofNat (k : Fin 1024) : (BitVec.ofNat 32 k.val).toInt = (k.val : ℤ) := by
  rw [BitVec.toInt_eq_toNat_of_lt (by rw [BitVec.toNat_ofNat]; omega), BitVec.toNat_ofNat]; omega

/-- A fold of the signed minimum is below its start and every term, and is one of them. -/
theorem minsi_fold_spec (S : Finset (Fin 1024)) (b : BitVec 32) (g : Fin 1024 → BitVec 32) :
    (∀ k ∈ S, (S.fold IntOp.minsi b g).toInt ≤ (g k).toInt) ∧ (S.fold IntOp.minsi b g = b ∨ ∃ k ∈ S, S.fold IntOp.minsi b g = g k) := by
  classical
  induction S using Finset.induction_on with
  | empty => simp
  | insert a S ha ih =>
    rw [Finset.fold_insert ha]
    obtain ⟨h1, h2⟩ := ih
    have hm : ∀ x y : BitVec 32, ((IntOp.minsi x y).toInt ≤ x.toInt ∧ (IntOp.minsi x y).toInt ≤ y.toInt) ∧ (IntOp.minsi x y = x ∨ IntOp.minsi x y = y) := by
      intro x y
      unfold IntOp.minsi
      split_ifs with h
      · simp only [BitVec.slt_iff_toInt_lt, BitVec.sle_iff_toInt_le] at h
        exact ⟨⟨le_refl _, by omega⟩, Or.inl rfl⟩
      · simp only [BitVec.slt_iff_toInt_lt, BitVec.sle_iff_toInt_le] at h
        exact ⟨⟨by omega, le_refl _⟩, Or.inr rfl⟩
    obtain ⟨⟨ha1, ha2⟩, ha3⟩ := hm (g a) (S.fold IntOp.minsi b g)
    refine ⟨fun k hk => ?_, ?_⟩
    · rcases Finset.mem_insert.1 hk with rfl | hk
      · exact ha1
      · exact ha2.trans (h1 k hk)
    · rcases ha3 with h | h
      · exact Or.inr ⟨a, Finset.mem_insert_self _ _, h⟩
      · rcases h2 with h' | ⟨k, hk, h'⟩
        · exact Or.inl (h.trans h')
        · exact Or.inr ⟨k, Finset.mem_insert_of_mem hk, h.trans h'⟩

/-- The least index among those whose value is at most the row's minimum is the first place of the minimum. -/
theorem minsi_fold (f : Fin 1024 → EReal) :
    Finset.univ.fold IntOp.minsi (2147483647#32)
      (fun x : Fin 1024 => if f x ≤ Finset.univ.fold min ⊤ f then BitVec.ofNat 32 x.val else 1073741824#32) = BitVec.ofNat 32 (best f).val := by
  have hc : ∀ k, f k ≤ Finset.univ.fold min ⊤ f ↔ ∀ j, f k ≤ f j := fun k => by
    rw [Finset.le_fold_min]; simp
  simp only [hc]
  obtain ⟨h1, h2⟩ := minsi_fold_spec Finset.univ (2147483647#32)
    (fun x : Fin 1024 => if ∀ j, f x ≤ f j then BitVec.ofNat 32 x.val else 1073741824#32)
  have hb := h1 (best f) (Finset.mem_univ _)
  rw [if_pos (best_spec f).1, toInt_ofNat] at hb
  have hlt := (best f).isLt
  rcases h2 with h | ⟨k, -, h⟩
  · rw [h] at hb
    have : (2147483647#32 : BitVec 32).toInt = 2147483647 := by decide
    omega
  · rw [h] at hb ⊢
    by_cases hk : ∀ j, f k ≤ f j
    · rw [if_pos hk, toInt_ofNat] at hb
      rw [if_pos hk]
      have := (best_spec f).2 k (hk _)
      rw [show k = best f from le_antisymm (Fin.le_def.2 (Int.ofNat_le.1 hb)) this]
    · rw [if_neg hk] at hb
      exact absurd (hb.trans (Int.ofNat_le.2 hlt.le)) (by decide)

/-- The pair `a` goes before the pair `b`: a smaller value, or the same value at a smaller index. -/
def before (a b : EReal × BitVec 32) : Prop := a.1 < b.1 ∨ a.1 = b.1 ∧ a.2.toInt < b.2.toInt

/-- A left fold that keeps the pair that goes before: what it leaves goes after none, and is the start or a member. -/
theorem foldl_spec (g : EReal × BitVec 32 → EReal × BitVec 32 → EReal × BitVec 32)
    (hg : ∀ a b, (before a b ∧ g a b = a) ∨ (¬ before a b ∧ g a b = b)) (L : List (EReal × BitVec 32)) (p : EReal × BitVec 32) :
    (¬ before p (L.foldl g p)) ∧ (∀ q ∈ L, ¬ before q (L.foldl g p)) ∧ (L.foldl g p = p ∨ L.foldl g p ∈ L) := by
  have irr : ∀ a, ¬ before a a := fun a h => by
    rcases h with h | h
    · exact lt_irrefl _ h
    · exact lt_irrefl _ h.2
  have tr : ∀ a b c, ¬ before a b → ¬ before b c → ¬ before a c := fun a b c h1 h2 h => by
    unfold before at *
    push Not at h1 h2
    rcases h with h | ⟨h, h'⟩
    · exact absurd (h2.1.trans h1.1) (not_le.2 h)
    · have e1 : b.1 = a.1 := le_antisymm h1.1 (h ▸ h2.1)
      have h3 := h1.2 e1.symm
      have h4 := h2.2 (e1.trans h)
      omega
  have asym : ∀ a b, before a b → ¬ before b a := fun a b h h' => by
    unfold before at *
    rcases h with h | h <;> rcases h' with h' | h'
    · exact lt_asymm h h'
    · exact absurd h'.1.symm (ne_of_lt h)
    · exact absurd h.1.symm (ne_of_lt h')
    · have := h.2; have := h'.2; omega
  induction L generalizing p with
  | nil => exact ⟨irr p, by simp, Or.inl rfl⟩
  | cons q L ih =>
    obtain ⟨h1, h2, h3⟩ := ih (g p q)
    rw [List.foldl_cons]
    rcases hg p q with ⟨hb, he⟩ | ⟨hb, he⟩
    · rw [he] at h1 h2 h3 ⊢
      refine ⟨h1, fun x hx => ?_, ?_⟩
      · rcases List.mem_cons.1 hx with rfl | hx
        · exact tr _ _ _ (asym _ _ hb) h1
        · exact h2 x hx
      · rcases h3 with h3 | h3
        · exact Or.inl h3
        · exact Or.inr (List.mem_cons_of_mem _ h3)
    · rw [he] at h1 h2 h3 ⊢
      refine ⟨tr _ _ _ hb h1, fun x hx => ?_, Or.inr ?_⟩
      · rcases List.mem_cons.1 hx with rfl | hx
        · exact h1
        · exact h2 x hx
      · rcases h3 with h3 | h3
        · rw [h3]; exact List.mem_cons_self
        · exact List.mem_cons_of_mem _ h3

/-- The index such a fold over a row's pairs ends with is the first place of the row's minimum. -/
theorem foldl_best (g : EReal × BitVec 32 → EReal × BitVec 32 → EReal × BitVec 32)
    (hg : ∀ a b, (before a b ∧ g a b = a) ∨ (¬ before a b ∧ g a b = b)) (f : Fin 1024 → EReal) (L : List (EReal × BitVec 32))
    (hL : ∀ q, q ∈ L ↔ ∃ k : Fin 1024, q = (f k, BitVec.ofNat 32 k.val)) :
    (L.foldl g (⊤, 0#32)).2 = BitVec.ofNat 32 (best f).val := by
  obtain ⟨-, h2, h3⟩ := foldl_spec g hg L (⊤, 0#32)
  have h2' := fun k => h2 _ ((hL _).2 ⟨k, rfl⟩)
  unfold before at h2'
  push Not at h2'
  rcases h3 with h | h
  · rw [h] at h2' ⊢
    have : best f = 0 := best_eq ⟨fun j => le_trans le_top (h2' j).1, fun j _ => Fin.zero_le j⟩
    rw [this]; rfl
  · obtain ⟨k, hk⟩ := (hL _).1 h
    rw [hk] at h2' ⊢
    rw [best_eq (k := k) ⟨fun j => (h2' j).1, fun j hj => ?_⟩]
    have := (h2' j).2 (le_antisymm hj (h2' j).1)
    rw [toInt_ofNat, toInt_ofNat] at this
    show k.val ≤ j.val
    omega

end Cert.Best
end
-- ==== Proof.Spec.lean ====
/-
  The encoder's and the decoder's layers as functions on plainly indexed values.
-/
module

public import proofs.«01_k».proof.Proof.Best

@[expose] public section

noncomputable section

namespace Cert.Spec

open Idealize.ShloMosaic

abbrev T4 (a b c d : ℕ) : Type := Fin a → Fin b → Fin c → Fin d → EReal
abbrev T2 (a b : ℕ) : Type := Fin a → Fin b → EReal

theorem t4 {a b c d : ℕ} (x : T4 a b c d) {i i' : Fin a} {j j' : Fin b} {k k' : Fin c} {l l' : Fin d} (hi : (i : ℕ) = i') (hj : (j : ℕ) = j')
    (hk : (k : ℕ) = k') (hl : (l : ℕ) = l') : x i j k l = x i' j' k' l' := by
  rw [Fin.ext hi, Fin.ext hj, Fin.ext hk, Fin.ext hl]

theorem t2 {a b : ℕ} (x : T2 a b) {i i' : Fin a} {j j' : Fin b} (hi : (i : ℕ) = i') (hj : (j : ℕ) = j') : x i j = x i' j' := by
  rw [Fin.ext hi, Fin.ext hj]

theorem addc {a a' b b' : EReal} (h : a = a') (h' : b = b') : a + b = a' + b' := by rw [h, h']
theorem mulc {a a' b b' : EReal} (h : a = a') (h' : b = b') : a * b = a' * b' := by rw [h, h']

/-- Sixteen terms, added from the left. -/
theorem sum16 (f : Fin 16 → EReal) : ∑ k, f k = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

theorem sitofp_zero : (FloatOps.sitofp .f32 0#32 : Ideal .f32) = (0 : EReal) := by simp [FloatOps.sitofp]

/-- The images with a border of one zero. -/
def pad1 (y : T4 32 16 64 64) : T4 512 66 66 1 := fun n p q c =>
  if h : (1 ≤ p.val ∧ p.val - 1 < 64) ∧ 1 ≤ q.val ∧ q.val - 1 < 64 then y ⟨n.val / 16, by omega⟩ ⟨n.val % 16, by omega⟩ ⟨p.val - 1, h.1.2⟩ ⟨q.val - 1, h.2.2⟩ else 0

/-- A layer's positive part with a border of one zero. -/
def pad2 (y : T2 524288 32) : T4 512 34 34 32 := fun n p q c =>
  if h : (1 ≤ p.val ∧ p.val - 1 < 32) ∧ 1 ≤ q.val ∧ q.val - 1 < 32 then max (y ⟨n.val * 1024 + (p.val - 1) * 32 + (q.val - 1), by omega⟩ c) 0 else 0

/-- A layer's positive part with a border of one zero. -/
def pad3 (y : T2 131072 64) : T4 512 18 18 64 := fun n p q c =>
  if h : (1 ≤ p.val ∧ p.val - 1 < 16) ∧ 1 ≤ q.val ∧ q.val - 1 < 16 then max (y ⟨n.val * 256 + (p.val - 1) * 16 + (q.val - 1), by omega⟩ c) 0 else 0

/-- A layer's values spread by a zero between neighbours, with a border of two zeros. -/
def padD1 (y : T2 32768 64) : T4 512 19 19 64 := fun n p q c =>
  if h : (2 ≤ p.val ∧ (p.val - 2) % 2 = 0 ∧ (p.val - 2) / 2 < 8) ∧ 2 ≤ q.val ∧ (q.val - 2) % 2 = 0 ∧ (q.val - 2) / 2 < 8 then y ⟨n.val * 64 + (p.val - 2) / 2 * 8 + (q.val - 2) / 2, by omega⟩ c else 0

/-- A layer's values spread by a zero between neighbours, with a border of two zeros. -/
def padD2 (y : T2 131072 64) : T4 512 35 35 64 := fun n p q c =>
  if h : (2 ≤ p.val ∧ (p.val - 2) % 2 = 0 ∧ (p.val - 2) / 2 < 16) ∧ 2 ≤ q.val ∧ (q.val - 2) % 2 = 0 ∧ (q.val - 2) / 2 < 16 then max (y ⟨n.val * 256 + (p.val - 2) / 2 * 16 + (q.val - 2) / 2, by omega⟩ c) 0 else 0

/-- A layer's values spread by a zero between neighbours, with a border of two zeros. -/
def padD3 (y : T2 524288 32) : T4 512 67 67 32 := fun n p q c =>
  if h : (2 ≤ p.val ∧ (p.val - 2) % 2 = 0 ∧ (p.val - 2) / 2 < 32) ∧ 2 ≤ q.val ∧ (q.val - 2) % 2 = 0 ∧ (q.val - 2) / 2 < 32 then max (y ⟨n.val * 1024 + (p.val - 2) / 2 * 32 + (q.val - 2) / 2, by omega⟩ c) 0 else 0

/-- The layer's sixteen taps, and its bias. -/
def conv1 (P : T4 512 66 66 1) (w : T4 32 1 4 4) (b : Fin 32 → EReal) : T2 524288 32 := fun r o =>
  (∑ k : Fin 16, ∑ c : Fin 1, P ⟨r.val / 1024, by omega⟩ ⟨2 * (r.val / 32 % 32) + k.val / 4, by omega⟩ ⟨2 * (r.val % 32) + k.val % 4, by omega⟩ c * w o c ⟨k.val / 4, by omega⟩ ⟨k.val % 4, by omega⟩) + b o

/-- The layer's sixteen taps, and its bias. -/
def conv2 (P : T4 512 34 34 32) (w : T4 64 32 4 4) (b : Fin 64 → EReal) : T2 131072 64 := fun r o =>
  (∑ k : Fin 16, ∑ c : Fin 32, P ⟨r.val / 256, by omega⟩ ⟨2 * (r.val / 16 % 16) + k.val / 4, by omega⟩ ⟨2 * (r.val % 16) + k.val % 4, by omega⟩ c * w o c ⟨k.val / 4, by omega⟩ ⟨k.val % 4, by omega⟩) + b o

/-- The layer's sixteen taps, and its bias. -/
def conv3 (P : T4 512 18 18 64) (w : T4 64 64 4 4) (b : Fin 64 → EReal) : T2 32768 64 := fun r o =>
  (∑ k : Fin 16, ∑ c : Fin 64, P ⟨r.val / 64, by omega⟩ ⟨2 * (r.val / 8 % 8) + k.val / 4, by omega⟩ ⟨2 * (r.val % 8) + k.val % 4, by omega⟩ c * w o c ⟨k.val / 4, by omega⟩ ⟨k.val % 4, by omega⟩) + b o

/-- The layer's sixteen taps, and its bias. -/
def dec1 (P : T4 512 19 19 64) (w : T4 64 64 4 4) (b : Fin 64 → EReal) : T2 131072 64 := fun r o =>
  (∑ k : Fin 16, ∑ c : Fin 64, P ⟨r.val / 256, by omega⟩ ⟨(r.val / 16 % 16) + k.val / 4, by omega⟩ ⟨(r.val % 16) + k.val % 4, by omega⟩ c * w o c ⟨k.val / 4, by omega⟩ ⟨k.val % 4, by omega⟩) + b o

/-- The layer's sixteen taps, and its bias. -/
def dec2 (P : T4 512 35 35 64) (w : T4 32 64 4 4) (b : Fin 32 → EReal) : T2 524288 32 := fun r o =>
  (∑ k : Fin 16, ∑ c : Fin 64, P ⟨r.val / 1024, by omega⟩ ⟨(r.val / 32 % 32) + k.val / 4, by omega⟩ ⟨(r.val % 32) + k.val % 4, by omega⟩ c * w o c ⟨k.val / 4, by omega⟩ ⟨k.val % 4, by omega⟩) + b o

/-- The layer's sixteen taps, and its bias. -/
def dec3 (P : T4 512 67 67 32) (w : T4 1 32 4 4) (b : Fin 1 → EReal) : T2 2097152 1 := fun r o =>
  (∑ k : Fin 16, ∑ c : Fin 32, P ⟨r.val / 4096, by omega⟩ ⟨(r.val / 64 % 64) + k.val / 4, by omega⟩ ⟨(r.val % 64) + k.val % 4, by omega⟩ c * w o c ⟨k.val / 4, by omega⟩ ⟨k.val % 4, by omega⟩) + b o

/-- The distance of row `r` of `Z` to entry `x` of the codebook. -/
def dist (Z : T2 32768 64) (e : T2 1024 64) (r : Fin 32768) (x : Fin 1024) : EReal :=
  Ideal.sqrt (max (((∑ k, Z r k * Z r k) + ∑ k, e x k * e x k) - Ideal.ofBits .f32 1073741824#32 * ∑ k, Z r k * e x k) 0)

/-- The entry nearest to row `r`. -/
def near (Z : T2 32768 64) (e : T2 1024 64) (r : Fin 32768) : Fin 1024 := Best.best (dist Z e r)

end Cert.Spec
end
-- ==== Proof.Finite.lean ====
/-
  Finite arguments make the encoder's rows finite, and what that gives: the straight-through sum is the codebook's
  entry. The loss, written the kernel's way and the reference's.
-/
module

public import proofs.«01_k».proof.Proof.Spec
public import Idealize.ShloMosaic.Lib.Pointwise

@[expose] public section

noncomputable section

namespace Cert.Spec

open Idealize.ShloMosaic

/-- A real number, as an extended real. -/
def Fin' (v : EReal) : Prop := ∃ r : ℝ, v = (r : EReal)

theorem fin_zero : Fin' 0 := ⟨0, rfl⟩
theorem fin_add {a b : EReal} (ha : Fin' a) (hb : Fin' b) : Fin' (a + b) := by
  obtain ⟨x, rfl⟩ := ha; obtain ⟨y, rfl⟩ := hb; exact ⟨x + y, (EReal.coe_add x y).symm⟩
theorem fin_mul {a b : EReal} (ha : Fin' a) (hb : Fin' b) : Fin' (a * b) := by
  obtain ⟨x, rfl⟩ := ha; obtain ⟨y, rfl⟩ := hb; exact ⟨x * y, (EReal.coe_mul x y).symm⟩
theorem fin_max {a b : EReal} (ha : Fin' a) (hb : Fin' b) : Fin' (max a b) := by
  rcases max_choice a b with h | h <;> rw [h] <;> assumption
theorem fin_sum {ι : Type} (s : Finset ι) {f : ι → EReal} (h : ∀ i, Fin' (f i)) : Fin' (∑ i ∈ s, f i) :=
  Finset.sum_induction f Fin' (fun _ _ => fin_add) fin_zero fun i _ => h i

/-- An extended real whose absolute value is below infinity is a real number. -/
theorem fin_of_abs {v : EReal} (h : max v (-v) < ⊤) : Fin' v := by
  induction v using EReal.rec with
  | bot => simp at h
  | coe r => exact ⟨r, rfl⟩
  | top => simp at h

theorem fin_pad1 {y : T4 32 16 64 64} (h : ∀ a b c d, Fin' (y a b c d)) (n p q c) : Fin' (pad1 y n p q c) := by
  unfold pad1; split
  · exact h _ _ _ _
  · exact fin_zero

theorem fin_pad2 {y : T2 524288 32} (h : ∀ r o, Fin' (y r o)) (n p q c) : Fin' (pad2 y n p q c) := by
  unfold pad2; split
  · exact fin_max (h _ _) fin_zero
  · exact fin_zero

theorem fin_pad3 {y : T2 131072 64} (h : ∀ r o, Fin' (y r o)) (n p q c) : Fin' (pad3 y n p q c) := by
  unfold pad3; split
  · exact fin_max (h _ _) fin_zero
  · exact fin_zero

theorem fin_conv1 {P w b} (hP : ∀ n p q c, Fin' (P n p q c)) (hw : ∀ o c i j, Fin' (w o c i j)) (hb : ∀ o, Fin' (b o)) (r o) :
    Fin' (conv1 P w b r o) :=
  fin_add (fin_sum _ fun _ => fin_sum _ fun _ => fin_mul (hP _ _ _ _) (hw _ _ _ _)) (hb _)

theorem fin_conv2 {P w b} (hP : ∀ n p q c, Fin' (P n p q c)) (hw : ∀ o c i j, Fin' (w o c i j)) (hb : ∀ o, Fin' (b o)) (r o) :
    Fin' (conv2 P w b r o) :=
  fin_add (fin_sum _ fun _ => fin_sum _ fun _ => fin_mul (hP _ _ _ _) (hw _ _ _ _)) (hb _)

theorem fin_conv3 {P w b} (hP : ∀ n p q c, Fin' (P n p q c)) (hw : ∀ o c i j, Fin' (w o c i j)) (hb : ∀ o, Fin' (b o)) (r o) :
    Fin' (conv3 P w b r o) :=
  fin_add (fin_sum _ fun _ => fin_sum _ fun _ => fin_mul (hP _ _ _ _) (hw _ _ _ _)) (hb _)

/-- The encoder: three layers. -/
def enc (x : T4 32 16 64 64) (w1 : T4 32 1 4 4) (b1 : Fin 32 → EReal) (w2 : T4 64 32 4 4) (b2 : Fin 64 → EReal) (w3 : T4 64 64 4 4) (b3 : Fin 64 → EReal) : T2 32768 64 :=
  conv3 (pad3 (conv2 (pad2 (conv1 (pad1 x) w1 b1)) w2 b2)) w3 b3

theorem fin_enc {x w1 b1 w2 b2 w3 b3} (hx : ∀ a b c d, Fin' (x a b c d)) (h1 : ∀ o c i j, Fin' (w1 o c i j)) (g1 : ∀ o, Fin' (b1 o))
    (h2 : ∀ o c i j, Fin' (w2 o c i j)) (g2 : ∀ o, Fin' (b2 o)) (h3 : ∀ o c i j, Fin' (w3 o c i j)) (g3 : ∀ o, Fin' (b3 o)) (r k) :
    Fin' (enc x w1 b1 w2 b2 w3 b3 r k) :=
  fin_conv3 (fin_pad3 (fin_conv2 (fin_pad2 (fin_conv1 (fin_pad1 hx) h1 g1)) h2 g2)) h3 g3 r k

/-- The decoder: three layers over the quantized rows. -/
def decd (y : T2 32768 64) (w1 : T4 64 64 4 4) (b1 : Fin 64 → EReal) (w2 : T4 32 64 4 4) (b2 : Fin 32 → EReal) (w3 : T4 1 32 4 4) (b3 : Fin 1 → EReal) : T2 2097152 1 :=
  dec3 (padD3 (dec2 (padD2 (dec1 (padD1 y) w1 b1)) w2 b2)) w3 b3

/-- A real number added to what is left of any value after taking it away gives the value back. -/
theorem add_sub_back {z : EReal} (hz : Fin' z) (q : EReal) : z + (q - z) = q := by
  obtain ⟨r, rfl⟩ := hz
  induction q using EReal.rec with
  | bot => simp
  | coe s => rw [← EReal.coe_sub, ← EReal.coe_add]; congr 1; ring
  | top => simp

theorem sq_nonneg' (v : EReal) : 0 ≤ v * v := by
  induction v using EReal.rec with
  | bot => simp
  | coe r => rw [← EReal.coe_mul]; exact EReal.coe_nonneg.mpr (mul_self_nonneg r)
  | top => simp

/-- Five quarters of a mean are the mean and a quarter of it. -/
theorem loss_eq {S : EReal} (hS : 0 ≤ S) : Ideal.div (Ideal.ofBits .f32 1067450368#32 * S) (Ideal.ofBits .f32 1241513984#32)
    = Ideal.div S (Ideal.ofBits .f32 1241513984#32) + Ideal.ofBits .f32 1048576000#32 * Ideal.div S (Ideal.ofBits .f32 1241513984#32) := by
  have h1 : Ideal.ofBits .f32 1067450368#32 = ((1.25 : ℝ) : EReal) := by
    simp [Ideal.ofBits, Ideal.ieee]; rw [← EReal.coe_mul]; norm_num
  have h2 : Ideal.ofBits .f32 1241513984#32 = ((2097152 : ℝ) : EReal) := by
    simp [Ideal.ofBits, Ideal.ieee]; rw [← EReal.coe_mul]; norm_num
  have h3 : Ideal.ofBits .f32 1048576000#32 = ((0.25 : ℝ) : EReal) := by
    simp [Ideal.ofBits, Ideal.ieee]; rw [← EReal.coe_mul]; norm_num
  have hn : ((2097152 : ℝ) : EReal) ≠ 0 := by norm_num
  rw [h1, h2, h3]
  unfold Ideal.div
  simp only [if_neg hn]
  rw [← EReal.coe_inv]
  induction S using EReal.rec with
  | bot => simp at hS
  | coe r =>
    simp only [← EReal.coe_mul, ← EReal.coe_add]
    congr 1
    ring
  | top =>
    rw [EReal.coe_mul_top_of_pos (by norm_num), EReal.top_mul_coe_of_pos (by norm_num), EReal.coe_mul_top_of_pos (by norm_num)]
    rfl

end Cert.Spec
end
-- ==== Proof.PreFin.lean ====
/-
  What the precondition says: every argument of the encoder is a real number.
-/
module

public import proofs.«01_k».proof.Pre_encoder_finite
public import proofs.«01_k».proof.Proof.Finite
public import Idealize.ShloMosaic.Lib.ReduceAll

@[expose] public section

noncomputable section

namespace Cert.PreFin

open Cert.Pre_encoder_finite Cert.Spec Idealize.ShloMosaic

variable [Facts]
open Facts

instance : Subsingleton S_.Idx := ⟨fun a b => funext fun i => i.elim0⟩

/-- One array's part of the precondition. -/
theorem all_fin {s : Shape} {axes : List (Fin s.rank)} (x : FVec Ideal s .f32) (hb : S_.BroadcastsInDim s (![] : Fin 0 → Fin s.rank)) (h : s.ReducesTo axes S_)
    (e : Host.reduce IntOp.andi (cmpf (F := Ideal) .olt (Host.absf x) (broadcastInDim s ![] hb (constant S_ .f32 0x7F800000#32))) (constantI S_ 1 1#1) h h_S_ ix0 = 1#1)
    (i : s.Idx) : Fin' (x i) := by
  have h1 := Host.reduce_andi_all _ _ h h_S_ ix0 e i
  have h2 : Ideal.cmp .olt (max (x i : EReal) (-(x i : EReal))) (Ideal.ofBits .f32 0x7F800000#32) = 1#1 := h1
  have ht : Ideal.ofBits .f32 0x7F800000#32 = ⊤ := by simp [Ideal.ofBits, Ideal.ieee]
  rw [ht] at h2
  refine fin_of_abs ?_
  by_contra hc
  simp [Ideal.cmp, hc] at h2

theorem args_fin (a0 : FVec Ideal S32x16x64x64 .f32) (a1 : FVec Ideal S32x1x4x4 .f32) (a2 : FVec Ideal S32 .f32) (a3 : FVec Ideal S64x32x4x4 .f32) (a4 : FVec Ideal S64 .f32)
    (a5 : FVec Ideal S64x64x4x4 .f32) (a6 : FVec Ideal S64 .f32) (a7 : FVec Ideal S1024x64 .f32) (a8 : FVec Ideal S64x64x4x4 .f32) (a9 : FVec Ideal S64 .f32)
    (a10 : FVec Ideal S32x64x4x4 .f32) (a11 : FVec Ideal S32 .f32) (a12 : FVec Ideal S1x32x4x4 .f32) (a13 : FVec Ideal S1 .f32)
    (h : fn (F := Ideal) a0 a1 a2 a3 a4 a5 a6 a7 a8 a9 a10 a11 a12 a13 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) ∧ (∀ i, Fin' (a6 i)) := by
  have h0 := congrFun h ix0
  unfold fn fn_part1 at h0
  dsimp only at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_fin _ _ _ e0, all_fin _ _ _ e1, all_fin _ _ _ e2, all_fin _ _ _ e3, all_fin _ _ _ e4, all_fin _ _ _ e5, all_fin _ _ _ e6⟩

end Cert.PreFin
end
-- ==== Proof.Chunks.lean ====
/-
  The kernel's partial sums, put together.
-/
module

public import proofs.«01_k».proof.Proof.Spec
public import Idealize.ShloMosaic.Lib.Pointwise

@[expose] public section

noncomputable section

namespace Cert.Spec

open Idealize.ShloMosaic

theorem f2 {M : Type} {a b : ℕ} (F : Fin a → Fin b → M) {i i' : Fin a} {j j' : Fin b} (hi : (i : ℕ) = i') (hj : (j : ℕ) = j') : F i j = F i' j' := by
  rw [Fin.ext hi, Fin.ext hj]

/-- Four groups of eight channels at the sixteen taps, the last group first. -/
theorem chunk2 (F : Fin 16 → Fin 32 → EReal) :
    (((∑ q : Fin 128, F ⟨(384 + q.val) / 8 % 16, by omega⟩ ⟨(384 + q.val) / 128 * 8 + (384 + q.val) % 8, by omega⟩)
      + (∑ q : Fin 128, F ⟨(256 + q.val) / 8 % 16, by omega⟩ ⟨(256 + q.val) / 128 * 8 + (256 + q.val) % 8, by omega⟩))
      + (∑ q : Fin 128, F ⟨(128 + q.val) / 8 % 16, by omega⟩ ⟨(128 + q.val) / 128 * 8 + (128 + q.val) % 8, by omega⟩))
      + (∑ q : Fin 128, F ⟨q.val / 8 % 16, by omega⟩ ⟨q.val / 128 * 8 + q.val % 8, by omega⟩)
    = ∑ k, ∑ c, F k c := by
  have hR : ∑ k, ∑ c, F k c = ∑ g : Fin 4, ∑ k : Fin 16, ∑ e : Fin 8, F k ⟨g.val * 8 + e.val, by omega⟩ := by
    exact (Finset.sum_congr rfl fun k _ => Fin.sum_univ_tiles 4 8 rfl _).trans Finset.sum_comm
  rw [hR, Fin.sum_univ_four, Fin.sum_univ_tiles 16 8 rfl, Fin.sum_univ_tiles 16 8 rfl, Fin.sum_univ_tiles 16 8 rfl, Fin.sum_univ_tiles 16 8 rfl]
  rw [add_assoc, add_assoc, add_comm]
  rw [show ∀ a b c d : EReal, b + (c + d) + a = d + c + b + a from fun a b c d => by rw [add_comm c d, add_comm b (d + c)]]
  refine addc (addc (addc ?_ ?_) ?_) ?_ <;>
    exact Finset.sum_congr rfl fun k _ => Finset.sum_congr rfl fun e _ => f2 F (by dsimp; omega) (by dsimp; omega)

/-- Four groups of four taps at 64 channels. -/
theorem chunk3 (F : Fin 16 → Fin 64 → EReal) :
    (((∑ q : Fin 256, F ⟨q.val / 64, by omega⟩ ⟨q.val % 64, by omega⟩)
      + (∑ q : Fin 256, F ⟨(256 + q.val) / 64, by omega⟩ ⟨(256 + q.val) % 64, by omega⟩))
      + (∑ q : Fin 256, F ⟨(512 + q.val) / 64, by omega⟩ ⟨(512 + q.val) % 64, by omega⟩))
      + (∑ q : Fin 256, F ⟨(768 + q.val) / 64, by omega⟩ ⟨(768 + q.val) % 64, by omega⟩)
    = ∑ k, ∑ c, F k c := by
  have hR : ∑ k, ∑ c, F k c = ∑ g : Fin 4, ∑ k : Fin 4, ∑ c : Fin 64, F ⟨g.val * 4 + k.val, by omega⟩ c := by
    rw [Fin.sum_univ_tiles 4 4 rfl]
  rw [hR, Fin.sum_univ_four, Fin.sum_univ_tiles 4 64 rfl, Fin.sum_univ_tiles 4 64 rfl, Fin.sum_univ_tiles 4 64 rfl, Fin.sum_univ_tiles 4 64 rfl]
  refine addc (addc (addc ?_ ?_) ?_) ?_ <;>
    exact Finset.sum_congr rfl fun k _ => Finset.sum_congr rfl fun e _ => f2 F (by dsimp; omega) (by dsimp; omega)

/-- Of sixteen taps only the four of one parity count. -/
theorem parity (p : Fin 4) (f : Fin 16 → EReal) (hz : ∀ k : Fin 16, ¬ (k.val / 4 % 2 = p.val / 2 ∧ k.val % 4 % 2 = p.val % 2) → f k = 0) :
    ∑ t : Fin 4, f ⟨(p.val / 2 + 2 * (t.val / 2)) * 4 + (p.val % 2 + 2 * (t.val % 2)), by omega⟩ = ∑ k, f k := by
  have hk : ∀ k : Fin 16, f k = if k.val / 4 % 2 = p.val / 2 ∧ k.val % 4 % 2 = p.val % 2 then f k else 0 := fun k => by
    split_ifs with h
    · rfl
    · exact hz k h
  rw [Finset.sum_congr rfl fun k _ => hk k, sum16, Fin.sum_univ_four]
  fin_cases p <;> simp

end Cert.Spec
end
-- ==== Proof.Region0.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Idealize.ShloMosaic.Pipeline (Dat)

variable (V : (c : Dev nD) → (b : Ref sig .tc) → Buf (Elt Ideal) ((c : Thread nD τ).loc b))

/-- What convolution 1's matrix product leaves. -/
abbrev mm0 (A : FVec Ideal S524288x16 .f32) (W : FVec Ideal S16x32 .f32) (b : FVec Ideal S1x32 .f32) : FVec Ideal S524288x32 .f32 :=
  fun i => max ((∑ q : Fin 16, A (ix2 (i 0) q) * W (ix2 q (i 1))) + b (ix2 0 (i 1))) 0

/-- The blocks of grid point `t`. -/
theorem idx0 : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- One entry of what grid point `t` stores. -/
theorem point0 (c : Dev nD) (t : Fin cfg0.N) (y) : k0_pay1 (iblk0 V c 0 t) (iblk0 V c 1 t) (iblk0 V c 2 t) y
    = mm0 (V c main_v47) (V c main_v49) (V c main_v50) (((cfg0.win 3).blk t).view.emb y) := by
  pointwise [k0_pay1, mm0]
  blk_point [iblk0, idx0 t]

/-- The region's result as one array. -/
theorem final0 (c : Dev nD) : (dat0 V c).arrAt 3 cfg0.N = mm0 (V c main_v47) (V c main_v49) (V c main_v50) := by
  refine (dat0 V c).arrAt_eq_of_covers 3 _ (by decide +kernel) fun t _ y => ?_
  blk_simp
  rw [after0_3]; frame_out
  exact point0 V c t y

end Cert.KVal
end
-- ==== Proof.Region1.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Idealize.ShloMosaic.Pipeline (Dat)

variable (V : (c : Dev nD) → (b : Ref sig .tc) → Buf (Elt Ideal) ((c : Thread nD τ).loc b))

/-- What convolution 2's matrix product leaves. -/
abbrev mm1 (A : FVec Ideal S131072x512 .f32) (W : FVec Ideal S512x64 .f32) (b : FVec Ideal S1x64 .f32) : FVec Ideal S131072x64 .f32 :=
  fun i => max (((((∑ q : Fin 128, A (ix2 (i 0) ⟨384 + q, by omega⟩) * W (ix2 ⟨384 + q, by omega⟩ (i 1))) + (∑ q : Fin 128, A (ix2 (i 0) ⟨256 + q, by omega⟩) * W (ix2 ⟨256 + q, by omega⟩ (i 1)))) + (∑ q : Fin 128, A (ix2 (i 0) ⟨128 + q, by omega⟩) * W (ix2 ⟨128 + q, by omega⟩ (i 1)))) + (∑ q : Fin 128, A (ix2 (i 0) ⟨q, by omega⟩) * W (ix2 ⟨q, by omega⟩ (i 1)))) + b (ix2 0 (i 1))) 0

/-- The blocks of grid point `t`. -/
theorem idx1 : ∀ t : Fin cfg1.N, win1_0.index t = ![t.val, 0] ∧ win1_1.index t = ![0, 0] ∧ win1_2.index t = ![0, 0] ∧ win1_3.index t = ![t.val, 0] :=
  (by decide +kernel : ∀ t : Fin grid1.N, _)

/-- One entry of what grid point `t` stores. -/
theorem point1 (c : Dev nD) (t : Fin cfg1.N) (y) : k1_pay1 (iblk1 V c 0 t) (iblk1 V c 1 t) (iblk1 V c 2 t) y
    = mm1 (V c main_v101) (V c main_v105) (V c main_v106) (((cfg1.win 3).blk t).view.emb y) := by
  pointwise [k1_pay1, mm1]
  blk_point [iblk1, idx1 t]

/-- The region's result as one array. -/
theorem final1 (c : Dev nD) : (dat1 V c).arrAt 3 cfg1.N = mm1 (V c main_v101) (V c main_v105) (V c main_v106) := by
  refine (dat1 V c).arrAt_eq_of_covers 3 _ (by decide +kernel) fun t _ y => ?_
  blk_simp
  rw [after1_3]; frame_out
  exact point1 V c t y

end Cert.KVal
end
-- ==== Proof.Region2.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Idealize.ShloMosaic.Pipeline (Dat)

variable (V : (c : Dev nD) → (b : Ref sig .tc) → Buf (Elt Ideal) ((c : Thread nD τ).loc b))

/-- What convolution 3's matrix product leaves. -/
abbrev mm2 (A : FVec Ideal S32768x1024 .f32) (W : FVec Ideal S1024x64 .f32) (b : FVec Ideal S1x64 .f32) : FVec Ideal S32768x64 .f32 :=
  fun i => (((((∑ q : Fin 256, A (ix2 (i 0) ⟨q, by omega⟩) * W (ix2 ⟨q, by omega⟩ (i 1))) + (∑ q : Fin 256, A (ix2 (i 0) ⟨256 + q, by omega⟩) * W (ix2 ⟨256 + q, by omega⟩ (i 1)))) + (∑ q : Fin 256, A (ix2 (i 0) ⟨512 + q, by omega⟩) * W (ix2 ⟨512 + q, by omega⟩ (i 1)))) + (∑ q : Fin 256, A (ix2 (i 0) ⟨768 + q, by omega⟩) * W (ix2 ⟨768 + q, by omega⟩ (i 1)))) + b (ix2 0 (i 1)))

/-- The blocks of grid point `t`. -/
theorem idx2 : ∀ t : Fin cfg2.N, win2_0.index t = ![t.val, 0] ∧ win2_1.index t = ![0, 0] ∧ win2_2.index t = ![0, 0] ∧ win2_3.index t = ![t.val, 0] :=
  (by decide +kernel : ∀ t : Fin grid2.N, _)

/-- One entry of what grid point `t` stores. -/
theorem point2 (c : Dev nD) (t : Fin cfg2.N) (y) : k2_pay1 (iblk2 V c 0 t) (iblk2 V c 1 t) (iblk2 V c 2 t) y
    = mm2 (V c main_v155) (V c main_v157) (V c main_v158) (((cfg2.win 3).blk t).view.emb y) := by
  pointwise [k2_pay1, mm2]
  blk_point [iblk2, idx2 t]

/-- The region's result as one array. -/
theorem final2 (c : Dev nD) : (dat2 V c).arrAt 3 cfg2.N = mm2 (V c main_v155) (V c main_v157) (V c main_v158) := by
  refine (dat2 V c).arrAt_eq_of_covers 3 _ (by decide +kernel) fun t _ y => ?_
  blk_simp
  rw [after2_3]; frame_out
  exact point2 V c t y

end Cert.KVal
end
-- ==== Proof.HostE.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

/-- Reading an array of rank four at equal coordinates. -/
theorem at4 {α : Type} {n0 n1 n2 n3 : ℕ} (x : (⟨4, ![n0, n1, n2, n3]⟩ : Shape).Idx → α) {a a' : Fin n0} {b b' : Fin n1} {c c' : Fin n2}
    {d d' : Fin n3} (ha : (a : ℕ) = a') (hb : (b : ℕ) = b') (hc : (c : ℕ) = c') (hd : (d : ℕ) = d') :
    x (ix4 a b c d) = x (ix4 a' b' c' d') := by
  rw [Fin.ext ha, Fin.ext hb, Fin.ext hc, Fin.ext hd]

set_option maxHeartbeats 4000000 in
/-- The sixteen shifted views of layer 1's padded image, stacked. -/
theorem stack0 (V : Valuation τ sig (Elt Ideal)) (n : Fin 512) (i j : Fin 32) (t : Fin 16) (c : Fin 1) :
    (after (((hostOps0_2 (F := Ideal))).take 45) V (Proc.devRef .tc main_v46) : FVec Ideal S512x32x32x16x1 .f32) (ix5 n i j t c)
    = (V (Proc.devRef .tc main_v1) : FVec Ideal S512x66x66x1 .f32) (ix4 n ⟨2 * i + t / 4, by omega⟩ ⟨2 * j + t % 4, by omega⟩ c) := by
  rw [after_last_write (ops := (hostOps0_2 (F := Ideal)).take 45) (i := 44) (W := []) (r := main_v46) rfl rfl (by decide) V, nary_result]
  concat_tiles i0 hi
  case piece0 =>
    change (upto (((hostOps0_2 (F := Ideal))).take 45) V 44 (Proc.devRef .tc main_v30) : FVec Ideal S512x32x32x1x1 .f32) i0 = _
    after_reads_at
    have e : (t : ℕ) = 0 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece1 =>
    change (upto (((hostOps0_2 (F := Ideal))).take 45) V 44 (Proc.devRef .tc main_v31) : FVec Ideal S512x32x32x1x1 .f32) i0 = _
    after_reads_at
    have e : (t : ℕ) = 1 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece2 =>
    change (upto (((hostOps0_2 (F := Ideal))).take 45) V 44 (Proc.devRef .tc main_v32) : FVec Ideal S512x32x32x1x1 .f32) i0 = _
    after_reads_at
    have e : (t : ℕ) = 2 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece3 =>
    change (upto (((hostOps0_2 (F := Ideal))).take 45) V 44 (Proc.devRef .tc main_v33) : FVec Ideal S512x32x32x1x1 .f32) i0 = _
    after_reads_at
    have e : (t : ℕ) = 3 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece4 =>
    change (upto (((hostOps0_2 (F := Ideal))).take 45) V 44 (Proc.devRef .tc main_v34) : FVec Ideal S512x32x32x1x1 .f32) i0 = _
    after_reads_at
    have e : (t : ℕ) = 4 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece5 =>
    change (upto (((hostOps0_2 (F := Ideal))).take 45) V 44 (Proc.devRef .tc main_v35) : FVec Ideal S512x32x32x1x1 .f32) i0 = _
    after_reads_at
    have e : (t : ℕ) = 5 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece6 =>
    change (upto (((hostOps0_2 (F := Ideal))).take 45) V 44 (Proc.devRef .tc main_v36) : FVec Ideal S512x32x32x1x1 .f32) i0 = _
    after_reads_at
    have e : (t : ℕ) = 6 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece7 =>
    change (upto (((hostOps0_2 (F := Ideal))).take 45) V 44 (Proc.devRef .tc main_v37) : FVec Ideal S512x32x32x1x1 .f32) i0 = _
    after_reads_at
    have e : (t : ℕ) = 7 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece8 =>
    change (upto (((hostOps0_2 (F := Ideal))).take 45) V 44 (Proc.devRef .tc main_v38) : FVec Ideal S512x32x32x1x1 .f32) i0 = _
    after_reads_at
    have e : (t : ℕ) = 8 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece9 =>
    change (upto (((hostOps0_2 (F := Ideal))).take 45) V 44 (Proc.devRef .tc main_v39) : FVec Ideal S512x32x32x1x1 .f32) i0 = _
    after_reads_at
    have e : (t : ℕ) = 9 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece10 =>
    change (upto (((hostOps0_2 (F := Ideal))).take 45) V 44 (Proc.devRef .tc main_v40) : FVec Ideal S512x32x32x1x1 .f32) i0 = _
    after_reads_at
    have e : (t : ℕ) = 10 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece11 =>
    change (upto (((hostOps0_2 (F := Ideal))).take 45) V 44 (Proc.devRef .tc main_v41) : FVec Ideal S512x32x32x1x1 .f32) i0 = _
    after_reads_at
    have e : (t : ℕ) = 11 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece12 =>
    change (upto (((hostOps0_2 (F := Ideal))).take 45) V 44 (Proc.devRef .tc main_v42) : FVec Ideal S512x32x32x1x1 .f32) i0 = _
    after_reads_at
    have e : (t : ℕ) = 12 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece13 =>
    change (upto (((hostOps0_2 (F := Ideal))).take 45) V 44 (Proc.devRef .tc main_v43) : FVec Ideal S512x32x32x1x1 .f32) i0 = _
    after_reads_at
    have e : (t : ℕ) = 13 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece14 =>
    change (upto (((hostOps0_2 (F := Ideal))).take 45) V 44 (Proc.devRef .tc main_v44) : FVec Ideal S512x32x32x1x1 .f32) i0 = _
    after_reads_at
    have e : (t : ℕ) = 14 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega
  case piece15 =>
    change (upto (((hostOps0_2 (F := Ideal))).take 45) V 44 (Proc.devRef .tc main_v45) : FVec Ideal S512x32x32x1x1 .f32) i0 = _
    after_reads_at
    have e : (t : ℕ) = 15 := hi
    have e1 : ((i0 1 : Fin 32) : ℕ) = i := hi1
    have e2 : ((i0 2 : Fin 32) : ℕ) = j := hi2
    refine at4 (V (Proc.devRef .tc main_v1) : FVec Ideal S512x66x66x1 .f32) hi0 ?_ ?_ (by omega) <;> dsimp only <;> omega

set_option maxHeartbeats 4000000 in
/-- One entry of the matrix layer 1 multiplies. -/
theorem rows0 (V : Valuation τ sig (Elt Ideal)) (r : Fin 524288) (q : Fin 16) :
    (after (hostOps0_2 (F := Ideal)) V (Proc.devRef .tc main_v47) : FVec Ideal S524288x16 .f32) (ix2 r q)
    = (V (Proc.devRef .tc main_v1) : FVec Ideal S512x66x66x1 .f32)
        (ix4 ⟨r / 1024, by omega⟩ ⟨2 * (r / 32 % 32) + q / 4, by omega⟩ ⟨2 * (r % 32) + q % 4, by omega⟩ ⟨0, by omega⟩) := by
  rw [show after (hostOps0_2 (F := Ideal)) V = after ((hostOps0_2 (F := Ideal)).drop 45) (after ((hostOps0_2 (F := Ideal)).take 45) V) from
    after_append ((hostOps0_2 (F := Ideal)).take 45) ((hostOps0_2 (F := Ideal)).drop 45) V]
  have hs := stack0 V
  generalize after ((hostOps0_2 (F := Ideal)).take 45) V = U at hs ⊢
  after_reads_at
  refine (hs _ _ _ _ _).trans (at4 (V (Proc.devRef .tc main_v1) : FVec Ideal S512x66x66x1 .f32) rfl ?_ ?_ ?_) <;> dsimp only <;> omega

set_option maxHeartbeats 4000000 in
/-- One entry of the weights layer 1 multiplies by. -/
theorem cols0 (V : Valuation τ sig (Elt Ideal)) (q : Fin 16) (o : Fin 32) :
    (after (hostOps0_2 (F := Ideal)) V (Proc.devRef .tc main_v49) : FVec Ideal S16x32 .f32) (ix2 q o)
    = (V (Proc.devRef .tc main_arg1) : FVec Ideal S32x1x4x4 .f32)
        (ix4 o ⟨0, by omega⟩ ⟨q / 4, by omega⟩ ⟨q % 4, by omega⟩) := by
  after_reads_at

set_option maxHeartbeats 4000000 in
/-- One entry of the bias layer 1 adds. -/
theorem bias0 (V : Valuation τ sig (Elt Ideal)) (o : Fin 32) :
    (after (hostOps0_2 (F := Ideal)) V (Proc.devRef .tc main_v50) : FVec Ideal S1x32 .f32) (ix2 0 o)
    = (V (Proc.devRef .tc main_arg2) : FVec Ideal S32 .f32) (ix1 o) := by
  after_reads_at

set_option maxHeartbeats 4000000 in
/-- The sixteen shifted views of layer 2's padded image, stacked. -/
theorem stack1 (V : Valuation τ sig (Elt Ideal)) (n : Fin 512) (i j : Fin 16) (t : Fin 16) (c : Fin 32) :
    (after (((hostOps1_2 (F := Ideal))).take 45) V (Proc.devRef .tc main_v98) : FVec Ideal S512x16x16x16x32 .f32) (ix5 n i j t c)
    = (V (Proc.devRef .tc main_v53) : FVec Ideal S512x34x34x32 .f32) (ix4 n ⟨2 * i + t / 4, by omega⟩ ⟨2 * j + t % 4, by omega⟩ c) := by
  rw [after_last_write (ops := (hostOps1_2 (F := Ideal)).take 45) (i := 44) (W := []) (r := main_v98) rfl rfl (by decide) V, nary_result]
  concat_tiles i0 hi
  case piece0 =>
    change (upto (((hostOps1_2 (F := Ideal))).take 45) V 44 (Proc.devRef .tc main_v82) : FVec Ideal S512x16x16x1x32 .f32) i0 = _
    after_reads_at
    have e : (t : ℕ) = 0 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece1 =>
    change (upto (((hostOps1_2 (F := Ideal))).take 45) V 44 (Proc.devRef .tc main_v83) : FVec Ideal S512x16x16x1x32 .f32) i0 = _
    after_reads_at
    have e : (t : ℕ) = 1 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece2 =>
    change (upto (((hostOps1_2 (F := Ideal))).take 45) V 44 (Proc.devRef .tc main_v84) : FVec Ideal S512x16x16x1x32 .f32) i0 = _
    after_reads_at
    have e : (t : ℕ) = 2 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece3 =>
    change (upto (((hostOps1_2 (F := Ideal))).take 45) V 44 (Proc.devRef .tc main_v85) : FVec Ideal S512x16x16x1x32 .f32) i0 = _
    after_reads_at
    have e : (t : ℕ) = 3 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece4 =>
    change (upto (((hostOps1_2 (F := Ideal))).take 45) V 44 (Proc.devRef .tc main_v86) : FVec Ideal S512x16x16x1x32 .f32) i0 = _
    after_reads_at
    have e : (t : ℕ) = 4 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece5 =>
    change (upto (((hostOps1_2 (F := Ideal))).take 45) V 44 (Proc.devRef .tc main_v87) : FVec Ideal S512x16x16x1x32 .f32) i0 = _
    after_reads_at
    have e : (t : ℕ) = 5 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece6 =>
    change (upto (((hostOps1_2 (F := Ideal))).take 45) V 44 (Proc.devRef .tc main_v88) : FVec Ideal S512x16x16x1x32 .f32) i0 = _
    after_reads_at
    have e : (t : ℕ) = 6 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece7 =>
    change (upto (((hostOps1_2 (F := Ideal))).take 45) V 44 (Proc.devRef .tc main_v89) : FVec Ideal S512x16x16x1x32 .f32) i0 = _
    after_reads_at
    have e : (t : ℕ) = 7 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece8 =>
    change (upto (((hostOps1_2 (F := Ideal))).take 45) V 44 (Proc.devRef .tc main_v90) : FVec Ideal S512x16x16x1x32 .f32) i0 = _
    after_reads_at
    have e : (t : ℕ) = 8 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece9 =>
    change (upto (((hostOps1_2 (F := Ideal))).take 45) V 44 (Proc.devRef .tc main_v91) : FVec Ideal S512x16x16x1x32 .f32) i0 = _
    after_reads_at
    have e : (t : ℕ) = 9 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece10 =>
    change (upto (((hostOps1_2 (F := Ideal))).take 45) V 44 (Proc.devRef .tc main_v92) : FVec Ideal S512x16x16x1x32 .f32) i0 = _
    after_reads_at
    have e : (t : ℕ) = 10 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece11 =>
    change (upto (((hostOps1_2 (F := Ideal))).take 45) V 44 (Proc.devRef .tc main_v93) : FVec Ideal S512x16x16x1x32 .f32) i0 = _
    after_reads_at
    have e : (t : ℕ) = 11 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece12 =>
    change (upto (((hostOps1_2 (F := Ideal))).take 45) V 44 (Proc.devRef .tc main_v94) : FVec Ideal S512x16x16x1x32 .f32) i0 = _
    after_reads_at
    have e : (t : ℕ) = 12 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece13 =>
    change (upto (((hostOps1_2 (F := Ideal))).take 45) V 44 (Proc.devRef .tc main_v95) : FVec Ideal S512x16x16x1x32 .f32) i0 = _
    after_reads_at
    have e : (t : ℕ) = 13 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece14 =>
    change (upto (((hostOps1_2 (F := Ideal))).take 45) V 44 (Proc.devRef .tc main_v96) : FVec Ideal S512x16x16x1x32 .f32) i0 = _
    after_reads_at
    have e : (t : ℕ) = 14 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega
  case piece15 =>
    change (upto (((hostOps1_2 (F := Ideal))).take 45) V 44 (Proc.devRef .tc main_v97) : FVec Ideal S512x16x16x1x32 .f32) i0 = _
    after_reads_at
    have e : (t : ℕ) = 15 := hi
    have e1 : ((i0 1 : Fin 16) : ℕ) = i := hi1
    have e2 : ((i0 2 : Fin 16) : ℕ) = j := hi2
    refine at4 (V (Proc.devRef .tc main_v53) : FVec Ideal S512x34x34x32 .f32) hi0 ?_ ?_ hi4 <;> dsimp only <;> omega

set_option maxHeartbeats 4000000 in
/-- One entry of the matrix layer 2 multiplies. -/
theorem rows1 (V : Valuation τ sig (Elt Ideal)) (r : Fin 131072) (q : Fin 512) :
    (after (hostOps1_2 (F := Ideal)) V (Proc.devRef .tc main_v101) : FVec Ideal S131072x512 .f32) (ix2 r q)
    = (V (Proc.devRef .tc main_v53) : FVec Ideal S512x34x34x32 .f32)
        (ix4 ⟨r / 256, by omega⟩ ⟨2 * (r / 16 % 16) + q / 8 % 16 / 4, by omega⟩ ⟨2 * (r % 16) + q / 8 % 16 % 4, by omega⟩ ⟨q / 128 * 8 + q % 8, by omega⟩) := by
  rw [show after (hostOps1_2 (F := Ideal)) V = after ((hostOps1_2 (F := Ideal)).drop 45) (after ((hostOps1_2 (F := Ideal)).take 45) V) from
    after_append ((hostOps1_2 (F := Ideal)).take 45) ((hostOps1_2 (F := Ideal)).drop 45) V]
  have hs := stack1 V
  generalize after ((hostOps1_2 (F := Ideal)).take 45) V = U at hs ⊢
  after_reads_at
  refine (hs _ _ _ _ _).trans (at4 (V (Proc.devRef .tc main_v53) : FVec Ideal S512x34x34x32 .f32) rfl ?_ ?_ ?_) <;> dsimp only <;> omega

set_option maxHeartbeats 4000000 in
/-- One entry of the weights layer 2 multiplies by. -/
theorem cols1 (V : Valuation τ sig (Elt Ideal)) (q : Fin 512) (o : Fin 64) :
    (after (hostOps1_2 (F := Ideal)) V (Proc.devRef .tc main_v105) : FVec Ideal S512x64 .f32) (ix2 q o)
    = (V (Proc.devRef .tc main_arg3) : FVec Ideal S64x32x4x4 .f32)
        (ix4 o ⟨q / 128 * 8 + q % 8, by omega⟩ ⟨q / 8 % 16 / 4, by omega⟩ ⟨q / 8 % 16 % 4, by omega⟩) := by
  after_reads_at

set_option maxHeartbeats 4000000 in
/-- One entry of the bias layer 2 adds. -/
theorem bias1 (V : Valuation τ sig (Elt Ideal)) (o : Fin 64) :
    (after (hostOps1_2 (F := Ideal)) V (Proc.devRef .tc main_v106) : FVec Ideal S1x64 .f32) (ix2 0 o)
    = (V (Proc.devRef .tc main_arg4) : FVec Ideal S64 .f32) (ix1 o) := by
  after_reads_at

set_option maxHeartbeats 4000000 in
/-- The sixteen shifted views of layer 3's padded image, stacked. -/
theorem stack2 (V : Valuation τ sig (Elt Ideal)) (n : Fin 512) (i j : Fin 8) (t : Fin 16) (c : Fin 64) :
    (after (((hostOps2_2 (F := Ideal))).take 45) V (Proc.devRef .tc main_v154) : FVec Ideal S512x8x8x16x64 .f32) (ix5 n i j t c)
    = (V (Proc.devRef .tc main_v109) : FVec Ideal S512x18x18x64 .f32) (ix4 n ⟨2 * i + t / 4, by omega⟩ ⟨2 * j + t % 4, by omega⟩ c) := by
  rw [after_last_write (ops := (hostOps2_2 (F := Ideal)).take 45) (i := 44) (W := []) (r := main_v154) rfl rfl (by decide) V, nary_result]
  concat_tiles i0 hi
  case piece0 =>
    change (upto (((hostOps2_2 (F := Ideal))).take 45) V 44 (Proc.devRef .tc main_v138) : FVec Ideal S512x8x8x1x64 .f32) i0 = _
    after_reads_at
    have e : (t : ℕ) = 0 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece1 =>
    change (upto (((hostOps2_2 (F := Ideal))).take 45) V 44 (Proc.devRef .tc main_v139) : FVec Ideal S512x8x8x1x64 .f32) i0 = _
    after_reads_at
    have e : (t : ℕ) = 1 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece2 =>
    change (upto (((hostOps2_2 (F := Ideal))).take 45) V 44 (Proc.devRef .tc main_v140) : FVec Ideal S512x8x8x1x64 .f32) i0 = _
    after_reads_at
    have e : (t : ℕ) = 2 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece3 =>
    change (upto (((hostOps2_2 (F := Ideal))).take 45) V 44 (Proc.devRef .tc main_v141) : FVec Ideal S512x8x8x1x64 .f32) i0 = _
    after_reads_at
    have e : (t : ℕ) = 3 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece4 =>
    change (upto (((hostOps2_2 (F := Ideal))).take 45) V 44 (Proc.devRef .tc main_v142) : FVec Ideal S512x8x8x1x64 .f32) i0 = _
    after_reads_at
    have e : (t : ℕ) = 4 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece5 =>
    change (upto (((hostOps2_2 (F := Ideal))).take 45) V 44 (Proc.devRef .tc main_v143) : FVec Ideal S512x8x8x1x64 .f32) i0 = _
    after_reads_at
    have e : (t : ℕ) = 5 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece6 =>
    change (upto (((hostOps2_2 (F := Ideal))).take 45) V 44 (Proc.devRef .tc main_v144) : FVec Ideal S512x8x8x1x64 .f32) i0 = _
    after_reads_at
    have e : (t : ℕ) = 6 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece7 =>
    change (upto (((hostOps2_2 (F := Ideal))).take 45) V 44 (Proc.devRef .tc main_v145) : FVec Ideal S512x8x8x1x64 .f32) i0 = _
    after_reads_at
    have e : (t : ℕ) = 7 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece8 =>
    change (upto (((hostOps2_2 (F := Ideal))).take 45) V 44 (Proc.devRef .tc main_v146) : FVec Ideal S512x8x8x1x64 .f32) i0 = _
    after_reads_at
    have e : (t : ℕ) = 8 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece9 =>
    change (upto (((hostOps2_2 (F := Ideal))).take 45) V 44 (Proc.devRef .tc main_v147) : FVec Ideal S512x8x8x1x64 .f32) i0 = _
    after_reads_at
    have e : (t : ℕ) = 9 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece10 =>
    change (upto (((hostOps2_2 (F := Ideal))).take 45) V 44 (Proc.devRef .tc main_v148) : FVec Ideal S512x8x8x1x64 .f32) i0 = _
    after_reads_at
    have e : (t : ℕ) = 10 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece11 =>
    change (upto (((hostOps2_2 (F := Ideal))).take 45) V 44 (Proc.devRef .tc main_v149) : FVec Ideal S512x8x8x1x64 .f32) i0 = _
    after_reads_at
    have e : (t : ℕ) = 11 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece12 =>
    change (upto (((hostOps2_2 (F := Ideal))).take 45) V 44 (Proc.devRef .tc main_v150) : FVec Ideal S512x8x8x1x64 .f32) i0 = _
    after_reads_at
    have e : (t : ℕ) = 12 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece13 =>
    change (upto (((hostOps2_2 (F := Ideal))).take 45) V 44 (Proc.devRef .tc main_v151) : FVec Ideal S512x8x8x1x64 .f32) i0 = _
    after_reads_at
    have e : (t : ℕ) = 13 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece14 =>
    change (upto (((hostOps2_2 (F := Ideal))).take 45) V 44 (Proc.devRef .tc main_v152) : FVec Ideal S512x8x8x1x64 .f32) i0 = _
    after_reads_at
    have e : (t : ℕ) = 14 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega
  case piece15 =>
    change (upto (((hostOps2_2 (F := Ideal))).take 45) V 44 (Proc.devRef .tc main_v153) : FVec Ideal S512x8x8x1x64 .f32) i0 = _
    after_reads_at
    have e : (t : ℕ) = 15 := hi
    have e1 : ((i0 1 : Fin 8) : ℕ) = i := hi1
    have e2 : ((i0 2 : Fin 8) : ℕ) = j := hi2
    refine at4 (V (Proc.devRef .tc main_v109) : FVec Ideal S512x18x18x64 .f32) hi0 ?_ ?_ hi4 <;> dsimp only <;> omega

set_option maxHeartbeats 4000000 in
/-- One entry of the matrix layer 3 multiplies. -/
theorem rows2 (V : Valuation τ sig (Elt Ideal)) (r : Fin 32768) (q : Fin 1024) :
    (after (hostOps2_2 (F := Ideal)) V (Proc.devRef .tc main_v155) : FVec Ideal S32768x1024 .f32) (ix2 r q)
    = (V (Proc.devRef .tc main_v109) : FVec Ideal S512x18x18x64 .f32)
        (ix4 ⟨r / 64, by omega⟩ ⟨2 * (r / 8 % 8) + q / 64 / 4, by omega⟩ ⟨2 * (r % 8) + q / 64 % 4, by omega⟩ ⟨q % 64, by omega⟩) := by
  rw [show after (hostOps2_2 (F := Ideal)) V = after ((hostOps2_2 (F := Ideal)).drop 45) (after ((hostOps2_2 (F := Ideal)).take 45) V) from
    after_append ((hostOps2_2 (F := Ideal)).take 45) ((hostOps2_2 (F := Ideal)).drop 45) V]
  have hs := stack2 V
  generalize after ((hostOps2_2 (F := Ideal)).take 45) V = U at hs ⊢
  after_reads_at
  refine (hs _ _ _ _ _).trans (at4 (V (Proc.devRef .tc main_v109) : FVec Ideal S512x18x18x64 .f32) rfl ?_ ?_ ?_) <;> dsimp only <;> omega

set_option maxHeartbeats 4000000 in
/-- One entry of the weights layer 3 multiplies by. -/
theorem cols2 (V : Valuation τ sig (Elt Ideal)) (q : Fin 1024) (o : Fin 64) :
    (after (hostOps2_2 (F := Ideal)) V (Proc.devRef .tc main_v157) : FVec Ideal S1024x64 .f32) (ix2 q o)
    = (V (Proc.devRef .tc main_arg5) : FVec Ideal S64x64x4x4 .f32)
        (ix4 o ⟨q % 64, by omega⟩ ⟨q / 64 / 4, by omega⟩ ⟨q / 64 % 4, by omega⟩) := by
  after_reads_at
  refine at4 (V (Proc.devRef .tc main_arg5) : FVec Ideal S64x64x4x4 .f32) rfl ?_ ?_ ?_ <;> dsimp only <;> omega

set_option maxHeartbeats 4000000 in
/-- One entry of the bias layer 3 adds. -/
theorem bias2 (V : Valuation τ sig (Elt Ideal)) (o : Fin 64) :
    (after (hostOps2_2 (F := Ideal)) V (Proc.devRef .tc main_v158) : FVec Ideal S1x64 .f32) (ix2 0 o)
    = (V (Proc.devRef .tc main_arg6) : FVec Ideal S64 .f32) (ix1 o) := by
  after_reads_at

end Cert.KVal
end
-- ==== Proof.KEnc.lean ====
module

public import proofs.«01_k».proof.Proof.Gen.KernelIdeal.Frame
public import proofs.«01_k».proof.Proof.Chunks
public import proofs.«01_k».proof.Proof.Region0
public import proofs.«01_k».proof.Proof.Region1
public import proofs.«01_k».proof.Proof.Region2
public import proofs.«01_k».proof.Proof.HostE
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The images, the layers' weights and biases, as the launch finds them. -/
abbrev xK : T4 32 16 64 64 := fun i j k l => (m ((c : Thread nD τ).loc main_arg0) : FVec Ideal S32x16x64x64 .f32) (ix4 i j k l)
abbrev wK1 : T4 32 1 4 4 := fun o k a b => (m ((c : Thread nD τ).loc main_arg1) : FVec Ideal S32x1x4x4 .f32) (ix4 o k a b)
abbrev bK1 : Fin 32 → EReal := fun o => (m ((c : Thread nD τ).loc main_arg2) : FVec Ideal S32 .f32) (ix1 o)
abbrev wK2 : T4 64 32 4 4 := fun o k a b => (m ((c : Thread nD τ).loc main_arg3) : FVec Ideal S64x32x4x4 .f32) (ix4 o k a b)
abbrev bK2 : Fin 64 → EReal := fun o => (m ((c : Thread nD τ).loc main_arg4) : FVec Ideal S64 .f32) (ix1 o)
abbrev wK3 : T4 64 64 4 4 := fun o k a b => (m ((c : Thread nD τ).loc main_arg5) : FVec Ideal S64x64x4x4 .f32) (ix4 o k a b)
abbrev bK3 : Fin 64 → EReal := fun o => (m ((c : Thread nD τ).loc main_arg6) : FVec Ideal S64 .f32) (ix1 o)
abbrev wK4 : T4 64 64 4 4 := fun o k a b => (m ((c : Thread nD τ).loc main_arg8) : FVec Ideal S64x64x4x4 .f32) (ix4 o k a b)
abbrev bK4 : Fin 64 → EReal := fun o => (m ((c : Thread nD τ).loc main_arg9) : FVec Ideal S64 .f32) (ix1 o)
abbrev wK5 : T4 32 64 4 4 := fun o k a b => (m ((c : Thread nD τ).loc main_arg10) : FVec Ideal S32x64x4x4 .f32) (ix4 o k a b)
abbrev bK5 : Fin 32 → EReal := fun o => (m ((c : Thread nD τ).loc main_arg11) : FVec Ideal S32 .f32) (ix1 o)
abbrev wK6 : T4 1 32 4 4 := fun o k a b => (m ((c : Thread nD τ).loc main_arg12) : FVec Ideal S1x32x4x4 .f32) (ix4 o k a b)
abbrev bK6 : Fin 1 → EReal := fun o => (m ((c : Thread nD τ).loc main_arg13) : FVec Ideal S1 .f32) (ix1 o)

set_option maxHeartbeats 1000000 in
theorem inK1 (n : Fin 512) (p q : Fin 66) (k : Fin 1) : (W2 m ρ c (Proc.devRef .tc main_v1) : FVec Ideal S512x66x66x1 .f32) (ix4 n p q k)
    = pad1 (xK m c) n p q k := by
  have h := W0_args m ρ c main_arg0 (by decide)
  show (after hostOps0_1 (after hostOps0 (W0 m ρ c)) (Proc.devRef .tc main_v1) : FVec Ideal S512x66x66x1 .f32) (ix4 n p q k) = _
  generalize W0 m ρ c = U at *
  after_reads_at
  rw [h]
  simp only [sitofp_zero, pad1]

theorem arr1 : W4 m ρ c (Proc.devRef .tc main_v51) = mm0 (V3 m ρ c main_v47) (V3 m ρ c main_v49) (V3 m ρ c main_v50) :=
  (W4_arr m ρ c 3).trans (final0 (V3 m ρ) c)

set_option maxHeartbeats 1000000 in
theorem outK1 (r : Fin 524288) (o : Fin 32) : (W4 m ρ c (Proc.devRef .tc main_v51) : FVec Ideal S524288x32 .f32) (ix2 r o)
    = max (conv1 (pad1 (xK m c)) (wK1 m c) (bK1 m c) r o) 0 := by
  have hA : ∀ r q, (V3 m ρ c main_v47 : FVec Ideal S524288x16 .f32) (ix2 r q) = _ := fun r q => (rows0 (W2 m ρ c) r q).trans (inK1 m ρ c _ _ _ _)
  have hW : ∀ q o, (V3 m ρ c main_v49 : FVec Ideal S16x32 .f32) (ix2 q o) = _ := fun q o => (cols0 (W2 m ρ c) q o).trans (congrFun (W2_args m ρ c main_arg1 (by decide)) _)
  have hb : ∀ o, (V3 m ρ c main_v50 : FVec Ideal S1x32 .f32) (ix2 0 o) = _ := fun o => (bias0 (W2 m ρ c) o).trans (congrFun (W2_args m ρ c main_arg2 (by decide)) _)
  rw [arr1]
  generalize V3 m ρ c main_v47 = A at *
  generalize V3 m ρ c main_v49 = B at *
  generalize V3 m ρ c main_v50 = D at *
  generalize pad1 (xK m c) = P at *
  unfold mm0 conv1
  refine congrArg (fun v : EReal => max v 0) (addc (Finset.sum_congr rfl fun q _ => ?_) (hb o))
  refine Eq.trans (mulc (hA r q) (hW q o)) ?_
  rw [Fin.sum_univ_one]
  rfl

set_option maxHeartbeats 1000000 in
theorem inK2 (n : Fin 512) (p q : Fin 34) (k : Fin 32) : (W6 m ρ c (Proc.devRef .tc main_v53) : FVec Ideal S512x34x34x32 .f32) (ix4 n p q k)
    = pad2 (conv1 (pad1 (xK m c)) (wK1 m c) (bK1 m c)) n p q k := by
  have h := outK1 m ρ c
  show (after hostOps1_1 (after hostOps1 (W4 m ρ c)) (Proc.devRef .tc main_v53) : FVec Ideal S512x34x34x32 .f32) (ix4 n p q k) = _
  generalize W4 m ρ c = U at *
  after_reads_at
  simp only [sitofp_zero, h]
  rfl

theorem arr2 : W8 m ρ c (Proc.devRef .tc main_v107) = mm1 (V7 m ρ c main_v101) (V7 m ρ c main_v105) (V7 m ρ c main_v106) :=
  (W8_arr m ρ c 3).trans (final1 (V7 m ρ) c)

set_option maxHeartbeats 1000000 in
theorem outK2 (r : Fin 131072) (o : Fin 64) : (W8 m ρ c (Proc.devRef .tc main_v107) : FVec Ideal S131072x64 .f32) (ix2 r o)
    = max (conv2 (pad2 (conv1 (pad1 (xK m c)) (wK1 m c) (bK1 m c))) (wK2 m c) (bK2 m c) r o) 0 := by
  have hA : ∀ r q, (V7 m ρ c main_v101 : FVec Ideal S131072x512 .f32) (ix2 r q) = _ := fun r q => (rows1 (W6 m ρ c) r q).trans (inK2 m ρ c _ _ _ _)
  have hW : ∀ q o, (V7 m ρ c main_v105 : FVec Ideal S512x64 .f32) (ix2 q o) = _ := fun q o => (cols1 (W6 m ρ c) q o).trans (congrFun (W6_args m ρ c main_arg3 (by decide)) _)
  have hb : ∀ o, (V7 m ρ c main_v106 : FVec Ideal S1x64 .f32) (ix2 0 o) = _ := fun o => (bias1 (W6 m ρ c) o).trans (congrFun (W6_args m ρ c main_arg4 (by decide)) _)
  rw [arr2]
  generalize V7 m ρ c main_v101 = A at *
  generalize V7 m ρ c main_v105 = B at *
  generalize V7 m ρ c main_v106 = D at *
  generalize pad2 (conv1 (pad1 (xK m c)) (wK1 m c) (bK1 m c)) = P at *
  unfold mm1 conv2
  refine congrArg (fun v : EReal => max v 0) (addc (Eq.trans (addc (addc (addc ?_ ?_) ?_) ?_) (chunk2 (fun (t : Fin 16) (k : Fin 32) => P ⟨r.val / 256, by omega⟩ ⟨2 * (r.val / 16 % 16) + t.val / 4, by omega⟩ ⟨2 * (r.val % 16) + t.val % 4, by omega⟩ k * wK2 m c o k ⟨t.val / 4, by omega⟩ ⟨t.val % 4, by omega⟩))) (hb o))
  all_goals
    refine Finset.sum_congr rfl fun q _ => ?_
    exact mulc (hA _ _) (hW _ _)

set_option maxHeartbeats 1000000 in
theorem inK3 (n : Fin 512) (p q : Fin 18) (k : Fin 64) : (W10 m ρ c (Proc.devRef .tc main_v109) : FVec Ideal S512x18x18x64 .f32) (ix4 n p q k)
    = pad3 (conv2 (pad2 (conv1 (pad1 (xK m c)) (wK1 m c) (bK1 m c))) (wK2 m c) (bK2 m c)) n p q k := by
  have h := outK2 m ρ c
  show (after hostOps2_1 (after hostOps2 (W8 m ρ c)) (Proc.devRef .tc main_v109) : FVec Ideal S512x18x18x64 .f32) (ix4 n p q k) = _
  generalize W8 m ρ c = U at *
  after_reads_at
  simp only [sitofp_zero, h]
  rfl

theorem arr3 : W12 m ρ c (Proc.devRef .tc main_v159) = mm2 (V11 m ρ c main_v155) (V11 m ρ c main_v157) (V11 m ρ c main_v158) :=
  (W12_arr m ρ c 3).trans (final2 (V11 m ρ) c)

set_option maxHeartbeats 1000000 in
theorem outK3 (r : Fin 32768) (o : Fin 64) : (W12 m ρ c (Proc.devRef .tc main_v159) : FVec Ideal S32768x64 .f32) (ix2 r o)
    = conv3 (pad3 (conv2 (pad2 (conv1 (pad1 (xK m c)) (wK1 m c) (bK1 m c))) (wK2 m c) (bK2 m c))) (wK3 m c) (bK3 m c) r o := by
  have hA : ∀ r q, (V11 m ρ c main_v155 : FVec Ideal S32768x1024 .f32) (ix2 r q) = _ := fun r q => (rows2 (W10 m ρ c) r q).trans (inK3 m ρ c _ _ _ _)
  have hW : ∀ q o, (V11 m ρ c main_v157 : FVec Ideal S1024x64 .f32) (ix2 q o) = _ := fun q o => (cols2 (W10 m ρ c) q o).trans (congrFun (W10_args m ρ c main_arg5 (by decide)) _)
  have hb : ∀ o, (V11 m ρ c main_v158 : FVec Ideal S1x64 .f32) (ix2 0 o) = _ := fun o => (bias2 (W10 m ρ c) o).trans (congrFun (W10_args m ρ c main_arg6 (by decide)) _)
  rw [arr3]
  generalize V11 m ρ c main_v155 = A at *
  generalize V11 m ρ c main_v157 = B at *
  generalize V11 m ρ c main_v158 = D at *
  generalize pad3 (conv2 (pad2 (conv1 (pad1 (xK m c)) (wK1 m c) (bK1 m c))) (wK2 m c) (bK2 m c)) = P at *
  unfold mm2 conv3
  refine (addc (Eq.trans (addc (addc (addc ?_ ?_) ?_) ?_) (chunk3 (fun (t : Fin 16) (k : Fin 64) => P ⟨r.val / 64, by omega⟩ ⟨2 * (r.val / 8 % 8) + t.val / 4, by omega⟩ ⟨2 * (r.val % 8) + t.val % 4, by omega⟩ k * wK3 m c o k ⟨t.val / 4, by omega⟩ ⟨t.val % 4, by omega⟩))) (hb o))
  all_goals
    refine Finset.sum_congr rfl fun q _ => ?_
    exact mulc (hA _ _) (hW _ _)

end Cert.KVal
end
-- ==== Proof.KEnd.lean ====
module

public import proofs.«01_k».proof.Proof.Gen.KernelIdeal.Frame
public import proofs.«01_k».proof.Proof.KEnc
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Nothing after the vector quantization's last host line writes its results. -/
theorem keep (r : Ref sig .tc) (h16 : r ∉ hostOps4_1_W) (h17 : r ∉ hostOps4_2_W) (h18 : ∀ w : Fin cfg4.W, Pipeline.arrRef spec4 w = r → (cfg4.win w).isOut = false)
    (h19 : r ∉ hostOps5_W) (h20 : r ∉ hostOps5_1_W) (h21 : r ∉ hostOps5_2_W) (h22 : ∀ w : Fin cfg5.W, Pipeline.arrRef spec5 w = r → (cfg5.win w).isOut = false)
    (h23 : r ∉ hostOps6_W) (h24 : r ∉ hostOps6_1_W) (h25 : r ∉ hostOps6_2_W) (h26 : ∀ w : Fin cfg6.W, Pipeline.arrRef spec6 w = r → (cfg6.win w).isOut = false)
    (h27 : r ∉ hostOps7_W) : W27 m ρ c (Proc.devRef .tc r) = W15 m ρ c (Proc.devRef .tc r) :=
  (W27_of m ρ c r h27).trans <| (W26_of m ρ c r h26).trans <| (W25_of m ρ c r h25).trans <| (W24_of m ρ c r h24).trans <| (W23_of m ρ c r h23).trans <|
    (W22_of m ρ c r h22).trans <| (W21_of m ρ c r h21).trans <| (W20_of m ρ c r h20).trans <| (W19_of m ρ c r h19).trans <| (W18_of m ρ c r h18).trans <|
    (W17_of m ρ c r h17).trans (W16_of m ρ c r h16)

theorem keep_loss : W27 m ρ c (Proc.devRef .tc main_v170) = W15 m ρ c (Proc.devRef .tc main_v170) :=
  keep m ρ c _ (by decide) (by decide) (by decide) (by decide) (by decide) (by decide) (by decide) (by decide) (by decide) (by decide) (by decide) (by decide)
theorem keep_pooled : W27 m ρ c (Proc.devRef .tc main_v171) = W15 m ρ c (Proc.devRef .tc main_v171) :=
  keep m ρ c _ (by decide) (by decide) (by decide) (by decide) (by decide) (by decide) (by decide) (by decide) (by decide) (by decide) (by decide) (by decide)
theorem keep_idx : W27 m ρ c (Proc.devRef .tc main_v174) = W15 m ρ c (Proc.devRef .tc main_v174) :=
  keep m ρ c _ (by decide) (by decide) (by decide) (by decide) (by decide) (by decide) (by decide) (by decide) (by decide) (by decide) (by decide) (by decide)

theorem recon27 (y : T2 2097152 1)
    (h : ∀ (p : Fin 4) (r : Fin 524288) (o : Fin 1), (W26 m ρ c (Proc.devRef .tc main_v376) : FVec Ideal S4x524288x1 .f32) (ix3 p r o)
      = Ideal.tanh (y ⟨r.val / 1024 * 4096 + (2 * (r.val / 32 % 32) + p.val / 2) * 64 + (2 * (r.val % 32) + p.val % 2), by omega⟩ o))
    (n : Fin 512) (i : Fin 1) (p q : Fin 64) : (W27 m ρ c (Proc.devRef .tc main_v380) : FVec Ideal S512x1x64x64 .f32) (ix4 n i p q)
    = Ideal.tanh (y ⟨n.val * 4096 + p.val * 64 + q.val, by omega⟩ 0) := by
  show (after hostOps7 (W26 m ρ c) (Proc.devRef .tc main_v380) : FVec Ideal S512x1x64x64 .f32) (ix4 n i p q) = _
  generalize W26 m ρ c = U at *
  after_reads_at
  refine (h _ _ _).trans (congrArg Ideal.tanh (t2 y ?_ rfl))
  dsimp only
  omega

end Cert.KVal
end
-- ==== Proof.Dec.lean ====
/-
  A transposed layer by parities is the sixteen taps over the spread image.
-/
module

public import proofs.«01_k».proof.Proof.Chunks

@[expose] public section

noncomputable section

namespace Cert.Spec

open Idealize.ShloMosaic

/-- The layer's input with a border of one zero. -/
def padS1 (y : T2 32768 64) : T4 512 10 10 64 := fun n p q c =>
  if h : (1 ≤ p.val ∧ p.val - 1 < 8) ∧ 1 ≤ q.val ∧ q.val - 1 < 8 then y ⟨n.val * 64 + (p.val - 1) * 8 + (q.val - 1), by omega⟩ c else 0

theorem spread1 (y : T2 32768 64) (n : Fin 512) (a b : Fin 10) (P Q : Fin 19) (c : Fin 64) (hP : P.val = 2 * a.val) (hQ : Q.val = 2 * b.val) :
    padS1 y n a b c = padD1 y n P Q c := by
  unfold padS1 padD1
  by_cases h : (1 ≤ a.val ∧ a.val - 1 < 8) ∧ 1 ≤ b.val ∧ b.val - 1 < 8
  · rw [dif_pos h, dif_pos (by omega)]

    exact t2 y (by dsimp only; omega) rfl
  · rw [dif_neg h, dif_neg (by omega)]

theorem gap1 (y : T2 32768 64) (n : Fin 512) (P Q : Fin 19) (c : Fin 64) (h : ¬ (P.val % 2 = 0 ∧ Q.val % 2 = 0)) : padD1 y n P Q c = 0 := by
  unfold padD1
  rw [dif_neg (by omega)]

theorem parity1 (y : T2 32768 64) (w : T4 64 64 4 4) (b : Fin 64 → EReal) (p : Fin 4) (r : Fin 32768) (o : Fin 64) :
    (∑ q : Fin 256, padS1 y ⟨r.val / 64, by omega⟩ ⟨r.val / 8 % 8 + p.val / 2 + q.val / 64 / 2, by omega⟩ ⟨r.val % 8 + p.val % 2 + q.val / 64 % 2, by omega⟩ ⟨q.val % 64, by omega⟩
        * w o ⟨q.val % 64, by omega⟩ ⟨p.val / 2 + 2 * (q.val / 64 / 2), by omega⟩ ⟨p.val % 2 + 2 * (q.val / 64 % 2), by omega⟩) + b o
      = dec1 (padD1 y) w b ⟨r.val / 64 * 256 + (2 * (r.val / 8 % 8) + p.val / 2) * 16 + (2 * (r.val % 8) + p.val % 2), by omega⟩ o := by
  unfold dec1
  refine addc ?_ rfl
  rw [Fin.sum_univ_tiles 4 64 rfl]
  refine Eq.trans ?_ (parity p _ fun k hk => ?_)
  · refine Finset.sum_congr rfl fun t _ => Finset.sum_congr rfl fun c _ => ?_
    refine mulc ?_ (t4 w rfl (by dsimp only; omega) (by dsimp only; omega) (by dsimp only; omega))
    refine (t4 (padS1 y) (i' := ⟨r.val / 64, by omega⟩) (j' := ⟨r.val / 8 % 8 + p.val / 2 + t.val / 2, by omega⟩) (k' := ⟨r.val % 8 + p.val % 2 + t.val % 2, by omega⟩) (l' := c)
      rfl (by dsimp only; omega) (by dsimp only; omega) (by dsimp only; omega)).trans ?_
    refine (spread1 y _ _ _ ⟨2 * (r.val / 8 % 8 + p.val / 2 + t.val / 2), by omega⟩ ⟨2 * (r.val % 8 + p.val % 2 + t.val % 2), by omega⟩ c rfl rfl).trans ?_
    exact t4 (padD1 y) (by dsimp only; omega) (by dsimp only; omega) (by dsimp only; omega) rfl
  · refine Finset.sum_eq_zero fun c _ => ?_
    rw [gap1 y _ _ _ c (by dsimp only; omega), zero_mul]

/-- The layer's input with a border of one zero. -/
def padS2 (y : T2 131072 64) : T4 512 18 18 64 := fun n p q c =>
  if h : (1 ≤ p.val ∧ p.val - 1 < 16) ∧ 1 ≤ q.val ∧ q.val - 1 < 16 then max (y ⟨n.val * 256 + (p.val - 1) * 16 + (q.val - 1), by omega⟩ c) 0 else 0

theorem spread2 (y : T2 131072 64) (n : Fin 512) (a b : Fin 18) (P Q : Fin 35) (c : Fin 64) (hP : P.val = 2 * a.val) (hQ : Q.val = 2 * b.val) :
    padS2 y n a b c = padD2 y n P Q c := by
  unfold padS2 padD2
  by_cases h : (1 ≤ a.val ∧ a.val - 1 < 16) ∧ 1 ≤ b.val ∧ b.val - 1 < 16
  · rw [dif_pos h, dif_pos (by omega)]
    refine congrArg (fun v : EReal => max v 0) ?_
    exact t2 y (by dsimp only; omega) rfl
  · rw [dif_neg h, dif_neg (by omega)]

theorem gap2 (y : T2 131072 64) (n : Fin 512) (P Q : Fin 35) (c : Fin 64) (h : ¬ (P.val % 2 = 0 ∧ Q.val % 2 = 0)) : padD2 y n P Q c = 0 := by
  unfold padD2
  rw [dif_neg (by omega)]

theorem parity2 (y : T2 131072 64) (w : T4 32 64 4 4) (b : Fin 32 → EReal) (p : Fin 4) (r : Fin 131072) (o : Fin 32) :
    (∑ q : Fin 256, padS2 y ⟨r.val / 256, by omega⟩ ⟨r.val / 16 % 16 + p.val / 2 + q.val / 64 / 2, by omega⟩ ⟨r.val % 16 + p.val % 2 + q.val / 64 % 2, by omega⟩ ⟨q.val % 64, by omega⟩
        * w o ⟨q.val % 64, by omega⟩ ⟨p.val / 2 + 2 * (q.val / 64 / 2), by omega⟩ ⟨p.val % 2 + 2 * (q.val / 64 % 2), by omega⟩) + b o
      = dec2 (padD2 y) w b ⟨r.val / 256 * 1024 + (2 * (r.val / 16 % 16) + p.val / 2) * 32 + (2 * (r.val % 16) + p.val % 2), by omega⟩ o := by
  unfold dec2
  refine addc ?_ rfl
  rw [Fin.sum_univ_tiles 4 64 rfl]
  refine Eq.trans ?_ (parity p _ fun k hk => ?_)
  · refine Finset.sum_congr rfl fun t _ => Finset.sum_congr rfl fun c _ => ?_
    refine mulc ?_ (t4 w rfl (by dsimp only; omega) (by dsimp only; omega) (by dsimp only; omega))
    refine (t4 (padS2 y) (i' := ⟨r.val / 256, by omega⟩) (j' := ⟨r.val / 16 % 16 + p.val / 2 + t.val / 2, by omega⟩) (k' := ⟨r.val % 16 + p.val % 2 + t.val % 2, by omega⟩) (l' := c)
      rfl (by dsimp only; omega) (by dsimp only; omega) (by dsimp only; omega)).trans ?_
    refine (spread2 y _ _ _ ⟨2 * (r.val / 16 % 16 + p.val / 2 + t.val / 2), by omega⟩ ⟨2 * (r.val % 16 + p.val % 2 + t.val % 2), by omega⟩ c rfl rfl).trans ?_
    exact t4 (padD2 y) (by dsimp only; omega) (by dsimp only; omega) (by dsimp only; omega) rfl
  · refine Finset.sum_eq_zero fun c _ => ?_
    rw [gap2 y _ _ _ c (by dsimp only; omega), zero_mul]

/-- The layer's input with a border of one zero. -/
def padS3 (y : T2 524288 32) : T4 512 34 34 32 := fun n p q c =>
  if h : (1 ≤ p.val ∧ p.val - 1 < 32) ∧ 1 ≤ q.val ∧ q.val - 1 < 32 then max (y ⟨n.val * 1024 + (p.val - 1) * 32 + (q.val - 1), by omega⟩ c) 0 else 0

theorem spread3 (y : T2 524288 32) (n : Fin 512) (a b : Fin 34) (P Q : Fin 67) (c : Fin 32) (hP : P.val = 2 * a.val) (hQ : Q.val = 2 * b.val) :
    padS3 y n a b c = padD3 y n P Q c := by
  unfold padS3 padD3
  by_cases h : (1 ≤ a.val ∧ a.val - 1 < 32) ∧ 1 ≤ b.val ∧ b.val - 1 < 32
  · rw [dif_pos h, dif_pos (by omega)]
    refine congrArg (fun v : EReal => max v 0) ?_
    exact t2 y (by dsimp only; omega) rfl
  · rw [dif_neg h, dif_neg (by omega)]

theorem gap3 (y : T2 524288 32) (n : Fin 512) (P Q : Fin 67) (c : Fin 32) (h : ¬ (P.val % 2 = 0 ∧ Q.val % 2 = 0)) : padD3 y n P Q c = 0 := by
  unfold padD3
  rw [dif_neg (by omega)]

theorem parity3 (y : T2 524288 32) (w : T4 1 32 4 4) (b : Fin 1 → EReal) (p : Fin 4) (r : Fin 524288) (o : Fin 1) :
    (∑ q : Fin 128, padS3 y ⟨r.val / 1024, by omega⟩ ⟨r.val / 32 % 32 + p.val / 2 + q.val / 32 / 2, by omega⟩ ⟨r.val % 32 + p.val % 2 + q.val / 32 % 2, by omega⟩ ⟨q.val % 32, by omega⟩
        * w o ⟨q.val % 32, by omega⟩ ⟨p.val / 2 + 2 * (q.val / 32 / 2), by omega⟩ ⟨p.val % 2 + 2 * (q.val / 32 % 2), by omega⟩) + b o
      = dec3 (padD3 y) w b ⟨r.val / 1024 * 4096 + (2 * (r.val / 32 % 32) + p.val / 2) * 64 + (2 * (r.val % 32) + p.val % 2), by omega⟩ o := by
  unfold dec3
  refine addc ?_ rfl
  rw [Fin.sum_univ_tiles 4 32 rfl]
  refine Eq.trans ?_ (parity p _ fun k hk => ?_)
  · refine Finset.sum_congr rfl fun t _ => Finset.sum_congr rfl fun c _ => ?_
    refine mulc ?_ (t4 w rfl (by dsimp only; omega) (by dsimp only; omega) (by dsimp only; omega))
    refine (t4 (padS3 y) (i' := ⟨r.val / 1024, by omega⟩) (j' := ⟨r.val / 32 % 32 + p.val / 2 + t.val / 2, by omega⟩) (k' := ⟨r.val % 32 + p.val % 2 + t.val % 2, by omega⟩) (l' := c)
      rfl (by dsimp only; omega) (by dsimp only; omega) (by dsimp only; omega)).trans ?_
    refine (spread3 y _ _ _ ⟨2 * (r.val / 32 % 32 + p.val / 2 + t.val / 2), by omega⟩ ⟨2 * (r.val % 32 + p.val % 2 + t.val % 2), by omega⟩ c rfl rfl).trans ?_
    exact t4 (padD3 y) (by dsimp only; omega) (by dsimp only; omega) (by dsimp only; omega) rfl
  · refine Finset.sum_eq_zero fun c _ => ?_
    rw [gap3 y _ _ _ c (by dsimp only; omega), zero_mul]

end Cert.Spec
end
-- ==== Proof.Region4.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Idealize.ShloMosaic.Pipeline (Dat)

variable (V : (c : Dev nD) → (b : Ref sig .tc) → Buf (Elt Ideal) ((c : Thread nD τ).loc b))

/-- What decoder layer 1's four matrix products leave. -/
abbrev mm4 (A : FVec Ideal S4x32768x256 .f32) (W : FVec Ideal S4x256x64 .f32) (b : FVec Ideal S1x1x64 .f32) : FVec Ideal S4x32768x64 .f32 :=
  fun i => max ((∑ q : Fin 256, A (ix3 (i 0) (i 1) q) * W (ix3 (i 0) q (i 2))) + b (ix3 0 0 (i 2))) 0

/-- The blocks of grid point `t`. -/
theorem idx4 : ∀ t : Fin cfg4.N, win4_0.index t = ![t.val / 16, t.val % 16, 0] ∧ win4_1.index t = ![t.val / 16, 0, 0] ∧ win4_2.index t = ![0, 0, 0] ∧ win4_3.index t = ![t.val / 16, t.val % 16, 0] :=
  (by decide +kernel : ∀ t : Fin grid4.N, _)

/-- One entry of what grid point `t` stores. -/
theorem point4 (c : Dev nD) (t : Fin cfg4.N) (y) : k4_pay1 (iblk4 V c 0 t) (iblk4 V c 1 t) (iblk4 V c 2 t) y
    = mm4 (V c main_v221) (V c main_v238) (V c main_v239) (((cfg4.win 3).blk t).view.emb y) := by
  pointwise [k4_pay1, mm4]
  blk_point [iblk4, idx4 t]

/-- The region's result as one array. -/
theorem final4 (c : Dev nD) : (dat4 V c).arrAt 3 cfg4.N = mm4 (V c main_v221) (V c main_v238) (V c main_v239) := by
  refine (dat4 V c).arrAt_eq_of_covers 3 _ (by decide +kernel) fun t _ y => ?_
  blk_simp
  rw [after4_3]; frame_out
  exact point4 V c t y

end Cert.KVal
end
-- ==== Proof.HostD.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

/-- Reading an array of rank four at equal coordinates. -/
theorem at4d {α : Type} {n0 n1 n2 n3 : ℕ} (x : (⟨4, ![n0, n1, n2, n3]⟩ : Shape).Idx → α) {a a' : Fin n0} {b b' : Fin n1} {c c' : Fin n2}
    {d d' : Fin n3} (ha : (a : ℕ) = a') (hb : (b : ℕ) = b') (hc : (c : ℕ) = c') (hd : (d : ℕ) = d') :
    x (ix4 a b c d) = x (ix4 a' b' c' d') := by
  rw [Fin.ext ha, Fin.ext hb, Fin.ext hc, Fin.ext hd]

set_option maxHeartbeats 4000000 in
/-- The four shifted views of layer 1 of the decoder at parity 0, stacked. -/
theorem stack4_0 (V : Valuation τ sig (Elt Ideal)) (n : Fin 512) (i j : Fin 8) (t : Fin 4) (c : Fin 64) :
    (after ((hostOps4_2 (F := Ideal)).take 9) V (Proc.devRef .tc main_v185) : FVec Ideal S512x8x8x4x64 .f32) (ix5 n i j t c)
    = (V (Proc.devRef .tc main_v176) : FVec Ideal S512x10x10x64 .f32) (ix4 n ⟨i + 0 + t / 2, by omega⟩ ⟨j + 0 + t % 2, by omega⟩ c) := by
  rw [after_last_write (ops := (hostOps4_2 (F := Ideal)).take 9) (i := 8) (W := []) (r := main_v185) rfl rfl (by decide) V, nary_result]
  concat_tiles i0 hi
  case piece0 =>
    change (upto ((hostOps4_2 (F := Ideal)).take 9) V 8 (Proc.devRef .tc main_v181) : FVec Ideal S512x8x8x1x64 .f32) i0 = _
    after_reads_at
    have e : (t : ℕ) = 0 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece1 =>
    change (upto ((hostOps4_2 (F := Ideal)).take 9) V 8 (Proc.devRef .tc main_v182) : FVec Ideal S512x8x8x1x64 .f32) i0 = _
    after_reads_at
    have e : (t : ℕ) = 1 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece2 =>
    change (upto ((hostOps4_2 (F := Ideal)).take 9) V 8 (Proc.devRef .tc main_v183) : FVec Ideal S512x8x8x1x64 .f32) i0 = _
    after_reads_at
    have e : (t : ℕ) = 2 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece3 =>
    change (upto ((hostOps4_2 (F := Ideal)).take 9) V 8 (Proc.devRef .tc main_v184) : FVec Ideal S512x8x8x1x64 .f32) i0 = _
    after_reads_at
    have e : (t : ℕ) = 3 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega

set_option maxHeartbeats 4000000 in
/-- The four shifted views of layer 1 of the decoder at parity 1, stacked. -/
theorem stack4_1 (V : Valuation τ sig (Elt Ideal)) (n : Fin 512) (i j : Fin 8) (t : Fin 4) (c : Fin 64) :
    (after ((hostOps4_2 (F := Ideal)).take 19) V (Proc.devRef .tc main_v195) : FVec Ideal S512x8x8x4x64 .f32) (ix5 n i j t c)
    = (V (Proc.devRef .tc main_v176) : FVec Ideal S512x10x10x64 .f32) (ix4 n ⟨i + 0 + t / 2, by omega⟩ ⟨j + 1 + t % 2, by omega⟩ c) := by
  rw [after_last_write (ops := (hostOps4_2 (F := Ideal)).take 19) (i := 18) (W := []) (r := main_v195) rfl rfl (by decide) V, nary_result]
  concat_tiles i0 hi
  case piece0 =>
    change (upto ((hostOps4_2 (F := Ideal)).take 19) V 18 (Proc.devRef .tc main_v191) : FVec Ideal S512x8x8x1x64 .f32) i0 = _
    after_reads_at
    have e : (t : ℕ) = 0 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece1 =>
    change (upto ((hostOps4_2 (F := Ideal)).take 19) V 18 (Proc.devRef .tc main_v192) : FVec Ideal S512x8x8x1x64 .f32) i0 = _
    after_reads_at
    have e : (t : ℕ) = 1 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece2 =>
    change (upto ((hostOps4_2 (F := Ideal)).take 19) V 18 (Proc.devRef .tc main_v193) : FVec Ideal S512x8x8x1x64 .f32) i0 = _
    after_reads_at
    have e : (t : ℕ) = 2 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece3 =>
    change (upto ((hostOps4_2 (F := Ideal)).take 19) V 18 (Proc.devRef .tc main_v194) : FVec Ideal S512x8x8x1x64 .f32) i0 = _
    after_reads_at
    have e : (t : ℕ) = 3 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega

set_option maxHeartbeats 4000000 in
/-- The four shifted views of layer 1 of the decoder at parity 2, stacked. -/
theorem stack4_2 (V : Valuation τ sig (Elt Ideal)) (n : Fin 512) (i j : Fin 8) (t : Fin 4) (c : Fin 64) :
    (after ((hostOps4_2 (F := Ideal)).take 29) V (Proc.devRef .tc main_v205) : FVec Ideal S512x8x8x4x64 .f32) (ix5 n i j t c)
    = (V (Proc.devRef .tc main_v176) : FVec Ideal S512x10x10x64 .f32) (ix4 n ⟨i + 1 + t / 2, by omega⟩ ⟨j + 0 + t % 2, by omega⟩ c) := by
  rw [after_last_write (ops := (hostOps4_2 (F := Ideal)).take 29) (i := 28) (W := []) (r := main_v205) rfl rfl (by decide) V, nary_result]
  concat_tiles i0 hi
  case piece0 =>
    change (upto ((hostOps4_2 (F := Ideal)).take 29) V 28 (Proc.devRef .tc main_v201) : FVec Ideal S512x8x8x1x64 .f32) i0 = _
    after_reads_at
    have e : (t : ℕ) = 0 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece1 =>
    change (upto ((hostOps4_2 (F := Ideal)).take 29) V 28 (Proc.devRef .tc main_v202) : FVec Ideal S512x8x8x1x64 .f32) i0 = _
    after_reads_at
    have e : (t : ℕ) = 1 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece2 =>
    change (upto ((hostOps4_2 (F := Ideal)).take 29) V 28 (Proc.devRef .tc main_v203) : FVec Ideal S512x8x8x1x64 .f32) i0 = _
    after_reads_at
    have e : (t : ℕ) = 2 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece3 =>
    change (upto ((hostOps4_2 (F := Ideal)).take 29) V 28 (Proc.devRef .tc main_v204) : FVec Ideal S512x8x8x1x64 .f32) i0 = _
    after_reads_at
    have e : (t : ℕ) = 3 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega

set_option maxHeartbeats 4000000 in
/-- The four shifted views of layer 1 of the decoder at parity 3, stacked. -/
theorem stack4_3 (V : Valuation τ sig (Elt Ideal)) (n : Fin 512) (i j : Fin 8) (t : Fin 4) (c : Fin 64) :
    (after ((hostOps4_2 (F := Ideal)).take 39) V (Proc.devRef .tc main_v215) : FVec Ideal S512x8x8x4x64 .f32) (ix5 n i j t c)
    = (V (Proc.devRef .tc main_v176) : FVec Ideal S512x10x10x64 .f32) (ix4 n ⟨i + 1 + t / 2, by omega⟩ ⟨j + 1 + t % 2, by omega⟩ c) := by
  rw [after_last_write (ops := (hostOps4_2 (F := Ideal)).take 39) (i := 38) (W := []) (r := main_v215) rfl rfl (by decide) V, nary_result]
  concat_tiles i0 hi
  case piece0 =>
    change (upto ((hostOps4_2 (F := Ideal)).take 39) V 38 (Proc.devRef .tc main_v211) : FVec Ideal S512x8x8x1x64 .f32) i0 = _
    after_reads_at
    have e : (t : ℕ) = 0 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece1 =>
    change (upto ((hostOps4_2 (F := Ideal)).take 39) V 38 (Proc.devRef .tc main_v212) : FVec Ideal S512x8x8x1x64 .f32) i0 = _
    after_reads_at
    have e : (t : ℕ) = 1 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece2 =>
    change (upto ((hostOps4_2 (F := Ideal)).take 39) V 38 (Proc.devRef .tc main_v213) : FVec Ideal S512x8x8x1x64 .f32) i0 = _
    after_reads_at
    have e : (t : ℕ) = 2 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega
  case piece3 =>
    change (upto ((hostOps4_2 (F := Ideal)).take 39) V 38 (Proc.devRef .tc main_v214) : FVec Ideal S512x8x8x1x64 .f32) i0 = _
    after_reads_at
    have e : (t : ℕ) = 3 := hi
    have e1 : ((i0 1 : Fin 8) : ℕ) = i := hi1
    have e2 : ((i0 2 : Fin 8) : ℕ) = j := hi2
    refine at4d (V (Proc.devRef .tc main_v176) : FVec Ideal S512x10x10x64 .f32) hi0 ?_ ?_ hi4 <;> dsimp only <;> omega

set_option maxHeartbeats 4000000 in
/-- One entry of the matrices layer 1 of the decoder multiplies. -/
theorem rows4 (V : Valuation τ sig (Elt Ideal)) (p : Fin 4) (r : Fin 32768) (q : Fin 256) :
    (after (hostOps4_2 (F := Ideal)) V (Proc.devRef .tc main_v221) : FVec Ideal S4x32768x256 .f32) (ix3 p r q)
    = (V (Proc.devRef .tc main_v176) : FVec Ideal S512x10x10x64 .f32)
        (ix4 ⟨r / 64, by omega⟩ ⟨r / 8 % 8 + p / 2 + q / 64 / 2, by omega⟩ ⟨r % 8 + p % 2 + q / 64 % 2, by omega⟩ ⟨q % 64, by omega⟩) := by
  rw [after_last_write (ops := (hostOps4_2 (F := Ideal))) (i := 44) (W := [main_v222, main_v223, main_v224, main_v225, main_v226, main_v227, main_v228, main_v229, main_v230, main_v231, main_v232, main_v233, main_v234, main_v235, main_v236, main_v237, main_v238, main_v239]) (r := main_v221) rfl rfl (by decide) V, nary_result]
  concat_tiles i0 hi
  case piece0 =>
    change (upto (hostOps4_2 (F := Ideal)) V 44 (Proc.devRef .tc main_v217) : FVec Ideal S1x32768x256 .f32) i0 = _
    rw [show upto (hostOps4_2 (F := Ideal)) V 44 = after (((hostOps4_2 (F := Ideal)).take 44).drop 9) (after ((hostOps4_2 (F := Ideal)).take 9) V) from
      after_append ((hostOps4_2 (F := Ideal)).take 9) (((hostOps4_2 (F := Ideal)).take 44).drop 9) V]
    have hs := stack4_0 V
    generalize after ((hostOps4_2 (F := Ideal)).take 9) V = U at hs ⊢
    after_reads_at
    have e : (p : ℕ) = 0 := hi
    have e1 : ((i0 1 : Fin 32768) : ℕ) = r := hi1
    have e2 : ((i0 2 : Fin 256) : ℕ) = q := hi2
    refine (hs _ _ _ _ _).trans (at4d (V (Proc.devRef .tc main_v176) : FVec Ideal S512x10x10x64 .f32) ?_ ?_ ?_ ?_) <;> dsimp only <;> omega
  case piece1 =>
    change (upto (hostOps4_2 (F := Ideal)) V 44 (Proc.devRef .tc main_v218) : FVec Ideal S1x32768x256 .f32) i0 = _
    rw [show upto (hostOps4_2 (F := Ideal)) V 44 = after (((hostOps4_2 (F := Ideal)).take 44).drop 19) (after ((hostOps4_2 (F := Ideal)).take 19) V) from
      after_append ((hostOps4_2 (F := Ideal)).take 19) (((hostOps4_2 (F := Ideal)).take 44).drop 19) V]
    have hs := stack4_1 V
    generalize after ((hostOps4_2 (F := Ideal)).take 19) V = U at hs ⊢
    after_reads_at
    have e : (p : ℕ) = 1 := hi
    have e1 : ((i0 1 : Fin 32768) : ℕ) = r := hi1
    have e2 : ((i0 2 : Fin 256) : ℕ) = q := hi2
    refine (hs _ _ _ _ _).trans (at4d (V (Proc.devRef .tc main_v176) : FVec Ideal S512x10x10x64 .f32) ?_ ?_ ?_ ?_) <;> dsimp only <;> omega
  case piece2 =>
    change (upto (hostOps4_2 (F := Ideal)) V 44 (Proc.devRef .tc main_v219) : FVec Ideal S1x32768x256 .f32) i0 = _
    rw [show upto (hostOps4_2 (F := Ideal)) V 44 = after (((hostOps4_2 (F := Ideal)).take 44).drop 29) (after ((hostOps4_2 (F := Ideal)).take 29) V) from
      after_append ((hostOps4_2 (F := Ideal)).take 29) (((hostOps4_2 (F := Ideal)).take 44).drop 29) V]
    have hs := stack4_2 V
    generalize after ((hostOps4_2 (F := Ideal)).take 29) V = U at hs ⊢
    after_reads_at
    have e : (p : ℕ) = 2 := hi
    have e1 : ((i0 1 : Fin 32768) : ℕ) = r := hi1
    have e2 : ((i0 2 : Fin 256) : ℕ) = q := hi2
    refine (hs _ _ _ _ _).trans (at4d (V (Proc.devRef .tc main_v176) : FVec Ideal S512x10x10x64 .f32) ?_ ?_ ?_ ?_) <;> dsimp only <;> omega
  case piece3 =>
    change (upto (hostOps4_2 (F := Ideal)) V 44 (Proc.devRef .tc main_v220) : FVec Ideal S1x32768x256 .f32) i0 = _
    rw [show upto (hostOps4_2 (F := Ideal)) V 44 = after (((hostOps4_2 (F := Ideal)).take 44).drop 39) (after ((hostOps4_2 (F := Ideal)).take 39) V) from
      after_append ((hostOps4_2 (F := Ideal)).take 39) (((hostOps4_2 (F := Ideal)).take 44).drop 39) V]
    have hs := stack4_3 V
    generalize after ((hostOps4_2 (F := Ideal)).take 39) V = U at hs ⊢
    after_reads_at
    have e : (p : ℕ) = 3 := hi
    have e1 : ((i0 1 : Fin 32768) : ℕ) = r := hi1
    have e2 : ((i0 2 : Fin 256) : ℕ) = q := hi2
    refine (hs _ _ _ _ _).trans (at4d (V (Proc.devRef .tc main_v176) : FVec Ideal S512x10x10x64 .f32) ?_ ?_ ?_ ?_) <;> dsimp only <;> omega

set_option maxHeartbeats 4000000 in
/-- One entry of the weights layer 1 of the decoder multiplies by. -/
theorem cols4 (V : Valuation τ sig (Elt Ideal)) (p : Fin 4) (q : Fin 256) (o : Fin 64) :
    (after (hostOps4_2 (F := Ideal)) V (Proc.devRef .tc main_v238) : FVec Ideal S4x256x64 .f32) (ix3 p q o)
    = (V (Proc.devRef .tc main_arg8) : FVec Ideal S64x64x4x4 .f32)
        (ix4 o ⟨q % 64, by omega⟩ ⟨p / 2 + 2 * (q / 64 / 2), by omega⟩ ⟨p % 2 + 2 * (q / 64 % 2), by omega⟩) := by
  rw [after_last_write (ops := (hostOps4_2 (F := Ideal))) (i := 61) (W := [main_v239]) (r := main_v238) rfl rfl (by decide) V, nary_result]
  concat_tiles i0 hi
  case piece0 =>
    change (upto (hostOps4_2 (F := Ideal)) V 61 (Proc.devRef .tc main_v234) : FVec Ideal S1x256x64 .f32) i0 = _
    after_reads_at
    have e : (p : ℕ) = 0 := hi
    have e1 : ((i0 1 : Fin 256) : ℕ) = q := hi1
    refine at4d (V (Proc.devRef .tc main_arg8) : FVec Ideal S64x64x4x4 .f32) hi2 ?_ ?_ ?_ <;> dsimp only <;> omega
  case piece1 =>
    change (upto (hostOps4_2 (F := Ideal)) V 61 (Proc.devRef .tc main_v235) : FVec Ideal S1x256x64 .f32) i0 = _
    after_reads_at
    have e : (p : ℕ) = 1 := hi
    have e1 : ((i0 1 : Fin 256) : ℕ) = q := hi1
    refine at4d (V (Proc.devRef .tc main_arg8) : FVec Ideal S64x64x4x4 .f32) hi2 ?_ ?_ ?_ <;> dsimp only <;> omega
  case piece2 =>
    change (upto (hostOps4_2 (F := Ideal)) V 61 (Proc.devRef .tc main_v236) : FVec Ideal S1x256x64 .f32) i0 = _
    after_reads_at
    have e : (p : ℕ) = 2 := hi
    have e1 : ((i0 1 : Fin 256) : ℕ) = q := hi1
    refine at4d (V (Proc.devRef .tc main_arg8) : FVec Ideal S64x64x4x4 .f32) hi2 ?_ ?_ ?_ <;> dsimp only <;> omega
  case piece3 =>
    change (upto (hostOps4_2 (F := Ideal)) V 61 (Proc.devRef .tc main_v237) : FVec Ideal S1x256x64 .f32) i0 = _
    after_reads_at
    have e : (p : ℕ) = 3 := hi
    have e1 : ((i0 1 : Fin 256) : ℕ) = q := hi1
    refine at4d (V (Proc.devRef .tc main_arg8) : FVec Ideal S64x64x4x4 .f32) hi2 ?_ ?_ ?_ <;> dsimp only <;> omega

set_option maxHeartbeats 4000000 in
/-- One entry of the bias layer 1 of the decoder adds. -/
theorem bias4 (V : Valuation τ sig (Elt Ideal)) (o : Fin 64) :
    (after (hostOps4_2 (F := Ideal)) V (Proc.devRef .tc main_v239) : FVec Ideal S1x1x64 .f32) (ix3 0 0 o)
    = (V (Proc.devRef .tc main_arg9) : FVec Ideal S64 .f32) (ix1 o) := by
  after_reads_at

set_option maxHeartbeats 4000000 in
/-- The four shifted views of layer 2 of the decoder at parity 0, stacked. -/
theorem stack5_0 (V : Valuation τ sig (Elt Ideal)) (n : Fin 512) (i j : Fin 16) (t : Fin 4) (c : Fin 64) :
    (after ((hostOps5_2 (F := Ideal)).take 9) V (Proc.devRef .tc main_v253) : FVec Ideal S512x16x16x4x64 .f32) (ix5 n i j t c)
    = (V (Proc.devRef .tc main_v244) : FVec Ideal S512x18x18x64 .f32) (ix4 n ⟨i + 0 + t / 2, by omega⟩ ⟨j + 0 + t % 2, by omega⟩ c) := by
  rw [after_last_write (ops := (hostOps5_2 (F := Ideal)).take 9) (i := 8) (W := []) (r := main_v253) rfl rfl (by decide) V, nary_result]
  concat_tiles i0 hi
  case piece0 =>
    change (upto ((hostOps5_2 (F := Ideal)).take 9) V 8 (Proc.devRef .tc main_v249) : FVec Ideal S512x16x16x1x64 .f32) i0 = _
    after_reads_at
    have e : (t : ℕ) = 0 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece1 =>
    change (upto ((hostOps5_2 (F := Ideal)).take 9) V 8 (Proc.devRef .tc main_v250) : FVec Ideal S512x16x16x1x64 .f32) i0 = _
    after_reads_at
    have e : (t : ℕ) = 1 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece2 =>
    change (upto ((hostOps5_2 (F := Ideal)).take 9) V 8 (Proc.devRef .tc main_v251) : FVec Ideal S512x16x16x1x64 .f32) i0 = _
    after_reads_at
    have e : (t : ℕ) = 2 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece3 =>
    change (upto ((hostOps5_2 (F := Ideal)).take 9) V 8 (Proc.devRef .tc main_v252) : FVec Ideal S512x16x16x1x64 .f32) i0 = _
    after_reads_at
    have e : (t : ℕ) = 3 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega

set_option maxHeartbeats 4000000 in
/-- The four shifted views of layer 2 of the decoder at parity 1, stacked. -/
theorem stack5_1 (V : Valuation τ sig (Elt Ideal)) (n : Fin 512) (i j : Fin 16) (t : Fin 4) (c : Fin 64) :
    (after ((hostOps5_2 (F := Ideal)).take 19) V (Proc.devRef .tc main_v263) : FVec Ideal S512x16x16x4x64 .f32) (ix5 n i j t c)
    = (V (Proc.devRef .tc main_v244) : FVec Ideal S512x18x18x64 .f32) (ix4 n ⟨i + 0 + t / 2, by omega⟩ ⟨j + 1 + t % 2, by omega⟩ c) := by
  rw [after_last_write (ops := (hostOps5_2 (F := Ideal)).take 19) (i := 18) (W := []) (r := main_v263) rfl rfl (by decide) V, nary_result]
  concat_tiles i0 hi
  case piece0 =>
    change (upto ((hostOps5_2 (F := Ideal)).take 19) V 18 (Proc.devRef .tc main_v259) : FVec Ideal S512x16x16x1x64 .f32) i0 = _
    after_reads_at
    have e : (t : ℕ) = 0 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece1 =>
    change (upto ((hostOps5_2 (F := Ideal)).take 19) V 18 (Proc.devRef .tc main_v260) : FVec Ideal S512x16x16x1x64 .f32) i0 = _
    after_reads_at
    have e : (t : ℕ) = 1 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece2 =>
    change (upto ((hostOps5_2 (F := Ideal)).take 19) V 18 (Proc.devRef .tc main_v261) : FVec Ideal S512x16x16x1x64 .f32) i0 = _
    after_reads_at
    have e : (t : ℕ) = 2 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece3 =>
    change (upto ((hostOps5_2 (F := Ideal)).take 19) V 18 (Proc.devRef .tc main_v262) : FVec Ideal S512x16x16x1x64 .f32) i0 = _
    after_reads_at
    have e : (t : ℕ) = 3 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega

set_option maxHeartbeats 4000000 in
/-- The four shifted views of layer 2 of the decoder at parity 2, stacked. -/
theorem stack5_2 (V : Valuation τ sig (Elt Ideal)) (n : Fin 512) (i j : Fin 16) (t : Fin 4) (c : Fin 64) :
    (after ((hostOps5_2 (F := Ideal)).take 29) V (Proc.devRef .tc main_v273) : FVec Ideal S512x16x16x4x64 .f32) (ix5 n i j t c)
    = (V (Proc.devRef .tc main_v244) : FVec Ideal S512x18x18x64 .f32) (ix4 n ⟨i + 1 + t / 2, by omega⟩ ⟨j + 0 + t % 2, by omega⟩ c) := by
  rw [after_last_write (ops := (hostOps5_2 (F := Ideal)).take 29) (i := 28) (W := []) (r := main_v273) rfl rfl (by decide) V, nary_result]
  concat_tiles i0 hi
  case piece0 =>
    change (upto ((hostOps5_2 (F := Ideal)).take 29) V 28 (Proc.devRef .tc main_v269) : FVec Ideal S512x16x16x1x64 .f32) i0 = _
    after_reads_at
    have e : (t : ℕ) = 0 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece1 =>
    change (upto ((hostOps5_2 (F := Ideal)).take 29) V 28 (Proc.devRef .tc main_v270) : FVec Ideal S512x16x16x1x64 .f32) i0 = _
    after_reads_at
    have e : (t : ℕ) = 1 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece2 =>
    change (upto ((hostOps5_2 (F := Ideal)).take 29) V 28 (Proc.devRef .tc main_v271) : FVec Ideal S512x16x16x1x64 .f32) i0 = _
    after_reads_at
    have e : (t : ℕ) = 2 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece3 =>
    change (upto ((hostOps5_2 (F := Ideal)).take 29) V 28 (Proc.devRef .tc main_v272) : FVec Ideal S512x16x16x1x64 .f32) i0 = _
    after_reads_at
    have e : (t : ℕ) = 3 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega

set_option maxHeartbeats 4000000 in
/-- The four shifted views of layer 2 of the decoder at parity 3, stacked. -/
theorem stack5_3 (V : Valuation τ sig (Elt Ideal)) (n : Fin 512) (i j : Fin 16) (t : Fin 4) (c : Fin 64) :
    (after ((hostOps5_2 (F := Ideal)).take 39) V (Proc.devRef .tc main_v283) : FVec Ideal S512x16x16x4x64 .f32) (ix5 n i j t c)
    = (V (Proc.devRef .tc main_v244) : FVec Ideal S512x18x18x64 .f32) (ix4 n ⟨i + 1 + t / 2, by omega⟩ ⟨j + 1 + t % 2, by omega⟩ c) := by
  rw [after_last_write (ops := (hostOps5_2 (F := Ideal)).take 39) (i := 38) (W := []) (r := main_v283) rfl rfl (by decide) V, nary_result]
  concat_tiles i0 hi
  case piece0 =>
    change (upto ((hostOps5_2 (F := Ideal)).take 39) V 38 (Proc.devRef .tc main_v279) : FVec Ideal S512x16x16x1x64 .f32) i0 = _
    after_reads_at
    have e : (t : ℕ) = 0 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece1 =>
    change (upto ((hostOps5_2 (F := Ideal)).take 39) V 38 (Proc.devRef .tc main_v280) : FVec Ideal S512x16x16x1x64 .f32) i0 = _
    after_reads_at
    have e : (t : ℕ) = 1 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece2 =>
    change (upto ((hostOps5_2 (F := Ideal)).take 39) V 38 (Proc.devRef .tc main_v281) : FVec Ideal S512x16x16x1x64 .f32) i0 = _
    after_reads_at
    have e : (t : ℕ) = 2 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega
  case piece3 =>
    change (upto ((hostOps5_2 (F := Ideal)).take 39) V 38 (Proc.devRef .tc main_v282) : FVec Ideal S512x16x16x1x64 .f32) i0 = _
    after_reads_at
    have e : (t : ℕ) = 3 := hi
    have e1 : ((i0 1 : Fin 16) : ℕ) = i := hi1
    have e2 : ((i0 2 : Fin 16) : ℕ) = j := hi2
    refine at4d (V (Proc.devRef .tc main_v244) : FVec Ideal S512x18x18x64 .f32) hi0 ?_ ?_ hi4 <;> dsimp only <;> omega

set_option maxHeartbeats 4000000 in
/-- One entry of the matrices layer 2 of the decoder multiplies. -/
theorem rows5 (V : Valuation τ sig (Elt Ideal)) (p : Fin 4) (r : Fin 131072) (q : Fin 256) :
    (after (hostOps5_2 (F := Ideal)) V (Proc.devRef .tc main_v289) : FVec Ideal S4x131072x256 .f32) (ix3 p r q)
    = (V (Proc.devRef .tc main_v244) : FVec Ideal S512x18x18x64 .f32)
        (ix4 ⟨r / 256, by omega⟩ ⟨r / 16 % 16 + p / 2 + q / 64 / 2, by omega⟩ ⟨r % 16 + p % 2 + q / 64 % 2, by omega⟩ ⟨q % 64, by omega⟩) := by
  rw [after_last_write (ops := (hostOps5_2 (F := Ideal))) (i := 44) (W := [main_v290, main_v291, main_v292, main_v293, main_v294, main_v295, main_v296, main_v297, main_v298, main_v299, main_v300, main_v301, main_v302, main_v303, main_v304, main_v305, main_v306, main_v307]) (r := main_v289) rfl rfl (by decide) V, nary_result]
  concat_tiles i0 hi
  case piece0 =>
    change (upto (hostOps5_2 (F := Ideal)) V 44 (Proc.devRef .tc main_v285) : FVec Ideal S1x131072x256 .f32) i0 = _
    rw [show upto (hostOps5_2 (F := Ideal)) V 44 = after (((hostOps5_2 (F := Ideal)).take 44).drop 9) (after ((hostOps5_2 (F := Ideal)).take 9) V) from
      after_append ((hostOps5_2 (F := Ideal)).take 9) (((hostOps5_2 (F := Ideal)).take 44).drop 9) V]
    have hs := stack5_0 V
    generalize after ((hostOps5_2 (F := Ideal)).take 9) V = U at hs ⊢
    after_reads_at
    have e : (p : ℕ) = 0 := hi
    have e1 : ((i0 1 : Fin 131072) : ℕ) = r := hi1
    have e2 : ((i0 2 : Fin 256) : ℕ) = q := hi2
    refine (hs _ _ _ _ _).trans (at4d (V (Proc.devRef .tc main_v244) : FVec Ideal S512x18x18x64 .f32) ?_ ?_ ?_ ?_) <;> dsimp only <;> omega
  case piece1 =>
    change (upto (hostOps5_2 (F := Ideal)) V 44 (Proc.devRef .tc main_v286) : FVec Ideal S1x131072x256 .f32) i0 = _
    rw [show upto (hostOps5_2 (F := Ideal)) V 44 = after (((hostOps5_2 (F := Ideal)).take 44).drop 19) (after ((hostOps5_2 (F := Ideal)).take 19) V) from
      after_append ((hostOps5_2 (F := Ideal)).take 19) (((hostOps5_2 (F := Ideal)).take 44).drop 19) V]
    have hs := stack5_1 V
    generalize after ((hostOps5_2 (F := Ideal)).take 19) V = U at hs ⊢
    after_reads_at
    have e : (p : ℕ) = 1 := hi
    have e1 : ((i0 1 : Fin 131072) : ℕ) = r := hi1
    have e2 : ((i0 2 : Fin 256) : ℕ) = q := hi2
    refine (hs _ _ _ _ _).trans (at4d (V (Proc.devRef .tc main_v244) : FVec Ideal S512x18x18x64 .f32) ?_ ?_ ?_ ?_) <;> dsimp only <;> omega
  case piece2 =>
    change (upto (hostOps5_2 (F := Ideal)) V 44 (Proc.devRef .tc main_v287) : FVec Ideal S1x131072x256 .f32) i0 = _
    rw [show upto (hostOps5_2 (F := Ideal)) V 44 = after (((hostOps5_2 (F := Ideal)).take 44).drop 29) (after ((hostOps5_2 (F := Ideal)).take 29) V) from
      after_append ((hostOps5_2 (F := Ideal)).take 29) (((hostOps5_2 (F := Ideal)).take 44).drop 29) V]
    have hs := stack5_2 V
    generalize after ((hostOps5_2 (F := Ideal)).take 29) V = U at hs ⊢
    after_reads_at
    have e : (p : ℕ) = 2 := hi
    have e1 : ((i0 1 : Fin 131072) : ℕ) = r := hi1
    have e2 : ((i0 2 : Fin 256) : ℕ) = q := hi2
    refine (hs _ _ _ _ _).trans (at4d (V (Proc.devRef .tc main_v244) : FVec Ideal S512x18x18x64 .f32) ?_ ?_ ?_ ?_) <;> dsimp only <;> omega
  case piece3 =>
    change (upto (hostOps5_2 (F := Ideal)) V 44 (Proc.devRef .tc main_v288) : FVec Ideal S1x131072x256 .f32) i0 = _
    rw [show upto (hostOps5_2 (F := Ideal)) V 44 = after (((hostOps5_2 (F := Ideal)).take 44).drop 39) (after ((hostOps5_2 (F := Ideal)).take 39) V) from
      after_append ((hostOps5_2 (F := Ideal)).take 39) (((hostOps5_2 (F := Ideal)).take 44).drop 39) V]
    have hs := stack5_3 V
    generalize after ((hostOps5_2 (F := Ideal)).take 39) V = U at hs ⊢
    after_reads_at
    have e : (p : ℕ) = 3 := hi
    have e1 : ((i0 1 : Fin 131072) : ℕ) = r := hi1
    have e2 : ((i0 2 : Fin 256) : ℕ) = q := hi2
    refine (hs _ _ _ _ _).trans (at4d (V (Proc.devRef .tc main_v244) : FVec Ideal S512x18x18x64 .f32) ?_ ?_ ?_ ?_) <;> dsimp only <;> omega

set_option maxHeartbeats 4000000 in
/-- One entry of the weights layer 2 of the decoder multiplies by. -/
theorem cols5 (V : Valuation τ sig (Elt Ideal)) (p : Fin 4) (q : Fin 256) (o : Fin 32) :
    (after (hostOps5_2 (F := Ideal)) V (Proc.devRef .tc main_v306) : FVec Ideal S4x256x32 .f32) (ix3 p q o)
    = (V (Proc.devRef .tc main_arg10) : FVec Ideal S32x64x4x4 .f32)
        (ix4 o ⟨q % 64, by omega⟩ ⟨p / 2 + 2 * (q / 64 / 2), by omega⟩ ⟨p % 2 + 2 * (q / 64 % 2), by omega⟩) := by
  rw [after_last_write (ops := (hostOps5_2 (F := Ideal))) (i := 61) (W := [main_v307]) (r := main_v306) rfl rfl (by decide) V, nary_result]
  concat_tiles i0 hi
  case piece0 =>
    change (upto (hostOps5_2 (F := Ideal)) V 61 (Proc.devRef .tc main_v302) : FVec Ideal S1x256x32 .f32) i0 = _
    after_reads_at
    have e : (p : ℕ) = 0 := hi
    have e1 : ((i0 1 : Fin 256) : ℕ) = q := hi1
    refine at4d (V (Proc.devRef .tc main_arg10) : FVec Ideal S32x64x4x4 .f32) hi2 ?_ ?_ ?_ <;> dsimp only <;> omega
  case piece1 =>
    change (upto (hostOps5_2 (F := Ideal)) V 61 (Proc.devRef .tc main_v303) : FVec Ideal S1x256x32 .f32) i0 = _
    after_reads_at
    have e : (p : ℕ) = 1 := hi
    have e1 : ((i0 1 : Fin 256) : ℕ) = q := hi1
    refine at4d (V (Proc.devRef .tc main_arg10) : FVec Ideal S32x64x4x4 .f32) hi2 ?_ ?_ ?_ <;> dsimp only <;> omega
  case piece2 =>
    change (upto (hostOps5_2 (F := Ideal)) V 61 (Proc.devRef .tc main_v304) : FVec Ideal S1x256x32 .f32) i0 = _
    after_reads_at
    have e : (p : ℕ) = 2 := hi
    have e1 : ((i0 1 : Fin 256) : ℕ) = q := hi1
    refine at4d (V (Proc.devRef .tc main_arg10) : FVec Ideal S32x64x4x4 .f32) hi2 ?_ ?_ ?_ <;> dsimp only <;> omega
  case piece3 =>
    change (upto (hostOps5_2 (F := Ideal)) V 61 (Proc.devRef .tc main_v305) : FVec Ideal S1x256x32 .f32) i0 = _
    after_reads_at
    have e : (p : ℕ) = 3 := hi
    have e1 : ((i0 1 : Fin 256) : ℕ) = q := hi1
    refine at4d (V (Proc.devRef .tc main_arg10) : FVec Ideal S32x64x4x4 .f32) hi2 ?_ ?_ ?_ <;> dsimp only <;> omega

set_option maxHeartbeats 4000000 in
/-- One entry of the bias layer 2 of the decoder adds. -/
theorem bias5 (V : Valuation τ sig (Elt Ideal)) (o : Fin 32) :
    (after (hostOps5_2 (F := Ideal)) V (Proc.devRef .tc main_v307) : FVec Ideal S1x1x32 .f32) (ix3 0 0 o)
    = (V (Proc.devRef .tc main_arg11) : FVec Ideal S32 .f32) (ix1 o) := by
  after_reads_at

set_option maxHeartbeats 4000000 in
/-- The four shifted views of layer 3 of the decoder at parity 0, stacked. -/
theorem stack6_0 (V : Valuation τ sig (Elt Ideal)) (n : Fin 512) (i j : Fin 32) (t : Fin 4) (c : Fin 32) :
    (after ((hostOps6_2 (F := Ideal)).take 9) V (Proc.devRef .tc main_v321) : FVec Ideal S512x32x32x4x32 .f32) (ix5 n i j t c)
    = (V (Proc.devRef .tc main_v312) : FVec Ideal S512x34x34x32 .f32) (ix4 n ⟨i + 0 + t / 2, by omega⟩ ⟨j + 0 + t % 2, by omega⟩ c) := by
  rw [after_last_write (ops := (hostOps6_2 (F := Ideal)).take 9) (i := 8) (W := []) (r := main_v321) rfl rfl (by decide) V, nary_result]
  concat_tiles i0 hi
  case piece0 =>
    change (upto ((hostOps6_2 (F := Ideal)).take 9) V 8 (Proc.devRef .tc main_v317) : FVec Ideal S512x32x32x1x32 .f32) i0 = _
    after_reads_at
    have e : (t : ℕ) = 0 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece1 =>
    change (upto ((hostOps6_2 (F := Ideal)).take 9) V 8 (Proc.devRef .tc main_v318) : FVec Ideal S512x32x32x1x32 .f32) i0 = _
    after_reads_at
    have e : (t : ℕ) = 1 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece2 =>
    change (upto ((hostOps6_2 (F := Ideal)).take 9) V 8 (Proc.devRef .tc main_v319) : FVec Ideal S512x32x32x1x32 .f32) i0 = _
    after_reads_at
    have e : (t : ℕ) = 2 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece3 =>
    change (upto ((hostOps6_2 (F := Ideal)).take 9) V 8 (Proc.devRef .tc main_v320) : FVec Ideal S512x32x32x1x32 .f32) i0 = _
    after_reads_at
    have e : (t : ℕ) = 3 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega

set_option maxHeartbeats 4000000 in
/-- The four shifted views of layer 3 of the decoder at parity 1, stacked. -/
theorem stack6_1 (V : Valuation τ sig (Elt Ideal)) (n : Fin 512) (i j : Fin 32) (t : Fin 4) (c : Fin 32) :
    (after ((hostOps6_2 (F := Ideal)).take 19) V (Proc.devRef .tc main_v331) : FVec Ideal S512x32x32x4x32 .f32) (ix5 n i j t c)
    = (V (Proc.devRef .tc main_v312) : FVec Ideal S512x34x34x32 .f32) (ix4 n ⟨i + 0 + t / 2, by omega⟩ ⟨j + 1 + t % 2, by omega⟩ c) := by
  rw [after_last_write (ops := (hostOps6_2 (F := Ideal)).take 19) (i := 18) (W := []) (r := main_v331) rfl rfl (by decide) V, nary_result]
  concat_tiles i0 hi
  case piece0 =>
    change (upto ((hostOps6_2 (F := Ideal)).take 19) V 18 (Proc.devRef .tc main_v327) : FVec Ideal S512x32x32x1x32 .f32) i0 = _
    after_reads_at
    have e : (t : ℕ) = 0 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece1 =>
    change (upto ((hostOps6_2 (F := Ideal)).take 19) V 18 (Proc.devRef .tc main_v328) : FVec Ideal S512x32x32x1x32 .f32) i0 = _
    after_reads_at
    have e : (t : ℕ) = 1 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece2 =>
    change (upto ((hostOps6_2 (F := Ideal)).take 19) V 18 (Proc.devRef .tc main_v329) : FVec Ideal S512x32x32x1x32 .f32) i0 = _
    after_reads_at
    have e : (t : ℕ) = 2 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece3 =>
    change (upto ((hostOps6_2 (F := Ideal)).take 19) V 18 (Proc.devRef .tc main_v330) : FVec Ideal S512x32x32x1x32 .f32) i0 = _
    after_reads_at
    have e : (t : ℕ) = 3 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega

set_option maxHeartbeats 4000000 in
/-- The four shifted views of layer 3 of the decoder at parity 2, stacked. -/
theorem stack6_2 (V : Valuation τ sig (Elt Ideal)) (n : Fin 512) (i j : Fin 32) (t : Fin 4) (c : Fin 32) :
    (after ((hostOps6_2 (F := Ideal)).take 29) V (Proc.devRef .tc main_v341) : FVec Ideal S512x32x32x4x32 .f32) (ix5 n i j t c)
    = (V (Proc.devRef .tc main_v312) : FVec Ideal S512x34x34x32 .f32) (ix4 n ⟨i + 1 + t / 2, by omega⟩ ⟨j + 0 + t % 2, by omega⟩ c) := by
  rw [after_last_write (ops := (hostOps6_2 (F := Ideal)).take 29) (i := 28) (W := []) (r := main_v341) rfl rfl (by decide) V, nary_result]
  concat_tiles i0 hi
  case piece0 =>
    change (upto ((hostOps6_2 (F := Ideal)).take 29) V 28 (Proc.devRef .tc main_v337) : FVec Ideal S512x32x32x1x32 .f32) i0 = _
    after_reads_at
    have e : (t : ℕ) = 0 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece1 =>
    change (upto ((hostOps6_2 (F := Ideal)).take 29) V 28 (Proc.devRef .tc main_v338) : FVec Ideal S512x32x32x1x32 .f32) i0 = _
    after_reads_at
    have e : (t : ℕ) = 1 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece2 =>
    change (upto ((hostOps6_2 (F := Ideal)).take 29) V 28 (Proc.devRef .tc main_v339) : FVec Ideal S512x32x32x1x32 .f32) i0 = _
    after_reads_at
    have e : (t : ℕ) = 2 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece3 =>
    change (upto ((hostOps6_2 (F := Ideal)).take 29) V 28 (Proc.devRef .tc main_v340) : FVec Ideal S512x32x32x1x32 .f32) i0 = _
    after_reads_at
    have e : (t : ℕ) = 3 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega

set_option maxHeartbeats 4000000 in
/-- The four shifted views of layer 3 of the decoder at parity 3, stacked. -/
theorem stack6_3 (V : Valuation τ sig (Elt Ideal)) (n : Fin 512) (i j : Fin 32) (t : Fin 4) (c : Fin 32) :
    (after ((hostOps6_2 (F := Ideal)).take 39) V (Proc.devRef .tc main_v351) : FVec Ideal S512x32x32x4x32 .f32) (ix5 n i j t c)
    = (V (Proc.devRef .tc main_v312) : FVec Ideal S512x34x34x32 .f32) (ix4 n ⟨i + 1 + t / 2, by omega⟩ ⟨j + 1 + t % 2, by omega⟩ c) := by
  rw [after_last_write (ops := (hostOps6_2 (F := Ideal)).take 39) (i := 38) (W := []) (r := main_v351) rfl rfl (by decide) V, nary_result]
  concat_tiles i0 hi
  case piece0 =>
    change (upto ((hostOps6_2 (F := Ideal)).take 39) V 38 (Proc.devRef .tc main_v347) : FVec Ideal S512x32x32x1x32 .f32) i0 = _
    after_reads_at
    have e : (t : ℕ) = 0 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece1 =>
    change (upto ((hostOps6_2 (F := Ideal)).take 39) V 38 (Proc.devRef .tc main_v348) : FVec Ideal S512x32x32x1x32 .f32) i0 = _
    after_reads_at
    have e : (t : ℕ) = 1 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece2 =>
    change (upto ((hostOps6_2 (F := Ideal)).take 39) V 38 (Proc.devRef .tc main_v349) : FVec Ideal S512x32x32x1x32 .f32) i0 = _
    after_reads_at
    have e : (t : ℕ) = 2 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega
  case piece3 =>
    change (upto ((hostOps6_2 (F := Ideal)).take 39) V 38 (Proc.devRef .tc main_v350) : FVec Ideal S512x32x32x1x32 .f32) i0 = _
    after_reads_at
    have e : (t : ℕ) = 3 := hi
    have e1 : ((i0 1 : Fin 32) : ℕ) = i := hi1
    have e2 : ((i0 2 : Fin 32) : ℕ) = j := hi2
    refine at4d (V (Proc.devRef .tc main_v312) : FVec Ideal S512x34x34x32 .f32) hi0 ?_ ?_ hi4 <;> dsimp only <;> omega

set_option maxHeartbeats 4000000 in
/-- One entry of the matrices layer 3 of the decoder multiplies. -/
theorem rows6 (V : Valuation τ sig (Elt Ideal)) (p : Fin 4) (r : Fin 524288) (q : Fin 128) :
    (after (hostOps6_2 (F := Ideal)) V (Proc.devRef .tc main_v357) : FVec Ideal S4x524288x128 .f32) (ix3 p r q)
    = (V (Proc.devRef .tc main_v312) : FVec Ideal S512x34x34x32 .f32)
        (ix4 ⟨r / 1024, by omega⟩ ⟨r / 32 % 32 + p / 2 + q / 32 / 2, by omega⟩ ⟨r % 32 + p % 2 + q / 32 % 2, by omega⟩ ⟨q % 32, by omega⟩) := by
  rw [after_last_write (ops := (hostOps6_2 (F := Ideal))) (i := 44) (W := [main_v358, main_v359, main_v360, main_v361, main_v362, main_v363, main_v364, main_v365, main_v366, main_v367, main_v368, main_v369, main_v370, main_v371, main_v372, main_v373, main_v374, main_v375]) (r := main_v357) rfl rfl (by decide) V, nary_result]
  concat_tiles i0 hi
  case piece0 =>
    change (upto (hostOps6_2 (F := Ideal)) V 44 (Proc.devRef .tc main_v353) : FVec Ideal S1x524288x128 .f32) i0 = _
    rw [show upto (hostOps6_2 (F := Ideal)) V 44 = after (((hostOps6_2 (F := Ideal)).take 44).drop 9) (after ((hostOps6_2 (F := Ideal)).take 9) V) from
      after_append ((hostOps6_2 (F := Ideal)).take 9) (((hostOps6_2 (F := Ideal)).take 44).drop 9) V]
    have hs := stack6_0 V
    generalize after ((hostOps6_2 (F := Ideal)).take 9) V = U at hs ⊢
    after_reads_at
    have e : (p : ℕ) = 0 := hi
    have e1 : ((i0 1 : Fin 524288) : ℕ) = r := hi1
    have e2 : ((i0 2 : Fin 128) : ℕ) = q := hi2
    refine (hs _ _ _ _ _).trans (at4d (V (Proc.devRef .tc main_v312) : FVec Ideal S512x34x34x32 .f32) ?_ ?_ ?_ ?_) <;> dsimp only <;> omega
  case piece1 =>
    change (upto (hostOps6_2 (F := Ideal)) V 44 (Proc.devRef .tc main_v354) : FVec Ideal S1x524288x128 .f32) i0 = _
    rw [show upto (hostOps6_2 (F := Ideal)) V 44 = after (((hostOps6_2 (F := Ideal)).take 44).drop 19) (after ((hostOps6_2 (F := Ideal)).take 19) V) from
      after_append ((hostOps6_2 (F := Ideal)).take 19) (((hostOps6_2 (F := Ideal)).take 44).drop 19) V]
    have hs := stack6_1 V
    generalize after ((hostOps6_2 (F := Ideal)).take 19) V = U at hs ⊢
    after_reads_at
    have e : (p : ℕ) = 1 := hi
    have e1 : ((i0 1 : Fin 524288) : ℕ) = r := hi1
    have e2 : ((i0 2 : Fin 128) : ℕ) = q := hi2
    refine (hs _ _ _ _ _).trans (at4d (V (Proc.devRef .tc main_v312) : FVec Ideal S512x34x34x32 .f32) ?_ ?_ ?_ ?_) <;> dsimp only <;> omega
  case piece2 =>
    change (upto (hostOps6_2 (F := Ideal)) V 44 (Proc.devRef .tc main_v355) : FVec Ideal S1x524288x128 .f32) i0 = _
    rw [show upto (hostOps6_2 (F := Ideal)) V 44 = after (((hostOps6_2 (F := Ideal)).take 44).drop 29) (after ((hostOps6_2 (F := Ideal)).take 29) V) from
      after_append ((hostOps6_2 (F := Ideal)).take 29) (((hostOps6_2 (F := Ideal)).take 44).drop 29) V]
    have hs := stack6_2 V
    generalize after ((hostOps6_2 (F := Ideal)).take 29) V = U at hs ⊢
    after_reads_at
    have e : (p : ℕ) = 2 := hi
    have e1 : ((i0 1 : Fin 524288) : ℕ) = r := hi1
    have e2 : ((i0 2 : Fin 128) : ℕ) = q := hi2
    refine (hs _ _ _ _ _).trans (at4d (V (Proc.devRef .tc main_v312) : FVec Ideal S512x34x34x32 .f32) ?_ ?_ ?_ ?_) <;> dsimp only <;> omega
  case piece3 =>
    change (upto (hostOps6_2 (F := Ideal)) V 44 (Proc.devRef .tc main_v356) : FVec Ideal S1x524288x128 .f32) i0 = _
    rw [show upto (hostOps6_2 (F := Ideal)) V 44 = after (((hostOps6_2 (F := Ideal)).take 44).drop 39) (after ((hostOps6_2 (F := Ideal)).take 39) V) from
      after_append ((hostOps6_2 (F := Ideal)).take 39) (((hostOps6_2 (F := Ideal)).take 44).drop 39) V]
    have hs := stack6_3 V
    generalize after ((hostOps6_2 (F := Ideal)).take 39) V = U at hs ⊢
    after_reads_at
    have e : (p : ℕ) = 3 := hi
    have e1 : ((i0 1 : Fin 524288) : ℕ) = r := hi1
    have e2 : ((i0 2 : Fin 128) : ℕ) = q := hi2
    refine (hs _ _ _ _ _).trans (at4d (V (Proc.devRef .tc main_v312) : FVec Ideal S512x34x34x32 .f32) ?_ ?_ ?_ ?_) <;> dsimp only <;> omega

set_option maxHeartbeats 4000000 in
/-- One entry of the weights layer 3 of the decoder multiplies by. -/
theorem cols6 (V : Valuation τ sig (Elt Ideal)) (p : Fin 4) (q : Fin 128) (o : Fin 1) :
    (after (hostOps6_2 (F := Ideal)) V (Proc.devRef .tc main_v374) : FVec Ideal S4x128x1 .f32) (ix3 p q o)
    = (V (Proc.devRef .tc main_arg12) : FVec Ideal S1x32x4x4 .f32)
        (ix4 o ⟨q % 32, by omega⟩ ⟨p / 2 + 2 * (q / 32 / 2), by omega⟩ ⟨p % 2 + 2 * (q / 32 % 2), by omega⟩) := by
  rw [after_last_write (ops := (hostOps6_2 (F := Ideal))) (i := 61) (W := [main_v375]) (r := main_v374) rfl rfl (by decide) V, nary_result]
  concat_tiles i0 hi
  case piece0 =>
    change (upto (hostOps6_2 (F := Ideal)) V 61 (Proc.devRef .tc main_v370) : FVec Ideal S1x128x1 .f32) i0 = _
    after_reads_at
    have e : (p : ℕ) = 0 := hi
    have e1 : ((i0 1 : Fin 128) : ℕ) = q := hi1
    refine at4d (V (Proc.devRef .tc main_arg12) : FVec Ideal S1x32x4x4 .f32) (by omega) ?_ ?_ ?_ <;> dsimp only <;> omega
  case piece1 =>
    change (upto (hostOps6_2 (F := Ideal)) V 61 (Proc.devRef .tc main_v371) : FVec Ideal S1x128x1 .f32) i0 = _
    after_reads_at
    have e : (p : ℕ) = 1 := hi
    have e1 : ((i0 1 : Fin 128) : ℕ) = q := hi1
    refine at4d (V (Proc.devRef .tc main_arg12) : FVec Ideal S1x32x4x4 .f32) (by omega) ?_ ?_ ?_ <;> dsimp only <;> omega
  case piece2 =>
    change (upto (hostOps6_2 (F := Ideal)) V 61 (Proc.devRef .tc main_v372) : FVec Ideal S1x128x1 .f32) i0 = _
    after_reads_at
    have e : (p : ℕ) = 2 := hi
    have e1 : ((i0 1 : Fin 128) : ℕ) = q := hi1
    refine at4d (V (Proc.devRef .tc main_arg12) : FVec Ideal S1x32x4x4 .f32) (by omega) ?_ ?_ ?_ <;> dsimp only <;> omega
  case piece3 =>
    change (upto (hostOps6_2 (F := Ideal)) V 61 (Proc.devRef .tc main_v373) : FVec Ideal S1x128x1 .f32) i0 = _
    after_reads_at
    have e : (p : ℕ) = 3 := hi
    have e1 : ((i0 1 : Fin 128) : ℕ) = q := hi1
    refine at4d (V (Proc.devRef .tc main_arg12) : FVec Ideal S1x32x4x4 .f32) (by omega) ?_ ?_ ?_ <;> dsimp only <;> omega

set_option maxHeartbeats 4000000 in
/-- One entry of the bias layer 3 of the decoder adds. -/
theorem bias6 (V : Valuation τ sig (Elt Ideal)) (o : Fin 1) :
    (after (hostOps6_2 (F := Ideal)) V (Proc.devRef .tc main_v375) : FVec Ideal S1x1x1 .f32) (ix3 0 0 o)
    = (V (Proc.devRef .tc main_arg13) : FVec Ideal S1 .f32) (ix1 o) := by
  after_reads_at
  rw [Subsingleton.elim o 0]

end Cert.KVal
end
-- ==== Proof.KDec4.lean ====
module

public import proofs.«01_k».proof.Proof.Gen.KernelIdeal.Frame
public import proofs.«01_k».proof.Proof.KEnc
public import proofs.«01_k».proof.Proof.Dec
public import proofs.«01_k».proof.Proof.Region4
public import proofs.«01_k».proof.Proof.HostD
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

variable (y : T2 32768 64)
  (h : ∀ r k, (W14 m ρ c (Proc.devRef .tc main_v166_1) : FVec Ideal S32768x64 .f32) (ix2 r k) = y r k)
include h

set_option maxHeartbeats 1000000 in
theorem inK4 (n : Fin 512) (p q : Fin 10) (k : Fin 64) : (W16 m ρ c (Proc.devRef .tc main_v176) : FVec Ideal S512x10x10x64 .f32) (ix4 n p q k)
    = padS1 y n p q k := by
  show (after hostOps4_1 (after hostOps4 (W14 m ρ c)) (Proc.devRef .tc main_v176) : FVec Ideal S512x10x10x64 .f32) (ix4 n p q k) = _
  generalize W14 m ρ c = U at *
  after_reads_at
  unfold padS1
  by_cases hc : (1 ≤ p.val ∧ p.val - 1 < 8) ∧ 1 ≤ q.val ∧ q.val - 1 < 8
  · rw [dif_pos hc, dif_pos hc]
    exact h _ _
  · rw [dif_neg hc, dif_neg hc]
    exact sitofp_zero

omit h in
theorem arr4 : W18 m ρ c (Proc.devRef .tc main_v240) = mm4 (V17 m ρ c main_v221) (V17 m ρ c main_v238) (V17 m ρ c main_v239) :=
  (W18_arr m ρ c 3).trans (final4 (V17 m ρ) c)

set_option maxHeartbeats 1000000 in
theorem outK4 (p : Fin 4) (r : Fin 32768) (o : Fin 64) : (W18 m ρ c (Proc.devRef .tc main_v240) : FVec Ideal S4x32768x64 .f32) (ix3 p r o)
    = max (dec1 (padD1 y) (wK4 m c) (bK4 m c) ⟨r.val / 64 * 256 + (2 * (r.val / 8 % 8) + p.val / 2) * 16 + (2 * (r.val % 8) + p.val % 2), by omega⟩ o) 0 := by
  have hA : ∀ p r q, (V17 m ρ c main_v221 : FVec Ideal S4x32768x256 .f32) (ix3 p r q) = _ := fun p r q => (rows4 (W16 m ρ c) p r q).trans (inK4 m ρ c y h _ _ _ _)
  have hW : ∀ p q o, (V17 m ρ c main_v238 : FVec Ideal S4x256x64 .f32) (ix3 p q o) = _ := fun p q o => (cols4 (W16 m ρ c) p q o).trans (congrFun (W16_args m ρ c main_arg8 (by decide)) _)
  have hb : ∀ o, (V17 m ρ c main_v239 : FVec Ideal S1x1x64 .f32) (ix3 0 0 o) = _ := fun o => (bias4 (W16 m ρ c) o).trans (congrFun (W16_args m ρ c main_arg9 (by decide)) _)
  rw [arr4]
  generalize V17 m ρ c main_v221 = A at *
  generalize V17 m ρ c main_v238 = B at *
  generalize V17 m ρ c main_v239 = D at *
  have hp := parity1 y (wK4 m c) (bK4 m c) p r o
  rw [← hp]
  unfold mm4
  refine congrArg (fun v : EReal => max v 0) (addc (Finset.sum_congr rfl fun q _ => ?_) (hb o))
  exact mulc (hA p r q) (hW p q o)

end Cert.KVal
end
-- ==== Proof.Region5.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Idealize.ShloMosaic.Pipeline (Dat)

variable (V : (c : Dev nD) → (b : Ref sig .tc) → Buf (Elt Ideal) ((c : Thread nD τ).loc b))

/-- What decoder layer 2's four matrix products leave. -/
abbrev mm5 (A : FVec Ideal S4x131072x256 .f32) (W : FVec Ideal S4x256x32 .f32) (b : FVec Ideal S1x1x32 .f32) : FVec Ideal S4x131072x32 .f32 :=
  fun i => max ((∑ q : Fin 256, A (ix3 (i 0) (i 1) q) * W (ix3 (i 0) q (i 2))) + b (ix3 0 0 (i 2))) 0

/-- The blocks of grid point `t`. -/
theorem idx5 : ∀ t : Fin cfg5.N, win5_0.index t = ![t.val / 32, t.val % 32, 0] ∧ win5_1.index t = ![t.val / 32, 0, 0] ∧ win5_2.index t = ![0, 0, 0] ∧ win5_3.index t = ![t.val / 32, t.val % 32, 0] :=
  (by decide +kernel : ∀ t : Fin grid5.N, _)

/-- One entry of what grid point `t` stores. -/
theorem point5 (c : Dev nD) (t : Fin cfg5.N) (y) : k5_pay1 (iblk5 V c 0 t) (iblk5 V c 1 t) (iblk5 V c 2 t) y
    = mm5 (V c main_v289) (V c main_v306) (V c main_v307) (((cfg5.win 3).blk t).view.emb y) := by
  pointwise [k5_pay1, mm5]
  blk_point [iblk5, idx5 t]

/-- The region's result as one array. -/
theorem final5 (c : Dev nD) : (dat5 V c).arrAt 3 cfg5.N = mm5 (V c main_v289) (V c main_v306) (V c main_v307) := by
  refine (dat5 V c).arrAt_eq_of_covers 3 _ (by decide +kernel) fun t _ y => ?_
  blk_simp
  rw [after5_3]; frame_out
  exact point5 V c t y

end Cert.KVal
end
-- ==== Proof.KDec5.lean ====
module

public import proofs.«01_k».proof.Proof.Gen.KernelIdeal.Frame
public import proofs.«01_k».proof.Proof.KEnc
public import proofs.«01_k».proof.Proof.Dec
public import proofs.«01_k».proof.Proof.Region5
public import proofs.«01_k».proof.Proof.HostD
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The output row of parity `p` at input row `r`. -/
def row5 (p : Fin 4) (r : Fin 32768) : Fin 131072 := ⟨r.val / 64 * 256 + (2 * (r.val / 8 % 8) + p.val / 2) * 16 + (2 * (r.val % 8) + p.val % 2), by omega⟩

variable (y : T2 131072 64)
  (h : ∀ (p : Fin 4) (r : Fin 32768) (k : Fin 64), (W18 m ρ c (Proc.devRef .tc main_v240) : FVec Ideal S4x32768x64 .f32) (ix3 p r k) = max (y (row5 p r) k) 0)
include h
omit h in
theorem either5 {a : Prop} [Decidable a] {f g : a → EReal} {x z : EReal} (h : ∀ ha, f ha = g ha) (hx : x = z) :
    (if ha : a then f ha else x) = if ha : a then g ha else z := by
  subst hx
  split
  · exact h _
  · rfl

omit h in
theorem at_parity5 (n u v : ℕ) (hu : u < 16) (hv : v < 16) :
    (n * 64 + u / 2 * 8 + v / 2) / 64 * 256 + (2 * ((n * 64 + u / 2 * 8 + v / 2) / 8 % 8) + (u % 2 * 2 + v % 2) / 2) * 16 + (2 * ((n * 64 + u / 2 * 8 + v / 2) % 8) + (u % 2 * 2 + v % 2) % 2) = n * 256 + u * 16 + v := by
  have h1 : (n * 64 + u / 2 * 8 + v / 2) / 64 = n := by omega
  have h2 : (n * 64 + u / 2 * 8 + v / 2) / 8 % 8 = u / 2 := by omega
  have h3 : (n * 64 + u / 2 * 8 + v / 2) % 8 = v / 2 := by omega
  have h4 : (u % 2 * 2 + v % 2) / 2 = u % 2 := by omega
  have h5 : (u % 2 * 2 + v % 2) % 2 = v % 2 := by omega
  rw [h1, h2, h3, h4, h5]
  omega

set_option maxHeartbeats 1000000 in
theorem inK5 (n : Fin 512) (p q : Fin 18) (k : Fin 64) : (W20 m ρ c (Proc.devRef .tc main_v244) : FVec Ideal S512x18x18x64 .f32) (ix4 n p q k)
    = padS2 y n p q k := by
  show (after hostOps5_1 (after hostOps5 (W18 m ρ c)) (Proc.devRef .tc main_v244) : FVec Ideal S512x18x18x64 .f32) (ix4 n p q k) = _
  generalize W18 m ρ c = U at *
  after_reads_at
  unfold padS2
  refine either5 (fun hc => ?_) sitofp_zero
  refine (h _ _ _).trans (congrArg (fun v : EReal => max v 0) (t2 y ?_ rfl))
  exact at_parity5 n.val (p.val - 1) (q.val - 1) hc.1.2 hc.2.2

omit h in
theorem arr5 : W22 m ρ c (Proc.devRef .tc main_v308) = mm5 (V21 m ρ c main_v289) (V21 m ρ c main_v306) (V21 m ρ c main_v307) :=
  (W22_arr m ρ c 3).trans (final5 (V21 m ρ) c)

set_option maxHeartbeats 1000000 in
theorem outK5 (p : Fin 4) (r : Fin 131072) (o : Fin 32) : (W22 m ρ c (Proc.devRef .tc main_v308) : FVec Ideal S4x131072x32 .f32) (ix3 p r o)
    = max (dec2 (padD2 y) (wK5 m c) (bK5 m c) ⟨r.val / 256 * 1024 + (2 * (r.val / 16 % 16) + p.val / 2) * 32 + (2 * (r.val % 16) + p.val % 2), by omega⟩ o) 0 := by
  have hA : ∀ p r q, (V21 m ρ c main_v289 : FVec Ideal S4x131072x256 .f32) (ix3 p r q) = _ := fun p r q => (rows5 (W20 m ρ c) p r q).trans (inK5 m ρ c y h _ _ _ _)
  have hW : ∀ p q o, (V21 m ρ c main_v306 : FVec Ideal S4x256x32 .f32) (ix3 p q o) = _ := fun p q o => (cols5 (W20 m ρ c) p q o).trans (congrFun (W20_args m ρ c main_arg10 (by decide)) _)
  have hb : ∀ o, (V21 m ρ c main_v307 : FVec Ideal S1x1x32 .f32) (ix3 0 0 o) = _ := fun o => (bias5 (W20 m ρ c) o).trans (congrFun (W20_args m ρ c main_arg11 (by decide)) _)
  rw [arr5]
  generalize V21 m ρ c main_v289 = A at *
  generalize V21 m ρ c main_v306 = B at *
  generalize V21 m ρ c main_v307 = D at *
  have hp := parity2 y (wK5 m c) (bK5 m c) p r o
  rw [← hp]
  unfold mm5
  refine congrArg (fun v : EReal => max v 0) (addc (Finset.sum_congr rfl fun q _ => ?_) (hb o))
  exact mulc (hA p r q) (hW p q o)

end Cert.KVal
end
-- ==== Proof.Region6.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Idealize.ShloMosaic.Pipeline (Dat)

variable (V : (c : Dev nD) → (b : Ref sig .tc) → Buf (Elt Ideal) ((c : Thread nD τ).loc b))

/-- What decoder layer 3's four matrix products leave. -/
abbrev mm6 (A : FVec Ideal S4x524288x128 .f32) (W : FVec Ideal S4x128x1 .f32) (b : FVec Ideal S1x1x1 .f32) : FVec Ideal S4x524288x1 .f32 :=
  fun i => FloatOps.tanh (F := Ideal) (φ := .f32) ((∑ q : Fin 128, A (ix3 (i 0) (i 1) q) * W (ix3 (i 0) q (i 2))) + b (ix3 0 0 (i 2)))

/-- The blocks of grid point `t`. -/
theorem idx6 : ∀ t : Fin cfg6.N, win6_0.index t = ![t.val / 64, t.val % 64, 0] ∧ win6_1.index t = ![t.val / 64, 0, 0] ∧ win6_2.index t = ![0, 0, 0] ∧ win6_3.index t = ![t.val / 64, t.val % 64, 0] :=
  (by decide +kernel : ∀ t : Fin grid6.N, _)

/-- One entry of what grid point `t` stores. -/
theorem point6 (c : Dev nD) (t : Fin cfg6.N) (y) : k6_pay1 (iblk6 V c 0 t) (iblk6 V c 1 t) (iblk6 V c 2 t) y
    = mm6 (V c main_v357) (V c main_v374) (V c main_v375) (((cfg6.win 3).blk t).view.emb y) := by
  pointwise [k6_pay1, mm6]
  blk_point [iblk6, idx6 t]

/-- The region's result as one array. -/
theorem final6 (c : Dev nD) : (dat6 V c).arrAt 3 cfg6.N = mm6 (V c main_v357) (V c main_v374) (V c main_v375) := by
  refine (dat6 V c).arrAt_eq_of_covers 3 _ (by decide +kernel) fun t _ y => ?_
  blk_simp
  rw [after6_3]; frame_out
  exact point6 V c t y

end Cert.KVal
end
-- ==== Proof.KDec6.lean ====
module

public import proofs.«01_k».proof.Proof.Gen.KernelIdeal.Frame
public import proofs.«01_k».proof.Proof.KEnc
public import proofs.«01_k».proof.Proof.Dec
public import proofs.«01_k».proof.Proof.Region6
public import proofs.«01_k».proof.Proof.HostD
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The output row of parity `p` at input row `r`. -/
def row6 (p : Fin 4) (r : Fin 131072) : Fin 524288 := ⟨r.val / 256 * 1024 + (2 * (r.val / 16 % 16) + p.val / 2) * 32 + (2 * (r.val % 16) + p.val % 2), by omega⟩

variable (y : T2 524288 32)
  (h : ∀ (p : Fin 4) (r : Fin 131072) (k : Fin 32), (W22 m ρ c (Proc.devRef .tc main_v308) : FVec Ideal S4x131072x32 .f32) (ix3 p r k) = max (y (row6 p r) k) 0)
include h
omit h in
theorem either6 {a : Prop} [Decidable a] {f g : a → EReal} {x z : EReal} (h : ∀ ha, f ha = g ha) (hx : x = z) :
    (if ha : a then f ha else x) = if ha : a then g ha else z := by
  subst hx
  split
  · exact h _
  · rfl

omit h in
theorem at_parity6 (n u v : ℕ) (hu : u < 32) (hv : v < 32) :
    (n * 256 + u / 2 * 16 + v / 2) / 256 * 1024 + (2 * ((n * 256 + u / 2 * 16 + v / 2) / 16 % 16) + (u % 2 * 2 + v % 2) / 2) * 32 + (2 * ((n * 256 + u / 2 * 16 + v / 2) % 16) + (u % 2 * 2 + v % 2) % 2) = n * 1024 + u * 32 + v := by
  have h1 : (n * 256 + u / 2 * 16 + v / 2) / 256 = n := by omega
  have h2 : (n * 256 + u / 2 * 16 + v / 2) / 16 % 16 = u / 2 := by omega
  have h3 : (n * 256 + u / 2 * 16 + v / 2) % 16 = v / 2 := by omega
  have h4 : (u % 2 * 2 + v % 2) / 2 = u % 2 := by omega
  have h5 : (u % 2 * 2 + v % 2) % 2 = v % 2 := by omega
  rw [h1, h2, h3, h4, h5]
  omega

set_option maxHeartbeats 1000000 in
theorem inK6 (n : Fin 512) (p q : Fin 34) (k : Fin 32) : (W24 m ρ c (Proc.devRef .tc main_v312) : FVec Ideal S512x34x34x32 .f32) (ix4 n p q k)
    = padS3 y n p q k := by
  show (after hostOps6_1 (after hostOps6 (W22 m ρ c)) (Proc.devRef .tc main_v312) : FVec Ideal S512x34x34x32 .f32) (ix4 n p q k) = _
  generalize W22 m ρ c = U at *
  after_reads_at
  unfold padS3
  refine either6 (fun hc => ?_) sitofp_zero
  refine (h _ _ _).trans (congrArg (fun v : EReal => max v 0) (t2 y ?_ rfl))
  exact at_parity6 n.val (p.val - 1) (q.val - 1) hc.1.2 hc.2.2

omit h in
theorem arr6 : W26 m ρ c (Proc.devRef .tc main_v376) = mm6 (V25 m ρ c main_v357) (V25 m ρ c main_v374) (V25 m ρ c main_v375) :=
  (W26_arr m ρ c 3).trans (final6 (V25 m ρ) c)

set_option maxHeartbeats 1000000 in
theorem outK6 (p : Fin 4) (r : Fin 524288) (o : Fin 1) : (W26 m ρ c (Proc.devRef .tc main_v376) : FVec Ideal S4x524288x1 .f32) (ix3 p r o)
    = Ideal.tanh (dec3 (padD3 y) (wK6 m c) (bK6 m c) ⟨r.val / 1024 * 4096 + (2 * (r.val / 32 % 32) + p.val / 2) * 64 + (2 * (r.val % 32) + p.val % 2), by omega⟩ o) := by
  have hA : ∀ p r q, (V25 m ρ c main_v357 : FVec Ideal S4x524288x128 .f32) (ix3 p r q) = _ := fun p r q => (rows6 (W24 m ρ c) p r q).trans (inK6 m ρ c y h _ _ _ _)
  have hW : ∀ p q o, (V25 m ρ c main_v374 : FVec Ideal S4x128x1 .f32) (ix3 p q o) = _ := fun p q o => (cols6 (W24 m ρ c) p q o).trans (congrFun (W24_args m ρ c main_arg12 (by decide)) _)
  have hb : ∀ o, (V25 m ρ c main_v375 : FVec Ideal S1x1x1 .f32) (ix3 0 0 o) = _ := fun o => (bias6 (W24 m ρ c) o).trans (congrFun (W24_args m ρ c main_arg13 (by decide)) _)
  rw [arr6]
  generalize V25 m ρ c main_v357 = A at *
  generalize V25 m ρ c main_v374 = B at *
  generalize V25 m ρ c main_v375 = D at *
  have hp := parity3 y (wK6 m c) (bK6 m c) p r o
  rw [← hp]
  unfold mm6
  refine congrArg (fun v : EReal => Ideal.tanh v) (addc (Finset.sum_congr rfl fun q _ => ?_) (hb o))
  exact mulc (hA p r q) (hW p q o)

end Cert.KVal
end
-- ==== Proof.Region3.lean ====
module

public import proofs.«01_k».proof.Proof.Gen.KernelIdeal.Frame
public import proofs.«01_k».proof.Proof.Best
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.KernelIdeal Cert.KernelIdeal.Gen Idealize.ShloMosaic Idealize.ShloMosaic.TcCoe Idealize.SL.Sem Idealize.ShloMosaic.StableHlo

open Cert.Best
open Idealize.ShloMosaic.Pipeline (Dat)

/-- The distance of a row of `z` to entry `x` of the codebook, from the rows' squared lengths. -/
abbrev vqd (zr : Fin 64 → EReal) (e : FVec Ideal S1024x64 .f32) (a : EReal) (b : FVec Ideal S1x1024 .f32) (x : Fin 1024) : EReal :=
  Ideal.sqrt (max (a + b (ix2 0 x) - Ideal.ofBits .f32 1073741824#32 * ∑ k, zr k * e (ix2 x k)) 0)

theorem inf_f32 : Ideal.ofBits .f32 2139095040#32 = ⊤ := by simp [Ideal.ofBits, Ideal.ieee]

section
variable (x0 : FVec Ideal S2048x64 .f32) (x1 : FVec Ideal S1024x64 .f32) (x2 : FVec Ideal S2048x1 .f32) (x3 : FVec Ideal S1x1024 .f32)

/-- The entry a row of the block picks. -/
abbrev pick (r : Fin 2048) : Fin 1024 := best (vqd (fun k => x0 (ix2 r k)) x1 (x2 (ix2 r 0)) x3)

theorem pay4_eq (r : Fin 2048) : k3_pay4 (F := Ideal) x0 x1 x2 x3 (ix1 r) = BitVec.ofNat 32 (pick x0 x1 x2 x3 r).val := by
  pointwise [k3_pay4, k3_pay3]
  rw [inf_f32]
  exact minsi_fold (vqd (fun k => x0 (ix2 r k)) x1 (x2 (ix2 r 0)) x3)

theorem onehot (a b : Fin 1024) : (FloatOps.sitofp .f32 (BitVec.setWidth 32 (IntOp.cmpi .eq (BitVec.ofNat 32 a.val) (BitVec.ofNat 32 b.val))) : Ideal .f32) = if a = b then (1 : EReal) else 0 := by
  have h : (BitVec.ofNat 32 a.val = BitVec.ofNat 32 b.val) ↔ a = b := ⟨fun h => by
    have := congrArg BitVec.toNat h
    simp only [BitVec.toNat_ofNat] at this
    apply Fin.ext; omega, fun h => by rw [h]⟩
  by_cases hab : a = b
  · simp [IntOp.cmpi, hab, FloatOps.sitofp]
  · have hf : (BitVec.ofNat 32 a.val == BitVec.ofNat 32 b.val) = false := by simpa using mt h.1 hab
    simp [IntOp.cmpi, hab, hf, FloatOps.sitofp]

theorem pay6_eq (r : Fin 2048) (c : Fin 64) : k3_pay6 (F := Ideal) x0 x1 x2 x3 (ix2 r c) = x1 (ix2 (pick x0 x1 x2 x3 r) c) := by
  pointwise [k3_pay6]
  simp only [pay4_eq, onehot]
  rw [Finset.sum_eq_single (pick x0 x1 x2 x3 r)]
  · rw [if_pos rfl, one_mul]
  · intro b _ hb; rw [if_neg hb, zero_mul]
  · intro h; exact absurd (Finset.mem_univ _) h

theorem pay5_eq (r : Fin 2048) : k3_pay5 (F := Ideal) x0 x1 x2 x3 (ix3 0 0 r) = BitVec.ofNat 32 (pick x0 x1 x2 x3 r).val := by
  pointwise [k3_pay5]
  exact pay4_eq x0 x1 x2 x3 r

theorem pay1_eq (r : Fin 32) (c : Fin 64) : k3_pay1 (F := Ideal) (k3_pay7 (F := Ideal) x0 x1 x2 x3) (ix2 r c)
    = Ideal.div (∑ x : Fin 64, x1 (ix2 (pick x0 x1 x2 x3 ⟨r * 64 + x, by omega⟩) c)) (Ideal.ofBits .f32 1115684864#32) := by
  pointwise [k3_pay1, k3_pay7]
  simp only [pay6_eq]

theorem pay2_eq : k3_pay2 (F := Ideal) (k3_pay3 (F := Ideal) x0) (k3_pay6 (F := Ideal) x0 x1 x2 x3) (ix3 0 0 0)
    = ∑ r : Fin 2048, ∑ c : Fin 64, (x1 (ix2 (pick x0 x1 x2 x3 r) c) - x0 (ix2 r c)) * (x1 (ix2 (pick x0 x1 x2 x3 r) c) - x0 (ix2 r c)) := by
  pointwise [k3_pay2, k3_pay3]
  simp only [pay6_eq]

end

variable (V : (c : Dev nD) → (b : Ref sig .tc) → Buf (Elt Ideal) ((c : Thread nD τ).loc b))

/-- The entry row `r` of all rows picks. -/
abbrev pickAll (z : FVec Ideal S32768x64 .f32) (e : FVec Ideal S1024x64 .f32) (a : FVec Ideal S32768x1 .f32) (b : FVec Ideal S1x1024 .f32) (r : Fin 32768) : Fin 1024 :=
  best (vqd (fun k => z (ix2 r k)) e (a (ix2 r 0)) b)

/-- The blocks of grid point `t`. -/
theorem idx3 : ∀ t : Fin cfg3.N, win3_0.index t = ![t.val, 0] ∧ win3_1.index t = ![0, 0] ∧ win3_2.index t = ![t.val, 0] ∧ win3_3.index t = ![0, 0]
    ∧ win3_4.index t = ![t.val, 0, 0] ∧ win3_5.index t = ![t.val, 0] ∧ win3_6.index t = ![t.val, 0] ∧ win3_7.index t = ![t.val, 0, 0] :=
  (by decide +kernel : ∀ t : Fin grid3.N, _)

theorem blk0 (c : Dev nD) (t : Fin cfg3.N) (r : Fin 2048) (k : Fin 64) (h : t.val * 2048 + r.val < 32768) :
    (iblk3 V c 0 t : FVec Ideal S2048x64 .f32) (ix2 r k) = (V c main_v159 : FVec Ideal S32768x64 .f32) (ix2 ⟨t.val * 2048 + r.val, h⟩ k) := by
  blk_point [iblk3, idx3 t]

theorem blk1 (c : Dev nD) (t : Fin cfg3.N) : (iblk3 V c 1 t : FVec Ideal S1024x64 .f32) = (V c main_arg7 : FVec Ideal S1024x64 .f32) := by
  funext i
  idx_vars i
  blk_point [iblk3, idx3 t]

theorem blk2 (c : Dev nD) (t : Fin cfg3.N) (r : Fin 2048) (h : t.val * 2048 + r.val < 32768) :
    (iblk3 V c 2 t : FVec Ideal S2048x1 .f32) (ix2 r 0) = (V c main_v162 : FVec Ideal S32768x1 .f32) (ix2 ⟨t.val * 2048 + r.val, h⟩ 0) := by
  blk_point [iblk3, idx3 t]

theorem blk3 (c : Dev nD) (t : Fin cfg3.N) : (iblk3 V c 3 t : FVec Ideal S1x1024 .f32) = (V c main_v165 : FVec Ideal S1x1024 .f32) := by
  funext i
  idx_vars i
  blk_point [iblk3, idx3 t]

theorem pick_blk (c : Dev nD) (t : Fin cfg3.N) (r : Fin 2048) (h : t.val * 2048 + r.val < 32768) :
    pick (iblk3 V c 0 t) (iblk3 V c 1 t) (iblk3 V c 2 t) (iblk3 V c 3 t) r
      = pickAll (V c main_v159) (V c main_arg7) (V c main_v162) (V c main_v165) ⟨t.val * 2048 + r.val, h⟩ := by
  unfold pick pickAll
  rw [blk1 V c t, blk2 V c t r h, blk3 V c t]
  simp only [blk0 V c t r _ h]

/-- The indices the region leaves. -/
abbrev vqI (P : Fin 32768 → Fin 1024) : IVec S16x1x2048 32 :=
  fun i => BitVec.ofNat 32 (P ⟨(i 0).val * 2048 + (i 2).val, by have h0 : (i 0).val < 16 := (i 0).isLt; have h2 : (i 2).val < 2048 := (i 2).isLt; omega⟩).val

/-- The quantized rows the region leaves. -/
abbrev vqQ (e : FVec Ideal S1024x64 .f32) (P : Fin 32768 → Fin 1024) : FVec Ideal S32768x64 .f32 := fun i => e (ix2 (P (i 0)) (i 1))

/-- The averages of 64 quantized rows the region leaves. -/
abbrev vqP (e : FVec Ideal S1024x64 .f32) (P : Fin 32768 → Fin 1024) : FVec Ideal S512x64 .f32 := fun i =>
  Ideal.div (∑ x : Fin 64, e (ix2 (P ⟨(i 0).val * 64 + x.val, by have h0 : (i 0).val < 512 := (i 0).isLt; omega⟩) (i 1))) (Ideal.ofBits .f32 1115684864#32)

/-- The squared errors, summed over 2048 rows, the region leaves. -/
abbrev vqL (z : FVec Ideal S32768x64 .f32) (e : FVec Ideal S1024x64 .f32) (P : Fin 32768 → Fin 1024) : FVec Ideal S16x1x1 .f32 := fun i =>
  ∑ r : Fin 2048, ∑ k : Fin 64, (e (ix2 (P ⟨(i 0).val * 2048 + r.val, by have h0 : (i 0).val < 16 := (i 0).isLt; omega⟩) k) - z (ix2 ⟨(i 0).val * 2048 + r.val, by have h0 : (i 0).val < 16 := (i 0).isLt; omega⟩ k))
    * (e (ix2 (P ⟨(i 0).val * 2048 + r.val, by have h0 : (i 0).val < 16 := (i 0).isLt; omega⟩) k) - z (ix2 ⟨(i 0).val * 2048 + r.val, by have h0 : (i 0).val < 16 := (i 0).isLt; omega⟩ k))

/-- The entries the region's rows pick. -/
abbrev pk (c : Dev nD) : Fin 32768 → Fin 1024 := pickAll (V c main_v159) (V c main_arg7) (V c main_v162) (V c main_v165)

theorem final3_4 (c : Dev nD) : (dat3 V c).arrAt 4 cfg3.N = vqI (pk V c) := by
  refine (dat3 V c).arrAt_eq_of_covers 4 _ (by decide +kernel) fun t _ y => ?_
  blk_simp
  rw [after3_4]; frame_out
  idx_vars y
  have ht : t.val < 16 := t.isLt
  have h : t.val * 2048 + y2.val < 32768 := by omega
  rw [Subsingleton.elim y0 0, Subsingleton.elim y1 0, pay5_eq, pick_blk V c t y2 h]
  refine congrArg (fun R => BitVec.ofNat 32 (pk V c R).val) (Fin.ext ?_)
  blk_simp [idx3 t]
  show t.val * 2048 + y2.val = (t.val + 0) * 2048 + y2.val
  omega

theorem final3_5 (c : Dev nD) : (dat3 V c).arrAt 5 cfg3.N = vqQ (V c main_arg7) (pk V c) := by
  refine (dat3 V c).arrAt_eq_of_covers 5 _ (by decide +kernel) fun t _ y => ?_
  blk_simp
  rw [after3_5]; frame_out
  idx_vars y
  have ht : t.val < 16 := t.isLt
  have h : t.val * 2048 + y0.val < 32768 := by omega
  rw [pay6_eq, pick_blk V c t y0 h, blk1 V c t]
  refine congrArg₂ (fun R k => (V c main_arg7 : FVec Ideal S1024x64 .f32) (ix2 (pk V c R) k)) (Fin.ext ?_) (Fin.ext ?_)
  · blk_simp [idx3 t]
  · blk_simp [idx3 t]

theorem final3_6 (c : Dev nD) : (dat3 V c).arrAt 6 cfg3.N = vqP (V c main_arg7) (pk V c) := by
  refine (dat3 V c).arrAt_eq_of_covers 6 _ (by decide +kernel) fun t _ y => ?_
  blk_simp
  rw [after3_6]; frame_out
  idx_vars y
  have ht : t.val < 16 := t.isLt
  rw [pay1_eq]
  simp only [vqP]
  congr 1
  refine Finset.sum_congr rfl fun x _ => ?_
  have hx := x.isLt
  rw [pick_blk V c t ⟨y0.val * 64 + x.val, by omega⟩ (by show t.val * 2048 + (y0.val * 64 + x.val) < 32768; omega), blk1 V c t]
  refine congrArg₂ (fun R k => (V c main_arg7 : FVec Ideal S1024x64 .f32) (ix2 (pk V c R) k)) (Fin.ext ?_) (Fin.ext ?_)
  · blk_simp [idx3 t]
    show t.val * 2048 + (y0.val * 64 + x.val) = (t.val * 32 + y0.val) * 64 + x.val
    omega
  · blk_simp [idx3 t]

theorem final3_7 (c : Dev nD) : (dat3 V c).arrAt 7 cfg3.N = vqL (V c main_v159) (V c main_arg7) (pk V c) := by
  refine (dat3 V c).arrAt_eq_of_covers 7 _ (by decide +kernel) fun t _ y => ?_
  blk_simp
  rw [after3_7]; frame_out
  idx_vars y
  have ht : t.val < 16 := t.isLt
  rw [Subsingleton.elim y0 0, Subsingleton.elim y1 0, Subsingleton.elim y2 0]
  refine @Eq.trans EReal _ (vqL (V c main_v159) (V c main_arg7) (pk V c) (ix3 ⟨t.val, ht⟩ 0 0)) _ ((pay2_eq _ _ _ _).trans ?_) (congrArg (vqL (V c main_v159) (V c main_arg7) (pk V c)) ?_)
  · refine Finset.sum_congr rfl fun r _ => Finset.sum_congr rfl fun k _ => ?_
    have hr := r.isLt
    have h : t.val * 2048 + r.val < 32768 := by omega
    rw [pick_blk V c t r h, blk1 V c t, blk0 V c t r k h]
    rfl
  · funext a
    refine Fin.ext ?_
    fin_cases a <;> blk_simp [idx3 t] <;> rfl

end Cert.KVal
end
-- ==== Proof.KVqA.lean ====
module

public import proofs.«01_k».proof.Proof.Gen.KernelIdeal.Frame
public import proofs.«01_k».proof.Proof.KEnc
public import proofs.«01_k».proof.Proof.Region3
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
variable (z : T2 32768 64) (e : T2 1024 64)
  (hz : ∀ r k, (W12 m ρ c (Proc.devRef .tc main_v159) : FVec Ideal S32768x64 .f32) (ix2 r k) = z r k)
  (he : ∀ x k, (m ((c : Thread nD τ).loc main_arg7) : FVec Ideal S1024x64 .f32) (ix2 x k) = e x k)
include hz he

theorem z13 (r : Fin 32768) (k : Fin 64) : (V13 m ρ c main_v159 : FVec Ideal S32768x64 .f32) (ix2 r k) = z r k :=
  (congrFun (W13_of m ρ c main_v159 (by decide)) _).trans (hz r k)

theorem e13 (x : Fin 1024) (k : Fin 64) : (V13 m ρ c main_arg7 : FVec Ideal S1024x64 .f32) (ix2 x k) = e x k :=
  (congrFun (W13_args m ρ c main_arg7 (by decide)) _).trans (he x k)

theorem zz13 (r : Fin 32768) : (V13 m ρ c main_v162 : FVec Ideal S32768x1 .f32) (ix2 r 0) = ∑ k, z r k * z r k := by
  show (after hostOps3 (W12 m ρ c) (Proc.devRef .tc main_v162) : FVec Ideal S32768x1 .f32) (ix2 r 0) = _
  generalize W12 m ρ c = U at *
  after_reads_at
  exact Finset.sum_congr rfl fun x _ => mulc (hz r x) (hz r x)

theorem ee13 (r : Fin 1024) : (V13 m ρ c main_v165 : FVec Ideal S1x1024 .f32) (ix2 0 r) = ∑ k, e r k * e r k := by
  have h : ∀ x k, (W12 m ρ c (Proc.devRef .tc main_arg7) : FVec Ideal S1024x64 .f32) (ix2 x k) = e x k :=
    fun x k => (congrFun (W12_args m ρ c main_arg7 (by decide)) _).trans (he x k)
  show (after hostOps3 (W12 m ρ c) (Proc.devRef .tc main_v165) : FVec Ideal S1x1024 .f32) (ix2 0 r) = _
  generalize W12 m ρ c = U at *
  after_reads_at
  exact Finset.sum_congr rfl fun x _ => mulc (h r x) (h r x)

theorem pk13 : pk (V13 m ρ) c = near z e := by
  have hz' := z13 m ρ c z e hz he
  have he' := e13 m ρ c z e hz he
  have h1 := zz13 m ρ c z e hz he
  have h2 := ee13 m ρ c z e hz he
  funext r
  unfold pk pickAll near
  refine congrArg Best.best (funext fun x => ?_)
  generalize V13 m ρ c main_v159 = Z at *
  generalize V13 m ρ c main_arg7 = E at *
  generalize V13 m ρ c main_v162 = A at *
  generalize V13 m ρ c main_v165 = B at *
  unfold vqd Spec.dist
  rw [h1 r, h2 x]
  simp only [hz', he']

end Cert.KVal
end
-- ==== Proof.KVqB.lean ====
module

public import proofs.«01_k».proof.Proof.Gen.KernelIdeal.Frame
public import proofs.«01_k».proof.Proof.KVqA
public import proofs.«01_k».proof.Proof.Region3
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
variable (z : T2 32768 64) (e : T2 1024 64)
  (hz : ∀ r k, (W12 m ρ c (Proc.devRef .tc main_v159) : FVec Ideal S32768x64 .f32) (ix2 r k) = z r k)
  (he : ∀ x k, (m ((c : Thread nD τ).loc main_arg7) : FVec Ideal S1024x64 .f32) (ix2 x k) = e x k)
include hz he

theorem idx14 (i : Fin 16) (j : Fin 2048) : (W14 m ρ c (Proc.devRef .tc main_v166_0) : IVec S16x1x2048 32) (ix3 i 0 j)
    = BitVec.ofNat 32 (near z e ⟨i.val * 2048 + j.val, by omega⟩).val := by
  have h : W14 m ρ c (Proc.devRef .tc main_v166_0) = vqI (pk (V13 m ρ) c) := (W14_arr m ρ c 4).trans (final3_4 (V13 m ρ) c)
  rw [h, pk13 m ρ c z e hz he]
  generalize near z e = P
  rfl

theorem q14 (r : Fin 32768) (k : Fin 64) : (W14 m ρ c (Proc.devRef .tc main_v166_1) : FVec Ideal S32768x64 .f32) (ix2 r k) = e (near z e r) k := by
  have h : W14 m ρ c (Proc.devRef .tc main_v166_1) = vqQ (V13 m ρ c main_arg7) (pk (V13 m ρ) c) := (W14_arr m ρ c 5).trans (final3_5 (V13 m ρ) c)
  have he' := e13 m ρ c z e hz he
  rw [h, pk13 m ρ c z e hz he]
  generalize V13 m ρ c main_arg7 = E at *
  generalize near z e = P
  exact he' (P r) k

theorem pooled14 (r : Fin 512) (k : Fin 64) : (W14 m ρ c (Proc.devRef .tc main_v166_2) : FVec Ideal S512x64 .f32) (ix2 r k)
    = Ideal.div (∑ x : Fin 64, e (near z e ⟨r.val * 64 + x.val, by omega⟩) k) (Ideal.ofBits .f32 1115684864#32) := by
  have h : W14 m ρ c (Proc.devRef .tc main_v166_2) = vqP (V13 m ρ c main_arg7) (pk (V13 m ρ) c) := (W14_arr m ρ c 6).trans (final3_6 (V13 m ρ) c)
  have he' := e13 m ρ c z e hz he
  rw [h, pk13 m ρ c z e hz he]
  generalize V13 m ρ c main_arg7 = E at *
  generalize near z e = P
  unfold vqP
  exact congrArg (fun v : EReal => Ideal.div v (Ideal.ofBits .f32 1115684864#32)) (Finset.sum_congr rfl fun x _ => he' _ _)

theorem err14 (i : Fin 16) : (W14 m ρ c (Proc.devRef .tc main_v166_3) : FVec Ideal S16x1x1 .f32) (ix3 i 0 0)
    = ∑ r : Fin 2048, ∑ k : Fin 64, (e (near z e ⟨i.val * 2048 + r.val, by omega⟩) k - z ⟨i.val * 2048 + r.val, by omega⟩ k)
        * (e (near z e ⟨i.val * 2048 + r.val, by omega⟩) k - z ⟨i.val * 2048 + r.val, by omega⟩ k) := by
  have h : W14 m ρ c (Proc.devRef .tc main_v166_3) = vqL (V13 m ρ c main_v159) (V13 m ρ c main_arg7) (pk (V13 m ρ) c) := (W14_arr m ρ c 7).trans (final3_7 (V13 m ρ) c)
  have he' := e13 m ρ c z e hz he
  have hz' := z13 m ρ c z e hz he
  rw [h, pk13 m ρ c z e hz he]
  generalize V13 m ρ c main_v159 = Z at *
  generalize V13 m ρ c main_arg7 = E at *
  generalize near z e = P
  unfold vqL
  show @Eq EReal (Finset.sum (M := EReal) Finset.univ fun r : Fin 2048 => Finset.sum (M := EReal) Finset.univ fun k : Fin 64 => (@HSub.hSub EReal EReal EReal _ (E (ix2 (P ⟨i.val * 2048 + r.val, by omega⟩) k)) (Z (ix2 ⟨i.val * 2048 + r.val, by omega⟩ k))) * (@HSub.hSub EReal EReal EReal _ (E (ix2 (P ⟨i.val * 2048 + r.val, by omega⟩) k)) (Z (ix2 ⟨i.val * 2048 + r.val, by omega⟩ k)))) _
  refine Finset.sum_congr rfl fun r _ => Finset.sum_congr rfl fun k _ => ?_
  have hd := congrArg₂ (fun u v : EReal => u - v) (he' (P ⟨i.val * 2048 + r.val, by omega⟩) k) (hz' ⟨i.val * 2048 + r.val, by omega⟩ k)
  exact mulc hd hd

end Cert.KVal
end
-- ==== Proof.KVqC.lean ====
module

public import proofs.«01_k».proof.Proof.Gen.KernelIdeal.Frame
public import proofs.«01_k».proof.Proof.KVqB
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
variable (z : T2 32768 64) (e : T2 1024 64)
  (hz : ∀ r k, (W12 m ρ c (Proc.devRef .tc main_v159) : FVec Ideal S32768x64 .f32) (ix2 r k) = z r k)
  (he : ∀ x k, (m ((c : Thread nD τ).loc main_arg7) : FVec Ideal S1024x64 .f32) (ix2 x k) = e x k)
include hz he

/-- The loss after the vector quantization's last host line. -/
theorem loss15 : (W15 m ρ c (Proc.devRef .tc main_v170) : FVec Ideal S_ .f32) ix0
    = Ideal.div (Ideal.ofBits .f32 1067450368#32 * ∑ r, ∑ k, (e (near z e r) k - z r k) * (e (near z e r) k - z r k)) (Ideal.ofBits .f32 1241513984#32) := by
  have h := err14 m ρ c z e hz he
  rw [Fin.sum_univ_tiles 16 2048 rfl (fun r => ∑ k, (e (near z e r) k - z r k) * (e (near z e r) k - z r k))]
  show (after hostOps4 (W14 m ρ c) (Proc.devRef .tc main_v170) : FVec Ideal S_ .f32) ix0 = _
  generalize near z e = P at *
  generalize W14 m ρ c = U at *
  after_reads_at
  refine congrArg (fun v : EReal => Ideal.div (Ideal.ofBits .f32 1067450368#32 * v) (Ideal.ofBits .f32 1241513984#32)) ?_
  refine Finset.sum_congr rfl fun i _ => ?_
  refine (Fin.sum_univ_one _).trans ((Fin.sum_univ_one _).trans ?_)
  exact h i

theorem pooled15 (n : Fin 32) (p : Fin 16) (k : Fin 64) : (W15 m ρ c (Proc.devRef .tc main_v171) : FVec Ideal S32x16x64 .f32) (ix3 n p k)
    = Ideal.div (∑ x : Fin 64, e (near z e ⟨(n.val * 16 + p.val) * 64 + x.val, by omega⟩) k) (Ideal.ofBits .f32 1115684864#32) := by
  have h := pooled14 m ρ c z e hz he
  show (after hostOps4 (W14 m ρ c) (Proc.devRef .tc main_v171) : FVec Ideal S32x16x64 .f32) (ix3 n p k) = _
  generalize near z e = P at *
  generalize W14 m ρ c = U at *
  after_reads_at
  exact h _ _

theorem idx15 (n : Fin 32) (p : Fin 16) : (W15 m ρ c (Proc.devRef .tc main_v174) : IVec S32x16 32) (ix2 n p)
    = BitVec.ofNat 32 (near z e ⟨n.val * 1024 + p.val * 64, by omega⟩).val := by
  have h := idx14 m ρ c z e hz he
  show (after hostOps4 (W14 m ρ c) (Proc.devRef .tc main_v174) : IVec S32x16 32) (ix2 n p) = _
  generalize near z e = P at *
  generalize W14 m ρ c = U at *
  after_reads_at
  refine (h _ _).trans ?_
  refine congrArg (fun R => BitVec.ofNat 32 (P R).val) (Fin.ext ?_)
  dsimp only
  omega

end Cert.KVal
end
-- ==== Proof.KTop.lean ====
/-
  The kernel's four results, each as a function of its arguments.
-/
module

public import proofs.«01_k».proof.Proof.KEnd
public import proofs.«01_k».proof.Proof.KDec4
public import proofs.«01_k».proof.Proof.KDec5
public import proofs.«01_k».proof.Proof.KDec6
public import proofs.«01_k».proof.Proof.KVqC
public import proofs.«01_k».proof.Proof.Finite

@[expose] public section

set_option maxRecDepth 16384

noncomputable section

namespace Cert.KVal

open Cert.Spec Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The encoder's rows, and the codebook. -/
def zK : T2 32768 64 := enc (xK m c) (wK1 m c) (bK1 m c) (wK2 m c) (bK2 m c) (wK3 m c) (bK3 m c)
def eK : T2 1024 64 := fun x k => (m ((c : Thread nD τ).loc main_arg7) : FVec Ideal S1024x64 .f32) (ix2 x k)

theorem hzK : ∀ r k, (W12 m ρ c (Proc.devRef .tc main_v159) : FVec Ideal S32768x64 .f32) (ix2 r k) = zK m c r k := outK3 m ρ c
theorem heK : ∀ x k, (m ((c : Thread nD τ).loc main_arg7) : FVec Ideal S1024x64 .f32) (ix2 x k) = eK m c x k := fun _ _ => rfl

theorem pooledK (n : Fin 32) (p : Fin 16) (k : Fin 64) : (W27 m ρ c (Proc.devRef .tc main_v171) : FVec Ideal S32x16x64 .f32) (ix3 n p k)
    = Ideal.div (∑ x : Fin 64, eK m c (near (zK m c) (eK m c) ⟨(n.val * 16 + p.val) * 64 + x.val, by omega⟩) k) (Ideal.ofBits .f32 1115684864#32) :=
  (congrFun (keep_pooled m ρ c) _).trans (pooled15 m ρ c (zK m c) (eK m c) (hzK m ρ c) (heK m c) n p k)

theorem idxK (n : Fin 32) (p : Fin 16) : (W27 m ρ c (Proc.devRef .tc main_v174) : IVec S32x16 32) (ix2 n p)
    = BitVec.ofNat 32 (near (zK m c) (eK m c) ⟨n.val * 1024 + p.val * 64, by omega⟩).val :=
  (congrFun (keep_idx m ρ c) _).trans (idx15 m ρ c (zK m c) (eK m c) (hzK m ρ c) (heK m c) n p)

theorem lossK : (W27 m ρ c (Proc.devRef .tc main_v170) : FVec Ideal S_ .f32) ix0
    = Ideal.div (Ideal.ofBits .f32 1067450368#32 * ∑ r, ∑ k, (eK m c (near (zK m c) (eK m c) r) k - zK m c r k) * (eK m c (near (zK m c) (eK m c) r) k - zK m c r k))
        (Ideal.ofBits .f32 1241513984#32) :=
  (congrFun (keep_loss m ρ c) _).trans (loss15 m ρ c (zK m c) (eK m c) (hzK m ρ c) (heK m c))

theorem reconK (n : Fin 512) (i : Fin 1) (p q : Fin 64) : (W27 m ρ c (Proc.devRef .tc main_v380) : FVec Ideal S512x1x64x64 .f32) (ix4 n i p q)
    = Ideal.tanh (decd (fun r k => eK m c (near (zK m c) (eK m c) r) k) (wK4 m c) (bK4 m c) (wK5 m c) (bK5 m c) (wK6 m c) (bK6 m c) ⟨n.val * 4096 + p.val * 64 + q.val, by omega⟩ 0) := by
  have h4 := outK4 m ρ c (fun r k => eK m c (near (zK m c) (eK m c) r) k) (q14 m ρ c (zK m c) (eK m c) (hzK m ρ c) (heK m c))
  have h5 := outK5 m ρ c (dec1 (padD1 (fun r k => eK m c (near (zK m c) (eK m c) r) k)) (wK4 m c) (bK4 m c)) h4
  have h6 := outK6 m ρ c (dec2 (padD2 (dec1 (padD1 (fun r k => eK m c (near (zK m c) (eK m c) r) k)) (wK4 m c) (bK4 m c))) (wK5 m c) (bK5 m c)) h5
  exact recon27 m ρ c (dec3 (padD3 (dec2 (padD2 (dec1 (padD1 (fun r k => eK m c (near (zK m c) (eK m c) r) k)) (wK4 m c) (bK4 m c))) (wK5 m c) (bK5 m c))) (wK6 m c) (bK6 m c)) h6 n i p q

end Cert.KVal
end
-- ==== Proof.RefOpsA.lean ====
/-
  The reference program's first operations as lists, one list per stage: the encoder and the distances.
-/
module

public import Idealize.ShloMosaic.PureOps.Ideal
public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 to 60. -/
abbrev opsW_0 : List (HloOp τ sig (Elt F)) :=
  [ binary main_arg7 main_arg7 main_v0 (mulf : (⟨S1024x64, .f32⟩ : BufTy).Contents (Elt F) → (⟨S1024x64, .f32⟩ : BufTy).Contents (Elt F) → (⟨S1024x64, .f32⟩ : BufTy).Contents (Elt F)),
    nullary main_cst (constant S_ .f32 0x00000000#32),
    binary main_v0 main_cst main_v1 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v1 main_v2 (broadcastInDim S1x1024 ![1] bcast_S1024_S1x1024_1 : (⟨S1024, .f32⟩ : BufTy).Contents (Elt F) → (⟨S1x1024, .f32⟩ : BufTy).Contents (Elt F)),
    reshape main_arg1 main_v3 (rfl : (.f32 : EltTy) = .f32) shapeCasts_S32x1x4x4_S32x1x16,
    unary main_v3 main_v4 ((transpose S16x1x32 [2, 1, 0] · transposes_S32x1x16_S16x1x32_2_1_0) : (⟨S32x1x16, .f32⟩ : BufTy).Contents (Elt F) → (⟨S16x1x32, .f32⟩ : BufTy).Contents (Elt F)),
    unary main_v4 main_v5 ((extractStridedSlice S1x1x32 ![0, 0, 0] · slices_S16x1x32_S1x1x32_0_0_0) : (⟨S16x1x32, .f32⟩ : BufTy).Contents (Elt F) → (⟨S1x1x32, .f32⟩ : BufTy).Contents (Elt F)),
    reshape main_v5 main_v6 (rfl : (.f32 : EltTy) = .f32) shapeCasts_S1x1x32_S1x32,
    unary main_v4 main_v7 ((extractStridedSlice S1x1x32 ![1, 0, 0] · slices_S16x1x32_S1x1x32_1_0_0) : (⟨S16x1x32, .f32⟩ : BufTy).Contents (Elt F) → (⟨S1x1x32, .f32⟩ : BufTy).Contents (Elt F)),
    reshape main_v7 main_v8 (rfl : (.f32 : EltTy) = .f32) shapeCasts_S1x1x32_S1x32,
    unary main_v4 main_v9 ((extractStridedSlice S1x1x32 ![2, 0, 0] · slices_S16x1x32_S1x1x32_2_0_0) : (⟨S16x1x32, .f32⟩ : BufTy).Contents (Elt F) → (⟨S1x1x32, .f32⟩ : BufTy).Contents (Elt F)),
    reshape main_v9 main_v10 (rfl : (.f32 : EltTy) = .f32) shapeCasts_S1x1x32_S1x32,
    unary main_v4 main_v11 ((extractStridedSlice S1x1x32 ![3, 0, 0] · slices_S16x1x32_S1x1x32_3_0_0) : (⟨S16x1x32, .f32⟩ : BufTy).Contents (Elt F) → (⟨S1x1x32, .f32⟩ : BufTy).Contents (Elt F)),
    reshape main_v11 main_v12 (rfl : (.f32 : EltTy) = .f32) shapeCasts_S1x1x32_S1x32,
    unary main_v4 main_v13 ((extractStridedSlice S1x1x32 ![4, 0, 0] · slices_S16x1x32_S1x1x32_4_0_0) : (⟨S16x1x32, .f32⟩ : BufTy).Contents (Elt F) → (⟨S1x1x32, .f32⟩ : BufTy).Contents (Elt F)),
    reshape main_v13 main_v14 (rfl : (.f32 : EltTy) = .f32) shapeCasts_S1x1x32_S1x32,
    unary main_v4 main_v15 ((extractStridedSlice S1x1x32 ![5, 0, 0] · slices_S16x1x32_S1x1x32_5_0_0) : (⟨S16x1x32, .f32⟩ : BufTy).Contents (Elt F) → (⟨S1x1x32, .f32⟩ : BufTy).Contents (Elt F)),
    reshape main_v15 main_v16 (rfl : (.f32 : EltTy) = .f32) shapeCasts_S1x1x32_S1x32,
    unary main_v4 main_v17 ((extractStridedSlice S1x1x32 ![6, 0, 0] · slices_S16x1x32_S1x1x32_6_0_0) : (⟨S16x1x32, .f32⟩ : BufTy).Contents (Elt F) → (⟨S1x1x32, .f32⟩ : BufTy).Contents (Elt F)),
    reshape main_v17 main_v18 (rfl : (.f32 : EltTy) = .f32) shapeCasts_S1x1x32_S1x32,
    unary main_v4 main_v19 ((extractStridedSlice S1x1x32 ![7, 0, 0] · slices_S16x1x32_S1x1x32_7_0_0) : (⟨S16x1x32, .f32⟩ : BufTy).Contents (Elt F) → (⟨S1x1x32, .f32⟩ : BufTy).Contents (Elt F)),
    reshape main_v19 main_v20 (rfl : (.f32 : EltTy) = .f32) shapeCasts_S1x1x32_S1x32,
    unary main_v4 main_v21 ((extractStridedSlice S1x1x32 ![8, 0, 0] · slices_S16x1x32_S1x1x32_8_0_0) : (⟨S16x1x32, .f32⟩ : BufTy).Contents (Elt F) → (⟨S1x1x32, .f32⟩ : BufTy).Contents (Elt F)),
    reshape main_v21 main_v22 (rfl : (.f32 : EltTy) = .f32) shapeCasts_S1x1x32_S1x32,
    unary main_v4 main_v23 ((extractStridedSlice S1x1x32 ![9, 0, 0] · slices_S16x1x32_S1x1x32_9_0_0) : (⟨S16x1x32, .f32⟩ : BufTy).Contents (Elt F) → (⟨S1x1x32, .f32⟩ : BufTy).Contents (Elt F)),
    reshape main_v23 main_v24 (rfl : (.f32 : EltTy) = .f32) shapeCasts_S1x1x32_S1x32,
    unary main_v4 main_v25 ((extractStridedSlice S1x1x32 ![10, 0, 0] · slices_S16x1x32_S1x1x32_10_0_0) : (⟨S16x1x32, .f32⟩ : BufTy).Contents (Elt F) → (⟨S1x1x32, .f32⟩ : BufTy).Contents (Elt F)),
    reshape main_v25 main_v26 (rfl : (.f32 : EltTy) = .f32) shapeCasts_S1x1x32_S1x32,
    unary main_v4 main_v27 ((extractStridedSlice S1x1x32 ![11, 0, 0] · slices_S16x1x32_S1x1x32_11_0_0) : (⟨S16x1x32, .f32⟩ : BufTy).Contents (Elt F) → (⟨S1x1x32, .f32⟩ : BufTy).Contents (Elt F)),
    reshape main_v27 main_v28 (rfl : (.f32 : EltTy) = .f32) shapeCasts_S1x1x32_S1x32,
    unary main_v4 main_v29 ((extractStridedSlice S1x1x32 ![12, 0, 0] · slices_S16x1x32_S1x1x32_12_0_0) : (⟨S16x1x32, .f32⟩ : BufTy).Contents (Elt F) → (⟨S1x1x32, .f32⟩ : BufTy).Contents (Elt F)),
    reshape main_v29 main_v30 (rfl : (.f32 : EltTy) = .f32) shapeCasts_S1x1x32_S1x32,
    unary main_v4 main_v31 ((extractStridedSlice S1x1x32 ![13, 0, 0] · slices_S16x1x32_S1x1x32_13_0_0) : (⟨S16x1x32, .f32⟩ : BufTy).Contents (Elt F) → (⟨S1x1x32, .f32⟩ : BufTy).Contents (Elt F)),
    reshape main_v31 main_v32 (rfl : (.f32 : EltTy) = .f32) shapeCasts_S1x1x32_S1x32,
    unary main_v4 main_v33 ((extractStridedSlice S1x1x32 ![14, 0, 0] · slices_S16x1x32_S1x1x32_14_0_0) : (⟨S16x1x32, .f32⟩ : BufTy).Contents (Elt F) → (⟨S1x1x32, .f32⟩ : BufTy).Contents (Elt F)),
    reshape main_v33 main_v34 (rfl : (.f32 : EltTy) = .f32) shapeCasts_S1x1x32_S1x32,
    unary main_v4 main_v35 ((extractStridedSlice S1x1x32 ![15, 0, 0] · slices_S16x1x32_S1x1x32_15_0_0) : (⟨S16x1x32, .f32⟩ : BufTy).Contents (Elt F) → (⟨S1x1x32, .f32⟩ : BufTy).Contents (Elt F)),
    reshape main_v35 main_v36 (rfl : (.f32 : EltTy) = .f32) shapeCasts_S1x1x32_S1x32,
    reshape main_arg3 main_v37 (rfl : (.f32 : EltTy) = .f32) shapeCasts_S64x32x4x4_S64x32x16,
    unary main_v37 main_v38 ((transpose S16x32x64 [2, 1, 0] · transposes_S64x32x16_S16x32x64_2_1_0) : (⟨S64x32x16, .f32⟩ : BufTy).Contents (Elt F) → (⟨S16x32x64, .f32⟩ : BufTy).Contents (Elt F)),
    unary main_v38 main_v39 ((extractStridedSlice S1x32x64 ![0, 0, 0] · slices_S16x32x64_S1x32x64_0_0_0) : (⟨S16x32x64, .f32⟩ : BufTy).Contents (Elt F) → (⟨S1x32x64, .f32⟩ : BufTy).Contents (Elt F)),
    reshape main_v39 main_v40 (rfl : (.f32 : EltTy) = .f32) shapeCasts_S1x32x64_S32x64,
    unary main_v38 main_v41 ((extractStridedSlice S1x32x64 ![1, 0, 0] · slices_S16x32x64_S1x32x64_1_0_0) : (⟨S16x32x64, .f32⟩ : BufTy).Contents (Elt F) → (⟨S1x32x64, .f32⟩ : BufTy).Contents (Elt F)),
    reshape main_v41 main_v42 (rfl : (.f32 : EltTy) = .f32) shapeCasts_S1x32x64_S32x64,
    unary main_v38 main_v43 ((extractStridedSlice S1x32x64 ![2, 0, 0] · slices_S16x32x64_S1x32x64_2_0_0) : (⟨S16x32x64, .f32⟩ : BufTy).Contents (Elt F) → (⟨S1x32x64, .f32⟩ : BufTy).Contents (Elt F)),
    reshape main_v43 main_v44 (rfl : (.f32 : EltTy) = .f32) shapeCasts_S1x32x64_S32x64,
    unary main_v38 main_v45 ((extractStridedSlice S1x32x64 ![3, 0, 0] · slices_S16x32x64_S1x32x64_3_0_0) : (⟨S16x32x64, .f32⟩ : BufTy).Contents (Elt F) → (⟨S1x32x64, .f32⟩ : BufTy).Contents (Elt F)),
    reshape main_v45 main_v46 (rfl : (.f32 : EltTy) = .f32) shapeCasts_S1x32x64_S32x64,
    unary main_v38 main_v47 ((extractStridedSlice S1x32x64 ![4, 0, 0] · slices_S16x32x64_S1x32x64_4_0_0) : (⟨S16x32x64, .f32⟩ : BufTy).Contents (Elt F) → (⟨S1x32x64, .f32⟩ : BufTy).Contents (Elt F)),
    reshape main_v47 main_v48 (rfl : (.f32 : EltTy) = .f32) shapeCasts_S1x32x64_S32x64,
    unary main_v38 main_v49 ((extractStridedSlice S1x32x64 ![5, 0, 0] · slices_S16x32x64_S1x32x64_5_0_0) : (⟨S16x32x64, .f32⟩ : BufTy).Contents (Elt F) → (⟨S1x32x64, .f32⟩ : BufTy).Contents (Elt F)),
    reshape main_v49 main_v50 (rfl : (.f32 : EltTy) = .f32) shapeCasts_S1x32x64_S32x64,
    unary main_v38 main_v51 ((extractStridedSlice S1x32x64 ![6, 0, 0] · slices_S16x32x64_S1x32x64_6_0_0) : (⟨S16x32x64, .f32⟩ : BufTy).Contents (Elt F) → (⟨S1x32x64, .f32⟩ : BufTy).Contents (Elt F)),
    reshape main_v51 main_v52 (rfl : (.f32 : EltTy) = .f32) shapeCasts_S1x32x64_S32x64,
    unary main_v38 main_v53 ((extractStridedSlice S1x32x64 ![7, 0, 0] · slices_S16x32x64_S1x32x64_7_0_0) : (⟨S16x32x64, .f32⟩ : BufTy).Contents (Elt F) → (⟨S1x32x64, .f32⟩ : BufTy).Contents (Elt F)),
    reshape main_v53 main_v54 (rfl : (.f32 : EltTy) = .f32) shapeCasts_S1x32x64_S32x64,
    unary main_v38 main_v55 ((extractStridedSlice S1x32x64 ![8, 0, 0] · slices_S16x32x64_S1x32x64_8_0_0) : (⟨S16x32x64, .f32⟩ : BufTy).Contents (Elt F) → (⟨S1x32x64, .f32⟩ : BufTy).Contents (Elt F)),
    reshape main_v55 main_v56 (rfl : (.f32 : EltTy) = .f32) shapeCasts_S1x32x64_S32x64,
    unary main_v38 main_v57 ((extractStridedSlice S1x32x64 ![9, 0, 0] · slices_S16x32x64_S1x32x64_9_0_0) : (⟨S16x32x64, .f32⟩ : BufTy).Contents (Elt F) → (⟨S1x32x64, .f32⟩ : BufTy).Contents (Elt F)),
    reshape main_v57 main_v58 (rfl : (.f32 : EltTy) = .f32) shapeCasts_S1x32x64_S32x64 ]

theorem opsW_0_sub : (opsW_0 : List (HloOp τ sig (Elt F))).Forall fun op => op.bufs ⊆ tcRefs τ sig := ⟨binary_bufs_sub .., nullary_bufs_sub .., binary_bufs_sub .., unary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem opsW_0_fresh : (opsW_0 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 61 to 120. -/
abbrev opsW_1 : List (HloOp τ sig (Elt F)) :=
  [ unary main_v38 main_v59 ((extractStridedSlice S1x32x64 ![10, 0, 0] · slices_S16x32x64_S1x32x64_10_0_0) : (⟨S16x32x64, .f32⟩ : BufTy).Contents (Elt F) → (⟨S1x32x64, .f32⟩ : BufTy).Contents (Elt F)),
    reshape main_v59 main_v60 (rfl : (.f32 : EltTy) = .f32) shapeCasts_S1x32x64_S32x64,
    unary main_v38 main_v61 ((extractStridedSlice S1x32x64 ![11, 0, 0] · slices_S16x32x64_S1x32x64_11_0_0) : (⟨S16x32x64, .f32⟩ : BufTy).Contents (Elt F) → (⟨S1x32x64, .f32⟩ : BufTy).Contents (Elt F)),
    reshape main_v61 main_v62 (rfl : (.f32 : EltTy) = .f32) shapeCasts_S1x32x64_S32x64,
    unary main_v38 main_v63 ((extractStridedSlice S1x32x64 ![12, 0, 0] · slices_S16x32x64_S1x32x64_12_0_0) : (⟨S16x32x64, .f32⟩ : BufTy).Contents (Elt F) → (⟨S1x32x64, .f32⟩ : BufTy).Contents (Elt F)),
    reshape main_v63 main_v64 (rfl : (.f32 : EltTy) = .f32) shapeCasts_S1x32x64_S32x64,
    unary main_v38 main_v65 ((extractStridedSlice S1x32x64 ![13, 0, 0] · slices_S16x32x64_S1x32x64_13_0_0) : (⟨S16x32x64, .f32⟩ : BufTy).Contents (Elt F) → (⟨S1x32x64, .f32⟩ : BufTy).Contents (Elt F)),
    reshape main_v65 main_v66 (rfl : (.f32 : EltTy) = .f32) shapeCasts_S1x32x64_S32x64,
    unary main_v38 main_v67 ((extractStridedSlice S1x32x64 ![14, 0, 0] · slices_S16x32x64_S1x32x64_14_0_0) : (⟨S16x32x64, .f32⟩ : BufTy).Contents (Elt F) → (⟨S1x32x64, .f32⟩ : BufTy).Contents (Elt F)),
    reshape main_v67 main_v68 (rfl : (.f32 : EltTy) = .f32) shapeCasts_S1x32x64_S32x64,
    unary main_v38 main_v69 ((extractStridedSlice S1x32x64 ![15, 0, 0] · slices_S16x32x64_S1x32x64_15_0_0) : (⟨S16x32x64, .f32⟩ : BufTy).Contents (Elt F) → (⟨S1x32x64, .f32⟩ : BufTy).Contents (Elt F)),
    reshape main_v69 main_v70 (rfl : (.f32 : EltTy) = .f32) shapeCasts_S1x32x64_S32x64,
    reshape main_arg5 main_v71 (rfl : (.f32 : EltTy) = .f32) shapeCasts_S64x64x4x4_S64x64x16,
    unary main_v71 main_v72 ((transpose S16x64x64 [2, 1, 0] · transposes_S64x64x16_S16x64x64_2_1_0) : (⟨S64x64x16, .f32⟩ : BufTy).Contents (Elt F) → (⟨S16x64x64, .f32⟩ : BufTy).Contents (Elt F)),
    unary main_v72 main_v73 ((extractStridedSlice S1x64x64 ![0, 0, 0] · slices_S16x64x64_S1x64x64_0_0_0) : (⟨S16x64x64, .f32⟩ : BufTy).Contents (Elt F) → (⟨S1x64x64, .f32⟩ : BufTy).Contents (Elt F)),
    reshape main_v73 main_v74 (rfl : (.f32 : EltTy) = .f32) shapeCasts_S1x64x64_S64x64,
    unary main_v72 main_v75 ((extractStridedSlice S1x64x64 ![1, 0, 0] · slices_S16x64x64_S1x64x64_1_0_0) : (⟨S16x64x64, .f32⟩ : BufTy).Contents (Elt F) → (⟨S1x64x64, .f32⟩ : BufTy).Contents (Elt F)),
    reshape main_v75 main_v76 (rfl : (.f32 : EltTy) = .f32) shapeCasts_S1x64x64_S64x64,
    unary main_v72 main_v77 ((extractStridedSlice S1x64x64 ![2, 0, 0] · slices_S16x64x64_S1x64x64_2_0_0) : (⟨S16x64x64, .f32⟩ : BufTy).Contents (Elt F) → (⟨S1x64x64, .f32⟩ : BufTy).Contents (Elt F)),
    reshape main_v77 main_v78 (rfl : (.f32 : EltTy) = .f32) shapeCasts_S1x64x64_S64x64,
    unary main_v72 main_v79 ((extractStridedSlice S1x64x64 ![3, 0, 0] · slices_S16x64x64_S1x64x64_3_0_0) : (⟨S16x64x64, .f32⟩ : BufTy).Contents (Elt F) → (⟨S1x64x64, .f32⟩ : BufTy).Contents (Elt F)),
    reshape main_v79 main_v80 (rfl : (.f32 : EltTy) = .f32) shapeCasts_S1x64x64_S64x64,
    unary main_v72 main_v81 ((extractStridedSlice S1x64x64 ![4, 0, 0] · slices_S16x64x64_S1x64x64_4_0_0) : (⟨S16x64x64, .f32⟩ : BufTy).Contents (Elt F) → (⟨S1x64x64, .f32⟩ : BufTy).Contents (Elt F)),
    reshape main_v81 main_v82 (rfl : (.f32 : EltTy) = .f32) shapeCasts_S1x64x64_S64x64,
    unary main_v72 main_v83 ((extractStridedSlice S1x64x64 ![5, 0, 0] · slices_S16x64x64_S1x64x64_5_0_0) : (⟨S16x64x64, .f32⟩ : BufTy).Contents (Elt F) → (⟨S1x64x64, .f32⟩ : BufTy).Contents (Elt F)),
    reshape main_v83 main_v84 (rfl : (.f32 : EltTy) = .f32) shapeCasts_S1x64x64_S64x64,
    unary main_v72 main_v85 ((extractStridedSlice S1x64x64 ![6, 0, 0] · slices_S16x64x64_S1x64x64_6_0_0) : (⟨S16x64x64, .f32⟩ : BufTy).Contents (Elt F) → (⟨S1x64x64, .f32⟩ : BufTy).Contents (Elt F)),
    reshape main_v85 main_v86 (rfl : (.f32 : EltTy) = .f32) shapeCasts_S1x64x64_S64x64,
    unary main_v72 main_v87 ((extractStridedSlice S1x64x64 ![7, 0, 0] · slices_S16x64x64_S1x64x64_7_0_0) : (⟨S16x64x64, .f32⟩ : BufTy).Contents (Elt F) → (⟨S1x64x64, .f32⟩ : BufTy).Contents (Elt F)),
    reshape main_v87 main_v88 (rfl : (.f32 : EltTy) = .f32) shapeCasts_S1x64x64_S64x64,
    unary main_v72 main_v89 ((extractStridedSlice S1x64x64 ![8, 0, 0] · slices_S16x64x64_S1x64x64_8_0_0) : (⟨S16x64x64, .f32⟩ : BufTy).Contents (Elt F) → (⟨S1x64x64, .f32⟩ : BufTy).Contents (Elt F)),
    reshape main_v89 main_v90 (rfl : (.f32 : EltTy) = .f32) shapeCasts_S1x64x64_S64x64,
    unary main_v72 main_v91 ((extractStridedSlice S1x64x64 ![9, 0, 0] · slices_S16x64x64_S1x64x64_9_0_0) : (⟨S16x64x64, .f32⟩ : BufTy).Contents (Elt F) → (⟨S1x64x64, .f32⟩ : BufTy).Contents (Elt F)),
    reshape main_v91 main_v92 (rfl : (.f32 : EltTy) = .f32) shapeCasts_S1x64x64_S64x64,
    unary main_v72 main_v93 ((extractStridedSlice S1x64x64 ![10, 0, 0] · slices_S16x64x64_S1x64x64_10_0_0) : (⟨S16x64x64, .f32⟩ : BufTy).Contents (Elt F) → (⟨S1x64x64, .f32⟩ : BufTy).Contents (Elt F)),
    reshape main_v93 main_v94 (rfl : (.f32 : EltTy) = .f32) shapeCasts_S1x64x64_S64x64,
    unary main_v72 main_v95 ((extractStridedSlice S1x64x64 ![11, 0, 0] · slices_S16x64x64_S1x64x64_11_0_0) : (⟨S16x64x64, .f32⟩ : BufTy).Contents (Elt F) → (⟨S1x64x64, .f32⟩ : BufTy).Contents (Elt F)),
    reshape main_v95 main_v96 (rfl : (.f32 : EltTy) = .f32) shapeCasts_S1x64x64_S64x64,
    unary main_v72 main_v97 ((extractStridedSlice S1x64x64 ![12, 0, 0] · slices_S16x64x64_S1x64x64_12_0_0) : (⟨S16x64x64, .f32⟩ : BufTy).Contents (Elt F) → (⟨S1x64x64, .f32⟩ : BufTy).Contents (Elt F)),
    reshape main_v97 main_v98 (rfl : (.f32 : EltTy) = .f32) shapeCasts_S1x64x64_S64x64,
    unary main_v72 main_v99 ((extractStridedSlice S1x64x64 ![13, 0, 0] · slices_S16x64x64_S1x64x64_13_0_0) : (⟨S16x64x64, .f32⟩ : BufTy).Contents (Elt F) → (⟨S1x64x64, .f32⟩ : BufTy).Contents (Elt F)),
    reshape main_v99 main_v100 (rfl : (.f32 : EltTy) = .f32) shapeCasts_S1x64x64_S64x64,
    unary main_v72 main_v101 ((extractStridedSlice S1x64x64 ![14, 0, 0] · slices_S16x64x64_S1x64x64_14_0_0) : (⟨S16x64x64, .f32⟩ : BufTy).Contents (Elt F) → (⟨S1x64x64, .f32⟩ : BufTy).Contents (Elt F)),
    reshape main_v101 main_v102 (rfl : (.f32 : EltTy) = .f32) shapeCasts_S1x64x64_S64x64,
    unary main_v72 main_v103 ((extractStridedSlice S1x64x64 ![15, 0, 0] · slices_S16x64x64_S1x64x64_15_0_0) : (⟨S16x64x64, .f32⟩ : BufTy).Contents (Elt F) → (⟨S1x64x64, .f32⟩ : BufTy).Contents (Elt F)),
    reshape main_v103 main_v104 (rfl : (.f32 : EltTy) = .f32) shapeCasts_S1x64x64_S64x64,
    reshape main_arg8 main_v105 (rfl : (.f32 : EltTy) = .f32) shapeCasts_S64x64x4x4_S64x64x16,
    unary main_v105 main_v106 ((transpose S16x64x64 [2, 1, 0] · transposes_S64x64x16_S16x64x64_2_1_0) : (⟨S64x64x16, .f32⟩ : BufTy).Contents (Elt F) → (⟨S16x64x64, .f32⟩ : BufTy).Contents (Elt F)),
    unary main_v106 main_v107 ((extractStridedSlice S1x64x64 ![0, 0, 0] · slices_S16x64x64_S1x64x64_0_0_0) : (⟨S16x64x64, .f32⟩ : BufTy).Contents (Elt F) → (⟨S1x64x64, .f32⟩ : BufTy).Contents (Elt F)),
    reshape main_v107 main_v108 (rfl : (.f32 : EltTy) = .f32) shapeCasts_S1x64x64_S64x64,
    unary main_v106 main_v109 ((extractStridedSlice S1x64x64 ![1, 0, 0] · slices_S16x64x64_S1x64x64_1_0_0) : (⟨S16x64x64, .f32⟩ : BufTy).Contents (Elt F) → (⟨S1x64x64, .f32⟩ : BufTy).Contents (Elt F)),
    reshape main_v109 main_v110 (rfl : (.f32 : EltTy) = .f32) shapeCasts_S1x64x64_S64x64,
    unary main_v106 main_v111 ((extractStridedSlice S1x64x64 ![2, 0, 0] · slices_S16x64x64_S1x64x64_2_0_0) : (⟨S16x64x64, .f32⟩ : BufTy).Contents (Elt F) → (⟨S1x64x64, .f32⟩ : BufTy).Contents (Elt F)),
    reshape main_v111 main_v112 (rfl : (.f32 : EltTy) = .f32) shapeCasts_S1x64x64_S64x64,
    unary main_v106 main_v113 ((extractStridedSlice S1x64x64 ![3, 0, 0] · slices_S16x64x64_S1x64x64_3_0_0) : (⟨S16x64x64, .f32⟩ : BufTy).Contents (Elt F) → (⟨S1x64x64, .f32⟩ : BufTy).Contents (Elt F)),
    reshape main_v113 main_v114 (rfl : (.f32 : EltTy) = .f32) shapeCasts_S1x64x64_S64x64,
    unary main_v106 main_v115 ((extractStridedSlice S1x64x64 ![4, 0, 0] · slices_S16x64x64_S1x64x64_4_0_0) : (⟨S16x64x64, .f32⟩ : BufTy).Contents (Elt F) → (⟨S1x64x64, .f32⟩ : BufTy).Contents (Elt F)),
    reshape main_v115 main_v116 (rfl : (.f32 : EltTy) = .f32) shapeCasts_S1x64x64_S64x64,
    unary main_v106 main_v117 ((extractStridedSlice S1x64x64 ![5, 0, 0] · slices_S16x64x64_S1x64x64_5_0_0) : (⟨S16x64x64, .f32⟩ : BufTy).Contents (Elt F) → (⟨S1x64x64, .f32⟩ : BufTy).Contents (Elt F)),
    reshape main_v117 main_v118 (rfl : (.f32 : EltTy) = .f32) shapeCasts_S1x64x64_S64x64 ]

theorem opsW_1_sub : (opsW_1 : List (HloOp τ sig (Elt F))).Forall fun op => op.bufs ⊆ tcRefs τ sig := ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem opsW_1_fresh : (opsW_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 121 to 180. -/
abbrev opsW_2 : List (HloOp τ sig (Elt F)) :=
  [ unary main_v106 main_v119 ((extractStridedSlice S1x64x64 ![6, 0, 0] · slices_S16x64x64_S1x64x64_6_0_0) : (⟨S16x64x64, .f32⟩ : BufTy).Contents (Elt F) → (⟨S1x64x64, .f32⟩ : BufTy).Contents (Elt F)),
    reshape main_v119 main_v120 (rfl : (.f32 : EltTy) = .f32) shapeCasts_S1x64x64_S64x64,
    unary main_v106 main_v121 ((extractStridedSlice S1x64x64 ![7, 0, 0] · slices_S16x64x64_S1x64x64_7_0_0) : (⟨S16x64x64, .f32⟩ : BufTy).Contents (Elt F) → (⟨S1x64x64, .f32⟩ : BufTy).Contents (Elt F)),
    reshape main_v121 main_v122 (rfl : (.f32 : EltTy) = .f32) shapeCasts_S1x64x64_S64x64,
    unary main_v106 main_v123 ((extractStridedSlice S1x64x64 ![8, 0, 0] · slices_S16x64x64_S1x64x64_8_0_0) : (⟨S16x64x64, .f32⟩ : BufTy).Contents (Elt F) → (⟨S1x64x64, .f32⟩ : BufTy).Contents (Elt F)),
    reshape main_v123 main_v124 (rfl : (.f32 : EltTy) = .f32) shapeCasts_S1x64x64_S64x64,
    unary main_v106 main_v125 ((extractStridedSlice S1x64x64 ![9, 0, 0] · slices_S16x64x64_S1x64x64_9_0_0) : (⟨S16x64x64, .f32⟩ : BufTy).Contents (Elt F) → (⟨S1x64x64, .f32⟩ : BufTy).Contents (Elt F)),
    reshape main_v125 main_v126 (rfl : (.f32 : EltTy) = .f32) shapeCasts_S1x64x64_S64x64,
    unary main_v106 main_v127 ((extractStridedSlice S1x64x64 ![10, 0, 0] · slices_S16x64x64_S1x64x64_10_0_0) : (⟨S16x64x64, .f32⟩ : BufTy).Contents (Elt F) → (⟨S1x64x64, .f32⟩ : BufTy).Contents (Elt F)),
    reshape main_v127 main_v128 (rfl : (.f32 : EltTy) = .f32) shapeCasts_S1x64x64_S64x64,
    unary main_v106 main_v129 ((extractStridedSlice S1x64x64 ![11, 0, 0] · slices_S16x64x64_S1x64x64_11_0_0) : (⟨S16x64x64, .f32⟩ : BufTy).Contents (Elt F) → (⟨S1x64x64, .f32⟩ : BufTy).Contents (Elt F)),
    reshape main_v129 main_v130 (rfl : (.f32 : EltTy) = .f32) shapeCasts_S1x64x64_S64x64,
    unary main_v106 main_v131 ((extractStridedSlice S1x64x64 ![12, 0, 0] · slices_S16x64x64_S1x64x64_12_0_0) : (⟨S16x64x64, .f32⟩ : BufTy).Contents (Elt F) → (⟨S1x64x64, .f32⟩ : BufTy).Contents (Elt F)),
    reshape main_v131 main_v132 (rfl : (.f32 : EltTy) = .f32) shapeCasts_S1x64x64_S64x64,
    unary main_v106 main_v133 ((extractStridedSlice S1x64x64 ![13, 0, 0] · slices_S16x64x64_S1x64x64_13_0_0) : (⟨S16x64x64, .f32⟩ : BufTy).Contents (Elt F) → (⟨S1x64x64, .f32⟩ : BufTy).Contents (Elt F)),
    reshape main_v133 main_v134 (rfl : (.f32 : EltTy) = .f32) shapeCasts_S1x64x64_S64x64,
    unary main_v106 main_v135 ((extractStridedSlice S1x64x64 ![14, 0, 0] · slices_S16x64x64_S1x64x64_14_0_0) : (⟨S16x64x64, .f32⟩ : BufTy).Contents (Elt F) → (⟨S1x64x64, .f32⟩ : BufTy).Contents (Elt F)),
    reshape main_v135 main_v136 (rfl : (.f32 : EltTy) = .f32) shapeCasts_S1x64x64_S64x64,
    unary main_v106 main_v137 ((extractStridedSlice S1x64x64 ![15, 0, 0] · slices_S16x64x64_S1x64x64_15_0_0) : (⟨S16x64x64, .f32⟩ : BufTy).Contents (Elt F) → (⟨S1x64x64, .f32⟩ : BufTy).Contents (Elt F)),
    reshape main_v137 main_v138 (rfl : (.f32 : EltTy) = .f32) shapeCasts_S1x64x64_S64x64,
    reshape main_arg10 main_v139 (rfl : (.f32 : EltTy) = .f32) shapeCasts_S32x64x4x4_S32x64x16,
    unary main_v139 main_v140 ((transpose S16x64x32 [2, 1, 0] · transposes_S32x64x16_S16x64x32_2_1_0) : (⟨S32x64x16, .f32⟩ : BufTy).Contents (Elt F) → (⟨S16x64x32, .f32⟩ : BufTy).Contents (Elt F)),
    unary main_v140 main_v141 ((extractStridedSlice S1x64x32 ![0, 0, 0] · slices_S16x64x32_S1x64x32_0_0_0) : (⟨S16x64x32, .f32⟩ : BufTy).Contents (Elt F) → (⟨S1x64x32, .f32⟩ : BufTy).Contents (Elt F)),
    reshape main_v141 main_v142 (rfl : (.f32 : EltTy) = .f32) shapeCasts_S1x64x32_S64x32,
    unary main_v140 main_v143 ((extractStridedSlice S1x64x32 ![1, 0, 0] · slices_S16x64x32_S1x64x32_1_0_0) : (⟨S16x64x32, .f32⟩ : BufTy).Contents (Elt F) → (⟨S1x64x32, .f32⟩ : BufTy).Contents (Elt F)),
    reshape main_v143 main_v144 (rfl : (.f32 : EltTy) = .f32) shapeCasts_S1x64x32_S64x32,
    unary main_v140 main_v145 ((extractStridedSlice S1x64x32 ![2, 0, 0] · slices_S16x64x32_S1x64x32_2_0_0) : (⟨S16x64x32, .f32⟩ : BufTy).Contents (Elt F) → (⟨S1x64x32, .f32⟩ : BufTy).Contents (Elt F)),
    reshape main_v145 main_v146 (rfl : (.f32 : EltTy) = .f32) shapeCasts_S1x64x32_S64x32,
    unary main_v140 main_v147 ((extractStridedSlice S1x64x32 ![3, 0, 0] · slices_S16x64x32_S1x64x32_3_0_0) : (⟨S16x64x32, .f32⟩ : BufTy).Contents (Elt F) → (⟨S1x64x32, .f32⟩ : BufTy).Contents (Elt F)),
    reshape main_v147 main_v148 (rfl : (.f32 : EltTy) = .f32) shapeCasts_S1x64x32_S64x32,
    unary main_v140 main_v149 ((extractStridedSlice S1x64x32 ![4, 0, 0] · slices_S16x64x32_S1x64x32_4_0_0) : (⟨S16x64x32, .f32⟩ : BufTy).Contents (Elt F) → (⟨S1x64x32, .f32⟩ : BufTy).Contents (Elt F)),
    reshape main_v149 main_v150 (rfl : (.f32 : EltTy) = .f32) shapeCasts_S1x64x32_S64x32,
    unary main_v140 main_v151 ((extractStridedSlice S1x64x32 ![5, 0, 0] · slices_S16x64x32_S1x64x32_5_0_0) : (⟨S16x64x32, .f32⟩ : BufTy).Contents (Elt F) → (⟨S1x64x32, .f32⟩ : BufTy).Contents (Elt F)),
    reshape main_v151 main_v152 (rfl : (.f32 : EltTy) = .f32) shapeCasts_S1x64x32_S64x32,
    unary main_v140 main_v153 ((extractStridedSlice S1x64x32 ![6, 0, 0] · slices_S16x64x32_S1x64x32_6_0_0) : (⟨S16x64x32, .f32⟩ : BufTy).Contents (Elt F) → (⟨S1x64x32, .f32⟩ : BufTy).Contents (Elt F)),
    reshape main_v153 main_v154 (rfl : (.f32 : EltTy) = .f32) shapeCasts_S1x64x32_S64x32,
    unary main_v140 main_v155 ((extractStridedSlice S1x64x32 ![7, 0, 0] · slices_S16x64x32_S1x64x32_7_0_0) : (⟨S16x64x32, .f32⟩ : BufTy).Contents (Elt F) → (⟨S1x64x32, .f32⟩ : BufTy).Contents (Elt F)),
    reshape main_v155 main_v156 (rfl : (.f32 : EltTy) = .f32) shapeCasts_S1x64x32_S64x32,
    unary main_v140 main_v157 ((extractStridedSlice S1x64x32 ![8, 0, 0] · slices_S16x64x32_S1x64x32_8_0_0) : (⟨S16x64x32, .f32⟩ : BufTy).Contents (Elt F) → (⟨S1x64x32, .f32⟩ : BufTy).Contents (Elt F)),
    reshape main_v157 main_v158 (rfl : (.f32 : EltTy) = .f32) shapeCasts_S1x64x32_S64x32,
    unary main_v140 main_v159 ((extractStridedSlice S1x64x32 ![9, 0, 0] · slices_S16x64x32_S1x64x32_9_0_0) : (⟨S16x64x32, .f32⟩ : BufTy).Contents (Elt F) → (⟨S1x64x32, .f32⟩ : BufTy).Contents (Elt F)),
    reshape main_v159 main_v160 (rfl : (.f32 : EltTy) = .f32) shapeCasts_S1x64x32_S64x32,
    unary main_v140 main_v161 ((extractStridedSlice S1x64x32 ![10, 0, 0] · slices_S16x64x32_S1x64x32_10_0_0) : (⟨S16x64x32, .f32⟩ : BufTy).Contents (Elt F) → (⟨S1x64x32, .f32⟩ : BufTy).Contents (Elt F)),
    reshape main_v161 main_v162 (rfl : (.f32 : EltTy) = .f32) shapeCasts_S1x64x32_S64x32,
    unary main_v140 main_v163 ((extractStridedSlice S1x64x32 ![11, 0, 0] · slices_S16x64x32_S1x64x32_11_0_0) : (⟨S16x64x32, .f32⟩ : BufTy).Contents (Elt F) → (⟨S1x64x32, .f32⟩ : BufTy).Contents (Elt F)),
    reshape main_v163 main_v164 (rfl : (.f32 : EltTy) = .f32) shapeCasts_S1x64x32_S64x32,
    unary main_v140 main_v165 ((extractStridedSlice S1x64x32 ![12, 0, 0] · slices_S16x64x32_S1x64x32_12_0_0) : (⟨S16x64x32, .f32⟩ : BufTy).Contents (Elt F) → (⟨S1x64x32, .f32⟩ : BufTy).Contents (Elt F)),
    reshape main_v165 main_v166 (rfl : (.f32 : EltTy) = .f32) shapeCasts_S1x64x32_S64x32,
    unary main_v140 main_v167 ((extractStridedSlice S1x64x32 ![13, 0, 0] · slices_S16x64x32_S1x64x32_13_0_0) : (⟨S16x64x32, .f32⟩ : BufTy).Contents (Elt F) → (⟨S1x64x32, .f32⟩ : BufTy).Contents (Elt F)),
    reshape main_v167 main_v168 (rfl : (.f32 : EltTy) = .f32) shapeCasts_S1x64x32_S64x32,
    unary main_v140 main_v169 ((extractStridedSlice S1x64x32 ![14, 0, 0] · slices_S16x64x32_S1x64x32_14_0_0) : (⟨S16x64x32, .f32⟩ : BufTy).Contents (Elt F) → (⟨S1x64x32, .f32⟩ : BufTy).Contents (Elt F)),
    reshape main_v169 main_v170 (rfl : (.f32 : EltTy) = .f32) shapeCasts_S1x64x32_S64x32,
    unary main_v140 main_v171 ((extractStridedSlice S1x64x32 ![15, 0, 0] · slices_S16x64x32_S1x64x32_15_0_0) : (⟨S16x64x32, .f32⟩ : BufTy).Contents (Elt F) → (⟨S1x64x32, .f32⟩ : BufTy).Contents (Elt F)),
    reshape main_v171 main_v172 (rfl : (.f32 : EltTy) = .f32) shapeCasts_S1x64x32_S64x32,
    reshape main_arg12 main_v173 (rfl : (.f32 : EltTy) = .f32) shapeCasts_S1x32x4x4_S1x32x16,
    unary main_v173 main_v174 ((transpose S16x32x1 [2, 1, 0] · transposes_S1x32x16_S16x32x1_2_1_0) : (⟨S1x32x16, .f32⟩ : BufTy).Contents (Elt F) → (⟨S16x32x1, .f32⟩ : BufTy).Contents (Elt F)),
    unary main_v174 main_v175 ((extractStridedSlice S1x32x1 ![0, 0, 0] · slices_S16x32x1_S1x32x1_0_0_0) : (⟨S16x32x1, .f32⟩ : BufTy).Contents (Elt F) → (⟨S1x32x1, .f32⟩ : BufTy).Contents (Elt F)),
    reshape main_v175 main_v176 (rfl : (.f32 : EltTy) = .f32) shapeCasts_S1x32x1_S32x1,
    unary main_v174 main_v177 ((extractStridedSlice S1x32x1 ![1, 0, 0] · slices_S16x32x1_S1x32x1_1_0_0) : (⟨S16x32x1, .f32⟩ : BufTy).Contents (Elt F) → (⟨S1x32x1, .f32⟩ : BufTy).Contents (Elt F)),
    reshape main_v177 main_v178 (rfl : (.f32 : EltTy) = .f32) shapeCasts_S1x32x1_S32x1 ]

theorem opsW_2_sub : (opsW_2 : List (HloOp τ sig (Elt F))).Forall fun op => op.bufs ⊆ tcRefs τ sig := ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., unary_bufs_sub .., reshape_bufs_sub .., unary_bufs_sub .., reshape_bufs_sub ..⟩

theorem opsW_2_fresh : (opsW_2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 181 to 208. -/
abbrev opsW_3 : List (HloOp τ sig (Elt F)) :=
  [ unary main_v174 main_v179 ((extractStridedSlice S1x32x1 ![2, 0, 0] · slices_S16x32x1_S1x32x1_2_0_0) : (⟨S16x32x1, .f32⟩ : BufTy).Contents (Elt F) → (⟨S1x32x1, .f32⟩ : BufTy).Contents (Elt F)),
    reshape main_v179 main_v180 (rfl : (.f32 : EltTy) = .f32) shapeCasts_S1x32x1_S32x1,
    unary main_v174 main_v181 ((extractStridedSlice S1x32x1 ![3, 0, 0] · slices_S16x32x1_S1x32x1_3_0_0) : (⟨S16x32x1, .f32⟩ : BufTy).Contents (Elt F) → (⟨S1x32x1, .f32⟩ : BufTy).Contents (Elt F)),
    reshape main_v181 main_v182 (rfl : (.f32 : EltTy) = .f32) shapeCasts_S1x32x1_S32x1,
    unary main_v174 main_v183 ((extractStridedSlice S1x32x1 ![4, 0, 0] · slices_S16x32x1_S1x32x1_4_0_0) : (⟨S16x32x1, .f32⟩ : BufTy).Contents (Elt F) → (⟨S1x32x1, .f32⟩ : BufTy).Contents (Elt F)),
    reshape main_v183 main_v184 (rfl : (.f32 : EltTy) = .f32) shapeCasts_S1x32x1_S32x1,
    unary main_v174 main_v185 ((extractStridedSlice S1x32x1 ![5, 0, 0] · slices_S16x32x1_S1x32x1_5_0_0) : (⟨S16x32x1, .f32⟩ : BufTy).Contents (Elt F) → (⟨S1x32x1, .f32⟩ : BufTy).Contents (Elt F)),
    reshape main_v185 main_v186 (rfl : (.f32 : EltTy) = .f32) shapeCasts_S1x32x1_S32x1,
    unary main_v174 main_v187 ((extractStridedSlice S1x32x1 ![6, 0, 0] · slices_S16x32x1_S1x32x1_6_0_0) : (⟨S16x32x1, .f32⟩ : BufTy).Contents (Elt F) → (⟨S1x32x1, .f32⟩ : BufTy).Contents (Elt F)),
    reshape main_v187 main_v188 (rfl : (.f32 : EltTy) = .f32) shapeCasts_S1x32x1_S32x1,
    unary main_v174 main_v189 ((extractStridedSlice S1x32x1 ![7, 0, 0] · slices_S16x32x1_S1x32x1_7_0_0) : (⟨S16x32x1, .f32⟩ : BufTy).Contents (Elt F) → (⟨S1x32x1, .f32⟩ : BufTy).Contents (Elt F)),
    reshape main_v189 main_v190 (rfl : (.f32 : EltTy) = .f32) shapeCasts_S1x32x1_S32x1,
    unary main_v174 main_v191 ((extractStridedSlice S1x32x1 ![8, 0, 0] · slices_S16x32x1_S1x32x1_8_0_0) : (⟨S16x32x1, .f32⟩ : BufTy).Contents (Elt F) → (⟨S1x32x1, .f32⟩ : BufTy).Contents (Elt F)),
    reshape main_v191 main_v192 (rfl : (.f32 : EltTy) = .f32) shapeCasts_S1x32x1_S32x1,
    unary main_v174 main_v193 ((extractStridedSlice S1x32x1 ![9, 0, 0] · slices_S16x32x1_S1x32x1_9_0_0) : (⟨S16x32x1, .f32⟩ : BufTy).Contents (Elt F) → (⟨S1x32x1, .f32⟩ : BufTy).Contents (Elt F)),
    reshape main_v193 main_v194 (rfl : (.f32 : EltTy) = .f32) shapeCasts_S1x32x1_S32x1,
    unary main_v174 main_v195 ((extractStridedSlice S1x32x1 ![10, 0, 0] · slices_S16x32x1_S1x32x1_10_0_0) : (⟨S16x32x1, .f32⟩ : BufTy).Contents (Elt F) → (⟨S1x32x1, .f32⟩ : BufTy).Contents (Elt F)),
    reshape main_v195 main_v196 (rfl : (.f32 : EltTy) = .f32) shapeCasts_S1x32x1_S32x1,
    unary main_v174 main_v197 ((extractStridedSlice S1x32x1 ![11, 0, 0] · slices_S16x32x1_S1x32x1_11_0_0) : (⟨S16x32x1, .f32⟩ : BufTy).Contents (Elt F) → (⟨S1x32x1, .f32⟩ : BufTy).Contents (Elt F)),
    reshape main_v197 main_v198 (rfl : (.f32 : EltTy) = .f32) shapeCasts_S1x32x1_S32x1,
    unary main_v174 main_v199 ((extractStridedSlice S1x32x1 ![12, 0, 0] · slices_S16x32x1_S1x32x1_12_0_0) : (⟨S16x32x1, .f32⟩ : BufTy).Contents (Elt F) → (⟨S1x32x1, .f32⟩ : BufTy).Contents (Elt F)),
    reshape main_v199 main_v200 (rfl : (.f32 : EltTy) = .f32) shapeCasts_S1x32x1_S32x1,
    unary main_v174 main_v201 ((extractStridedSlice S1x32x1 ![13, 0, 0] · slices_S16x32x1_S1x32x1_13_0_0) : (⟨S16x32x1, .f32⟩ : BufTy).Contents (Elt F) → (⟨S1x32x1, .f32⟩ : BufTy).Contents (Elt F)),
    reshape main_v201 main_v202 (rfl : (.f32 : EltTy) = .f32) shapeCasts_S1x32x1_S32x1,
    unary main_v174 main_v203 ((extractStridedSlice S1x32x1 ![14, 0, 0] · slices_S16x32x1_S1x32x1_14_0_0) : (⟨S16x32x1, .f32⟩ : BufTy).Contents (Elt F) → (⟨S1x32x1, .f32⟩ : BufTy).Contents (Elt F)),
    reshape main_v203 main_v204 (rfl : (.f32 : EltTy) = .f32) shapeCasts_S1x32x1_S32x1,
    unary main_v174 main_v205 ((extractStridedSlice S1x32x1 ![15, 0, 0] · slices_S16x32x1_S1x32x1_15_0_0) : (⟨S16x32x1, .f32⟩ : BufTy).Contents (Elt F) → (⟨S1x32x1, .f32⟩ : BufTy).Contents (Elt F)),
    reshape main_v205 main_v206 (rfl : (.f32 : EltTy) = .f32) shapeCasts_S1x32x1_S32x1 ]

theorem opsW_3_sub : (opsW_3 : List (HloOp τ sig (Elt F))).Forall fun op => op.bufs ⊆ tcRefs τ sig := ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

theorem opsW_3_fresh : (opsW_3 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 209 to 212. -/
abbrev opsP1 : List (HloOp τ sig (Elt F)) :=
  [ reshape main_arg0 main_v207 (rfl : (.f32 : EltTy) = .f32) shapeCasts_S32x16x64x64_S512x64x64x1,
    nullary main_c (constantI S_ 32 0#32),
    TRef.unary (TRef.of (T := ⟨S_, .i32⟩) main_c) (TRef.of (T := ⟨S_, .f32⟩) main_call0_v0) (sitofp .f32),
    TRef.binary (TRef.of (T := ⟨S512x64x64x1, .f32⟩) main_v207) (TRef.of (T := ⟨S_, .f32⟩) main_call0_v0) (TRef.of (T := ⟨S512x66x66x1, .f32⟩) main_v208) (fun x v => pad S512x66x66x1 ![0, 1, 1, 0] ![0, 1, 1, 0] ![0, 0, 0, 0] x v pads_S512x64x64x1_S512x66x66x1_000_110_110_000 h_S_) ]

theorem opsP1_sub : (opsP1 : List (HloOp τ sig (Elt F))).Forall fun op => op.bufs ⊆ tcRefs τ sig := ⟨reshape_bufs_sub .., nullary_bufs_sub .., unary_bufs_sub .., binary_bufs_sub ..⟩

theorem opsP1_fresh : (opsP1 : List (HloOp τ sig (Elt F))).Forall fun op => op.fresh = ∅ := ⟨rfl, rfl, rfl, rfl⟩

/-- The reference's operations 213 to 241. -/
abbrev opsT1_0 : List (HloOp τ sig (Elt F)) :=
  [ unary main_v208 main_v209 ((Host.slice S512x32x32x1 ![0, 0, 0, 0] ![1, 2, 2, 1] · slicesBy_S512x66x66x1_S512x32x32x1_0s1_0s2_0s2_0s1) : (⟨S512x66x66x1, .f32⟩ : BufTy).Contents (Elt F) → (⟨S512x32x32x1, .f32⟩ : BufTy).Contents (Elt F)),
    reshape main_v209 main_v210 (rfl : (.f32 : EltTy) = .f32) shapeCasts_S512x32x32x1_S524288x1,
    binary main_v210 main_v6 main_v211 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    unary main_v208 main_v212 ((Host.slice S512x32x32x1 ![0, 0, 1, 0] ![1, 2, 2, 1] · slicesBy_S512x66x66x1_S512x32x32x1_0s1_0s2_1s2_0s1) : (⟨S512x66x66x1, .f32⟩ : BufTy).Contents (Elt F) → (⟨S512x32x32x1, .f32⟩ : BufTy).Contents (Elt F)),
    reshape main_v212 main_v213 (rfl : (.f32 : EltTy) = .f32) shapeCasts_S512x32x32x1_S524288x1,
    binary main_v213 main_v8 main_v214 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v211 main_v214 main_v215 (addf : (⟨S524288x32, .f32⟩ : BufTy).Contents (Elt F) → (⟨S524288x32, .f32⟩ : BufTy).Contents (Elt F) → (⟨S524288x32, .f32⟩ : BufTy).Contents (Elt F)),
    unary main_v208 main_v216 ((Host.slice S512x32x32x1 ![0, 0, 2, 0] ![1, 2, 2, 1] · slicesBy_S512x66x66x1_S512x32x32x1_0s1_0s2_2s2_0s1) : (⟨S512x66x66x1, .f32⟩ : BufTy).Contents (Elt F) → (⟨S512x32x32x1, .f32⟩ : BufTy).Contents (Elt F)),
    reshape main_v216 main_v217 (rfl : (.f32 : EltTy) = .f32) shapeCasts_S512x32x32x1_S524288x1,
    binary main_v217 main_v10 main_v218 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v215 main_v218 main_v219 (addf : (⟨S524288x32, .f32⟩ : BufTy).Contents (Elt F) → (⟨S524288x32, .f32⟩ : BufTy).Contents (Elt F) → (⟨S524288x32, .f32⟩ : BufTy).Contents (Elt F)),
    unary main_v208 main_v220 ((Host.slice S512x32x32x1 ![0, 0, 3, 0] ![1, 2, 2, 1] · slicesBy_S512x66x66x1_S512x32x32x1_0s1_0s2_3s2_0s1) : (⟨S512x66x66x1, .f32⟩ : BufTy).Contents (Elt F) → (⟨S512x32x32x1, .f32⟩ : BufTy).Contents (Elt F)),
    reshape main_v220 main_v221 (rfl : (.f32 : EltTy) = .f32) shapeCasts_S512x32x32x1_S524288x1,
    binary main_v221 main_v12 main_v222 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v219 main_v222 main_v223 (addf : (⟨S524288x32, .f32⟩ : BufTy).Contents (Elt F) → (⟨S524288x32, .f32⟩ : BufTy).Contents (Elt F) → (⟨S524288x32, .f32⟩ : BufTy).Contents (Elt F)),
    unary main_v208 main_v224 ((Host.slice S512x32x32x1 ![0, 1, 0, 0] ![1, 2, 2, 1] · slicesBy_S512x66x66x1_S512x32x32x1_0s1_1s2_0s2_0s1) : (⟨S512x66x66x1, .f32⟩ : BufTy).Contents (Elt F) → (⟨S512x32x32x1, .f32⟩ : BufTy).Contents (Elt F)),
    reshape main_v224 main_v225 (rfl : (.f32 : EltTy) = .f32) shapeCasts_S512x32x32x1_S524288x1,
    binary main_v225 main_v14 main_v226 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v223 main_v226 main_v227 (addf : (⟨S524288x32, .f32⟩ : BufTy).Contents (Elt F) → (⟨S524288x32, .f32⟩ : BufTy).Contents (Elt F) → (⟨S524288x32, .f32⟩ : BufTy).Contents (Elt F)),
    unary main_v208 main_v228 ((Host.slice S512x32x32x1 ![0, 1, 1, 0] ![1, 2, 2, 1] · slicesBy_S512x66x66x1_S512x32x32x1_0s1_1s2_1s2_0s1) : (⟨S512x66x66x1, .f32⟩ : BufTy).Contents (Elt F) → (⟨S512x32x32x1, .f32⟩ : BufTy).Contents (Elt F)),
    reshape main_v228 main_v229 (rfl : (.f32 : EltTy) = .f32) shapeCasts_S512x32x32x1_S524288x1,
    binary main_v229 main_v16 main_v230 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v227 main_v230 main_v231 (addf : (⟨S524288x32, .f32⟩ : BufTy).Contents (Elt F) → (⟨S524288x32, .f32⟩ : BufTy).Contents (Elt F) → (⟨S524288x32, .f32⟩ : BufTy).Contents (Elt F)),
    unary main_v208 main_v232 ((Host.slice S512x32x32x1 ![0, 1, 2, 0] ![1, 2, 2, 1] · slicesBy_S512x66x66x1_S512x32x32x1_0s1_1s2_2s2_0s1) : (⟨S512x66x66x1, .f32⟩ : BufTy).Contents (Elt F) → (⟨S512x32x32x1, .f32⟩ : BufTy).Contents (Elt F)),
    reshape main_v232 main_v233 (rfl : (.f32 : EltTy) = .f32) shapeCasts_S512x32x32x1_S524288x1,
    binary main_v233 main_v18 main_v234 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v231 main_v234 main_v235 (addf : (⟨S524288x32, .f32⟩ : BufTy).Contents (Elt F) → (⟨S524288x32, .f32⟩ : BufTy).Contents (Elt F) → (⟨S524288x32, .f32⟩ : BufTy).Contents (Elt F)),
    unary main_v208 main_v236 ((Host.slice S512x32x32x1 ![0, 1, 3, 0] ![1, 2, 2, 1] · slicesBy_S512x66x66x1_S512x32x32x1_0s1_1s2_3s2_0s1) : (⟨S512x66x66x1, .f32⟩ : BufTy).Contents (Elt F) → (⟨S512x32x32x1, .f32⟩ : BufTy).Contents (Elt F)),
    reshape main_v236 main_v237 (rfl : (.f32 : EltTy) = .f32) shapeCasts_S512x32x32x1_S524288x1 ]

theorem opsT1_0_sub : (opsT1_0 : List (HloOp τ sig (Elt F))).Forall fun op => op.bufs ⊆ tcRefs τ sig := ⟨unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub ..⟩

theorem opsT1_0_fresh : (opsT1_0 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 242 to 278. -/
abbrev opsT1_1 : List (HloOp τ sig (Elt F)) :=
  [ binary main_v237 main_v20 main_v238 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v235 main_v238 main_v239 (addf : (⟨S524288x32, .f32⟩ : BufTy).Contents (Elt F) → (⟨S524288x32, .f32⟩ : BufTy).Contents (Elt F) → (⟨S524288x32, .f32⟩ : BufTy).Contents (Elt F)),
    unary main_v208 main_v240 ((Host.slice S512x32x32x1 ![0, 2, 0, 0] ![1, 2, 2, 1] · slicesBy_S512x66x66x1_S512x32x32x1_0s1_2s2_0s2_0s1) : (⟨S512x66x66x1, .f32⟩ : BufTy).Contents (Elt F) → (⟨S512x32x32x1, .f32⟩ : BufTy).Contents (Elt F)),
    reshape main_v240 main_v241 (rfl : (.f32 : EltTy) = .f32) shapeCasts_S512x32x32x1_S524288x1,
    binary main_v241 main_v22 main_v242 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v239 main_v242 main_v243 (addf : (⟨S524288x32, .f32⟩ : BufTy).Contents (Elt F) → (⟨S524288x32, .f32⟩ : BufTy).Contents (Elt F) → (⟨S524288x32, .f32⟩ : BufTy).Contents (Elt F)),
    unary main_v208 main_v244 ((Host.slice S512x32x32x1 ![0, 2, 1, 0] ![1, 2, 2, 1] · slicesBy_S512x66x66x1_S512x32x32x1_0s1_2s2_1s2_0s1) : (⟨S512x66x66x1, .f32⟩ : BufTy).Contents (Elt F) → (⟨S512x32x32x1, .f32⟩ : BufTy).Contents (Elt F)),
    reshape main_v244 main_v245 (rfl : (.f32 : EltTy) = .f32) shapeCasts_S512x32x32x1_S524288x1,
    binary main_v245 main_v24 main_v246 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v243 main_v246 main_v247 (addf : (⟨S524288x32, .f32⟩ : BufTy).Contents (Elt F) → (⟨S524288x32, .f32⟩ : BufTy).Contents (Elt F) → (⟨S524288x32, .f32⟩ : BufTy).Contents (Elt F)),
    unary main_v208 main_v248 ((Host.slice S512x32x32x1 ![0, 2, 2, 0] ![1, 2, 2, 1] · slicesBy_S512x66x66x1_S512x32x32x1_0s1_2s2_2s2_0s1) : (⟨S512x66x66x1, .f32⟩ : BufTy).Contents (Elt F) → (⟨S512x32x32x1, .f32⟩ : BufTy).Contents (Elt F)),
    reshape main_v248 main_v249 (rfl : (.f32 : EltTy) = .f32) shapeCasts_S512x32x32x1_S524288x1,
    binary main_v249 main_v26 main_v250 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v247 main_v250 main_v251 (addf : (⟨S524288x32, .f32⟩ : BufTy).Contents (Elt F) → (⟨S524288x32, .f32⟩ : BufTy).Contents (Elt F) → (⟨S524288x32, .f32⟩ : BufTy).Contents (Elt F)),
    unary main_v208 main_v252 ((Host.slice S512x32x32x1 ![0, 2, 3, 0] ![1, 2, 2, 1] · slicesBy_S512x66x66x1_S512x32x32x1_0s1_2s2_3s2_0s1) : (⟨S512x66x66x1, .f32⟩ : BufTy).Contents (Elt F) → (⟨S512x32x32x1, .f32⟩ : BufTy).Contents (Elt F)),
    reshape main_v252 main_v253 (rfl : (.f32 : EltTy) = .f32) shapeCasts_S512x32x32x1_S524288x1,
    binary main_v253 main_v28 main_v254 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v251 main_v254 main_v255 (addf : (⟨S524288x32, .f32⟩ : BufTy).Contents (Elt F) → (⟨S524288x32, .f32⟩ : BufTy).Contents (Elt F) → (⟨S524288x32, .f32⟩ : BufTy).Contents (Elt F)),
    unary main_v208 main_v256 ((Host.slice S512x32x32x1 ![0, 3, 0, 0] ![1, 2, 2, 1] · slicesBy_S512x66x66x1_S512x32x32x1_0s1_3s2_0s2_0s1) : (⟨S512x66x66x1, .f32⟩ : BufTy).Contents (Elt F) → (⟨S512x32x32x1, .f32⟩ : BufTy).Contents (Elt F)),
    reshape main_v256 main_v257 (rfl : (.f32 : EltTy) = .f32) shapeCasts_S512x32x32x1_S524288x1,
    binary main_v257 main_v30 main_v258 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v255 main_v258 main_v259 (addf : (⟨S524288x32, .f32⟩ : BufTy).Contents (Elt F) → (⟨S524288x32, .f32⟩ : BufTy).Contents (Elt F) → (⟨S524288x32, .f32⟩ : BufTy).Contents (Elt F)),
    unary main_v208 main_v260 ((Host.slice S512x32x32x1 ![0, 3, 1, 0] ![1, 2, 2, 1] · slicesBy_S512x66x66x1_S512x32x32x1_0s1_3s2_1s2_0s1) : (⟨S512x66x66x1, .f32⟩ : BufTy).Contents (Elt F) → (⟨S512x32x32x1, .f32⟩ : BufTy).Contents (Elt F)),
    reshape main_v260 main_v261 (rfl : (.f32 : EltTy) = .f32) shapeCasts_S512x32x32x1_S524288x1,
    binary main_v261 main_v32 main_v262 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v259 main_v262 main_v263 (addf : (⟨S524288x32, .f32⟩ : BufTy).Contents (Elt F) → (⟨S524288x32, .f32⟩ : BufTy).Contents (Elt F) → (⟨S524288x32, .f32⟩ : BufTy).Contents (Elt F)),
    unary main_v208 main_v264 ((Host.slice S512x32x32x1 ![0, 3, 2, 0] ![1, 2, 2, 1] · slicesBy_S512x66x66x1_S512x32x32x1_0s1_3s2_2s2_0s1) : (⟨S512x66x66x1, .f32⟩ : BufTy).Contents (Elt F) → (⟨S512x32x32x1, .f32⟩ : BufTy).Contents (Elt F)),
    reshape main_v264 main_v265 (rfl : (.f32 : EltTy) = .f32) shapeCasts_S512x32x32x1_S524288x1,
    binary main_v265 main_v34 main_v266 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v263 main_v266 main_v267 (addf : (⟨S524288x32, .f32⟩ : BufTy).Contents (Elt F) → (⟨S524288x32, .f32⟩ : BufTy).Contents (Elt F) → (⟨S524288x32, .f32⟩ : BufTy).Contents (Elt F)),
    unary main_v208 main_v268 ((Host.slice S512x32x32x1 ![0, 3, 3, 0] ![1, 2, 2, 1] · slicesBy_S512x66x66x1_S512x32x32x1_0s1_3s2_3s2_0s1) : (⟨S512x66x66x1, .f32⟩ : BufTy).Contents (Elt F) → (⟨S512x32x32x1, .f32⟩ : BufTy).Contents (Elt F)),
    reshape main_v268 main_v269 (rfl : (.f32 : EltTy) = .f32) shapeCasts_S512x32x32x1_S524288x1,
    binary main_v269 main_v36 main_v270 ((fun l r => Host.dotGeneral dot_S524288x1_S1x32_S524288x32_1_0_0_1_n_n none l r) : (⟨S524288x1, .f32⟩ : BufTy).Contents (Elt F) → (⟨S1x32, .f32⟩ : BufTy).Contents (Elt F) → (⟨S524288x32, .f32⟩ : BufTy).Contents (Elt F)),
    binary main_v267 main_v270 main_v271 (addf : (⟨S524288x32, .f32⟩ : BufTy).Contents (Elt F) → (⟨S524288x32, .f32⟩ : BufTy).Contents (Elt F) → (⟨S524288x32, .f32⟩ : BufTy).Contents (Elt F)),
    unary main_arg2 main_v272 (broadcastInDim S1x32 ![1] bcast_S32_S1x32_1 : (⟨S32, .f32⟩ : BufTy).Contents (Elt F) → (⟨S1x32, .f32⟩ : BufTy).Contents (Elt F)),
    unary main_v272 main_v273 (broadcastInDim S524288x32 ![0, 1] bcast_S1x32_S524288x32_0_1 : (⟨S1x32, .f32⟩ : BufTy).Contents (Elt F) → (⟨S524288x32, .f32⟩ : BufTy).Contents (Elt F)),
    binary main_v271 main_v273 main_v274 (addf : (⟨S524288x32, .f32⟩ : BufTy).Contents (Elt F) → (⟨S524288x32, .f32⟩ : BufTy).Contents (Elt F) → (⟨S524288x32, .f32⟩ : BufTy).Contents (Elt F)) ]

theorem opsT1_1_sub : (opsT1_1 : List (HloOp τ sig (Elt F))).Forall fun op => op.bufs ⊆ tcRefs τ sig := ⟨binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩

theorem opsT1_1_fresh : (opsT1_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 279 to 285. -/
abbrev opsP2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S524288x32, .f32⟩) main_call1_v0) (broadcastInDim S524288x32 ![] bcast_S_S524288x32),
    TRef.binary (TRef.of (T := ⟨S524288x32, .f32⟩) main_v274) (TRef.of (T := ⟨S524288x32, .f32⟩) main_call1_v0) (TRef.of (T := ⟨S524288x32, .f32⟩) main_v275) maximumf,
    reshape main_v275 main_v276 (rfl : (.f32 : EltTy) = .f32) shapeCasts_S524288x32_S512x32x32x32,
    nullary main_c_0 (constantI S_ 32 0#32),
    TRef.unary (TRef.of (T := ⟨S_, .i32⟩) main_c_0) (TRef.of (T := ⟨S_, .f32⟩) main_call2_v0) (sitofp .f32),
    TRef.binary (TRef.of (T := ⟨S512x32x32x32, .f32⟩) main_v276) (TRef.of (T := ⟨S_, .f32⟩) main_call2_v0) (TRef.of (T := ⟨S512x34x34x32, .f32⟩) main_v277) (fun x v => pad S512x34x34x32 ![0, 1, 1, 0] ![0, 1, 1, 0] ![0, 0, 0, 0] x v pads_S512x32x32x32_S512x34x34x32_000_110_110_000 h_S_) ]

theorem opsP2_sub : (opsP2 : List (HloOp τ sig (Elt F))).Forall fun op => op.bufs ⊆ tcRefs τ sig := ⟨nullary_bufs_sub .., unary_bufs_sub .., binary_bufs_sub .., reshape_bufs_sub .., nullary_bufs_sub .., unary_bufs_sub .., binary_bufs_sub ..⟩

theorem opsP2_fresh : (opsP2 : List (HloOp τ sig (Elt F))).Forall fun op => op.fresh = ∅ := ⟨rfl, rfl, rfl, rfl, rfl, rfl, rfl⟩

/-- The reference's operations 286 to 304. -/
abbrev opsT2_0 : List (HloOp τ sig (Elt F)) :=
  [ unary main_v277 main_v278 ((Host.slice S512x16x16x32 ![0, 0, 0, 0] ![1, 2, 2, 1] · slicesBy_S512x34x34x32_S512x16x16x32_0s1_0s2_0s2_0s1) : (⟨S512x34x34x32, .f32⟩ : BufTy).Contents (Elt F) → (⟨S512x16x16x32, .f32⟩ : BufTy).Contents (Elt F)),
    reshape main_v278 main_v279 (rfl : (.f32 : EltTy) = .f32) shapeCasts_S512x16x16x32_S131072x32,
    binary main_v279 main_v40 main_v280 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    unary main_v277 main_v281 ((Host.slice S512x16x16x32 ![0, 0, 1, 0] ![1, 2, 2, 1] · slicesBy_S512x34x34x32_S512x16x16x32_0s1_0s2_1s2_0s1) : (⟨S512x34x34x32, .f32⟩ : BufTy).Contents (Elt F) → (⟨S512x16x16x32, .f32⟩ : BufTy).Contents (Elt F)),
    reshape main_v281 main_v282 (rfl : (.f32 : EltTy) = .f32) shapeCasts_S512x16x16x32_S131072x32,
    binary main_v282 main_v42 main_v283 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v280 main_v283 main_v284 (addf : (⟨S131072x64, .f32⟩ : BufTy).Contents (Elt F) → (⟨S131072x64, .f32⟩ : BufTy).Contents (Elt F) → (⟨S131072x64, .f32⟩ : BufTy).Contents (Elt F)),
    unary main_v277 main_v285 ((Host.slice S512x16x16x32 ![0, 0, 2, 0] ![1, 2, 2, 1] · slicesBy_S512x34x34x32_S512x16x16x32_0s1_0s2_2s2_0s1) : (⟨S512x34x34x32, .f32⟩ : BufTy).Contents (Elt F) → (⟨S512x16x16x32, .f32⟩ : BufTy).Contents (Elt F)),
    reshape main_v285 main_v286 (rfl : (.f32 : EltTy) = .f32) shapeCasts_S512x16x16x32_S131072x32,
    binary main_v286 main_v44 main_v287 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v284 main_v287 main_v288 (addf : (⟨S131072x64, .f32⟩ : BufTy).Contents (Elt F) → (⟨S131072x64, .f32⟩ : BufTy).Contents (Elt F) → (⟨S131072x64, .f32⟩ : BufTy).Contents (Elt F)),
    unary main_v277 main_v289 ((Host.slice S512x16x16x32 ![0, 0, 3, 0] ![1, 2, 2, 1] · slicesBy_S512x34x34x32_S512x16x16x32_0s1_0s2_3s2_0s1) : (⟨S512x34x34x32, .f32⟩ : BufTy).Contents (Elt F) → (⟨S512x16x16x32, .f32⟩ : BufTy).Contents (Elt F)),
    reshape main_v289 main_v290 (rfl : (.f32 : EltTy) = .f32) shapeCasts_S512x16x16x32_S131072x32,
    binary main_v290 main_v46 main_v291 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v288 main_v291 main_v292 (addf : (⟨S131072x64, .f32⟩ : BufTy).Contents (Elt F) → (⟨S131072x64, .f32⟩ : BufTy).Contents (Elt F) → (⟨S131072x64, .f32⟩ : BufTy).Contents (Elt F)),
    unary main_v277 main_v293 ((Host.slice S512x16x16x32 ![0, 1, 0, 0] ![1, 2, 2, 1] · slicesBy_S512x34x34x32_S512x16x16x32_0s1_1s2_0s2_0s1) : (⟨S512x34x34x32, .f32⟩ : BufTy).Contents (Elt F) → (⟨S512x16x16x32, .f32⟩ : BufTy).Contents (Elt F)),
    reshape main_v293 main_v294 (rfl : (.f32 : EltTy) = .f32) shapeCasts_S512x16x16x32_S131072x32,
    binary main_v294 main_v48 main_v295 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v292 main_v295 main_v296 (addf : (⟨S131072x64, .f32⟩ : BufTy).Contents (Elt F) → (⟨S131072x64, .f32⟩ : BufTy).Contents (Elt F) → (⟨S131072x64, .f32⟩ : BufTy).Contents (Elt F)) ]

theorem opsT2_0_sub : (opsT2_0 : List (HloOp τ sig (Elt F))).Forall fun op => op.bufs ⊆ tcRefs τ sig := ⟨unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub ..⟩

theorem opsT2_0_fresh : (opsT2_0 : List (HloOp τ sig (Elt F))).Forall fun op => op.fresh = ∅ := ⟨rfl, rfl, rfl, rfl, rfl, rfl, rfl, rfl, rfl, rfl, rfl, rfl, rfl, rfl, rfl, rfl, rfl, rfl, rfl⟩

/-- The reference's operations 305 to 351. -/
abbrev opsT2_1 : List (HloOp τ sig (Elt F)) :=
  [ unary main_v277 main_v297 ((Host.slice S512x16x16x32 ![0, 1, 1, 0] ![1, 2, 2, 1] · slicesBy_S512x34x34x32_S512x16x16x32_0s1_1s2_1s2_0s1) : (⟨S512x34x34x32, .f32⟩ : BufTy).Contents (Elt F) → (⟨S512x16x16x32, .f32⟩ : BufTy).Contents (Elt F)),
    reshape main_v297 main_v298 (rfl : (.f32 : EltTy) = .f32) shapeCasts_S512x16x16x32_S131072x32,
    binary main_v298 main_v50 main_v299 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v296 main_v299 main_v300 (addf : (⟨S131072x64, .f32⟩ : BufTy).Contents (Elt F) → (⟨S131072x64, .f32⟩ : BufTy).Contents (Elt F) → (⟨S131072x64, .f32⟩ : BufTy).Contents (Elt F)),
    unary main_v277 main_v301 ((Host.slice S512x16x16x32 ![0, 1, 2, 0] ![1, 2, 2, 1] · slicesBy_S512x34x34x32_S512x16x16x32_0s1_1s2_2s2_0s1) : (⟨S512x34x34x32, .f32⟩ : BufTy).Contents (Elt F) → (⟨S512x16x16x32, .f32⟩ : BufTy).Contents (Elt F)),
    reshape main_v301 main_v302 (rfl : (.f32 : EltTy) = .f32) shapeCasts_S512x16x16x32_S131072x32,
    binary main_v302 main_v52 main_v303 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v300 main_v303 main_v304 (addf : (⟨S131072x64, .f32⟩ : BufTy).Contents (Elt F) → (⟨S131072x64, .f32⟩ : BufTy).Contents (Elt F) → (⟨S131072x64, .f32⟩ : BufTy).Contents (Elt F)),
    unary main_v277 main_v305 ((Host.slice S512x16x16x32 ![0, 1, 3, 0] ![1, 2, 2, 1] · slicesBy_S512x34x34x32_S512x16x16x32_0s1_1s2_3s2_0s1) : (⟨S512x34x34x32, .f32⟩ : BufTy).Contents (Elt F) → (⟨S512x16x16x32, .f32⟩ : BufTy).Contents (Elt F)),
    reshape main_v305 main_v306 (rfl : (.f32 : EltTy) = .f32) shapeCasts_S512x16x16x32_S131072x32,
    binary main_v306 main_v54 main_v307 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v304 main_v307 main_v308 (addf : (⟨S131072x64, .f32⟩ : BufTy).Contents (Elt F) → (⟨S131072x64, .f32⟩ : BufTy).Contents (Elt F) → (⟨S131072x64, .f32⟩ : BufTy).Contents (Elt F)),
    unary main_v277 main_v309 ((Host.slice S512x16x16x32 ![0, 2, 0, 0] ![1, 2, 2, 1] · slicesBy_S512x34x34x32_S512x16x16x32_0s1_2s2_0s2_0s1) : (⟨S512x34x34x32, .f32⟩ : BufTy).Contents (Elt F) → (⟨S512x16x16x32, .f32⟩ : BufTy).Contents (Elt F)),
    reshape main_v309 main_v310 (rfl : (.f32 : EltTy) = .f32) shapeCasts_S512x16x16x32_S131072x32,
    binary main_v310 main_v56 main_v311 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v308 main_v311 main_v312 (addf : (⟨S131072x64, .f32⟩ : BufTy).Contents (Elt F) → (⟨S131072x64, .f32⟩ : BufTy).Contents (Elt F) → (⟨S131072x64, .f32⟩ : BufTy).Contents (Elt F)),
    unary main_v277 main_v313 ((Host.slice S512x16x16x32 ![0, 2, 1, 0] ![1, 2, 2, 1] · slicesBy_S512x34x34x32_S512x16x16x32_0s1_2s2_1s2_0s1) : (⟨S512x34x34x32, .f32⟩ : BufTy).Contents (Elt F) → (⟨S512x16x16x32, .f32⟩ : BufTy).Contents (Elt F)),
    reshape main_v313 main_v314 (rfl : (.f32 : EltTy) = .f32) shapeCasts_S512x16x16x32_S131072x32,
    binary main_v314 main_v58 main_v315 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v312 main_v315 main_v316 (addf : (⟨S131072x64, .f32⟩ : BufTy).Contents (Elt F) → (⟨S131072x64, .f32⟩ : BufTy).Contents (Elt F) → (⟨S131072x64, .f32⟩ : BufTy).Contents (Elt F)),
    unary main_v277 main_v317 ((Host.slice S512x16x16x32 ![0, 2, 2, 0] ![1, 2, 2, 1] · slicesBy_S512x34x34x32_S512x16x16x32_0s1_2s2_2s2_0s1) : (⟨S512x34x34x32, .f32⟩ : BufTy).Contents (Elt F) → (⟨S512x16x16x32, .f32⟩ : BufTy).Contents (Elt F)),
    reshape main_v317 main_v318 (rfl : (.f32 : EltTy) = .f32) shapeCasts_S512x16x16x32_S131072x32,
    binary main_v318 main_v60 main_v319 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v316 main_v319 main_v320 (addf : (⟨S131072x64, .f32⟩ : BufTy).Contents (Elt F) → (⟨S131072x64, .f32⟩ : BufTy).Contents (Elt F) → (⟨S131072x64, .f32⟩ : BufTy).Contents (Elt F)),
    unary main_v277 main_v321 ((Host.slice S512x16x16x32 ![0, 2, 3, 0] ![1, 2, 2, 1] · slicesBy_S512x34x34x32_S512x16x16x32_0s1_2s2_3s2_0s1) : (⟨S512x34x34x32, .f32⟩ : BufTy).Contents (Elt F) → (⟨S512x16x16x32, .f32⟩ : BufTy).Contents (Elt F)),
    reshape main_v321 main_v322 (rfl : (.f32 : EltTy) = .f32) shapeCasts_S512x16x16x32_S131072x32,
    binary main_v322 main_v62 main_v323 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v320 main_v323 main_v324 (addf : (⟨S131072x64, .f32⟩ : BufTy).Contents (Elt F) → (⟨S131072x64, .f32⟩ : BufTy).Contents (Elt F) → (⟨S131072x64, .f32⟩ : BufTy).Contents (Elt F)),
    unary main_v277 main_v325 ((Host.slice S512x16x16x32 ![0, 3, 0, 0] ![1, 2, 2, 1] · slicesBy_S512x34x34x32_S512x16x16x32_0s1_3s2_0s2_0s1) : (⟨S512x34x34x32, .f32⟩ : BufTy).Contents (Elt F) → (⟨S512x16x16x32, .f32⟩ : BufTy).Contents (Elt F)),
    reshape main_v325 main_v326 (rfl : (.f32 : EltTy) = .f32) shapeCasts_S512x16x16x32_S131072x32,
    binary main_v326 main_v64 main_v327 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v324 main_v327 main_v328 (addf : (⟨S131072x64, .f32⟩ : BufTy).Contents (Elt F) → (⟨S131072x64, .f32⟩ : BufTy).Contents (Elt F) → (⟨S131072x64, .f32⟩ : BufTy).Contents (Elt F)),
    unary main_v277 main_v329 ((Host.slice S512x16x16x32 ![0, 3, 1, 0] ![1, 2, 2, 1] · slicesBy_S512x34x34x32_S512x16x16x32_0s1_3s2_1s2_0s1) : (⟨S512x34x34x32, .f32⟩ : BufTy).Contents (Elt F) → (⟨S512x16x16x32, .f32⟩ : BufTy).Contents (Elt F)),
    reshape main_v329 main_v330 (rfl : (.f32 : EltTy) = .f32) shapeCasts_S512x16x16x32_S131072x32,
    binary main_v330 main_v66 main_v331 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v328 main_v331 main_v332 (addf : (⟨S131072x64, .f32⟩ : BufTy).Contents (Elt F) → (⟨S131072x64, .f32⟩ : BufTy).Contents (Elt F) → (⟨S131072x64, .f32⟩ : BufTy).Contents (Elt F)),
    unary main_v277 main_v333 ((Host.slice S512x16x16x32 ![0, 3, 2, 0] ![1, 2, 2, 1] · slicesBy_S512x34x34x32_S512x16x16x32_0s1_3s2_2s2_0s1) : (⟨S512x34x34x32, .f32⟩ : BufTy).Contents (Elt F) → (⟨S512x16x16x32, .f32⟩ : BufTy).Contents (Elt F)),
    reshape main_v333 main_v334 (rfl : (.f32 : EltTy) = .f32) shapeCasts_S512x16x16x32_S131072x32,
    binary main_v334 main_v68 main_v335 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v332 main_v335 main_v336 (addf : (⟨S131072x64, .f32⟩ : BufTy).Contents (Elt F) → (⟨S131072x64, .f32⟩ : BufTy).Contents (Elt F) → (⟨S131072x64, .f32⟩ : BufTy).Contents (Elt F)),
    unary main_v277 main_v337 ((Host.slice S512x16x16x32 ![0, 3, 3, 0] ![1, 2, 2, 1] · slicesBy_S512x34x34x32_S512x16x16x32_0s1_3s2_3s2_0s1) : (⟨S512x34x34x32, .f32⟩ : BufTy).Contents (Elt F) → (⟨S512x16x16x32, .f32⟩ : BufTy).Contents (Elt F)),
    reshape main_v337 main_v338 (rfl : (.f32 : EltTy) = .f32) shapeCasts_S512x16x16x32_S131072x32,
    binary main_v338 main_v70 main_v339 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    binary main_v336 main_v339 main_v340 (addf : (⟨S131072x64, .f32⟩ : BufTy).Contents (Elt F) → (⟨S131072x64, .f32⟩ : BufTy).Contents (Elt F) → (⟨S131072x64, .f32⟩ : BufTy).Contents (Elt F)),
    unary main_arg4 main_v341 (broadcastInDim S1x64 ![1] bcast_S64_S1x64_1 : (⟨S64, .f32⟩ : BufTy).Contents (Elt F) → (⟨S1x64, .f32⟩ : BufTy).Contents (Elt F)),
    unary main_v341 main_v342 (broadcastInDim S131072x64 ![0, 1] bcast_S1x64_S131072x64_0_1 : (⟨S1x64, .f32⟩ : BufTy).Contents (Elt F) → (⟨S131072x64, .f32⟩ : BufTy).Contents (Elt F)),
    binary main_v340 main_v342 main_v343 (addf : (⟨S131072x64, .f32⟩ : BufTy).Contents (Elt F) → (⟨S131072x64, .f32⟩ : BufTy).Contents (Elt F) → (⟨S131072x64, .f32⟩ : BufTy).Contents (Elt F)) ]

theorem opsT2_1_sub : (opsT2_1 : List (HloOp τ sig (Elt F))).Forall fun op => op.bufs ⊆ tcRefs τ sig := ⟨unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩

theorem opsT2_1_fresh : (opsT2_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 352 to 358. -/
abbrev opsP3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S131072x64, .f32⟩) main_call3_v0) (broadcastInDim S131072x64 ![] bcast_S_S131072x64),
    TRef.binary (TRef.of (T := ⟨S131072x64, .f32⟩) main_v343) (TRef.of (T := ⟨S131072x64, .f32⟩) main_call3_v0) (TRef.of (T := ⟨S131072x64, .f32⟩) main_v344) maximumf,
    reshape main_v344 main_v345 (rfl : (.f32 : EltTy) = .f32) shapeCasts_S131072x64_S512x16x16x64,
    nullary main_c_1 (constantI S_ 32 0#32),
    TRef.unary (TRef.of (T := ⟨S_, .i32⟩) main_c_1) (TRef.of (T := ⟨S_, .f32⟩) main_call4_v0) (sitofp .f32),
    TRef.binary (TRef.of (T := ⟨S512x16x16x64, .f32⟩) main_v345) (TRef.of (T := ⟨S_, .f32⟩) main_call4_v0) (TRef.of (T := ⟨S512x18x18x64, .f32⟩) main_v346) (fun x v => pad S512x18x18x64 ![0, 1, 1, 0] ![0, 1, 1, 0] ![0, 0, 0, 0] x v pads_S512x16x16x64_S512x18x18x64_000_110_110_000 h_S_) ]

theorem opsP3_sub : (opsP3 : List (HloOp τ sig (Elt F))).Forall fun op => op.bufs ⊆ tcRefs τ sig := ⟨nullary_bufs_sub .., unary_bufs_sub .., binary_bufs_sub .., reshape_bufs_sub .., nullary_bufs_sub .., unary_bufs_sub .., binary_bufs_sub ..⟩

theorem opsP3_fresh : (opsP3 : List (HloOp τ sig (Elt F))).Forall fun op => op.fresh = ∅ := ⟨rfl, rfl, rfl, rfl, rfl, rfl, rfl⟩

/-- The reference's operations 359 to 367. -/
abbrev opsT3_0 : List (HloOp τ sig (Elt F)) :=
  [ unary main_v346 main_v347 ((Host.slice S512x8x8x64 ![0, 0, 0, 0] ![1, 2, 2, 1] · slicesBy_S512x18x18x64_S512x8x8x64_0s1_0s2_0s2_0s1) : (⟨S512x18x18x64, .f32⟩ : BufTy).Contents (Elt F) → (⟨S512x8x8x64, .f32⟩ : BufTy).Contents (Elt F)),
    reshape main_v347 main_v348 (rfl : (.f32 : EltTy) = .f32) shapeCasts_S512x8x8x64_S32768x64,
    binary main_v348 main_v74 main_v349 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    unary main_v346 main_v350 ((Host.slice S512x8x8x64 ![0, 0, 1, 0] ![1, 2, 2, 1] · slicesBy_S512x18x18x64_S512x8x8x64_0s1_0s2_1s2_0s1) : (⟨S512x18x18x64, .f32⟩ : BufTy).Contents (Elt F) → (⟨S512x8x8x64, .f32⟩ : BufTy).Contents (Elt F)),
    reshape main_v350 main_v351 (rfl : (.f32 : EltTy) = .f32) shapeCasts_S512x8x8x64_S32768x64,
    binary main_v351 main_v76 main_v352 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v349 main_v352 main_v353 (addf : (⟨S32768x64, .f32⟩ : BufTy).Contents (Elt F) → (⟨S32768x64, .f32⟩ : BufTy).Contents (Elt F) → (⟨S32768x64, .f32⟩ : BufTy).Contents (Elt F)),
    unary main_v346 main_v354 ((Host.slice S512x8x8x64 ![0, 0, 2, 0] ![1, 2, 2, 1] · slicesBy_S512x18x18x64_S512x8x8x64_0s1_0s2_2s2_0s1) : (⟨S512x18x18x64, .f32⟩ : BufTy).Contents (Elt F) → (⟨S512x8x8x64, .f32⟩ : BufTy).Contents (Elt F)),
    reshape main_v354 main_v355 (rfl : (.f32 : EltTy) = .f32) shapeCasts_S512x8x8x64_S32768x64 ]

theorem opsT3_0_sub : (opsT3_0 : List (HloOp τ sig (Elt F))).Forall fun op => op.bufs ⊆ tcRefs τ sig := ⟨unary_bufs_sub .., reshape_bufs_sub .., binary_bufs_sub .., unary_bufs_sub .., reshape_bufs_sub .., binary_bufs_sub .., binary_bufs_sub .., unary_bufs_sub .., reshape_bufs_sub ..⟩

theorem opsT3_0_fresh : (opsT3_0 : List (HloOp τ sig (Elt F))).Forall fun op => op.fresh = ∅ := ⟨rfl, rfl, rfl, rfl, rfl, rfl, rfl, rfl, rfl⟩

/-- The reference's operations 368 to 424. -/
abbrev opsT3_1 : List (HloOp τ sig (Elt F)) :=
  [ binary main_v355 main_v78 main_v356 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v353 main_v356 main_v357 (addf : (⟨S32768x64, .f32⟩ : BufTy).Contents (Elt F) → (⟨S32768x64, .f32⟩ : BufTy).Contents (Elt F) → (⟨S32768x64, .f32⟩ : BufTy).Contents (Elt F)),
    unary main_v346 main_v358 ((Host.slice S512x8x8x64 ![0, 0, 3, 0] ![1, 2, 2, 1] · slicesBy_S512x18x18x64_S512x8x8x64_0s1_0s2_3s2_0s1) : (⟨S512x18x18x64, .f32⟩ : BufTy).Contents (Elt F) → (⟨S512x8x8x64, .f32⟩ : BufTy).Contents (Elt F)),
    reshape main_v358 main_v359 (rfl : (.f32 : EltTy) = .f32) shapeCasts_S512x8x8x64_S32768x64,
    binary main_v359 main_v80 main_v360 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v357 main_v360 main_v361 (addf : (⟨S32768x64, .f32⟩ : BufTy).Contents (Elt F) → (⟨S32768x64, .f32⟩ : BufTy).Contents (Elt F) → (⟨S32768x64, .f32⟩ : BufTy).Contents (Elt F)),
    unary main_v346 main_v362 ((Host.slice S512x8x8x64 ![0, 1, 0, 0] ![1, 2, 2, 1] · slicesBy_S512x18x18x64_S512x8x8x64_0s1_1s2_0s2_0s1) : (⟨S512x18x18x64, .f32⟩ : BufTy).Contents (Elt F) → (⟨S512x8x8x64, .f32⟩ : BufTy).Contents (Elt F)),
    reshape main_v362 main_v363 (rfl : (.f32 : EltTy) = .f32) shapeCasts_S512x8x8x64_S32768x64,
    binary main_v363 main_v82 main_v364 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v361 main_v364 main_v365 (addf : (⟨S32768x64, .f32⟩ : BufTy).Contents (Elt F) → (⟨S32768x64, .f32⟩ : BufTy).Contents (Elt F) → (⟨S32768x64, .f32⟩ : BufTy).Contents (Elt F)),
    unary main_v346 main_v366 ((Host.slice S512x8x8x64 ![0, 1, 1, 0] ![1, 2, 2, 1] · slicesBy_S512x18x18x64_S512x8x8x64_0s1_1s2_1s2_0s1) : (⟨S512x18x18x64, .f32⟩ : BufTy).Contents (Elt F) → (⟨S512x8x8x64, .f32⟩ : BufTy).Contents (Elt F)),
    reshape main_v366 main_v367 (rfl : (.f32 : EltTy) = .f32) shapeCasts_S512x8x8x64_S32768x64,
    binary main_v367 main_v84 main_v368 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v365 main_v368 main_v369 (addf : (⟨S32768x64, .f32⟩ : BufTy).Contents (Elt F) → (⟨S32768x64, .f32⟩ : BufTy).Contents (Elt F) → (⟨S32768x64, .f32⟩ : BufTy).Contents (Elt F)),
    unary main_v346 main_v370 ((Host.slice S512x8x8x64 ![0, 1, 2, 0] ![1, 2, 2, 1] · slicesBy_S512x18x18x64_S512x8x8x64_0s1_1s2_2s2_0s1) : (⟨S512x18x18x64, .f32⟩ : BufTy).Contents (Elt F) → (⟨S512x8x8x64, .f32⟩ : BufTy).Contents (Elt F)),
    reshape main_v370 main_v371 (rfl : (.f32 : EltTy) = .f32) shapeCasts_S512x8x8x64_S32768x64,
    binary main_v371 main_v86 main_v372 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v369 main_v372 main_v373 (addf : (⟨S32768x64, .f32⟩ : BufTy).Contents (Elt F) → (⟨S32768x64, .f32⟩ : BufTy).Contents (Elt F) → (⟨S32768x64, .f32⟩ : BufTy).Contents (Elt F)),
    unary main_v346 main_v374 ((Host.slice S512x8x8x64 ![0, 1, 3, 0] ![1, 2, 2, 1] · slicesBy_S512x18x18x64_S512x8x8x64_0s1_1s2_3s2_0s1) : (⟨S512x18x18x64, .f32⟩ : BufTy).Contents (Elt F) → (⟨S512x8x8x64, .f32⟩ : BufTy).Contents (Elt F)),
    reshape main_v374 main_v375 (rfl : (.f32 : EltTy) = .f32) shapeCasts_S512x8x8x64_S32768x64,
    binary main_v375 main_v88 main_v376 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v373 main_v376 main_v377 (addf : (⟨S32768x64, .f32⟩ : BufTy).Contents (Elt F) → (⟨S32768x64, .f32⟩ : BufTy).Contents (Elt F) → (⟨S32768x64, .f32⟩ : BufTy).Contents (Elt F)),
    unary main_v346 main_v378 ((Host.slice S512x8x8x64 ![0, 2, 0, 0] ![1, 2, 2, 1] · slicesBy_S512x18x18x64_S512x8x8x64_0s1_2s2_0s2_0s1) : (⟨S512x18x18x64, .f32⟩ : BufTy).Contents (Elt F) → (⟨S512x8x8x64, .f32⟩ : BufTy).Contents (Elt F)),
    reshape main_v378 main_v379 (rfl : (.f32 : EltTy) = .f32) shapeCasts_S512x8x8x64_S32768x64,
    binary main_v379 main_v90 main_v380 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v377 main_v380 main_v381 (addf : (⟨S32768x64, .f32⟩ : BufTy).Contents (Elt F) → (⟨S32768x64, .f32⟩ : BufTy).Contents (Elt F) → (⟨S32768x64, .f32⟩ : BufTy).Contents (Elt F)),
    unary main_v346 main_v382 ((Host.slice S512x8x8x64 ![0, 2, 1, 0] ![1, 2, 2, 1] · slicesBy_S512x18x18x64_S512x8x8x64_0s1_2s2_1s2_0s1) : (⟨S512x18x18x64, .f32⟩ : BufTy).Contents (Elt F) → (⟨S512x8x8x64, .f32⟩ : BufTy).Contents (Elt F)),
    reshape main_v382 main_v383 (rfl : (.f32 : EltTy) = .f32) shapeCasts_S512x8x8x64_S32768x64,
    binary main_v383 main_v92 main_v384 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v381 main_v384 main_v385 (addf : (⟨S32768x64, .f32⟩ : BufTy).Contents (Elt F) → (⟨S32768x64, .f32⟩ : BufTy).Contents (Elt F) → (⟨S32768x64, .f32⟩ : BufTy).Contents (Elt F)),
    unary main_v346 main_v386 ((Host.slice S512x8x8x64 ![0, 2, 2, 0] ![1, 2, 2, 1] · slicesBy_S512x18x18x64_S512x8x8x64_0s1_2s2_2s2_0s1) : (⟨S512x18x18x64, .f32⟩ : BufTy).Contents (Elt F) → (⟨S512x8x8x64, .f32⟩ : BufTy).Contents (Elt F)),
    reshape main_v386 main_v387 (rfl : (.f32 : EltTy) = .f32) shapeCasts_S512x8x8x64_S32768x64,
    binary main_v387 main_v94 main_v388 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v385 main_v388 main_v389 (addf : (⟨S32768x64, .f32⟩ : BufTy).Contents (Elt F) → (⟨S32768x64, .f32⟩ : BufTy).Contents (Elt F) → (⟨S32768x64, .f32⟩ : BufTy).Contents (Elt F)),
    unary main_v346 main_v390 ((Host.slice S512x8x8x64 ![0, 2, 3, 0] ![1, 2, 2, 1] · slicesBy_S512x18x18x64_S512x8x8x64_0s1_2s2_3s2_0s1) : (⟨S512x18x18x64, .f32⟩ : BufTy).Contents (Elt F) → (⟨S512x8x8x64, .f32⟩ : BufTy).Contents (Elt F)),
    reshape main_v390 main_v391 (rfl : (.f32 : EltTy) = .f32) shapeCasts_S512x8x8x64_S32768x64,
    binary main_v391 main_v96 main_v392 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v389 main_v392 main_v393 (addf : (⟨S32768x64, .f32⟩ : BufTy).Contents (Elt F) → (⟨S32768x64, .f32⟩ : BufTy).Contents (Elt F) → (⟨S32768x64, .f32⟩ : BufTy).Contents (Elt F)),
    unary main_v346 main_v394 ((Host.slice S512x8x8x64 ![0, 3, 0, 0] ![1, 2, 2, 1] · slicesBy_S512x18x18x64_S512x8x8x64_0s1_3s2_0s2_0s1) : (⟨S512x18x18x64, .f32⟩ : BufTy).Contents (Elt F) → (⟨S512x8x8x64, .f32⟩ : BufTy).Contents (Elt F)),
    reshape main_v394 main_v395 (rfl : (.f32 : EltTy) = .f32) shapeCasts_S512x8x8x64_S32768x64,
    binary main_v395 main_v98 main_v396 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v393 main_v396 main_v397 (addf : (⟨S32768x64, .f32⟩ : BufTy).Contents (Elt F) → (⟨S32768x64, .f32⟩ : BufTy).Contents (Elt F) → (⟨S32768x64, .f32⟩ : BufTy).Contents (Elt F)),
    unary main_v346 main_v398 ((Host.slice S512x8x8x64 ![0, 3, 1, 0] ![1, 2, 2, 1] · slicesBy_S512x18x18x64_S512x8x8x64_0s1_3s2_1s2_0s1) : (⟨S512x18x18x64, .f32⟩ : BufTy).Contents (Elt F) → (⟨S512x8x8x64, .f32⟩ : BufTy).Contents (Elt F)),
    reshape main_v398 main_v399 (rfl : (.f32 : EltTy) = .f32) shapeCasts_S512x8x8x64_S32768x64,
    binary main_v399 main_v100 main_v400 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v397 main_v400 main_v401 (addf : (⟨S32768x64, .f32⟩ : BufTy).Contents (Elt F) → (⟨S32768x64, .f32⟩ : BufTy).Contents (Elt F) → (⟨S32768x64, .f32⟩ : BufTy).Contents (Elt F)),
    unary main_v346 main_v402 ((Host.slice S512x8x8x64 ![0, 3, 2, 0] ![1, 2, 2, 1] · slicesBy_S512x18x18x64_S512x8x8x64_0s1_3s2_2s2_0s1) : (⟨S512x18x18x64, .f32⟩ : BufTy).Contents (Elt F) → (⟨S512x8x8x64, .f32⟩ : BufTy).Contents (Elt F)),
    reshape main_v402 main_v403 (rfl : (.f32 : EltTy) = .f32) shapeCasts_S512x8x8x64_S32768x64,
    binary main_v403 main_v102 main_v404 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v401 main_v404 main_v405 (addf : (⟨S32768x64, .f32⟩ : BufTy).Contents (Elt F) → (⟨S32768x64, .f32⟩ : BufTy).Contents (Elt F) → (⟨S32768x64, .f32⟩ : BufTy).Contents (Elt F)),
    unary main_v346 main_v406 ((Host.slice S512x8x8x64 ![0, 3, 3, 0] ![1, 2, 2, 1] · slicesBy_S512x18x18x64_S512x8x8x64_0s1_3s2_3s2_0s1) : (⟨S512x18x18x64, .f32⟩ : BufTy).Contents (Elt F) → (⟨S512x8x8x64, .f32⟩ : BufTy).Contents (Elt F)),
    reshape main_v406 main_v407 (rfl : (.f32 : EltTy) = .f32) shapeCasts_S512x8x8x64_S32768x64,
    binary main_v407 main_v104 main_v408 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    binary main_v405 main_v408 main_v409 (addf : (⟨S32768x64, .f32⟩ : BufTy).Contents (Elt F) → (⟨S32768x64, .f32⟩ : BufTy).Contents (Elt F) → (⟨S32768x64, .f32⟩ : BufTy).Contents (Elt F)),
    unary main_arg6 main_v410 (broadcastInDim S1x64 ![1] bcast_S64_S1x64_1 : (⟨S64, .f32⟩ : BufTy).Contents (Elt F) → (⟨S1x64, .f32⟩ : BufTy).Contents (Elt F)),
    unary main_v410 main_v411 (broadcastInDim S32768x64 ![0, 1] bcast_S1x64_S32768x64_0_1 : (⟨S1x64, .f32⟩ : BufTy).Contents (Elt F) → (⟨S32768x64, .f32⟩ : BufTy).Contents (Elt F)),
    binary main_v409 main_v411 main_v412 (addf : (⟨S32768x64, .f32⟩ : BufTy).Contents (Elt F) → (⟨S32768x64, .f32⟩ : BufTy).Contents (Elt F) → (⟨S32768x64, .f32⟩ : BufTy).Contents (Elt F)) ]

theorem opsT3_1_sub : (opsT3_1 : List (HloOp τ sig (Elt F))).Forall fun op => op.bufs ⊆ tcRefs τ sig := ⟨binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩

theorem opsT3_1_fresh : (opsT3_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.RefRun

end
-- ==== Proof.RefOpsB.lean ====
/-
  The reference program's last operations as lists, one list per stage: the nearest entry and the decoder.
-/
module

public import Idealize.ShloMosaic.PureOps.Ideal
public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations 425 to 427. -/
abbrev opsQD_0 : List (HloOp τ sig (Elt F)) :=
  [ binary main_v412 main_v412 main_v413 (mulf : (⟨S32768x64, .f32⟩ : BufTy).Contents (Elt F) → (⟨S32768x64, .f32⟩ : BufTy).Contents (Elt F) → (⟨S32768x64, .f32⟩ : BufTy).Contents (Elt F)),
    nullary main_cst_2 (constant S_ .f32 0x00000000#32),
    binary main_v413 main_cst_2 main_v414 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)) ]

theorem opsQD_0_sub : (opsQD_0 : List (HloOp τ sig (Elt F))).Forall fun op => op.bufs ⊆ tcRefs τ sig := ⟨binary_bufs_sub .., nullary_bufs_sub .., binary_bufs_sub ..⟩

theorem opsQD_0_fresh : (opsQD_0 : List (HloOp τ sig (Elt F))).Forall fun op => op.fresh = ∅ := ⟨rfl, rfl, rfl⟩

/-- The reference's operations 428 to 442. -/
abbrev opsQD_1 : List (HloOp τ sig (Elt F)) :=
  [ unary main_v414 main_v415 (broadcastInDim S32768x1 ![0] bcast_S32768_S32768x1_0 : (⟨S32768, .f32⟩ : BufTy).Contents (Elt F) → (⟨S32768x1, .f32⟩ : BufTy).Contents (Elt F)),
    unary main_v415 main_v416 (broadcastInDim S32768x1024 ![0, 1] bcast_S32768x1_S32768x1024_0_1 : (⟨S32768x1, .f32⟩ : BufTy).Contents (Elt F) → (⟨S32768x1024, .f32⟩ : BufTy).Contents (Elt F)),
    unary main_v2 main_v417 (broadcastInDim S32768x1024 ![0, 1] bcast_S1x1024_S32768x1024_0_1 : (⟨S1x1024, .f32⟩ : BufTy).Contents (Elt F) → (⟨S32768x1024, .f32⟩ : BufTy).Contents (Elt F)),
    binary main_v416 main_v417 main_v418 (addf : (⟨S32768x1024, .f32⟩ : BufTy).Contents (Elt F) → (⟨S32768x1024, .f32⟩ : BufTy).Contents (Elt F) → (⟨S32768x1024, .f32⟩ : BufTy).Contents (Elt F)),
    unary main_arg7 main_v419 ((transpose S64x1024 [1, 0] · transposes_S1024x64_S64x1024_1_0) : (⟨S1024x64, .f32⟩ : BufTy).Contents (Elt F) → (⟨S64x1024, .f32⟩ : BufTy).Contents (Elt F)),
    binary main_v412 main_v419 main_v420 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_3 (constant S_ .f32 0x40000000#32),
    unary main_cst_3 main_v421 (broadcastInDim S32768x1024 ![] bcast_S_S32768x1024 : (⟨S_, .f32⟩ : BufTy).Contents (Elt F) → (⟨S32768x1024, .f32⟩ : BufTy).Contents (Elt F)),
    binary main_v421 main_v420 main_v422 (mulf : (⟨S32768x1024, .f32⟩ : BufTy).Contents (Elt F) → (⟨S32768x1024, .f32⟩ : BufTy).Contents (Elt F) → (⟨S32768x1024, .f32⟩ : BufTy).Contents (Elt F)),
    binary main_v418 main_v422 main_v423 (subf : (⟨S32768x1024, .f32⟩ : BufTy).Contents (Elt F) → (⟨S32768x1024, .f32⟩ : BufTy).Contents (Elt F) → (⟨S32768x1024, .f32⟩ : BufTy).Contents (Elt F)),
    nullary main_cst_4 (constant S_ .f32 0x00000000#32),
    TRef.unary (TRef.of (T := ⟨S_, .f32⟩) main_cst_4) (TRef.of (T := ⟨S_, .f32⟩) main_call5_v0) id,
    TRef.unary (TRef.of (T := ⟨S_, .f32⟩) main_call5_v0) (TRef.of (T := ⟨S32768x1024, .f32⟩) main_call5_v1) (broadcastInDim S32768x1024 ![] bcast_S_S32768x1024),
    TRef.binary (TRef.of (T := ⟨S32768x1024, .f32⟩) main_call5_v1) (TRef.of (T := ⟨S32768x1024, .f32⟩) main_v423) (TRef.of (T := ⟨S32768x1024, .f32⟩) main_v424) maximumf,
    unary main_v424 main_v425 (Host.sqrt : (⟨S32768x1024, .f32⟩ : BufTy).Contents (Elt F) → (⟨S32768x1024, .f32⟩ : BufTy).Contents (Elt F)) ]

theorem opsQD_1_sub : (opsQD_1 : List (HloOp τ sig (Elt F))).Forall fun op => op.bufs ⊆ tcRefs τ sig := ⟨unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub ..⟩

theorem opsQD_1_fresh : (opsQD_1 : List (HloOp τ sig (Elt F))).Forall fun op => op.fresh = ∅ := ⟨rfl, rfl, rfl, rfl, rfl, rfl, rfl, rfl, rfl, rfl, rfl, rfl, rfl, rfl, rfl⟩

/-- The reference's operations 443 to 447. -/
abbrev opsQI : List (HloOp τ sig (Elt F)) :=
  [ TRef.nullary (TRef.of (T := ⟨S32768x1024, .i32⟩) main_call6_v0) (iotaInDim S32768x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S32768x1024, .f32⟩) main_v425) (TRef.of (T := ⟨S32768x1024, .i32⟩) main_call6_v0) (TRef.of (T := ⟨S_, .f32⟩) main_call6_cst) (TRef.of (T := ⟨S_, .i32⟩) main_call6_c) (TRef.of (T := ⟨S32768, .f32⟩) main_call6_v1_0) (fun x y u v j => (Host.argReduce reducer_argmin_f32_i32 x y u v reducesTo_S32768x1024_S32768_d1 h_S_ j).1),
    TRef.quaternary (TRef.of (T := ⟨S32768x1024, .f32⟩) main_v425) (TRef.of (T := ⟨S32768x1024, .i32⟩) main_call6_v0) (TRef.of (T := ⟨S_, .f32⟩) main_call6_cst) (TRef.of (T := ⟨S_, .i32⟩) main_call6_c) (TRef.of (T := ⟨S32768, .i32⟩) main_v426) (fun x y u v j => (Host.argReduce reducer_argmin_f32_i32 x y u v reducesTo_S32768x1024_S32768_d1 h_S_ j).2) ]

theorem opsQI_sub : (opsQI : List (HloOp τ sig (Elt F))).Forall fun op => op.bufs ⊆ tcRefs τ sig := ⟨nullary_bufs_sub .., nullary_bufs_sub .., nullary_bufs_sub .., quaternary_bufs_sub .., quaternary_bufs_sub ..⟩

theorem opsQI_fresh : (opsQI : List (HloOp τ sig (Elt F))).Forall fun op => op.fresh = ∅ := ⟨rfl, rfl, rfl, rfl, rfl⟩

/-- The reference's operations 448 to 470. -/
abbrev opsQT : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S32768, .i32⟩) main_call7_v0) (broadcastInDim S32768 ![] bcast_S_S32768),
    TRef.binary (TRef.of (T := ⟨S32768, .i32⟩) main_v426) (TRef.of (T := ⟨S32768, .i32⟩) main_call7_v0) (TRef.of (T := ⟨S32768, .i1⟩) main_call7_v1) (cmpi .slt),
    TRef.nullary (TRef.of (T := ⟨S_, .i32⟩) main_call7_c_0) (constantI S_ 32 1024#32),
    TRef.unary (TRef.of (T := ⟨S_, .i32⟩) main_call7_c_0) (TRef.of (T := ⟨S32768, .i32⟩) main_call7_v2) (broadcastInDim S32768 ![] bcast_S_S32768),
    TRef.binary (TRef.of (T := ⟨S32768, .i32⟩) main_v426) (TRef.of (T := ⟨S32768, .i32⟩) main_call7_v2) (TRef.of (T := ⟨S32768, .i32⟩) main_call7_v3) addi,
    TRef.ternary (TRef.of (T := ⟨S32768, .i1⟩) main_call7_v1) (TRef.of (T := ⟨S32768, .i32⟩) main_call7_v3) (TRef.of (T := ⟨S32768, .i32⟩) main_v426) (TRef.of (T := ⟨S32768, .i32⟩) main_call7_v4) select,
    TRef.unary (TRef.of (T := ⟨S32768, .i32⟩) main_call7_v4) (TRef.of (T := ⟨S32768x1, .i32⟩) main_call7_v5) (broadcastInDim S32768x1 ![0] bcast_S32768_S32768x1_0),
    TRef.nullary (TRef.of (T := ⟨S1, .i32⟩) main_call7_c_1) (constantI S1 32 1023#32),
    TRef.nullary (TRef.of (T := ⟨S_, .i32⟩) main_call7_c_2) (constantI S_ 32 0#32),
    TRef.unary (TRef.of (T := ⟨S_, .i32⟩) main_call7_c_2) (TRef.of (T := ⟨S32768x1, .i32⟩) main_call7_v6) (broadcastInDim S32768x1 ![] bcast_S_S32768x1),
    TRef.binary (TRef.of (T := ⟨S32768x1, .i32⟩) main_call7_v5) (TRef.of (T := ⟨S32768x1, .i32⟩) main_call7_v6) (TRef.of (T := ⟨S32768x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S32768x1, .i32⟩) main_call7_v9) (broadcastInDim S32768x1 ![0, 1] bcast_S1x1_S32768x1_0_1),
    TRef.binary (TRef.of (T := ⟨S32768x1, .i32⟩) main_call7_v5) (TRef.of (T := ⟨S32768x1, .i32⟩) main_call7_v9) (TRef.of (T := ⟨S32768x1, .i1⟩) main_call7_v10) (cmpi .sle),
    TRef.binary (TRef.of (T := ⟨S32768x1, .i1⟩) main_call7_v7) (TRef.of (T := ⟨S32768x1, .i1⟩) main_call7_v10) (TRef.of (T := ⟨S32768x1, .i1⟩) main_call7_v11) andi,
    TRef.nullary (TRef.of (T := ⟨S_, .i1⟩) main_call7_c_3) (constantI S_ 1 1#1),
    TRef.binary (TRef.of (T := ⟨S32768x1, .i1⟩) main_call7_v11) (TRef.of (T := ⟨S_, .i1⟩) main_call7_c_3) (TRef.of (T := ⟨S32768, .i1⟩) main_call7_v12) (fun x v => Host.reduce IntOp.andi x v reducesTo_S32768x1_S32768_d1 h_S_),
    TRef.binary (TRef.of (T := ⟨S1024x64, .f32⟩) main_arg7) (TRef.of (T := ⟨S32768x1, .i32⟩) main_call7_v5) (TRef.of (T := ⟨S32768x64, .f32⟩) main_call7_v13) (fun x i => Host.gather gather_S1024x64_S32768x1_S32768x64_1_0_n_n_0_1_164 x i),
    TRef.unary (TRef.of (T := ⟨S32768, .i1⟩) main_call7_v12) (TRef.of (T := ⟨S32768x64, .i1⟩) main_call7_v14) (broadcastInDim S32768x64 ![0] bcast_S32768_S32768x64_0),
    TRef.nullary (TRef.of (T := ⟨S_, .f32⟩) main_call7_cst) (constant S_ .f32 0x7FC00000#32),
    TRef.unary (TRef.of (T := ⟨S_, .f32⟩) main_call7_cst) (TRef.of (T := ⟨S32768x64, .f32⟩) main_call7_v15) (broadcastInDim S32768x64 ![] bcast_S_S32768x64),
    TRef.ternary (TRef.of (T := ⟨S32768x64, .i1⟩) main_call7_v14) (TRef.of (T := ⟨S32768x64, .f32⟩) main_call7_v13) (TRef.of (T := ⟨S32768x64, .f32⟩) main_call7_v15) (TRef.of (T := ⟨S32768x64, .f32⟩) main_v427) select ]

theorem opsQT_sub : (opsQT : List (HloOp τ sig (Elt F))).Forall fun op => op.bufs ⊆ tcRefs τ sig := ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsQT_fresh : (opsQT : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩

/-- The reference's operations 471 to 487. -/
abbrev opsL : List (HloOp τ sig (Elt F)) :=
  [ binary main_v427 main_v412 main_v428 (subf : (⟨S32768x64, .f32⟩ : BufTy).Contents (Elt F) → (⟨S32768x64, .f32⟩ : BufTy).Contents (Elt F) → (⟨S32768x64, .f32⟩ : BufTy).Contents (Elt F)),
    binary main_v428 main_v428 main_v429 (mulf : (⟨S32768x64, .f32⟩ : BufTy).Contents (Elt F) → (⟨S32768x64, .f32⟩ : BufTy).Contents (Elt F) → (⟨S32768x64, .f32⟩ : BufTy).Contents (Elt F)),
    nullary main_cst_5 (constant S_ .f32 0x00000000#32),
    binary main_v429 main_cst_5 main_v430 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    nullary main_cst_6 (constant S_ .f32 0x4A000000#32),
    binary main_v430 main_cst_6 main_v431 (Host.divf : (⟨S_, .f32⟩ : BufTy).Contents (Elt F) → (⟨S_, .f32⟩ : BufTy).Contents (Elt F) → (⟨S_, .f32⟩ : BufTy).Contents (Elt F)),
    binary main_v427 main_v412 main_v432 (subf : (⟨S32768x64, .f32⟩ : BufTy).Contents (Elt F) → (⟨S32768x64, .f32⟩ : BufTy).Contents (Elt F) → (⟨S32768x64, .f32⟩ : BufTy).Contents (Elt F)),
    binary main_v432 main_v432 main_v433 (mulf : (⟨S32768x64, .f32⟩ : BufTy).Contents (Elt F) → (⟨S32768x64, .f32⟩ : BufTy).Contents (Elt F) → (⟨S32768x64, .f32⟩ : BufTy).Contents (Elt F)),
    nullary main_cst_7 (constant S_ .f32 0x00000000#32),
    binary main_v433 main_cst_7 main_v434 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    nullary main_cst_8 (constant S_ .f32 0x4A000000#32),
    binary main_v434 main_cst_8 main_v435 (Host.divf : (⟨S_, .f32⟩ : BufTy).Contents (Elt F) → (⟨S_, .f32⟩ : BufTy).Contents (Elt F) → (⟨S_, .f32⟩ : BufTy).Contents (Elt F)),
    nullary main_cst_9 (constant S_ .f32 0x3E800000#32),
    binary main_cst_9 main_v435 main_v436 (mulf : (⟨S_, .f32⟩ : BufTy).Contents (Elt F) → (⟨S_, .f32⟩ : BufTy).Contents (Elt F) → (⟨S_, .f32⟩ : BufTy).Contents (Elt F)),
    binary main_v431 main_v436 main_v437 (addf : (⟨S_, .f32⟩ : BufTy).Contents (Elt F) → (⟨S_, .f32⟩ : BufTy).Contents (Elt F) → (⟨S_, .f32⟩ : BufTy).Contents (Elt F)),
    binary main_v427 main_v412 main_v438 (subf : (⟨S32768x64, .f32⟩ : BufTy).Contents (Elt F) → (⟨S32768x64, .f32⟩ : BufTy).Contents (Elt F) → (⟨S32768x64, .f32⟩ : BufTy).Contents (Elt F)),
    binary main_v412 main_v438 main_v439 (addf : (⟨S32768x64, .f32⟩ : BufTy).Contents (Elt F) → (⟨S32768x64, .f32⟩ : BufTy).Contents (Elt F) → (⟨S32768x64, .f32⟩ : BufTy).Contents (Elt F)) ]

theorem opsL_sub : (opsL : List (HloOp τ sig (Elt F))).Forall fun op => op.bufs ⊆ tcRefs τ sig := ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

theorem opsL_fresh : (opsL : List (HloOp τ sig (Elt F))).Forall fun op => op.fresh = ∅ := ⟨rfl, rfl, rfl, rfl, rfl, rfl, rfl, rfl, rfl, rfl, rfl, rfl, rfl, rfl, rfl, rfl, rfl⟩

/-- The reference's operations 488 to 490. -/
abbrev opsPD1 : List (HloOp τ sig (Elt F)) :=
  [ reshape main_v439 main_v440 (rfl : (.f32 : EltTy) = .f32) shapeCasts_S32768x64_S512x8x8x64,
    nullary main_cst_10 (constant S_ .f32 0x00000000#32),
    binary main_v440 main_cst_10 main_v441 ((fun x v => pad S512x19x19x64 ![0, 2, 2, 0] ![0, 2, 2, 0] ![0, 1, 1, 0] x v pads_S512x8x8x64_S512x19x19x64_000_221_221_000 h_S_) : (⟨S512x8x8x64, .f32⟩ : BufTy).Contents (Elt F) → (⟨S_, .f32⟩ : BufTy).Contents (Elt F) → (⟨S512x19x19x64, .f32⟩ : BufTy).Contents (Elt F)) ]

theorem opsPD1_sub : (opsPD1 : List (HloOp τ sig (Elt F))).Forall fun op => op.bufs ⊆ tcRefs τ sig := ⟨reshape_bufs_sub .., nullary_bufs_sub .., binary_bufs_sub ..⟩

theorem opsPD1_fresh : (opsPD1 : List (HloOp τ sig (Elt F))).Forall fun op => op.fresh = ∅ := ⟨rfl, rfl, rfl⟩

/-- The reference's operations 491 to 515. -/
abbrev opsTD1_0 : List (HloOp τ sig (Elt F)) :=
  [ unary main_v441 main_v442 ((extractStridedSlice S512x16x16x64 ![0, 0, 0, 0] · slices_S512x19x19x64_S512x16x16x64_0_0_0_0) : (⟨S512x19x19x64, .f32⟩ : BufTy).Contents (Elt F) → (⟨S512x16x16x64, .f32⟩ : BufTy).Contents (Elt F)),
    reshape main_v442 main_v443 (rfl : (.f32 : EltTy) = .f32) shapeCasts_S512x16x16x64_S131072x64,
    binary main_v443 main_v108 main_v444 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    unary main_v441 main_v445 ((extractStridedSlice S512x16x16x64 ![0, 0, 1, 0] · slices_S512x19x19x64_S512x16x16x64_0_0_1_0) : (⟨S512x19x19x64, .f32⟩ : BufTy).Contents (Elt F) → (⟨S512x16x16x64, .f32⟩ : BufTy).Contents (Elt F)),
    reshape main_v445 main_v446 (rfl : (.f32 : EltTy) = .f32) shapeCasts_S512x16x16x64_S131072x64,
    binary main_v446 main_v110 main_v447 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v444 main_v447 main_v448 (addf : (⟨S131072x64, .f32⟩ : BufTy).Contents (Elt F) → (⟨S131072x64, .f32⟩ : BufTy).Contents (Elt F) → (⟨S131072x64, .f32⟩ : BufTy).Contents (Elt F)),
    unary main_v441 main_v449 ((extractStridedSlice S512x16x16x64 ![0, 0, 2, 0] · slices_S512x19x19x64_S512x16x16x64_0_0_2_0) : (⟨S512x19x19x64, .f32⟩ : BufTy).Contents (Elt F) → (⟨S512x16x16x64, .f32⟩ : BufTy).Contents (Elt F)),
    reshape main_v449 main_v450 (rfl : (.f32 : EltTy) = .f32) shapeCasts_S512x16x16x64_S131072x64,
    binary main_v450 main_v112 main_v451 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v448 main_v451 main_v452 (addf : (⟨S131072x64, .f32⟩ : BufTy).Contents (Elt F) → (⟨S131072x64, .f32⟩ : BufTy).Contents (Elt F) → (⟨S131072x64, .f32⟩ : BufTy).Contents (Elt F)),
    unary main_v441 main_v453 ((extractStridedSlice S512x16x16x64 ![0, 0, 3, 0] · slices_S512x19x19x64_S512x16x16x64_0_0_3_0) : (⟨S512x19x19x64, .f32⟩ : BufTy).Contents (Elt F) → (⟨S512x16x16x64, .f32⟩ : BufTy).Contents (Elt F)),
    reshape main_v453 main_v454 (rfl : (.f32 : EltTy) = .f32) shapeCasts_S512x16x16x64_S131072x64,
    binary main_v454 main_v114 main_v455 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v452 main_v455 main_v456 (addf : (⟨S131072x64, .f32⟩ : BufTy).Contents (Elt F) → (⟨S131072x64, .f32⟩ : BufTy).Contents (Elt F) → (⟨S131072x64, .f32⟩ : BufTy).Contents (Elt F)),
    unary main_v441 main_v457 ((extractStridedSlice S512x16x16x64 ![0, 1, 0, 0] · slices_S512x19x19x64_S512x16x16x64_0_1_0_0) : (⟨S512x19x19x64, .f32⟩ : BufTy).Contents (Elt F) → (⟨S512x16x16x64, .f32⟩ : BufTy).Contents (Elt F)),
    reshape main_v457 main_v458 (rfl : (.f32 : EltTy) = .f32) shapeCasts_S512x16x16x64_S131072x64,
    binary main_v458 main_v116 main_v459 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v456 main_v459 main_v460 (addf : (⟨S131072x64, .f32⟩ : BufTy).Contents (Elt F) → (⟨S131072x64, .f32⟩ : BufTy).Contents (Elt F) → (⟨S131072x64, .f32⟩ : BufTy).Contents (Elt F)),
    unary main_v441 main_v461 ((extractStridedSlice S512x16x16x64 ![0, 1, 1, 0] · slices_S512x19x19x64_S512x16x16x64_0_1_1_0) : (⟨S512x19x19x64, .f32⟩ : BufTy).Contents (Elt F) → (⟨S512x16x16x64, .f32⟩ : BufTy).Contents (Elt F)),
    reshape main_v461 main_v462 (rfl : (.f32 : EltTy) = .f32) shapeCasts_S512x16x16x64_S131072x64,
    binary main_v462 main_v118 main_v463 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v460 main_v463 main_v464 (addf : (⟨S131072x64, .f32⟩ : BufTy).Contents (Elt F) → (⟨S131072x64, .f32⟩ : BufTy).Contents (Elt F) → (⟨S131072x64, .f32⟩ : BufTy).Contents (Elt F)),
    unary main_v441 main_v465 ((extractStridedSlice S512x16x16x64 ![0, 1, 2, 0] · slices_S512x19x19x64_S512x16x16x64_0_1_2_0) : (⟨S512x19x19x64, .f32⟩ : BufTy).Contents (Elt F) → (⟨S512x16x16x64, .f32⟩ : BufTy).Contents (Elt F)),
    reshape main_v465 main_v466 (rfl : (.f32 : EltTy) = .f32) shapeCasts_S512x16x16x64_S131072x64 ]

theorem opsTD1_0_sub : (opsTD1_0 : List (HloOp τ sig (Elt F))).Forall fun op => op.bufs ⊆ tcRefs τ sig := ⟨unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub ..⟩

theorem opsTD1_0_fresh : (opsTD1_0 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl⟩

/-- The reference's operations 516 to 556. -/
abbrev opsTD1_1 : List (HloOp τ sig (Elt F)) :=
  [ binary main_v466 main_v120 main_v467 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v464 main_v467 main_v468 (addf : (⟨S131072x64, .f32⟩ : BufTy).Contents (Elt F) → (⟨S131072x64, .f32⟩ : BufTy).Contents (Elt F) → (⟨S131072x64, .f32⟩ : BufTy).Contents (Elt F)),
    unary main_v441 main_v469 ((extractStridedSlice S512x16x16x64 ![0, 1, 3, 0] · slices_S512x19x19x64_S512x16x16x64_0_1_3_0) : (⟨S512x19x19x64, .f32⟩ : BufTy).Contents (Elt F) → (⟨S512x16x16x64, .f32⟩ : BufTy).Contents (Elt F)),
    reshape main_v469 main_v470 (rfl : (.f32 : EltTy) = .f32) shapeCasts_S512x16x16x64_S131072x64,
    binary main_v470 main_v122 main_v471 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v468 main_v471 main_v472 (addf : (⟨S131072x64, .f32⟩ : BufTy).Contents (Elt F) → (⟨S131072x64, .f32⟩ : BufTy).Contents (Elt F) → (⟨S131072x64, .f32⟩ : BufTy).Contents (Elt F)),
    unary main_v441 main_v473 ((extractStridedSlice S512x16x16x64 ![0, 2, 0, 0] · slices_S512x19x19x64_S512x16x16x64_0_2_0_0) : (⟨S512x19x19x64, .f32⟩ : BufTy).Contents (Elt F) → (⟨S512x16x16x64, .f32⟩ : BufTy).Contents (Elt F)),
    reshape main_v473 main_v474 (rfl : (.f32 : EltTy) = .f32) shapeCasts_S512x16x16x64_S131072x64,
    binary main_v474 main_v124 main_v475 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v472 main_v475 main_v476 (addf : (⟨S131072x64, .f32⟩ : BufTy).Contents (Elt F) → (⟨S131072x64, .f32⟩ : BufTy).Contents (Elt F) → (⟨S131072x64, .f32⟩ : BufTy).Contents (Elt F)),
    unary main_v441 main_v477 ((extractStridedSlice S512x16x16x64 ![0, 2, 1, 0] · slices_S512x19x19x64_S512x16x16x64_0_2_1_0) : (⟨S512x19x19x64, .f32⟩ : BufTy).Contents (Elt F) → (⟨S512x16x16x64, .f32⟩ : BufTy).Contents (Elt F)),
    reshape main_v477 main_v478 (rfl : (.f32 : EltTy) = .f32) shapeCasts_S512x16x16x64_S131072x64,
    binary main_v478 main_v126 main_v479 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v476 main_v479 main_v480 (addf : (⟨S131072x64, .f32⟩ : BufTy).Contents (Elt F) → (⟨S131072x64, .f32⟩ : BufTy).Contents (Elt F) → (⟨S131072x64, .f32⟩ : BufTy).Contents (Elt F)),
    unary main_v441 main_v481 ((extractStridedSlice S512x16x16x64 ![0, 2, 2, 0] · slices_S512x19x19x64_S512x16x16x64_0_2_2_0) : (⟨S512x19x19x64, .f32⟩ : BufTy).Contents (Elt F) → (⟨S512x16x16x64, .f32⟩ : BufTy).Contents (Elt F)),
    reshape main_v481 main_v482 (rfl : (.f32 : EltTy) = .f32) shapeCasts_S512x16x16x64_S131072x64,
    binary main_v482 main_v128 main_v483 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v480 main_v483 main_v484 (addf : (⟨S131072x64, .f32⟩ : BufTy).Contents (Elt F) → (⟨S131072x64, .f32⟩ : BufTy).Contents (Elt F) → (⟨S131072x64, .f32⟩ : BufTy).Contents (Elt F)),
    unary main_v441 main_v485 ((extractStridedSlice S512x16x16x64 ![0, 2, 3, 0] · slices_S512x19x19x64_S512x16x16x64_0_2_3_0) : (⟨S512x19x19x64, .f32⟩ : BufTy).Contents (Elt F) → (⟨S512x16x16x64, .f32⟩ : BufTy).Contents (Elt F)),
    reshape main_v485 main_v486 (rfl : (.f32 : EltTy) = .f32) shapeCasts_S512x16x16x64_S131072x64,
    binary main_v486 main_v130 main_v487 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v484 main_v487 main_v488 (addf : (⟨S131072x64, .f32⟩ : BufTy).Contents (Elt F) → (⟨S131072x64, .f32⟩ : BufTy).Contents (Elt F) → (⟨S131072x64, .f32⟩ : BufTy).Contents (Elt F)),
    unary main_v441 main_v489 ((extractStridedSlice S512x16x16x64 ![0, 3, 0, 0] · slices_S512x19x19x64_S512x16x16x64_0_3_0_0) : (⟨S512x19x19x64, .f32⟩ : BufTy).Contents (Elt F) → (⟨S512x16x16x64, .f32⟩ : BufTy).Contents (Elt F)),
    reshape main_v489 main_v490 (rfl : (.f32 : EltTy) = .f32) shapeCasts_S512x16x16x64_S131072x64,
    binary main_v490 main_v132 main_v491 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v488 main_v491 main_v492 (addf : (⟨S131072x64, .f32⟩ : BufTy).Contents (Elt F) → (⟨S131072x64, .f32⟩ : BufTy).Contents (Elt F) → (⟨S131072x64, .f32⟩ : BufTy).Contents (Elt F)),
    unary main_v441 main_v493 ((extractStridedSlice S512x16x16x64 ![0, 3, 1, 0] · slices_S512x19x19x64_S512x16x16x64_0_3_1_0) : (⟨S512x19x19x64, .f32⟩ : BufTy).Contents (Elt F) → (⟨S512x16x16x64, .f32⟩ : BufTy).Contents (Elt F)),
    reshape main_v493 main_v494 (rfl : (.f32 : EltTy) = .f32) shapeCasts_S512x16x16x64_S131072x64,
    binary main_v494 main_v134 main_v495 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v492 main_v495 main_v496 (addf : (⟨S131072x64, .f32⟩ : BufTy).Contents (Elt F) → (⟨S131072x64, .f32⟩ : BufTy).Contents (Elt F) → (⟨S131072x64, .f32⟩ : BufTy).Contents (Elt F)),
    unary main_v441 main_v497 ((extractStridedSlice S512x16x16x64 ![0, 3, 2, 0] · slices_S512x19x19x64_S512x16x16x64_0_3_2_0) : (⟨S512x19x19x64, .f32⟩ : BufTy).Contents (Elt F) → (⟨S512x16x16x64, .f32⟩ : BufTy).Contents (Elt F)),
    reshape main_v497 main_v498 (rfl : (.f32 : EltTy) = .f32) shapeCasts_S512x16x16x64_S131072x64,
    binary main_v498 main_v136 main_v499 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v496 main_v499 main_v500 (addf : (⟨S131072x64, .f32⟩ : BufTy).Contents (Elt F) → (⟨S131072x64, .f32⟩ : BufTy).Contents (Elt F) → (⟨S131072x64, .f32⟩ : BufTy).Contents (Elt F)),
    unary main_v441 main_v501 ((extractStridedSlice S512x16x16x64 ![0, 3, 3, 0] · slices_S512x19x19x64_S512x16x16x64_0_3_3_0) : (⟨S512x19x19x64, .f32⟩ : BufTy).Contents (Elt F) → (⟨S512x16x16x64, .f32⟩ : BufTy).Contents (Elt F)),
    reshape main_v501 main_v502 (rfl : (.f32 : EltTy) = .f32) shapeCasts_S512x16x16x64_S131072x64,
    binary main_v502 main_v138 main_v503 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    binary main_v500 main_v503 main_v504 (addf : (⟨S131072x64, .f32⟩ : BufTy).Contents (Elt F) → (⟨S131072x64, .f32⟩ : BufTy).Contents (Elt F) → (⟨S131072x64, .f32⟩ : BufTy).Contents (Elt F)),
    unary main_arg9 main_v505 (broadcastInDim S1x64 ![1] bcast_S64_S1x64_1 : (⟨S64, .f32⟩ : BufTy).Contents (Elt F) → (⟨S1x64, .f32⟩ : BufTy).Contents (Elt F)),
    unary main_v505 main_v506 (broadcastInDim S131072x64 ![0, 1] bcast_S1x64_S131072x64_0_1 : (⟨S1x64, .f32⟩ : BufTy).Contents (Elt F) → (⟨S131072x64, .f32⟩ : BufTy).Contents (Elt F)),
    binary main_v504 main_v506 main_v507 (addf : (⟨S131072x64, .f32⟩ : BufTy).Contents (Elt F) → (⟨S131072x64, .f32⟩ : BufTy).Contents (Elt F) → (⟨S131072x64, .f32⟩ : BufTy).Contents (Elt F)) ]

theorem opsTD1_1_sub : (opsTD1_1 : List (HloOp τ sig (Elt F))).Forall fun op => op.bufs ⊆ tcRefs τ sig := ⟨binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩

theorem opsTD1_1_fresh : (opsTD1_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 557 to 562. -/
abbrev opsPD2 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S131072x64, .f32⟩) main_call8_v0) (broadcastInDim S131072x64 ![] bcast_S_S131072x64),
    TRef.binary (TRef.of (T := ⟨S131072x64, .f32⟩) main_v507) (TRef.of (T := ⟨S131072x64, .f32⟩) main_call8_v0) (TRef.of (T := ⟨S131072x64, .f32⟩) main_v508) maximumf,
    reshape main_v508 main_v509 (rfl : (.f32 : EltTy) = .f32) shapeCasts_S131072x64_S512x16x16x64,
    nullary main_cst_11 (constant S_ .f32 0x00000000#32),
    binary main_v509 main_cst_11 main_v510 ((fun x v => pad S512x35x35x64 ![0, 2, 2, 0] ![0, 2, 2, 0] ![0, 1, 1, 0] x v pads_S512x16x16x64_S512x35x35x64_000_221_221_000 h_S_) : (⟨S512x16x16x64, .f32⟩ : BufTy).Contents (Elt F) → (⟨S_, .f32⟩ : BufTy).Contents (Elt F) → (⟨S512x35x35x64, .f32⟩ : BufTy).Contents (Elt F)) ]

theorem opsPD2_sub : (opsPD2 : List (HloOp τ sig (Elt F))).Forall fun op => op.bufs ⊆ tcRefs τ sig := ⟨nullary_bufs_sub .., unary_bufs_sub .., binary_bufs_sub .., reshape_bufs_sub .., nullary_bufs_sub .., binary_bufs_sub ..⟩

theorem opsPD2_fresh : (opsPD2 : List (HloOp τ sig (Elt F))).Forall fun op => op.fresh = ∅ := ⟨rfl, rfl, rfl, rfl, rfl, rfl⟩

/-- The reference's operations 563 to 577. -/
abbrev opsTD2_0 : List (HloOp τ sig (Elt F)) :=
  [ unary main_v510 main_v511 ((extractStridedSlice S512x32x32x64 ![0, 0, 0, 0] · slices_S512x35x35x64_S512x32x32x64_0_0_0_0) : (⟨S512x35x35x64, .f32⟩ : BufTy).Contents (Elt F) → (⟨S512x32x32x64, .f32⟩ : BufTy).Contents (Elt F)),
    reshape main_v511 main_v512 (rfl : (.f32 : EltTy) = .f32) shapeCasts_S512x32x32x64_S524288x64,
    binary main_v512 main_v142 main_v513 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    unary main_v510 main_v514 ((extractStridedSlice S512x32x32x64 ![0, 0, 1, 0] · slices_S512x35x35x64_S512x32x32x64_0_0_1_0) : (⟨S512x35x35x64, .f32⟩ : BufTy).Contents (Elt F) → (⟨S512x32x32x64, .f32⟩ : BufTy).Contents (Elt F)),
    reshape main_v514 main_v515 (rfl : (.f32 : EltTy) = .f32) shapeCasts_S512x32x32x64_S524288x64,
    binary main_v515 main_v144 main_v516 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v513 main_v516 main_v517 (addf : (⟨S524288x32, .f32⟩ : BufTy).Contents (Elt F) → (⟨S524288x32, .f32⟩ : BufTy).Contents (Elt F) → (⟨S524288x32, .f32⟩ : BufTy).Contents (Elt F)),
    unary main_v510 main_v518 ((extractStridedSlice S512x32x32x64 ![0, 0, 2, 0] · slices_S512x35x35x64_S512x32x32x64_0_0_2_0) : (⟨S512x35x35x64, .f32⟩ : BufTy).Contents (Elt F) → (⟨S512x32x32x64, .f32⟩ : BufTy).Contents (Elt F)),
    reshape main_v518 main_v519 (rfl : (.f32 : EltTy) = .f32) shapeCasts_S512x32x32x64_S524288x64,
    binary main_v519 main_v146 main_v520 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v517 main_v520 main_v521 (addf : (⟨S524288x32, .f32⟩ : BufTy).Contents (Elt F) → (⟨S524288x32, .f32⟩ : BufTy).Contents (Elt F) → (⟨S524288x32, .f32⟩ : BufTy).Contents (Elt F)),
    unary main_v510 main_v522 ((extractStridedSlice S512x32x32x64 ![0, 0, 3, 0] · slices_S512x35x35x64_S512x32x32x64_0_0_3_0) : (⟨S512x35x35x64, .f32⟩ : BufTy).Contents (Elt F) → (⟨S512x32x32x64, .f32⟩ : BufTy).Contents (Elt F)),
    reshape main_v522 main_v523 (rfl : (.f32 : EltTy) = .f32) shapeCasts_S512x32x32x64_S524288x64,
    binary main_v523 main_v148 main_v524 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v521 main_v524 main_v525 (addf : (⟨S524288x32, .f32⟩ : BufTy).Contents (Elt F) → (⟨S524288x32, .f32⟩ : BufTy).Contents (Elt F) → (⟨S524288x32, .f32⟩ : BufTy).Contents (Elt F)) ]

theorem opsTD2_0_sub : (opsTD2_0 : List (HloOp τ sig (Elt F))).Forall fun op => op.bufs ⊆ tcRefs τ sig := ⟨unary_bufs_sub .., reshape_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub ..⟩

theorem opsTD2_0_fresh : (opsTD2_0 : List (HloOp τ sig (Elt F))).Forall fun op => op.fresh = ∅ := ⟨rfl, rfl, rfl, rfl, rfl, rfl, rfl, rfl, rfl, rfl, rfl, rfl, rfl, rfl, rfl⟩

/-- The reference's operations 578 to 628. -/
abbrev opsTD2_1 : List (HloOp τ sig (Elt F)) :=
  [ unary main_v510 main_v526 ((extractStridedSlice S512x32x32x64 ![0, 1, 0, 0] · slices_S512x35x35x64_S512x32x32x64_0_1_0_0) : (⟨S512x35x35x64, .f32⟩ : BufTy).Contents (Elt F) → (⟨S512x32x32x64, .f32⟩ : BufTy).Contents (Elt F)),
    reshape main_v526 main_v527 (rfl : (.f32 : EltTy) = .f32) shapeCasts_S512x32x32x64_S524288x64,
    binary main_v527 main_v150 main_v528 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v525 main_v528 main_v529 (addf : (⟨S524288x32, .f32⟩ : BufTy).Contents (Elt F) → (⟨S524288x32, .f32⟩ : BufTy).Contents (Elt F) → (⟨S524288x32, .f32⟩ : BufTy).Contents (Elt F)),
    unary main_v510 main_v530 ((extractStridedSlice S512x32x32x64 ![0, 1, 1, 0] · slices_S512x35x35x64_S512x32x32x64_0_1_1_0) : (⟨S512x35x35x64, .f32⟩ : BufTy).Contents (Elt F) → (⟨S512x32x32x64, .f32⟩ : BufTy).Contents (Elt F)),
    reshape main_v530 main_v531 (rfl : (.f32 : EltTy) = .f32) shapeCasts_S512x32x32x64_S524288x64,
    binary main_v531 main_v152 main_v532 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v529 main_v532 main_v533 (addf : (⟨S524288x32, .f32⟩ : BufTy).Contents (Elt F) → (⟨S524288x32, .f32⟩ : BufTy).Contents (Elt F) → (⟨S524288x32, .f32⟩ : BufTy).Contents (Elt F)),
    unary main_v510 main_v534 ((extractStridedSlice S512x32x32x64 ![0, 1, 2, 0] · slices_S512x35x35x64_S512x32x32x64_0_1_2_0) : (⟨S512x35x35x64, .f32⟩ : BufTy).Contents (Elt F) → (⟨S512x32x32x64, .f32⟩ : BufTy).Contents (Elt F)),
    reshape main_v534 main_v535 (rfl : (.f32 : EltTy) = .f32) shapeCasts_S512x32x32x64_S524288x64,
    binary main_v535 main_v154 main_v536 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v533 main_v536 main_v537 (addf : (⟨S524288x32, .f32⟩ : BufTy).Contents (Elt F) → (⟨S524288x32, .f32⟩ : BufTy).Contents (Elt F) → (⟨S524288x32, .f32⟩ : BufTy).Contents (Elt F)),
    unary main_v510 main_v538 ((extractStridedSlice S512x32x32x64 ![0, 1, 3, 0] · slices_S512x35x35x64_S512x32x32x64_0_1_3_0) : (⟨S512x35x35x64, .f32⟩ : BufTy).Contents (Elt F) → (⟨S512x32x32x64, .f32⟩ : BufTy).Contents (Elt F)),
    reshape main_v538 main_v539 (rfl : (.f32 : EltTy) = .f32) shapeCasts_S512x32x32x64_S524288x64,
    binary main_v539 main_v156 main_v540 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v537 main_v540 main_v541 (addf : (⟨S524288x32, .f32⟩ : BufTy).Contents (Elt F) → (⟨S524288x32, .f32⟩ : BufTy).Contents (Elt F) → (⟨S524288x32, .f32⟩ : BufTy).Contents (Elt F)),
    unary main_v510 main_v542 ((extractStridedSlice S512x32x32x64 ![0, 2, 0, 0] · slices_S512x35x35x64_S512x32x32x64_0_2_0_0) : (⟨S512x35x35x64, .f32⟩ : BufTy).Contents (Elt F) → (⟨S512x32x32x64, .f32⟩ : BufTy).Contents (Elt F)),
    reshape main_v542 main_v543 (rfl : (.f32 : EltTy) = .f32) shapeCasts_S512x32x32x64_S524288x64,
    binary main_v543 main_v158 main_v544 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v541 main_v544 main_v545 (addf : (⟨S524288x32, .f32⟩ : BufTy).Contents (Elt F) → (⟨S524288x32, .f32⟩ : BufTy).Contents (Elt F) → (⟨S524288x32, .f32⟩ : BufTy).Contents (Elt F)),
    unary main_v510 main_v546 ((extractStridedSlice S512x32x32x64 ![0, 2, 1, 0] · slices_S512x35x35x64_S512x32x32x64_0_2_1_0) : (⟨S512x35x35x64, .f32⟩ : BufTy).Contents (Elt F) → (⟨S512x32x32x64, .f32⟩ : BufTy).Contents (Elt F)),
    reshape main_v546 main_v547 (rfl : (.f32 : EltTy) = .f32) shapeCasts_S512x32x32x64_S524288x64,
    binary main_v547 main_v160 main_v548 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v545 main_v548 main_v549 (addf : (⟨S524288x32, .f32⟩ : BufTy).Contents (Elt F) → (⟨S524288x32, .f32⟩ : BufTy).Contents (Elt F) → (⟨S524288x32, .f32⟩ : BufTy).Contents (Elt F)),
    unary main_v510 main_v550 ((extractStridedSlice S512x32x32x64 ![0, 2, 2, 0] · slices_S512x35x35x64_S512x32x32x64_0_2_2_0) : (⟨S512x35x35x64, .f32⟩ : BufTy).Contents (Elt F) → (⟨S512x32x32x64, .f32⟩ : BufTy).Contents (Elt F)),
    reshape main_v550 main_v551 (rfl : (.f32 : EltTy) = .f32) shapeCasts_S512x32x32x64_S524288x64,
    binary main_v551 main_v162 main_v552 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v549 main_v552 main_v553 (addf : (⟨S524288x32, .f32⟩ : BufTy).Contents (Elt F) → (⟨S524288x32, .f32⟩ : BufTy).Contents (Elt F) → (⟨S524288x32, .f32⟩ : BufTy).Contents (Elt F)),
    unary main_v510 main_v554 ((extractStridedSlice S512x32x32x64 ![0, 2, 3, 0] · slices_S512x35x35x64_S512x32x32x64_0_2_3_0) : (⟨S512x35x35x64, .f32⟩ : BufTy).Contents (Elt F) → (⟨S512x32x32x64, .f32⟩ : BufTy).Contents (Elt F)),
    reshape main_v554 main_v555 (rfl : (.f32 : EltTy) = .f32) shapeCasts_S512x32x32x64_S524288x64,
    binary main_v555 main_v164 main_v556 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v553 main_v556 main_v557 (addf : (⟨S524288x32, .f32⟩ : BufTy).Contents (Elt F) → (⟨S524288x32, .f32⟩ : BufTy).Contents (Elt F) → (⟨S524288x32, .f32⟩ : BufTy).Contents (Elt F)),
    unary main_v510 main_v558 ((extractStridedSlice S512x32x32x64 ![0, 3, 0, 0] · slices_S512x35x35x64_S512x32x32x64_0_3_0_0) : (⟨S512x35x35x64, .f32⟩ : BufTy).Contents (Elt F) → (⟨S512x32x32x64, .f32⟩ : BufTy).Contents (Elt F)),
    reshape main_v558 main_v559 (rfl : (.f32 : EltTy) = .f32) shapeCasts_S512x32x32x64_S524288x64,
    binary main_v559 main_v166 main_v560 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v557 main_v560 main_v561 (addf : (⟨S524288x32, .f32⟩ : BufTy).Contents (Elt F) → (⟨S524288x32, .f32⟩ : BufTy).Contents (Elt F) → (⟨S524288x32, .f32⟩ : BufTy).Contents (Elt F)),
    unary main_v510 main_v562 ((extractStridedSlice S512x32x32x64 ![0, 3, 1, 0] · slices_S512x35x35x64_S512x32x32x64_0_3_1_0) : (⟨S512x35x35x64, .f32⟩ : BufTy).Contents (Elt F) → (⟨S512x32x32x64, .f32⟩ : BufTy).Contents (Elt F)),
    reshape main_v562 main_v563 (rfl : (.f32 : EltTy) = .f32) shapeCasts_S512x32x32x64_S524288x64,
    binary main_v563 main_v168 main_v564 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v561 main_v564 main_v565 (addf : (⟨S524288x32, .f32⟩ : BufTy).Contents (Elt F) → (⟨S524288x32, .f32⟩ : BufTy).Contents (Elt F) → (⟨S524288x32, .f32⟩ : BufTy).Contents (Elt F)),
    unary main_v510 main_v566 ((extractStridedSlice S512x32x32x64 ![0, 3, 2, 0] · slices_S512x35x35x64_S512x32x32x64_0_3_2_0) : (⟨S512x35x35x64, .f32⟩ : BufTy).Contents (Elt F) → (⟨S512x32x32x64, .f32⟩ : BufTy).Contents (Elt F)),
    reshape main_v566 main_v567 (rfl : (.f32 : EltTy) = .f32) shapeCasts_S512x32x32x64_S524288x64,
    binary main_v567 main_v170 main_v568 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v565 main_v568 main_v569 (addf : (⟨S524288x32, .f32⟩ : BufTy).Contents (Elt F) → (⟨S524288x32, .f32⟩ : BufTy).Contents (Elt F) → (⟨S524288x32, .f32⟩ : BufTy).Contents (Elt F)),
    unary main_v510 main_v570 ((extractStridedSlice S512x32x32x64 ![0, 3, 3, 0] · slices_S512x35x35x64_S512x32x32x64_0_3_3_0) : (⟨S512x35x35x64, .f32⟩ : BufTy).Contents (Elt F) → (⟨S512x32x32x64, .f32⟩ : BufTy).Contents (Elt F)),
    reshape main_v570 main_v571 (rfl : (.f32 : EltTy) = .f32) shapeCasts_S512x32x32x64_S524288x64,
    binary main_v571 main_v172 main_v572 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    binary main_v569 main_v572 main_v573 (addf : (⟨S524288x32, .f32⟩ : BufTy).Contents (Elt F) → (⟨S524288x32, .f32⟩ : BufTy).Contents (Elt F) → (⟨S524288x32, .f32⟩ : BufTy).Contents (Elt F)),
    unary main_arg11 main_v574 (broadcastInDim S1x32 ![1] bcast_S32_S1x32_1 : (⟨S32, .f32⟩ : BufTy).Contents (Elt F) → (⟨S1x32, .f32⟩ : BufTy).Contents (Elt F)),
    unary main_v574 main_v575 (broadcastInDim S524288x32 ![0, 1] bcast_S1x32_S524288x32_0_1 : (⟨S1x32, .f32⟩ : BufTy).Contents (Elt F) → (⟨S524288x32, .f32⟩ : BufTy).Contents (Elt F)),
    binary main_v573 main_v575 main_v576 (addf : (⟨S524288x32, .f32⟩ : BufTy).Contents (Elt F) → (⟨S524288x32, .f32⟩ : BufTy).Contents (Elt F) → (⟨S524288x32, .f32⟩ : BufTy).Contents (Elt F)) ]

theorem opsTD2_1_sub : (opsTD2_1 : List (HloOp τ sig (Elt F))).Forall fun op => op.bufs ⊆ tcRefs τ sig := ⟨unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub .., binary_bufs_sub ..⟩

theorem opsTD2_1_fresh : (opsTD2_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 629 to 634. -/
abbrev opsPD3 : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S524288x32, .f32⟩) main_call9_v0) (broadcastInDim S524288x32 ![] bcast_S_S524288x32),
    TRef.binary (TRef.of (T := ⟨S524288x32, .f32⟩) main_v576) (TRef.of (T := ⟨S524288x32, .f32⟩) main_call9_v0) (TRef.of (T := ⟨S524288x32, .f32⟩) main_v577) maximumf,
    reshape main_v577 main_v578 (rfl : (.f32 : EltTy) = .f32) shapeCasts_S524288x32_S512x32x32x32,
    nullary main_cst_12 (constant S_ .f32 0x00000000#32),
    binary main_v578 main_cst_12 main_v579 ((fun x v => pad S512x67x67x32 ![0, 2, 2, 0] ![0, 2, 2, 0] ![0, 1, 1, 0] x v pads_S512x32x32x32_S512x67x67x32_000_221_221_000 h_S_) : (⟨S512x32x32x32, .f32⟩ : BufTy).Contents (Elt F) → (⟨S_, .f32⟩ : BufTy).Contents (Elt F) → (⟨S512x67x67x32, .f32⟩ : BufTy).Contents (Elt F)) ]

theorem opsPD3_sub : (opsPD3 : List (HloOp τ sig (Elt F))).Forall fun op => op.bufs ⊆ tcRefs τ sig := ⟨nullary_bufs_sub .., unary_bufs_sub .., binary_bufs_sub .., reshape_bufs_sub .., nullary_bufs_sub .., binary_bufs_sub ..⟩

theorem opsPD3_fresh : (opsPD3 : List (HloOp τ sig (Elt F))).Forall fun op => op.fresh = ∅ := ⟨rfl, rfl, rfl, rfl, rfl, rfl⟩

/-- The reference's operations 635 to 639. -/
abbrev opsTD3_0 : List (HloOp τ sig (Elt F)) :=
  [ unary main_v579 main_v580 ((extractStridedSlice S512x64x64x32 ![0, 0, 0, 0] · slices_S512x67x67x32_S512x64x64x32_0_0_0_0) : (⟨S512x67x67x32, .f32⟩ : BufTy).Contents (Elt F) → (⟨S512x64x64x32, .f32⟩ : BufTy).Contents (Elt F)),
    reshape main_v580 main_v581 (rfl : (.f32 : EltTy) = .f32) shapeCasts_S512x64x64x32_S2097152x32,
    binary main_v581 main_v176 main_v582 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    unary main_v579 main_v583 ((extractStridedSlice S512x64x64x32 ![0, 0, 1, 0] · slices_S512x67x67x32_S512x64x64x32_0_0_1_0) : (⟨S512x67x67x32, .f32⟩ : BufTy).Contents (Elt F) → (⟨S512x64x64x32, .f32⟩ : BufTy).Contents (Elt F)),
    reshape main_v583 main_v584 (rfl : (.f32 : EltTy) = .f32) shapeCasts_S512x64x64x32_S2097152x32 ]

theorem opsTD3_0_sub : (opsTD3_0 : List (HloOp τ sig (Elt F))).Forall fun op => op.bufs ⊆ tcRefs τ sig := ⟨unary_bufs_sub .., reshape_bufs_sub .., binary_bufs_sub .., unary_bufs_sub .., reshape_bufs_sub ..⟩

theorem opsTD3_0_fresh : (opsTD3_0 : List (HloOp τ sig (Elt F))).Forall fun op => op.fresh = ∅ := ⟨rfl, rfl, rfl, rfl, rfl⟩

/-- The reference's operations 640 to 699. -/
abbrev opsTD3_1 : List (HloOp τ sig (Elt F)) :=
  [ binary main_v584 main_v178 main_v585 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v582 main_v585 main_v586 (addf : (⟨S2097152x1, .f32⟩ : BufTy).Contents (Elt F) → (⟨S2097152x1, .f32⟩ : BufTy).Contents (Elt F) → (⟨S2097152x1, .f32⟩ : BufTy).Contents (Elt F)),
    unary main_v579 main_v587 ((extractStridedSlice S512x64x64x32 ![0, 0, 2, 0] · slices_S512x67x67x32_S512x64x64x32_0_0_2_0) : (⟨S512x67x67x32, .f32⟩ : BufTy).Contents (Elt F) → (⟨S512x64x64x32, .f32⟩ : BufTy).Contents (Elt F)),
    reshape main_v587 main_v588 (rfl : (.f32 : EltTy) = .f32) shapeCasts_S512x64x64x32_S2097152x32,
    binary main_v588 main_v180 main_v589 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v586 main_v589 main_v590 (addf : (⟨S2097152x1, .f32⟩ : BufTy).Contents (Elt F) → (⟨S2097152x1, .f32⟩ : BufTy).Contents (Elt F) → (⟨S2097152x1, .f32⟩ : BufTy).Contents (Elt F)),
    unary main_v579 main_v591 ((extractStridedSlice S512x64x64x32 ![0, 0, 3, 0] · slices_S512x67x67x32_S512x64x64x32_0_0_3_0) : (⟨S512x67x67x32, .f32⟩ : BufTy).Contents (Elt F) → (⟨S512x64x64x32, .f32⟩ : BufTy).Contents (Elt F)),
    reshape main_v591 main_v592 (rfl : (.f32 : EltTy) = .f32) shapeCasts_S512x64x64x32_S2097152x32,
    binary main_v592 main_v182 main_v593 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v590 main_v593 main_v594 (addf : (⟨S2097152x1, .f32⟩ : BufTy).Contents (Elt F) → (⟨S2097152x1, .f32⟩ : BufTy).Contents (Elt F) → (⟨S2097152x1, .f32⟩ : BufTy).Contents (Elt F)),
    unary main_v579 main_v595 ((extractStridedSlice S512x64x64x32 ![0, 1, 0, 0] · slices_S512x67x67x32_S512x64x64x32_0_1_0_0) : (⟨S512x67x67x32, .f32⟩ : BufTy).Contents (Elt F) → (⟨S512x64x64x32, .f32⟩ : BufTy).Contents (Elt F)),
    reshape main_v595 main_v596 (rfl : (.f32 : EltTy) = .f32) shapeCasts_S512x64x64x32_S2097152x32,
    binary main_v596 main_v184 main_v597 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v594 main_v597 main_v598 (addf : (⟨S2097152x1, .f32⟩ : BufTy).Contents (Elt F) → (⟨S2097152x1, .f32⟩ : BufTy).Contents (Elt F) → (⟨S2097152x1, .f32⟩ : BufTy).Contents (Elt F)),
    unary main_v579 main_v599 ((extractStridedSlice S512x64x64x32 ![0, 1, 1, 0] · slices_S512x67x67x32_S512x64x64x32_0_1_1_0) : (⟨S512x67x67x32, .f32⟩ : BufTy).Contents (Elt F) → (⟨S512x64x64x32, .f32⟩ : BufTy).Contents (Elt F)),
    reshape main_v599 main_v600 (rfl : (.f32 : EltTy) = .f32) shapeCasts_S512x64x64x32_S2097152x32,
    binary main_v600 main_v186 main_v601 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v598 main_v601 main_v602 (addf : (⟨S2097152x1, .f32⟩ : BufTy).Contents (Elt F) → (⟨S2097152x1, .f32⟩ : BufTy).Contents (Elt F) → (⟨S2097152x1, .f32⟩ : BufTy).Contents (Elt F)),
    unary main_v579 main_v603 ((extractStridedSlice S512x64x64x32 ![0, 1, 2, 0] · slices_S512x67x67x32_S512x64x64x32_0_1_2_0) : (⟨S512x67x67x32, .f32⟩ : BufTy).Contents (Elt F) → (⟨S512x64x64x32, .f32⟩ : BufTy).Contents (Elt F)),
    reshape main_v603 main_v604 (rfl : (.f32 : EltTy) = .f32) shapeCasts_S512x64x64x32_S2097152x32,
    binary main_v604 main_v188 main_v605 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v602 main_v605 main_v606 (addf : (⟨S2097152x1, .f32⟩ : BufTy).Contents (Elt F) → (⟨S2097152x1, .f32⟩ : BufTy).Contents (Elt F) → (⟨S2097152x1, .f32⟩ : BufTy).Contents (Elt F)),
    unary main_v579 main_v607 ((extractStridedSlice S512x64x64x32 ![0, 1, 3, 0] · slices_S512x67x67x32_S512x64x64x32_0_1_3_0) : (⟨S512x67x67x32, .f32⟩ : BufTy).Contents (Elt F) → (⟨S512x64x64x32, .f32⟩ : BufTy).Contents (Elt F)),
    reshape main_v607 main_v608 (rfl : (.f32 : EltTy) = .f32) shapeCasts_S512x64x64x32_S2097152x32,
    binary main_v608 main_v190 main_v609 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v606 main_v609 main_v610 (addf : (⟨S2097152x1, .f32⟩ : BufTy).Contents (Elt F) → (⟨S2097152x1, .f32⟩ : BufTy).Contents (Elt F) → (⟨S2097152x1, .f32⟩ : BufTy).Contents (Elt F)),
    unary main_v579 main_v611 ((extractStridedSlice S512x64x64x32 ![0, 2, 0, 0] · slices_S512x67x67x32_S512x64x64x32_0_2_0_0) : (⟨S512x67x67x32, .f32⟩ : BufTy).Contents (Elt F) → (⟨S512x64x64x32, .f32⟩ : BufTy).Contents (Elt F)),
    reshape main_v611 main_v612 (rfl : (.f32 : EltTy) = .f32) shapeCasts_S512x64x64x32_S2097152x32,
    binary main_v612 main_v192 main_v613 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v610 main_v613 main_v614 (addf : (⟨S2097152x1, .f32⟩ : BufTy).Contents (Elt F) → (⟨S2097152x1, .f32⟩ : BufTy).Contents (Elt F) → (⟨S2097152x1, .f32⟩ : BufTy).Contents (Elt F)),
    unary main_v579 main_v615 ((extractStridedSlice S512x64x64x32 ![0, 2, 1, 0] · slices_S512x67x67x32_S512x64x64x32_0_2_1_0) : (⟨S512x67x67x32, .f32⟩ : BufTy).Contents (Elt F) → (⟨S512x64x64x32, .f32⟩ : BufTy).Contents (Elt F)),
    reshape main_v615 main_v616 (rfl : (.f32 : EltTy) = .f32) shapeCasts_S512x64x64x32_S2097152x32,
    binary main_v616 main_v194 main_v617 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v614 main_v617 main_v618 (addf : (⟨S2097152x1, .f32⟩ : BufTy).Contents (Elt F) → (⟨S2097152x1, .f32⟩ : BufTy).Contents (Elt F) → (⟨S2097152x1, .f32⟩ : BufTy).Contents (Elt F)),
    unary main_v579 main_v619 ((extractStridedSlice S512x64x64x32 ![0, 2, 2, 0] · slices_S512x67x67x32_S512x64x64x32_0_2_2_0) : (⟨S512x67x67x32, .f32⟩ : BufTy).Contents (Elt F) → (⟨S512x64x64x32, .f32⟩ : BufTy).Contents (Elt F)),
    reshape main_v619 main_v620 (rfl : (.f32 : EltTy) = .f32) shapeCasts_S512x64x64x32_S2097152x32,
    binary main_v620 main_v196 main_v621 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v618 main_v621 main_v622 (addf : (⟨S2097152x1, .f32⟩ : BufTy).Contents (Elt F) → (⟨S2097152x1, .f32⟩ : BufTy).Contents (Elt F) → (⟨S2097152x1, .f32⟩ : BufTy).Contents (Elt F)),
    unary main_v579 main_v623 ((extractStridedSlice S512x64x64x32 ![0, 2, 3, 0] · slices_S512x67x67x32_S512x64x64x32_0_2_3_0) : (⟨S512x67x67x32, .f32⟩ : BufTy).Contents (Elt F) → (⟨S512x64x64x32, .f32⟩ : BufTy).Contents (Elt F)),
    reshape main_v623 main_v624 (rfl : (.f32 : EltTy) = .f32) shapeCasts_S512x64x64x32_S2097152x32,
    binary main_v624 main_v198 main_v625 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v622 main_v625 main_v626 (addf : (⟨S2097152x1, .f32⟩ : BufTy).Contents (Elt F) → (⟨S2097152x1, .f32⟩ : BufTy).Contents (Elt F) → (⟨S2097152x1, .f32⟩ : BufTy).Contents (Elt F)),
    unary main_v579 main_v627 ((extractStridedSlice S512x64x64x32 ![0, 3, 0, 0] · slices_S512x67x67x32_S512x64x64x32_0_3_0_0) : (⟨S512x67x67x32, .f32⟩ : BufTy).Contents (Elt F) → (⟨S512x64x64x32, .f32⟩ : BufTy).Contents (Elt F)),
    reshape main_v627 main_v628 (rfl : (.f32 : EltTy) = .f32) shapeCasts_S512x64x64x32_S2097152x32,
    binary main_v628 main_v200 main_v629 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v626 main_v629 main_v630 (addf : (⟨S2097152x1, .f32⟩ : BufTy).Contents (Elt F) → (⟨S2097152x1, .f32⟩ : BufTy).Contents (Elt F) → (⟨S2097152x1, .f32⟩ : BufTy).Contents (Elt F)),
    unary main_v579 main_v631 ((extractStridedSlice S512x64x64x32 ![0, 3, 1, 0] · slices_S512x67x67x32_S512x64x64x32_0_3_1_0) : (⟨S512x67x67x32, .f32⟩ : BufTy).Contents (Elt F) → (⟨S512x64x64x32, .f32⟩ : BufTy).Contents (Elt F)),
    reshape main_v631 main_v632 (rfl : (.f32 : EltTy) = .f32) shapeCasts_S512x64x64x32_S2097152x32,
    binary main_v632 main_v202 main_v633 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v630 main_v633 main_v634 (addf : (⟨S2097152x1, .f32⟩ : BufTy).Contents (Elt F) → (⟨S2097152x1, .f32⟩ : BufTy).Contents (Elt F) → (⟨S2097152x1, .f32⟩ : BufTy).Contents (Elt F)),
    unary main_v579 main_v635 ((extractStridedSlice S512x64x64x32 ![0, 3, 2, 0] · slices_S512x67x67x32_S512x64x64x32_0_3_2_0) : (⟨S512x67x67x32, .f32⟩ : BufTy).Contents (Elt F) → (⟨S512x64x64x32, .f32⟩ : BufTy).Contents (Elt F)),
    reshape main_v635 main_v636 (rfl : (.f32 : EltTy) = .f32) shapeCasts_S512x64x64x32_S2097152x32,
    binary main_v636 main_v204 main_v637 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v634 main_v637 main_v638 (addf : (⟨S2097152x1, .f32⟩ : BufTy).Contents (Elt F) → (⟨S2097152x1, .f32⟩ : BufTy).Contents (Elt F) → (⟨S2097152x1, .f32⟩ : BufTy).Contents (Elt F)),
    unary main_v579 main_v639 ((extractStridedSlice S512x64x64x32 ![0, 3, 3, 0] · slices_S512x67x67x32_S512x64x64x32_0_3_3_0) : (⟨S512x67x67x32, .f32⟩ : BufTy).Contents (Elt F) → (⟨S512x64x64x32, .f32⟩ : BufTy).Contents (Elt F)),
    reshape main_v639 main_v640 (rfl : (.f32 : EltTy) = .f32) shapeCasts_S512x64x64x32_S2097152x32,
    binary main_v640 main_v206 main_v641 ((fun l r => Host.dotGeneral dot_S2097152x32_S32x1_S2097152x1_1_0_0_1_n_n none l r) : (⟨S2097152x32, .f32⟩ : BufTy).Contents (Elt F) → (⟨S32x1, .f32⟩ : BufTy).Contents (Elt F) → (⟨S2097152x1, .f32⟩ : BufTy).Contents (Elt F)),
    binary main_v638 main_v641 main_v642 (addf : (⟨S2097152x1, .f32⟩ : BufTy).Contents (Elt F) → (⟨S2097152x1, .f32⟩ : BufTy).Contents (Elt F) → (⟨S2097152x1, .f32⟩ : BufTy).Contents (Elt F)),
    unary main_arg13 main_v643 (broadcastInDim S1x1 ![1] bcast_S1_S1x1_1 : (⟨S1, .f32⟩ : BufTy).Contents (Elt F) → (⟨S1x1, .f32⟩ : BufTy).Contents (Elt F)),
    unary main_v643 main_v644 (broadcastInDim S2097152x1 ![0, 1] bcast_S1x1_S2097152x1_0_1 : (⟨S1x1, .f32⟩ : BufTy).Contents (Elt F) → (⟨S2097152x1, .f32⟩ : BufTy).Contents (Elt F)) ]

theorem opsTD3_1_sub : (opsTD3_1 : List (HloOp τ sig (Elt F))).Forall fun op => op.bufs ⊆ tcRefs τ sig := ⟨binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., unary_bufs_sub ..⟩

theorem opsTD3_1_fresh : (opsTD3_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The reference's operations 700 to 700. -/
abbrev opsTD3_2 : List (HloOp τ sig (Elt F)) :=
  [ binary main_v642 main_v644 main_v645 (addf : (⟨S2097152x1, .f32⟩ : BufTy).Contents (Elt F) → (⟨S2097152x1, .f32⟩ : BufTy).Contents (Elt F) → (⟨S2097152x1, .f32⟩ : BufTy).Contents (Elt F)) ]

theorem opsTD3_2_sub : (opsTD3_2 : List (HloOp τ sig (Elt F))).Forall fun op => op.bufs ⊆ tcRefs τ sig := binary_bufs_sub ..

theorem opsTD3_2_fresh : (opsTD3_2 : List (HloOp τ sig (Elt F))).Forall fun op => op.fresh = ∅ := rfl

/-- The reference's operations 701 to 712. -/
abbrev opsE : List (HloOp τ sig (Elt F)) :=
  [ unary main_v645 main_v646 (Host.tanh : (⟨S2097152x1, .f32⟩ : BufTy).Contents (Elt F) → (⟨S2097152x1, .f32⟩ : BufTy).Contents (Elt F)),
    reshape main_v646 main_v647 (rfl : (.f32 : EltTy) = .f32) shapeCasts_S2097152x1_S512x1x64x64,
    reshape main_v439 main_v648 (rfl : (.f32 : EltTy) = .f32) shapeCasts_S32768x64_S512x64x64,
    nullary main_cst_13 (constant S_ .f32 0x00000000#32),
    binary main_v648 main_cst_13 main_v649 ((fun x v => Host.reduceAdd x v reducesTo_S512x64x64_S512x64_d1 h_S_) : (⟨S512x64x64, .f32⟩ : BufTy).Contents (Elt F) → (⟨S_, .f32⟩ : BufTy).Contents (Elt F) → (⟨S512x64, .f32⟩ : BufTy).Contents (Elt F)),
    nullary main_cst_14 (constant S_ .f32 0x42800000#32),
    unary main_cst_14 main_v650 (broadcastInDim S512x64 ![] bcast_S_S512x64 : (⟨S_, .f32⟩ : BufTy).Contents (Elt F) → (⟨S512x64, .f32⟩ : BufTy).Contents (Elt F)),
    binary main_v649 main_v650 main_v651 (Host.divf : (⟨S512x64, .f32⟩ : BufTy).Contents (Elt F) → (⟨S512x64, .f32⟩ : BufTy).Contents (Elt F) → (⟨S512x64, .f32⟩ : BufTy).Contents (Elt F)),
    reshape main_v651 main_v652 (rfl : (.f32 : EltTy) = .f32) shapeCasts_S512x64_S32x16x64,
    reshape main_v426 main_v653 (rfl : (.i32 : EltTy) = .i32) shapeCasts_S32768_S32x16x64,
    unary main_v653 main_v654 ((extractStridedSlice S32x16x1 ![0, 0, 0] · slices_S32x16x64_S32x16x1_0_0_0) : (⟨S32x16x64, .i32⟩ : BufTy).Contents (Elt F) → (⟨S32x16x1, .i32⟩ : BufTy).Contents (Elt F)),
    reshape main_v654 main_v655 (rfl : (.i32 : EltTy) = .i32) shapeCasts_S32x16x1_S32x16 ]

theorem opsE_sub : (opsE : List (HloOp τ sig (Elt F))).Forall fun op => op.bufs ⊆ tcRefs τ sig := ⟨unary_bufs_sub .., reshape_bufs_sub .., reshape_bufs_sub .., nullary_bufs_sub .., binary_bufs_sub .., nullary_bufs_sub .., unary_bufs_sub .., binary_bufs_sub .., reshape_bufs_sub .., reshape_bufs_sub .., unary_bufs_sub .., reshape_bufs_sub ..⟩

theorem opsE_fresh : (opsE : List (HloOp τ sig (Elt F))).Forall fun op => op.fresh = ∅ := ⟨rfl, rfl, rfl, rfl, rfl, rfl, rfl, rfl, rfl, rfl, rfl, rfl⟩

end Cert.RefRun

end
-- ==== Proof.RefRun.lean ====
/-
  The reference program as one straight line of operations, and its run.
-/
module

public import proofs.«01_k».proof.Proof.RefOpsA
public import proofs.«01_k».proof.Proof.RefOpsB
public import Idealize.ShloMosaic.Lib.StableHlo.RunHlo

@[expose] public section

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

/-- One stage of the reference, whole. -/
abbrev opsW : List (HloOp τ sig (Elt Ideal)) := opsW_0 ++ opsW_1 ++ opsW_2 ++ opsW_3

/-- One stage of the reference, whole. -/
abbrev opsT1 : List (HloOp τ sig (Elt Ideal)) := opsT1_0 ++ opsT1_1

/-- One stage of the reference, whole. -/
abbrev opsT2 : List (HloOp τ sig (Elt Ideal)) := opsT2_0 ++ opsT2_1

/-- One stage of the reference, whole. -/
abbrev opsT3 : List (HloOp τ sig (Elt Ideal)) := opsT3_0 ++ opsT3_1

/-- One stage of the reference, whole. -/
abbrev opsQD : List (HloOp τ sig (Elt Ideal)) := opsQD_0 ++ opsQD_1

/-- One stage of the reference, whole. -/
abbrev opsTD1 : List (HloOp τ sig (Elt Ideal)) := opsTD1_0 ++ opsTD1_1

/-- One stage of the reference, whole. -/
abbrev opsTD2 : List (HloOp τ sig (Elt Ideal)) := opsTD2_0 ++ opsTD2_1

/-- One stage of the reference, whole. -/
abbrev opsTD3 : List (HloOp τ sig (Elt Ideal)) := opsTD3_0 ++ opsTD3_1 ++ opsTD3_2

set_option maxHeartbeats 4000000 in
theorem part0_eq (c : Dev nD) : main_part0 (F := Ideal) c = seq (opsW_0) := rfl

set_option maxHeartbeats 4000000 in
theorem part1_eq (c : Dev nD) : main_part1 (F := Ideal) c = seq (opsW_1) := rfl

set_option maxHeartbeats 4000000 in
theorem part2_eq (c : Dev nD) : main_part2 (F := Ideal) c = seq (opsW_2) := rfl

set_option maxHeartbeats 4000000 in
theorem part3_eq (c : Dev nD) : main_part3 (F := Ideal) c = seq (opsW_3 ++ opsP1 ++ opsT1_0) := rfl

set_option maxHeartbeats 4000000 in
theorem part4_eq (c : Dev nD) : main_part4 (F := Ideal) c = seq (opsT1_1 ++ opsP2 ++ opsT2_0) := rfl

set_option maxHeartbeats 4000000 in
theorem part5_eq (c : Dev nD) : main_part5 (F := Ideal) c = seq (opsT2_1 ++ opsP3 ++ opsT3_0) := rfl

set_option maxHeartbeats 4000000 in
theorem part6_eq (c : Dev nD) : main_part6 (F := Ideal) c = seq (opsT3_1 ++ opsQD_0) := rfl

set_option maxHeartbeats 4000000 in
theorem part7_eq (c : Dev nD) : main_part7 (F := Ideal) c = seq (opsQD_1 ++ opsQI ++ opsQT ++ opsL ++ opsPD1 ++ opsTD1_0) := rfl

set_option maxHeartbeats 4000000 in
theorem part8_eq (c : Dev nD) : main_part8 (F := Ideal) c = seq (opsTD1_1 ++ opsPD2 ++ opsTD2_0) := rfl

set_option maxHeartbeats 4000000 in
theorem part9_eq (c : Dev nD) : main_part9 (F := Ideal) c = seq (opsTD2_1 ++ opsPD3 ++ opsTD3_0) := rfl

set_option maxHeartbeats 4000000 in
theorem part10_eq (c : Dev nD) : main_part10 (F := Ideal) c = seq (opsTD3_1) := rfl

set_option maxHeartbeats 4000000 in
theorem part11_eq (c : Dev nD) : main_part11 (F := Ideal) c = seq (opsTD3_2 ++ opsE) := rfl

/-- All the operations, in the program's own parts. -/
abbrev opsAll : List (HloOp τ sig (Elt Ideal)) :=
  (opsW_0) ++ ((opsW_1) ++ ((opsW_2) ++ ((opsW_3 ++ opsP1 ++ opsT1_0) ++ ((opsT1_1 ++ opsP2 ++ opsT2_0) ++ ((opsT2_1 ++ opsP3 ++ opsT3_0) ++ ((opsT3_1 ++ opsQD_0) ++ ((opsQD_1 ++ opsQI ++ opsQT ++ opsL ++ opsPD1 ++ opsTD1_0) ++ ((opsTD1_1 ++ opsPD2 ++ opsTD2_0) ++ ((opsTD2_1 ++ opsPD3 ++ opsTD3_0) ++ ((opsTD3_1) ++ ((opsTD3_2 ++ opsE))))))))))))

theorem main_eq (c : Dev nD) : main (F := Ideal) c = seq opsAll := by
  unfold main
  simp only [part0_eq, part1_eq, part2_eq, part3_eq, part4_eq, part5_eq, part6_eq, part7_eq, part8_eq, part9_eq, part10_eq, part11_eq, opsAll, seq_append]

theorem scopedRefs_eq : (Finset.univ.filter fun b : Ref sig .tc => b.isScoped) = ∅ := by decide
theorem scopedSems_eq : (Finset.univ.filter fun sm : SemLoc sig => sm.isScoped .tc) = ∅ := by decide

theorem opsAll_sub : opsAll.Forall fun op => op.bufs ⊆ tcRefs τ sig := by
  simp only [opsAll, List.forall_append]
  exact ⟨opsW_0_sub, opsW_1_sub, opsW_2_sub, ⟨⟨opsW_3_sub, opsP1_sub⟩, opsT1_0_sub⟩, ⟨⟨opsT1_1_sub, opsP2_sub⟩, opsT2_0_sub⟩, ⟨⟨opsT2_1_sub, opsP3_sub⟩, opsT3_0_sub⟩, ⟨opsT3_1_sub, opsQD_0_sub⟩, ⟨⟨⟨⟨⟨opsQD_1_sub, opsQI_sub⟩, opsQT_sub⟩, opsL_sub⟩, opsPD1_sub⟩, opsTD1_0_sub⟩, ⟨⟨opsTD1_1_sub, opsPD2_sub⟩, opsTD2_0_sub⟩, ⟨⟨opsTD2_1_sub, opsPD3_sub⟩, opsTD3_0_sub⟩, opsTD3_1_sub, ⟨opsTD3_2_sub, opsE_sub⟩⟩

theorem opsAll_fresh : ∀ op ∈ opsAll, op.fresh = ∅ := by
  have h : opsAll.Forall fun op => op.fresh = ∅ := by
    simp only [opsAll, List.forall_append]
    exact ⟨opsW_0_fresh, opsW_1_fresh, opsW_2_fresh, ⟨⟨opsW_3_fresh, opsP1_fresh⟩, opsT1_0_fresh⟩, ⟨⟨opsT1_1_fresh, opsP2_fresh⟩, opsT2_0_fresh⟩, ⟨⟨opsT2_1_fresh, opsP3_fresh⟩, opsT3_0_fresh⟩, ⟨opsT3_1_fresh, opsQD_0_fresh⟩, ⟨⟨⟨⟨⟨opsQD_1_fresh, opsQI_fresh⟩, opsQT_fresh⟩, opsL_fresh⟩, opsPD1_fresh⟩, opsTD1_0_fresh⟩, ⟨⟨opsTD1_1_fresh, opsPD2_fresh⟩, opsTD2_0_fresh⟩, ⟨⟨opsTD2_1_fresh, opsPD3_fresh⟩, opsTD3_0_fresh⟩, opsTD3_1_fresh, ⟨opsTD3_2_fresh, opsE_fresh⟩⟩
  exact fun op hop => (List.forall_iff_forall_mem.mp h) op hop

variable (V : Valuation τ sig (Elt Ideal))

/-- The buffers at the launch. -/
def R0 : Valuation τ sig (Elt Ideal) := V
/-- The buffers after stage `W`. -/
def RW : Valuation τ sig (Elt Ideal) := after opsW (R0 V)
/-- The buffers after stage `P1`. -/
def RP1 : Valuation τ sig (Elt Ideal) := after opsP1 (RW V)
/-- The buffers after stage `T1`. -/
def RT1 : Valuation τ sig (Elt Ideal) := after opsT1 (RP1 V)
/-- The buffers after stage `P2`. -/
def RP2 : Valuation τ sig (Elt Ideal) := after opsP2 (RT1 V)
/-- The buffers after stage `T2`. -/
def RT2 : Valuation τ sig (Elt Ideal) := after opsT2 (RP2 V)
/-- The buffers after stage `P3`. -/
def RP3 : Valuation τ sig (Elt Ideal) := after opsP3 (RT2 V)
/-- The buffers after stage `T3`. -/
def RT3 : Valuation τ sig (Elt Ideal) := after opsT3 (RP3 V)
/-- The buffers after stage `QD`. -/
def RQD : Valuation τ sig (Elt Ideal) := after opsQD (RT3 V)
/-- The buffers after stage `QI`. -/
def RQI : Valuation τ sig (Elt Ideal) := after opsQI (RQD V)
/-- The buffers after stage `QT`. -/
def RQT : Valuation τ sig (Elt Ideal) := after opsQT (RQI V)
/-- The buffers after stage `L`. -/
def RL : Valuation τ sig (Elt Ideal) := after opsL (RQT V)
/-- The buffers after stage `PD1`. -/
def RPD1 : Valuation τ sig (Elt Ideal) := after opsPD1 (RL V)
/-- The buffers after stage `TD1`. -/
def RTD1 : Valuation τ sig (Elt Ideal) := after opsTD1 (RPD1 V)
/-- The buffers after stage `PD2`. -/
def RPD2 : Valuation τ sig (Elt Ideal) := after opsPD2 (RTD1 V)
/-- The buffers after stage `TD2`. -/
def RTD2 : Valuation τ sig (Elt Ideal) := after opsTD2 (RPD2 V)
/-- The buffers after stage `PD3`. -/
def RPD3 : Valuation τ sig (Elt Ideal) := after opsPD3 (RTD2 V)
/-- The buffers after stage `TD3`. -/
def RTD3 : Valuation τ sig (Elt Ideal) := after opsTD3 (RPD3 V)
/-- The buffers after stage `E`. -/
def RE : Valuation τ sig (Elt Ideal) := after opsE (RTD3 V)

theorem after_opsAll : after opsAll V = RE V := by
  simp only [opsAll, opsW, opsT1, opsT2, opsT3, opsQD, opsTD1, opsTD2, opsTD3, R0, RW, RP1, RT1, RP2, RT2, RP3, RT3, RQD, RQI, RQT, RL, RPD1, RTD1, RPD2, RTD2, RPD3, RTD3, RE, after_append]

/-- The reference runs to the end, every buffer at what the stages leave. -/
theorem run (m : (ℓ : Loc nD τ sig) → Buf (Elt Ideal) ℓ) (ρ : Dev nD → PrngReg) :
    θ_run defs (onTc (τ := τ) (main (F := Ideal))) ⟨m, fun _ => 0, ρ⟩ fun r => ∀ (c : Dev nD) (b : Ref sig .tc),
      r.2.mem ((c.tc : Thread nD τ).loc b) = RE (launchContents m c) (Proc.devRef .tc b) :=
  θ_run_mono (run_seq scopedRefs_eq scopedSems_eq defs main (fun _ => opsAll) main_eq (fun _ => opsAll_sub) m ρ fun _ => opsAll_fresh)
    fun _ h c b => (h c b).trans (congrFun (after_opsAll (launchContents m c)) _)

end Cert.RefRun

end
-- ==== Proof.RCarry.lean ====
module

public import proofs.«01_k».proof.Proof.RefRun
public import Idealize.ShloMosaic.Lib.StableHlo.RunRead

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

/-- The references stage `P1` writes, in order. -/
abbrev wP1 : List (Ref sig .tc) := [main_v207, main_c, main_call0_v0, main_v208]
theorem kP1 {r : Ref sig .tc} (h : r ∉ wP1) : RP1 V (Proc.devRef .tc r) = RW V (Proc.devRef .tc r) :=
  after_unwritten wP1 rfl h _

/-- The references stage `T1` writes, in order. -/
abbrev wT1 : List (Ref sig .tc) := [main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274]
theorem kT1 {r : Ref sig .tc} (h : r ∉ wT1) : RT1 V (Proc.devRef .tc r) = RP1 V (Proc.devRef .tc r) :=
  after_unwritten wT1 rfl h _

/-- The references stage `P2` writes, in order. -/
abbrev wP2 : List (Ref sig .tc) := [main_call1_cst, main_call1_v0, main_v275, main_v276, main_c_0, main_call2_v0, main_v277]
theorem kP2 {r : Ref sig .tc} (h : r ∉ wP2) : RP2 V (Proc.devRef .tc r) = RT1 V (Proc.devRef .tc r) :=
  after_unwritten wP2 rfl h _

/-- The references stage `T2` writes, in order. -/
abbrev wT2 : List (Ref sig .tc) := [main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343]
theorem kT2 {r : Ref sig .tc} (h : r ∉ wT2) : RT2 V (Proc.devRef .tc r) = RP2 V (Proc.devRef .tc r) :=
  after_unwritten wT2 rfl h _

/-- The references stage `P3` writes, in order. -/
abbrev wP3 : List (Ref sig .tc) := [main_call3_cst, main_call3_v0, main_v344, main_v345, main_c_1, main_call4_v0, main_v346]
theorem kP3 {r : Ref sig .tc} (h : r ∉ wP3) : RP3 V (Proc.devRef .tc r) = RT2 V (Proc.devRef .tc r) :=
  after_unwritten wP3 rfl h _

/-- The references stage `T3` writes, in order. -/
abbrev wT3 : List (Ref sig .tc) := [main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412]
theorem kT3 {r : Ref sig .tc} (h : r ∉ wT3) : RT3 V (Proc.devRef .tc r) = RP3 V (Proc.devRef .tc r) :=
  after_unwritten wT3 rfl h _

/-- The references stage `QD` writes, in order. -/
abbrev wQD : List (Ref sig .tc) := [main_v413, main_cst_2, main_v414, main_v415, main_v416, main_v417, main_v418, main_v419, main_v420, main_cst_3, main_v421, main_v422, main_v423, main_cst_4, main_call5_v0, main_call5_v1, main_v424, main_v425]
theorem kQD {r : Ref sig .tc} (h : r ∉ wQD) : RQD V (Proc.devRef .tc r) = RT3 V (Proc.devRef .tc r) :=
  after_unwritten wQD rfl h _

/-- The references stage `QI` writes, in order. -/
abbrev wQI : List (Ref sig .tc) := [main_call6_v0, main_call6_cst, main_call6_c, main_call6_v1_0, main_v426]
theorem kQI {r : Ref sig .tc} (h : r ∉ wQI) : RQI V (Proc.devRef .tc r) = RQD V (Proc.devRef .tc r) :=
  after_unwritten wQI rfl h _

/-- The references stage `QT` writes, in order. -/
abbrev wQT : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v427]
theorem kQT {r : Ref sig .tc} (h : r ∉ wQT) : RQT V (Proc.devRef .tc r) = RQI V (Proc.devRef .tc r) :=
  after_unwritten wQT rfl h _

/-- The references stage `L` writes, in order. -/
abbrev wL : List (Ref sig .tc) := [main_v428, main_v429, main_cst_5, main_v430, main_cst_6, main_v431, main_v432, main_v433, main_cst_7, main_v434, main_cst_8, main_v435, main_cst_9, main_v436, main_v437, main_v438, main_v439]
theorem kL {r : Ref sig .tc} (h : r ∉ wL) : RL V (Proc.devRef .tc r) = RQT V (Proc.devRef .tc r) :=
  after_unwritten wL rfl h _

/-- The references stage `PD1` writes, in order. -/
abbrev wPD1 : List (Ref sig .tc) := [main_v440, main_cst_10, main_v441]
theorem kPD1 {r : Ref sig .tc} (h : r ∉ wPD1) : RPD1 V (Proc.devRef .tc r) = RL V (Proc.devRef .tc r) :=
  after_unwritten wPD1 rfl h _

/-- The references stage `TD1` writes, in order. -/
abbrev wTD1 : List (Ref sig .tc) := [main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_v496, main_v497, main_v498, main_v499, main_v500, main_v501, main_v502, main_v503, main_v504, main_v505, main_v506, main_v507]
theorem kTD1 {r : Ref sig .tc} (h : r ∉ wTD1) : RTD1 V (Proc.devRef .tc r) = RPD1 V (Proc.devRef .tc r) :=
  after_unwritten wTD1 rfl h _

/-- The references stage `PD2` writes, in order. -/
abbrev wPD2 : List (Ref sig .tc) := [main_call8_cst, main_call8_v0, main_v508, main_v509, main_cst_11, main_v510]
theorem kPD2 {r : Ref sig .tc} (h : r ∉ wPD2) : RPD2 V (Proc.devRef .tc r) = RTD1 V (Proc.devRef .tc r) :=
  after_unwritten wPD2 rfl h _

/-- The references stage `TD2` writes, in order. -/
abbrev wTD2 : List (Ref sig .tc) := [main_v511, main_v512, main_v513, main_v514, main_v515, main_v516, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_v546, main_v547, main_v548, main_v549, main_v550, main_v551, main_v552, main_v553, main_v554, main_v555, main_v556, main_v557, main_v558, main_v559, main_v560, main_v561, main_v562, main_v563, main_v564, main_v565, main_v566, main_v567, main_v568, main_v569, main_v570, main_v571, main_v572, main_v573, main_v574, main_v575, main_v576]
theorem kTD2 {r : Ref sig .tc} (h : r ∉ wTD2) : RTD2 V (Proc.devRef .tc r) = RPD2 V (Proc.devRef .tc r) :=
  after_unwritten wTD2 rfl h _

/-- The references stage `PD3` writes, in order. -/
abbrev wPD3 : List (Ref sig .tc) := [main_call9_cst, main_call9_v0, main_v577, main_v578, main_cst_12, main_v579]
theorem kPD3 {r : Ref sig .tc} (h : r ∉ wPD3) : RPD3 V (Proc.devRef .tc r) = RTD2 V (Proc.devRef .tc r) :=
  after_unwritten wPD3 rfl h _

/-- The references stage `TD3` writes, in order. -/
abbrev wTD3 : List (Ref sig .tc) := [main_v580, main_v581, main_v582, main_v583, main_v584, main_v585, main_v586, main_v587, main_v588, main_v589, main_v590, main_v591, main_v592, main_v593, main_v594, main_v595, main_v596, main_v597, main_v598, main_v599, main_v600, main_v601, main_v602, main_v603, main_v604, main_v605, main_v606, main_v607, main_v608, main_v609, main_v610, main_v611, main_v612, main_v613, main_v614, main_v615, main_v616, main_v617, main_v618, main_v619, main_v620, main_v621, main_v622, main_v623, main_v624, main_v625, main_v626, main_v627, main_v628, main_v629, main_v630, main_v631, main_v632, main_v633, main_v634, main_v635, main_v636, main_v637, main_v638, main_v639, main_v640, main_v641, main_v642, main_v643, main_v644, main_v645]
theorem kTD3 {r : Ref sig .tc} (h : r ∉ wTD3) : RTD3 V (Proc.devRef .tc r) = RPD3 V (Proc.devRef .tc r) :=
  after_unwritten wTD3 rfl h _

/-- The references stage `E` writes, in order. -/
abbrev wE : List (Ref sig .tc) := [main_v646, main_v647, main_v648, main_cst_13, main_v649, main_cst_14, main_v650, main_v651, main_v652, main_v653, main_v654, main_v655]
theorem kE {r : Ref sig .tc} (h : r ∉ wE) : RE V (Proc.devRef .tc r) = RTD3 V (Proc.devRef .tc r) :=
  after_unwritten wE rfl h _

abbrev wW : List (Ref sig .tc) := [main_v0, main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206]
theorem kW {r : Ref sig .tc} (h : r ∉ wW) : RW V (Proc.devRef .tc r) = V (Proc.devRef .tc r) :=
  after_unwritten wW rfl h _

/-- What stage `W` leaves is still there at stage `P1`'s end, where nothing since wrote it. -/
theorem cP1 {r : Ref sig .tc} (h : r ∉ wP1) : RP1 V (Proc.devRef .tc r) = RW V (Proc.devRef .tc r) := kP1 V h
abbrev uP1 : List (Ref sig .tc) := wP1
abbrev uT1 : List (Ref sig .tc) := uP1 ++ wT1
theorem cT1 {r : Ref sig .tc} (h : r ∉ uT1) : RT1 V (Proc.devRef .tc r) = RW V (Proc.devRef .tc r) :=
  (kT1 V fun e => h (List.mem_append_right _ e)).trans (cP1 V fun e => h (List.mem_append_left _ e))
abbrev uP2 : List (Ref sig .tc) := uT1 ++ wP2
theorem cP2 {r : Ref sig .tc} (h : r ∉ uP2) : RP2 V (Proc.devRef .tc r) = RW V (Proc.devRef .tc r) :=
  (kP2 V fun e => h (List.mem_append_right _ e)).trans (cT1 V fun e => h (List.mem_append_left _ e))
abbrev uT2 : List (Ref sig .tc) := uP2 ++ wT2
theorem cT2 {r : Ref sig .tc} (h : r ∉ uT2) : RT2 V (Proc.devRef .tc r) = RW V (Proc.devRef .tc r) :=
  (kT2 V fun e => h (List.mem_append_right _ e)).trans (cP2 V fun e => h (List.mem_append_left _ e))
abbrev uP3 : List (Ref sig .tc) := uT2 ++ wP3
theorem cP3 {r : Ref sig .tc} (h : r ∉ uP3) : RP3 V (Proc.devRef .tc r) = RW V (Proc.devRef .tc r) :=
  (kP3 V fun e => h (List.mem_append_right _ e)).trans (cT2 V fun e => h (List.mem_append_left _ e))
abbrev uT3 : List (Ref sig .tc) := uP3 ++ wT3
theorem cT3 {r : Ref sig .tc} (h : r ∉ uT3) : RT3 V (Proc.devRef .tc r) = RW V (Proc.devRef .tc r) :=
  (kT3 V fun e => h (List.mem_append_right _ e)).trans (cP3 V fun e => h (List.mem_append_left _ e))
abbrev uQD : List (Ref sig .tc) := uT3 ++ wQD
theorem cQD {r : Ref sig .tc} (h : r ∉ uQD) : RQD V (Proc.devRef .tc r) = RW V (Proc.devRef .tc r) :=
  (kQD V fun e => h (List.mem_append_right _ e)).trans (cT3 V fun e => h (List.mem_append_left _ e))
abbrev uQI : List (Ref sig .tc) := uQD ++ wQI
theorem cQI {r : Ref sig .tc} (h : r ∉ uQI) : RQI V (Proc.devRef .tc r) = RW V (Proc.devRef .tc r) :=
  (kQI V fun e => h (List.mem_append_right _ e)).trans (cQD V fun e => h (List.mem_append_left _ e))
abbrev uQT : List (Ref sig .tc) := uQI ++ wQT
theorem cQT {r : Ref sig .tc} (h : r ∉ uQT) : RQT V (Proc.devRef .tc r) = RW V (Proc.devRef .tc r) :=
  (kQT V fun e => h (List.mem_append_right _ e)).trans (cQI V fun e => h (List.mem_append_left _ e))
abbrev uL : List (Ref sig .tc) := uQT ++ wL
theorem cL {r : Ref sig .tc} (h : r ∉ uL) : RL V (Proc.devRef .tc r) = RW V (Proc.devRef .tc r) :=
  (kL V fun e => h (List.mem_append_right _ e)).trans (cQT V fun e => h (List.mem_append_left _ e))
abbrev uPD1 : List (Ref sig .tc) := uL ++ wPD1
theorem cPD1 {r : Ref sig .tc} (h : r ∉ uPD1) : RPD1 V (Proc.devRef .tc r) = RW V (Proc.devRef .tc r) :=
  (kPD1 V fun e => h (List.mem_append_right _ e)).trans (cL V fun e => h (List.mem_append_left _ e))
abbrev uTD1 : List (Ref sig .tc) := uPD1 ++ wTD1
theorem cTD1 {r : Ref sig .tc} (h : r ∉ uTD1) : RTD1 V (Proc.devRef .tc r) = RW V (Proc.devRef .tc r) :=
  (kTD1 V fun e => h (List.mem_append_right _ e)).trans (cPD1 V fun e => h (List.mem_append_left _ e))
abbrev uPD2 : List (Ref sig .tc) := uTD1 ++ wPD2
theorem cPD2 {r : Ref sig .tc} (h : r ∉ uPD2) : RPD2 V (Proc.devRef .tc r) = RW V (Proc.devRef .tc r) :=
  (kPD2 V fun e => h (List.mem_append_right _ e)).trans (cTD1 V fun e => h (List.mem_append_left _ e))
abbrev uTD2 : List (Ref sig .tc) := uPD2 ++ wTD2
theorem cTD2 {r : Ref sig .tc} (h : r ∉ uTD2) : RTD2 V (Proc.devRef .tc r) = RW V (Proc.devRef .tc r) :=
  (kTD2 V fun e => h (List.mem_append_right _ e)).trans (cPD2 V fun e => h (List.mem_append_left _ e))
abbrev uPD3 : List (Ref sig .tc) := uTD2 ++ wPD3
theorem cPD3 {r : Ref sig .tc} (h : r ∉ uPD3) : RPD3 V (Proc.devRef .tc r) = RW V (Proc.devRef .tc r) :=
  (kPD3 V fun e => h (List.mem_append_right _ e)).trans (cTD2 V fun e => h (List.mem_append_left _ e))
abbrev uTD3 : List (Ref sig .tc) := uPD3 ++ wTD3
theorem cTD3 {r : Ref sig .tc} (h : r ∉ uTD3) : RTD3 V (Proc.devRef .tc r) = RW V (Proc.devRef .tc r) :=
  (kTD3 V fun e => h (List.mem_append_right _ e)).trans (cPD3 V fun e => h (List.mem_append_left _ e))
abbrev uE : List (Ref sig .tc) := uTD3 ++ wE
theorem cE {r : Ref sig .tc} (h : r ∉ uE) : RE V (Proc.devRef .tc r) = RW V (Proc.devRef .tc r) :=
  (kE V fun e => h (List.mem_append_right _ e)).trans (cTD3 V fun e => h (List.mem_append_left _ e))

end Cert.RVal
end
-- ==== Proof.RVq.lean ====
module

public import proofs.«01_k».proof.Proof.RCarry
public import proofs.«01_k».proof.Proof.Spec
public import Idealize.ShloMosaic.Lib.Routing.Ops
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Cert.Best Idealize.ShloMosaic Idealize.ShloMosaic.TcCoe Idealize.SL.Sem Idealize.ShloMosaic.StableHlo

variable (V : Valuation τ sig (Elt Ideal))

/-- The encoder's rows, and the codebook. -/
abbrev zR : T2 32768 64 := fun r k => (RT3 V (Proc.devRef .tc main_v412) : FVec Ideal S32768x64 .f32) (ix2 r k)
abbrev eR : T2 1024 64 := fun x k => (V (Proc.devRef .tc main_arg7) : FVec Ideal S1024x64 .f32) (ix2 x k)

theorem norm2 (x : Fin 1024) : (RT3 V (Proc.devRef .tc main_v2) : FVec Ideal S1x1024 .f32) (ix2 0 x) = ∑ k, eR V x k * eR V x k := by
  rw [cT3 V (by decide +kernel)]; unfold RW R0; after_reads_at

theorem arg7_T3 : RT3 V (Proc.devRef .tc main_arg7) = V (Proc.devRef .tc main_arg7) :=
  (cT3 V (by decide +kernel)).trans (kW V (by decide +kernel))

theorem arg7_QI : RQI V (Proc.devRef .tc main_arg7) = V (Proc.devRef .tc main_arg7) :=
  (cQI V (by decide +kernel)).trans (kW V (by decide +kernel))

theorem outQD (r : Fin 32768) (x : Fin 1024) : (RQD V (Proc.devRef .tc main_v425) : FVec Ideal S32768x1024 .f32) (ix2 r x) = Spec.dist (zR V) (eR V) r x := by
  unfold RQD Spec.dist zR
  have h1 := norm2 V
  have h2 := arg7_T3 V
  generalize RT3 V = U at *
  after_reads_at
  rw [h1, h2, max_comm]
  have h0 : (id (constant (F := Ideal) S_ .f32 0#32) ix0 : EReal) = 0 := Ideal.ofBits_zero_f32
  rw [h0]

theorem drop_row (i : S32768x1024.Idx) : reducesTo_S32768x1024_S32768_d1.drop i = ix1 (i 0) := by funext b; fin_cases b; rfl

theorem inf_f32 : Ideal.ofBits .f32 2139095040#32 = ⊤ := by simp [Ideal.ofBits, Ideal.ieee]

theorem reducer_eq (a1 b1 : EReal) (a2 b2 : BitVec 32) : reducer_argmin_f32_i32 (F := Ideal) (a1, a2) (b1, b2)
    = (if a1 < b1 then a1 else b1, if a1 < b1 ∨ a1 = b1 ∧ a2.toInt < b2.toInt then a2 else b2) := by
  unfold reducer_argmin_f32_i32
  by_cases h1 : a1 < b1 <;> by_cases h2 : a1 = b1 <;> by_cases h3 : a2.toInt < b2.toInt <;>
    simp [Ideal.cmpf_def, Ideal.cmp, IntOp.cmpi, IntOp.ori, IntOp.andi, Scalar.select, BitVec.slt, h1, h2, h3]

theorem reducer_before (a b : EReal × BitVec 32) : (before a b ∧ reducer_argmin_f32_i32 (F := Ideal) a b = a) ∨ (¬ before a b ∧ reducer_argmin_f32_i32 (F := Ideal) a b = b) := by
  obtain ⟨a1, a2⟩ := a
  obtain ⟨b1, b2⟩ := b
  rw [reducer_eq]
  by_cases h : a1 < b1 ∨ a1 = b1 ∧ a2.toInt < b2.toInt
  · refine Or.inl ⟨h, ?_⟩
    rw [if_pos h]
    rcases h with h | h
    · rw [if_pos h]
    · rw [if_neg (by rw [h.1]; exact lt_irrefl _), h.1]
  · refine Or.inr ⟨h, ?_⟩
    rw [if_neg h, if_neg fun h' => h (Or.inl h')]

theorem mem_fiber (x : FVec Ideal S32768x1024 .f32) (n : Fin 32768) (q : EReal × BitVec 32) :
    q ∈ Host.argReduceFiber x (iotaInDim S32768x1024 32 1) reducesTo_S32768x1024_S32768_d1 (ix1 n)
      ↔ ∃ k : Fin 1024, q = (x (ix2 n k), BitVec.ofNat 32 k.val) := by
  unfold Host.argReduceFiber
  simp only [List.mem_map, List.mem_filter, List.mem_finRange, true_and, decide_eq_true_eq, drop_row]
  constructor
  · rintro ⟨i, hi, rfl⟩
    generalize S32768x1024.rowMajor.symm i = j at *
    have h0 : j 0 = n := congrFun hi 0
    refine ⟨j 1, ?_⟩
    have hj : j = ix2 n (j 1) := by funext b; fin_cases b; exacts [h0, rfl]
    exact Prod.ext (congrArg x hj) rfl
  · rintro ⟨k, rfl⟩
    refine ⟨S32768x1024.rowMajor (ix2 n k), ?_, ?_⟩
    · rw [Equiv.symm_apply_apply]; rfl
    · rw [Equiv.symm_apply_apply]; rfl

theorem outQI (n : Fin 32768) : (RQI V (Proc.devRef .tc main_v426) : IVec S32768 32) (ix1 n) = BitVec.ofNat 32 (near (zR V) (eR V) n).val := by
  unfold RQI
  have h1 := outQD V
  generalize RQD V = U at *
  after_reads_at
  rw [Ideal.argReduce_eq_reduce2, Host.reduce2_eq_foldl_fiber]
  have hm := mem_fiber (U (Proc.devRef .tc main_v425)) n
  generalize Host.argReduceFiber (U (Proc.devRef .tc main_v425)) (iotaInDim S32768x1024 32 1) reducesTo_S32768x1024_S32768_d1 (ix1 n) = L at *
  have hi : (constant (F := Ideal) S_ .f32 2139095040#32) (Shape.Idx.first h_S_) = (⊤ : EReal) := inf_f32
  have hi' : (constantI S_ 32 0#32) (Shape.Idx.first h_S_) = 0#32 := rfl
  rw [hi, hi']
  simp only [h1] at hm
  exact foldl_best _ reducer_before (Spec.dist (zR V) (eR V) n) L hm

theorem z_QT : RQT V (Proc.devRef .tc main_v412) = RT3 V (Proc.devRef .tc main_v412) :=
  ((kQT V (by decide +kernel)).trans (kQI V (by decide +kernel))).trans (kQD V (by decide +kernel))

theorem word_facts (k : Fin 1024) : IntOp.cmpi .slt (BitVec.ofNat 32 k.val) 0#32 = 0#1 ∧ IntOp.cmpi .sge (BitVec.ofNat 32 k.val) 0#32 = 1#1 ∧ IntOp.cmpi .sle (BitVec.ofNat 32 k.val) 1023#32 = 1#1 := by
  have h := toInt_ofNat k
  have hk := k.isLt
  have e0 : (0#32 : BitVec 32).toInt = 0 := rfl
  have e1 : (1023#32 : BitVec 32).toInt = 1023 := rfl
  refine ⟨?_, ?_, ?_⟩ <;> simp only [IntOp.cmpi, BitVec.slt, BitVec.sle, h, e0, e1]
  · rw [decide_eq_false (by omega)]; rfl
  · rw [decide_eq_true (by omega)]; rfl
  · rw [decide_eq_true (by omega)]; rfl

theorem outQT (n : Fin 32768) (p : Fin 64) : (RQT V (Proc.devRef .tc main_v427) : FVec Ideal S32768x64 .f32) (ix2 n p) = eR V (near (zR V) (eR V) n) p := by
  unfold RQT
  have h1 := outQI V
  have h2 := arg7_QI V
  generalize RQI V = U at *
  after_reads_at
  obtain ⟨w1, w2, w3⟩ := word_facts (near (zR V) (eR V) n)
  have sel : ∀ a b : BitVec 32, Scalar.select 0#1 a b = b := fun _ _ => rfl
  have hf : Finset.fold IntOp.andi (1#1) (fun _ : Fin 1 => IntOp.andi 1#1 1#1) Finset.univ = 1#1 := by decide
  rw [h1]
  simp only [w1, w2, w3, sel, hf]
  refine (if_pos rfl).trans ?_
  rw [h2]
  refine Routing.gather_row gather_S1024x64_S32768x1_S32768x64_1_0_n_n_0_1_164 rfl rfl rfl rfl rfl _ _ n p (near (zR V) (eR V) n) ?_ (by norm_num)
  pointwise
  rw [h1, w1, sel]

set_option maxHeartbeats 1000000 in
theorem outL : (RL V (Proc.devRef .tc main_v437) : FVec Ideal S_ .f32) ix0
    = Ideal.div (∑ r, ∑ k, (eR V (near (zR V) (eR V) r) k - zR V r k) * (eR V (near (zR V) (eR V) r) k - zR V r k)) (Ideal.ofBits .f32 1241513984#32)
      + Ideal.ofBits .f32 1048576000#32 * Ideal.div (∑ r, ∑ k, (eR V (near (zR V) (eR V) r) k - zR V r k) * (eR V (near (zR V) (eR V) r) k - zR V r k)) (Ideal.ofBits .f32 1241513984#32) := by
  unfold RL
  have h1 := outQT V
  have h2 := z_QT V
  generalize RQT V = U at *
  after_reads_at
  simp only [h1, h2]

theorem outST (r : Fin 32768) (k : Fin 64) : (RL V (Proc.devRef .tc main_v439) : FVec Ideal S32768x64 .f32) (ix2 r k)
    = zR V r k + (eR V (near (zR V) (eR V) r) k - zR V r k) := by
  unfold RL
  have h1 := outQT V
  have h2 := z_QT V
  generalize RQT V = U at *
  after_reads_at
  simp only [h1, h2]

theorem st_TD3 : RTD3 V (Proc.devRef .tc main_v439) = RL V (Proc.devRef .tc main_v439) :=
  (kTD3 V (by decide +kernel)).trans <| (kPD3 V (by decide +kernel)).trans <| (kTD2 V (by decide +kernel)).trans <| (kPD2 V (by decide +kernel)).trans <|
    (kTD1 V (by decide +kernel)).trans (kPD1 V (by decide +kernel))

theorem loss_TD3 : RTD3 V (Proc.devRef .tc main_v437) = RL V (Proc.devRef .tc main_v437) :=
  (kTD3 V (by decide +kernel)).trans <| (kPD3 V (by decide +kernel)).trans <| (kTD2 V (by decide +kernel)).trans <| (kPD2 V (by decide +kernel)).trans <|
    (kTD1 V (by decide +kernel)).trans (kPD1 V (by decide +kernel))

theorem idx_TD3 : RTD3 V (Proc.devRef .tc main_v426) = RQI V (Proc.devRef .tc main_v426) :=
  (kTD3 V (by decide +kernel)).trans <| (kPD3 V (by decide +kernel)).trans <| (kTD2 V (by decide +kernel)).trans <| (kPD2 V (by decide +kernel)).trans <|
    (kTD1 V (by decide +kernel)).trans <| (kPD1 V (by decide +kernel)).trans <| (kL V (by decide +kernel)).trans (kQT V (by decide +kernel))

/-- The reference's four results. -/
theorem resRecon (n : Fin 512) (c : Fin 1) (p q : Fin 64) : (RE V (Proc.devRef .tc main_v647) : FVec Ideal S512x1x64x64 .f32) (ix4 n c p q)
    = Ideal.tanh ((RTD3 V (Proc.devRef .tc main_v645) : FVec Ideal S2097152x1 .f32) (ix2 ⟨n.val * 4096 + p.val * 64 + q.val, by omega⟩ 0)) := by
  unfold RE; generalize RTD3 V = U; after_reads_at

theorem resPooled (n : Fin 32) (p : Fin 16) (c : Fin 64) : (RE V (Proc.devRef .tc main_v652) : FVec Ideal S32x16x64 .f32) (ix3 n p c)
    = Ideal.div (∑ x : Fin 64, (zR V ⟨(n.val * 16 + p.val) * 64 + x.val, by omega⟩ c + (eR V (near (zR V) (eR V) ⟨(n.val * 16 + p.val) * 64 + x.val, by omega⟩) c - zR V ⟨(n.val * 16 + p.val) * 64 + x.val, by omega⟩ c)))
        (Ideal.ofBits .f32 1115684864#32) := by
  unfold RE
  have h1 := st_TD3 V
  have h2 := outST V
  generalize RTD3 V = U at *
  after_reads_at
  simp only [h1, h2]

theorem resIdx (n : Fin 32) (p : Fin 16) : (RE V (Proc.devRef .tc main_v655) : IVec S32x16 32) (ix2 n p)
    = BitVec.ofNat 32 (near (zR V) (eR V) ⟨n.val * 1024 + p.val * 64, by omega⟩).val := by
  unfold RE
  have h1 := idx_TD3 V
  have h2 := outQI V
  generalize RTD3 V = U at *
  after_reads_at
  rw [h1, h2]

theorem resLoss : (RE V (Proc.devRef .tc main_v437) : FVec Ideal S_ .f32) ix0 = (RL V (Proc.devRef .tc main_v437) : FVec Ideal S_ .f32) ix0 := by
  rw [kE V (by decide +kernel), loss_TD3]

end Cert.RVal
end
-- ==== Proof.RTap1.lean ====
module

public import proofs.«01_k».proof.Proof.RCarry
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

theorem tap1_0 (c : Fin 1) (o : Fin 32) : (RP1 V (Proc.devRef .tc main_v6) : FVec Ideal S1x32 .f32) (ix2 c o) = (V (Proc.devRef .tc main_arg1) : FVec Ideal S32x1x4x4 .f32) (ix4 o c 0 0) := by
  obtain rfl : c = 0 := Subsingleton.elim _ _
  rw [cP1 V (by decide +kernel)]; unfold RW R0; after_reads_at

theorem tap1_1 (c : Fin 1) (o : Fin 32) : (RP1 V (Proc.devRef .tc main_v8) : FVec Ideal S1x32 .f32) (ix2 c o) = (V (Proc.devRef .tc main_arg1) : FVec Ideal S32x1x4x4 .f32) (ix4 o c 0 1) := by
  obtain rfl : c = 0 := Subsingleton.elim _ _
  rw [cP1 V (by decide +kernel)]; unfold RW R0; after_reads_at

theorem tap1_2 (c : Fin 1) (o : Fin 32) : (RP1 V (Proc.devRef .tc main_v10) : FVec Ideal S1x32 .f32) (ix2 c o) = (V (Proc.devRef .tc main_arg1) : FVec Ideal S32x1x4x4 .f32) (ix4 o c 0 2) := by
  obtain rfl : c = 0 := Subsingleton.elim _ _
  rw [cP1 V (by decide +kernel)]; unfold RW R0; after_reads_at

theorem tap1_3 (c : Fin 1) (o : Fin 32) : (RP1 V (Proc.devRef .tc main_v12) : FVec Ideal S1x32 .f32) (ix2 c o) = (V (Proc.devRef .tc main_arg1) : FVec Ideal S32x1x4x4 .f32) (ix4 o c 0 3) := by
  obtain rfl : c = 0 := Subsingleton.elim _ _
  rw [cP1 V (by decide +kernel)]; unfold RW R0; after_reads_at

theorem tap1_4 (c : Fin 1) (o : Fin 32) : (RP1 V (Proc.devRef .tc main_v14) : FVec Ideal S1x32 .f32) (ix2 c o) = (V (Proc.devRef .tc main_arg1) : FVec Ideal S32x1x4x4 .f32) (ix4 o c 1 0) := by
  obtain rfl : c = 0 := Subsingleton.elim _ _
  rw [cP1 V (by decide +kernel)]; unfold RW R0; after_reads_at

theorem tap1_5 (c : Fin 1) (o : Fin 32) : (RP1 V (Proc.devRef .tc main_v16) : FVec Ideal S1x32 .f32) (ix2 c o) = (V (Proc.devRef .tc main_arg1) : FVec Ideal S32x1x4x4 .f32) (ix4 o c 1 1) := by
  obtain rfl : c = 0 := Subsingleton.elim _ _
  rw [cP1 V (by decide +kernel)]; unfold RW R0; after_reads_at

theorem tap1_6 (c : Fin 1) (o : Fin 32) : (RP1 V (Proc.devRef .tc main_v18) : FVec Ideal S1x32 .f32) (ix2 c o) = (V (Proc.devRef .tc main_arg1) : FVec Ideal S32x1x4x4 .f32) (ix4 o c 1 2) := by
  obtain rfl : c = 0 := Subsingleton.elim _ _
  rw [cP1 V (by decide +kernel)]; unfold RW R0; after_reads_at

theorem tap1_7 (c : Fin 1) (o : Fin 32) : (RP1 V (Proc.devRef .tc main_v20) : FVec Ideal S1x32 .f32) (ix2 c o) = (V (Proc.devRef .tc main_arg1) : FVec Ideal S32x1x4x4 .f32) (ix4 o c 1 3) := by
  obtain rfl : c = 0 := Subsingleton.elim _ _
  rw [cP1 V (by decide +kernel)]; unfold RW R0; after_reads_at

theorem tap1_8 (c : Fin 1) (o : Fin 32) : (RP1 V (Proc.devRef .tc main_v22) : FVec Ideal S1x32 .f32) (ix2 c o) = (V (Proc.devRef .tc main_arg1) : FVec Ideal S32x1x4x4 .f32) (ix4 o c 2 0) := by
  obtain rfl : c = 0 := Subsingleton.elim _ _
  rw [cP1 V (by decide +kernel)]; unfold RW R0; after_reads_at

theorem tap1_9 (c : Fin 1) (o : Fin 32) : (RP1 V (Proc.devRef .tc main_v24) : FVec Ideal S1x32 .f32) (ix2 c o) = (V (Proc.devRef .tc main_arg1) : FVec Ideal S32x1x4x4 .f32) (ix4 o c 2 1) := by
  obtain rfl : c = 0 := Subsingleton.elim _ _
  rw [cP1 V (by decide +kernel)]; unfold RW R0; after_reads_at

theorem tap1_10 (c : Fin 1) (o : Fin 32) : (RP1 V (Proc.devRef .tc main_v26) : FVec Ideal S1x32 .f32) (ix2 c o) = (V (Proc.devRef .tc main_arg1) : FVec Ideal S32x1x4x4 .f32) (ix4 o c 2 2) := by
  obtain rfl : c = 0 := Subsingleton.elim _ _
  rw [cP1 V (by decide +kernel)]; unfold RW R0; after_reads_at

theorem tap1_11 (c : Fin 1) (o : Fin 32) : (RP1 V (Proc.devRef .tc main_v28) : FVec Ideal S1x32 .f32) (ix2 c o) = (V (Proc.devRef .tc main_arg1) : FVec Ideal S32x1x4x4 .f32) (ix4 o c 2 3) := by
  obtain rfl : c = 0 := Subsingleton.elim _ _
  rw [cP1 V (by decide +kernel)]; unfold RW R0; after_reads_at

theorem tap1_12 (c : Fin 1) (o : Fin 32) : (RP1 V (Proc.devRef .tc main_v30) : FVec Ideal S1x32 .f32) (ix2 c o) = (V (Proc.devRef .tc main_arg1) : FVec Ideal S32x1x4x4 .f32) (ix4 o c 3 0) := by
  obtain rfl : c = 0 := Subsingleton.elim _ _
  rw [cP1 V (by decide +kernel)]; unfold RW R0; after_reads_at

theorem tap1_13 (c : Fin 1) (o : Fin 32) : (RP1 V (Proc.devRef .tc main_v32) : FVec Ideal S1x32 .f32) (ix2 c o) = (V (Proc.devRef .tc main_arg1) : FVec Ideal S32x1x4x4 .f32) (ix4 o c 3 1) := by
  obtain rfl : c = 0 := Subsingleton.elim _ _
  rw [cP1 V (by decide +kernel)]; unfold RW R0; after_reads_at

theorem tap1_14 (c : Fin 1) (o : Fin 32) : (RP1 V (Proc.devRef .tc main_v34) : FVec Ideal S1x32 .f32) (ix2 c o) = (V (Proc.devRef .tc main_arg1) : FVec Ideal S32x1x4x4 .f32) (ix4 o c 3 2) := by
  obtain rfl : c = 0 := Subsingleton.elim _ _
  rw [cP1 V (by decide +kernel)]; unfold RW R0; after_reads_at

theorem tap1_15 (c : Fin 1) (o : Fin 32) : (RP1 V (Proc.devRef .tc main_v36) : FVec Ideal S1x32 .f32) (ix2 c o) = (V (Proc.devRef .tc main_arg1) : FVec Ideal S32x1x4x4 .f32) (ix4 o c 3 3) := by
  obtain rfl : c = 0 := Subsingleton.elim _ _
  rw [cP1 V (by decide +kernel)]; unfold RW R0; after_reads_at

end Cert.RVal
end
-- ==== Proof.RT1.lean ====
module

public import proofs.«01_k».proof.Proof.RTap1
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Idealize.ShloMosaic Idealize.ShloMosaic.TcCoe Idealize.SL.Sem Idealize.ShloMosaic.StableHlo

variable (V : Valuation τ sig (Elt Ideal))

/-- The layer's weights and biases. -/
abbrev w1 : T4 32 1 4 4 := fun o c a b => (V (Proc.devRef .tc main_arg1) : FVec Ideal S32x1x4x4 .f32) (ix4 o c a b)
abbrev b1 : Fin 32 → EReal := fun o => (V (Proc.devRef .tc main_arg2) : FVec Ideal S32 .f32) (ix1 o)

set_option maxHeartbeats 4000000 in
theorem in1 (n : Fin 512) (p q : Fin 66) (c : Fin 1) : (RP1 V (Proc.devRef .tc main_v208) : FVec Ideal S512x66x66x1 .f32) (ix4 n p q c)
    = pad1 (fun a b c d => (V (Proc.devRef .tc main_arg0) : FVec Ideal S32x16x64x64 .f32) (ix4 a b c d)) n p q c := by
  unfold RP1
  after_reads_at
  rw [kW V (r := main_arg0) (by decide +kernel)]
  simp only [sitofp_zero, pad1]

theorem bias1 : RP1 V (Proc.devRef .tc main_arg2) = V (Proc.devRef .tc main_arg2) :=
  (cP1 V (by decide +kernel)).trans (kW V (by decide +kernel))

set_option maxHeartbeats 4000000 in
theorem out1 (r : Fin 524288) (o : Fin 32) : (RT1 V (Proc.devRef .tc main_v274) : FVec Ideal S524288x32 .f32) (ix2 r o)
    = conv1 (pad1 (fun a b c d => (V (Proc.devRef .tc main_arg0) : FVec Ideal S32x16x64x64 .f32) (ix4 a b c d))) (w1 V) (b1 V) r o := by
  unfold RT1
  have h0 := tap1_0 V
  have h1 := tap1_1 V
  have h2 := tap1_2 V
  have h3 := tap1_3 V
  have h4 := tap1_4 V
  have h5 := tap1_5 V
  have h6 := tap1_6 V
  have h7 := tap1_7 V
  have h8 := tap1_8 V
  have h9 := tap1_9 V
  have h10 := tap1_10 V
  have h11 := tap1_11 V
  have h12 := tap1_12 V
  have h13 := tap1_13 V
  have h14 := tap1_14 V
  have h15 := tap1_15 V
  have hi := in1 V
  have hb := bias1 V
  generalize RP1 V = U at *
  after_reads_at
  simp only [h0, h1, h2, h3, h4, h5, h6, h7, h8, h9, h10, h11, h12, h13, h14, h15, hi, hb]
  unfold conv1
  rw [sum16]
  refine addc (addc (addc (addc (addc (addc (addc (addc (addc (addc (addc (addc (addc (addc (addc (addc ?_ ?_) ?_) ?_) ?_) ?_) ?_) ?_) ?_) ?_) ?_) ?_) ?_) ?_) ?_) ?_) rfl <;> exact Finset.sum_congr rfl fun c _ => mulc (t4 _ rfl (by dsimp only; omega) (by dsimp only; omega) (by omega)) rfl

end Cert.RVal
end
-- ==== Proof.RTap2.lean ====
module

public import proofs.«01_k».proof.Proof.RCarry
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

theorem tap2_0 (c : Fin 32) (o : Fin 64) : (RP2 V (Proc.devRef .tc main_v40) : FVec Ideal S32x64 .f32) (ix2 c o) = (V (Proc.devRef .tc main_arg3) : FVec Ideal S64x32x4x4 .f32) (ix4 o c 0 0) := by
  rw [cP2 V (by decide +kernel)]; unfold RW R0; after_reads_at

theorem tap2_1 (c : Fin 32) (o : Fin 64) : (RP2 V (Proc.devRef .tc main_v42) : FVec Ideal S32x64 .f32) (ix2 c o) = (V (Proc.devRef .tc main_arg3) : FVec Ideal S64x32x4x4 .f32) (ix4 o c 0 1) := by
  rw [cP2 V (by decide +kernel)]; unfold RW R0; after_reads_at

theorem tap2_2 (c : Fin 32) (o : Fin 64) : (RP2 V (Proc.devRef .tc main_v44) : FVec Ideal S32x64 .f32) (ix2 c o) = (V (Proc.devRef .tc main_arg3) : FVec Ideal S64x32x4x4 .f32) (ix4 o c 0 2) := by
  rw [cP2 V (by decide +kernel)]; unfold RW R0; after_reads_at

theorem tap2_3 (c : Fin 32) (o : Fin 64) : (RP2 V (Proc.devRef .tc main_v46) : FVec Ideal S32x64 .f32) (ix2 c o) = (V (Proc.devRef .tc main_arg3) : FVec Ideal S64x32x4x4 .f32) (ix4 o c 0 3) := by
  rw [cP2 V (by decide +kernel)]; unfold RW R0; after_reads_at

theorem tap2_4 (c : Fin 32) (o : Fin 64) : (RP2 V (Proc.devRef .tc main_v48) : FVec Ideal S32x64 .f32) (ix2 c o) = (V (Proc.devRef .tc main_arg3) : FVec Ideal S64x32x4x4 .f32) (ix4 o c 1 0) := by
  rw [cP2 V (by decide +kernel)]; unfold RW R0; after_reads_at

theorem tap2_5 (c : Fin 32) (o : Fin 64) : (RP2 V (Proc.devRef .tc main_v50) : FVec Ideal S32x64 .f32) (ix2 c o) = (V (Proc.devRef .tc main_arg3) : FVec Ideal S64x32x4x4 .f32) (ix4 o c 1 1) := by
  rw [cP2 V (by decide +kernel)]; unfold RW R0; after_reads_at

theorem tap2_6 (c : Fin 32) (o : Fin 64) : (RP2 V (Proc.devRef .tc main_v52) : FVec Ideal S32x64 .f32) (ix2 c o) = (V (Proc.devRef .tc main_arg3) : FVec Ideal S64x32x4x4 .f32) (ix4 o c 1 2) := by
  rw [cP2 V (by decide +kernel)]; unfold RW R0; after_reads_at

theorem tap2_7 (c : Fin 32) (o : Fin 64) : (RP2 V (Proc.devRef .tc main_v54) : FVec Ideal S32x64 .f32) (ix2 c o) = (V (Proc.devRef .tc main_arg3) : FVec Ideal S64x32x4x4 .f32) (ix4 o c 1 3) := by
  rw [cP2 V (by decide +kernel)]; unfold RW R0; after_reads_at

theorem tap2_8 (c : Fin 32) (o : Fin 64) : (RP2 V (Proc.devRef .tc main_v56) : FVec Ideal S32x64 .f32) (ix2 c o) = (V (Proc.devRef .tc main_arg3) : FVec Ideal S64x32x4x4 .f32) (ix4 o c 2 0) := by
  rw [cP2 V (by decide +kernel)]; unfold RW R0; after_reads_at

theorem tap2_9 (c : Fin 32) (o : Fin 64) : (RP2 V (Proc.devRef .tc main_v58) : FVec Ideal S32x64 .f32) (ix2 c o) = (V (Proc.devRef .tc main_arg3) : FVec Ideal S64x32x4x4 .f32) (ix4 o c 2 1) := by
  rw [cP2 V (by decide +kernel)]; unfold RW R0; after_reads_at

theorem tap2_10 (c : Fin 32) (o : Fin 64) : (RP2 V (Proc.devRef .tc main_v60) : FVec Ideal S32x64 .f32) (ix2 c o) = (V (Proc.devRef .tc main_arg3) : FVec Ideal S64x32x4x4 .f32) (ix4 o c 2 2) := by
  rw [cP2 V (by decide +kernel)]; unfold RW R0; after_reads_at

theorem tap2_11 (c : Fin 32) (o : Fin 64) : (RP2 V (Proc.devRef .tc main_v62) : FVec Ideal S32x64 .f32) (ix2 c o) = (V (Proc.devRef .tc main_arg3) : FVec Ideal S64x32x4x4 .f32) (ix4 o c 2 3) := by
  rw [cP2 V (by decide +kernel)]; unfold RW R0; after_reads_at

theorem tap2_12 (c : Fin 32) (o : Fin 64) : (RP2 V (Proc.devRef .tc main_v64) : FVec Ideal S32x64 .f32) (ix2 c o) = (V (Proc.devRef .tc main_arg3) : FVec Ideal S64x32x4x4 .f32) (ix4 o c 3 0) := by
  rw [cP2 V (by decide +kernel)]; unfold RW R0; after_reads_at

theorem tap2_13 (c : Fin 32) (o : Fin 64) : (RP2 V (Proc.devRef .tc main_v66) : FVec Ideal S32x64 .f32) (ix2 c o) = (V (Proc.devRef .tc main_arg3) : FVec Ideal S64x32x4x4 .f32) (ix4 o c 3 1) := by
  rw [cP2 V (by decide +kernel)]; unfold RW R0; after_reads_at

theorem tap2_14 (c : Fin 32) (o : Fin 64) : (RP2 V (Proc.devRef .tc main_v68) : FVec Ideal S32x64 .f32) (ix2 c o) = (V (Proc.devRef .tc main_arg3) : FVec Ideal S64x32x4x4 .f32) (ix4 o c 3 2) := by
  rw [cP2 V (by decide +kernel)]; unfold RW R0; after_reads_at

theorem tap2_15 (c : Fin 32) (o : Fin 64) : (RP2 V (Proc.devRef .tc main_v70) : FVec Ideal S32x64 .f32) (ix2 c o) = (V (Proc.devRef .tc main_arg3) : FVec Ideal S64x32x4x4 .f32) (ix4 o c 3 3) := by
  rw [cP2 V (by decide +kernel)]; unfold RW R0; after_reads_at

end Cert.RVal
end
-- ==== Proof.RT2.lean ====
module

public import proofs.«01_k».proof.Proof.RTap2
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Idealize.ShloMosaic Idealize.ShloMosaic.TcCoe Idealize.SL.Sem Idealize.ShloMosaic.StableHlo

variable (V : Valuation τ sig (Elt Ideal))

/-- The layer's weights and biases. -/
abbrev w2 : T4 64 32 4 4 := fun o c a b => (V (Proc.devRef .tc main_arg3) : FVec Ideal S64x32x4x4 .f32) (ix4 o c a b)
abbrev b2 : Fin 64 → EReal := fun o => (V (Proc.devRef .tc main_arg4) : FVec Ideal S64 .f32) (ix1 o)

set_option maxHeartbeats 4000000 in
theorem in2 (n : Fin 512) (p q : Fin 34) (c : Fin 32) : (RP2 V (Proc.devRef .tc main_v277) : FVec Ideal S512x34x34x32 .f32) (ix4 n p q c)
    = pad2 (fun r o => (RT1 V (Proc.devRef .tc main_v274) : FVec Ideal S524288x32 .f32) (ix2 r o)) n p q c := by
  unfold RP2
  after_reads_at
  simp only [sitofp_zero, pad2]

theorem bias2 : RP2 V (Proc.devRef .tc main_arg4) = V (Proc.devRef .tc main_arg4) :=
  (cP2 V (by decide +kernel)).trans (kW V (by decide +kernel))

set_option maxHeartbeats 4000000 in
theorem out2 (r : Fin 131072) (o : Fin 64) : (RT2 V (Proc.devRef .tc main_v343) : FVec Ideal S131072x64 .f32) (ix2 r o)
    = conv2 (pad2 (fun r o => (RT1 V (Proc.devRef .tc main_v274) : FVec Ideal S524288x32 .f32) (ix2 r o))) (w2 V) (b2 V) r o := by
  unfold RT2
  have h0 := tap2_0 V
  have h1 := tap2_1 V
  have h2 := tap2_2 V
  have h3 := tap2_3 V
  have h4 := tap2_4 V
  have h5 := tap2_5 V
  have h6 := tap2_6 V
  have h7 := tap2_7 V
  have h8 := tap2_8 V
  have h9 := tap2_9 V
  have h10 := tap2_10 V
  have h11 := tap2_11 V
  have h12 := tap2_12 V
  have h13 := tap2_13 V
  have h14 := tap2_14 V
  have h15 := tap2_15 V
  have hi := in2 V
  have hb := bias2 V
  generalize RP2 V = U at *
  after_reads_at
  simp only [h0, h1, h2, h3, h4, h5, h6, h7, h8, h9, h10, h11, h12, h13, h14, h15, hi, hb]
  unfold conv2
  rw [sum16]
  refine addc (addc (addc (addc (addc (addc (addc (addc (addc (addc (addc (addc (addc (addc (addc (addc ?_ ?_) ?_) ?_) ?_) ?_) ?_) ?_) ?_) ?_) ?_) ?_) ?_) ?_) ?_) ?_) rfl <;> exact Finset.sum_congr rfl fun c _ => mulc (t4 _ rfl (by dsimp only; omega) (by dsimp only; omega) (by omega)) rfl

end Cert.RVal
end
-- ==== Proof.RTap3.lean ====
module

public import proofs.«01_k».proof.Proof.RCarry
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

theorem tap3_0 (c : Fin 64) (o : Fin 64) : (RP3 V (Proc.devRef .tc main_v74) : FVec Ideal S64x64 .f32) (ix2 c o) = (V (Proc.devRef .tc main_arg5) : FVec Ideal S64x64x4x4 .f32) (ix4 o c 0 0) := by
  rw [cP3 V (by decide +kernel)]; unfold RW R0; after_reads_at

theorem tap3_1 (c : Fin 64) (o : Fin 64) : (RP3 V (Proc.devRef .tc main_v76) : FVec Ideal S64x64 .f32) (ix2 c o) = (V (Proc.devRef .tc main_arg5) : FVec Ideal S64x64x4x4 .f32) (ix4 o c 0 1) := by
  rw [cP3 V (by decide +kernel)]; unfold RW R0; after_reads_at

theorem tap3_2 (c : Fin 64) (o : Fin 64) : (RP3 V (Proc.devRef .tc main_v78) : FVec Ideal S64x64 .f32) (ix2 c o) = (V (Proc.devRef .tc main_arg5) : FVec Ideal S64x64x4x4 .f32) (ix4 o c 0 2) := by
  rw [cP3 V (by decide +kernel)]; unfold RW R0; after_reads_at

theorem tap3_3 (c : Fin 64) (o : Fin 64) : (RP3 V (Proc.devRef .tc main_v80) : FVec Ideal S64x64 .f32) (ix2 c o) = (V (Proc.devRef .tc main_arg5) : FVec Ideal S64x64x4x4 .f32) (ix4 o c 0 3) := by
  rw [cP3 V (by decide +kernel)]; unfold RW R0; after_reads_at

theorem tap3_4 (c : Fin 64) (o : Fin 64) : (RP3 V (Proc.devRef .tc main_v82) : FVec Ideal S64x64 .f32) (ix2 c o) = (V (Proc.devRef .tc main_arg5) : FVec Ideal S64x64x4x4 .f32) (ix4 o c 1 0) := by
  rw [cP3 V (by decide +kernel)]; unfold RW R0; after_reads_at

theorem tap3_5 (c : Fin 64) (o : Fin 64) : (RP3 V (Proc.devRef .tc main_v84) : FVec Ideal S64x64 .f32) (ix2 c o) = (V (Proc.devRef .tc main_arg5) : FVec Ideal S64x64x4x4 .f32) (ix4 o c 1 1) := by
  rw [cP3 V (by decide +kernel)]; unfold RW R0; after_reads_at

theorem tap3_6 (c : Fin 64) (o : Fin 64) : (RP3 V (Proc.devRef .tc main_v86) : FVec Ideal S64x64 .f32) (ix2 c o) = (V (Proc.devRef .tc main_arg5) : FVec Ideal S64x64x4x4 .f32) (ix4 o c 1 2) := by
  rw [cP3 V (by decide +kernel)]; unfold RW R0; after_reads_at

theorem tap3_7 (c : Fin 64) (o : Fin 64) : (RP3 V (Proc.devRef .tc main_v88) : FVec Ideal S64x64 .f32) (ix2 c o) = (V (Proc.devRef .tc main_arg5) : FVec Ideal S64x64x4x4 .f32) (ix4 o c 1 3) := by
  rw [cP3 V (by decide +kernel)]; unfold RW R0; after_reads_at

theorem tap3_8 (c : Fin 64) (o : Fin 64) : (RP3 V (Proc.devRef .tc main_v90) : FVec Ideal S64x64 .f32) (ix2 c o) = (V (Proc.devRef .tc main_arg5) : FVec Ideal S64x64x4x4 .f32) (ix4 o c 2 0) := by
  rw [cP3 V (by decide +kernel)]; unfold RW R0; after_reads_at

theorem tap3_9 (c : Fin 64) (o : Fin 64) : (RP3 V (Proc.devRef .tc main_v92) : FVec Ideal S64x64 .f32) (ix2 c o) = (V (Proc.devRef .tc main_arg5) : FVec Ideal S64x64x4x4 .f32) (ix4 o c 2 1) := by
  rw [cP3 V (by decide +kernel)]; unfold RW R0; after_reads_at

theorem tap3_10 (c : Fin 64) (o : Fin 64) : (RP3 V (Proc.devRef .tc main_v94) : FVec Ideal S64x64 .f32) (ix2 c o) = (V (Proc.devRef .tc main_arg5) : FVec Ideal S64x64x4x4 .f32) (ix4 o c 2 2) := by
  rw [cP3 V (by decide +kernel)]; unfold RW R0; after_reads_at

theorem tap3_11 (c : Fin 64) (o : Fin 64) : (RP3 V (Proc.devRef .tc main_v96) : FVec Ideal S64x64 .f32) (ix2 c o) = (V (Proc.devRef .tc main_arg5) : FVec Ideal S64x64x4x4 .f32) (ix4 o c 2 3) := by
  rw [cP3 V (by decide +kernel)]; unfold RW R0; after_reads_at

theorem tap3_12 (c : Fin 64) (o : Fin 64) : (RP3 V (Proc.devRef .tc main_v98) : FVec Ideal S64x64 .f32) (ix2 c o) = (V (Proc.devRef .tc main_arg5) : FVec Ideal S64x64x4x4 .f32) (ix4 o c 3 0) := by
  rw [cP3 V (by decide +kernel)]; unfold RW R0; after_reads_at

theorem tap3_13 (c : Fin 64) (o : Fin 64) : (RP3 V (Proc.devRef .tc main_v100) : FVec Ideal S64x64 .f32) (ix2 c o) = (V (Proc.devRef .tc main_arg5) : FVec Ideal S64x64x4x4 .f32) (ix4 o c 3 1) := by
  rw [cP3 V (by decide +kernel)]; unfold RW R0; after_reads_at

theorem tap3_14 (c : Fin 64) (o : Fin 64) : (RP3 V (Proc.devRef .tc main_v102) : FVec Ideal S64x64 .f32) (ix2 c o) = (V (Proc.devRef .tc main_arg5) : FVec Ideal S64x64x4x4 .f32) (ix4 o c 3 2) := by
  rw [cP3 V (by decide +kernel)]; unfold RW R0; after_reads_at

theorem tap3_15 (c : Fin 64) (o : Fin 64) : (RP3 V (Proc.devRef .tc main_v104) : FVec Ideal S64x64 .f32) (ix2 c o) = (V (Proc.devRef .tc main_arg5) : FVec Ideal S64x64x4x4 .f32) (ix4 o c 3 3) := by
  rw [cP3 V (by decide +kernel)]; unfold RW R0; after_reads_at

end Cert.RVal
end
-- ==== Proof.RT3.lean ====
module

public import proofs.«01_k».proof.Proof.RTap3
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Idealize.ShloMosaic Idealize.ShloMosaic.TcCoe Idealize.SL.Sem Idealize.ShloMosaic.StableHlo

variable (V : Valuation τ sig (Elt Ideal))

/-- The layer's weights and biases. -/
abbrev w3 : T4 64 64 4 4 := fun o c a b => (V (Proc.devRef .tc main_arg5) : FVec Ideal S64x64x4x4 .f32) (ix4 o c a b)
abbrev b3 : Fin 64 → EReal := fun o => (V (Proc.devRef .tc main_arg6) : FVec Ideal S64 .f32) (ix1 o)

set_option maxHeartbeats 4000000 in
theorem in3 (n : Fin 512) (p q : Fin 18) (c : Fin 64) : (RP3 V (Proc.devRef .tc main_v346) : FVec Ideal S512x18x18x64 .f32) (ix4 n p q c)
    = pad3 (fun r o => (RT2 V (Proc.devRef .tc main_v343) : FVec Ideal S131072x64 .f32) (ix2 r o)) n p q c := by
  unfold RP3
  after_reads_at
  simp only [sitofp_zero, pad3]

theorem bias3 : RP3 V (Proc.devRef .tc main_arg6) = V (Proc.devRef .tc main_arg6) :=
  (cP3 V (by decide +kernel)).trans (kW V (by decide +kernel))

set_option maxHeartbeats 4000000 in
theorem out3 (r : Fin 32768) (o : Fin 64) : (RT3 V (Proc.devRef .tc main_v412) : FVec Ideal S32768x64 .f32) (ix2 r o)
    = conv3 (pad3 (fun r o => (RT2 V (Proc.devRef .tc main_v343) : FVec Ideal S131072x64 .f32) (ix2 r o))) (w3 V) (b3 V) r o := by
  unfold RT3
  have h0 := tap3_0 V
  have h1 := tap3_1 V
  have h2 := tap3_2 V
  have h3 := tap3_3 V
  have h4 := tap3_4 V
  have h5 := tap3_5 V
  have h6 := tap3_6 V
  have h7 := tap3_7 V
  have h8 := tap3_8 V
  have h9 := tap3_9 V
  have h10 := tap3_10 V
  have h11 := tap3_11 V
  have h12 := tap3_12 V
  have h13 := tap3_13 V
  have h14 := tap3_14 V
  have h15 := tap3_15 V
  have hi := in3 V
  have hb := bias3 V
  generalize RP3 V = U at *
  after_reads_at
  simp only [h0, h1, h2, h3, h4, h5, h6, h7, h8, h9, h10, h11, h12, h13, h14, h15, hi, hb]
  unfold conv3
  rw [sum16]
  refine addc (addc (addc (addc (addc (addc (addc (addc (addc (addc (addc (addc (addc (addc (addc (addc ?_ ?_) ?_) ?_) ?_) ?_) ?_) ?_) ?_) ?_) ?_) ?_) ?_) ?_) ?_) ?_) rfl <;> exact Finset.sum_congr rfl fun c _ => mulc (t4 _ rfl (by dsimp only; omega) (by dsimp only; omega) (by omega)) rfl

end Cert.RVal
end
-- ==== Proof.RTapD1.lean ====
module

public import proofs.«01_k».proof.Proof.RCarry
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

theorem tapD1_0 (c : Fin 64) (o : Fin 64) : (RPD1 V (Proc.devRef .tc main_v108) : FVec Ideal S64x64 .f32) (ix2 c o) = (V (Proc.devRef .tc main_arg8) : FVec Ideal S64x64x4x4 .f32) (ix4 o c 0 0) := by
  rw [cPD1 V (by decide +kernel)]; unfold RW R0; after_reads_at

theorem tapD1_1 (c : Fin 64) (o : Fin 64) : (RPD1 V (Proc.devRef .tc main_v110) : FVec Ideal S64x64 .f32) (ix2 c o) = (V (Proc.devRef .tc main_arg8) : FVec Ideal S64x64x4x4 .f32) (ix4 o c 0 1) := by
  rw [cPD1 V (by decide +kernel)]; unfold RW R0; after_reads_at

theorem tapD1_2 (c : Fin 64) (o : Fin 64) : (RPD1 V (Proc.devRef .tc main_v112) : FVec Ideal S64x64 .f32) (ix2 c o) = (V (Proc.devRef .tc main_arg8) : FVec Ideal S64x64x4x4 .f32) (ix4 o c 0 2) := by
  rw [cPD1 V (by decide +kernel)]; unfold RW R0; after_reads_at

theorem tapD1_3 (c : Fin 64) (o : Fin 64) : (RPD1 V (Proc.devRef .tc main_v114) : FVec Ideal S64x64 .f32) (ix2 c o) = (V (Proc.devRef .tc main_arg8) : FVec Ideal S64x64x4x4 .f32) (ix4 o c 0 3) := by
  rw [cPD1 V (by decide +kernel)]; unfold RW R0; after_reads_at

theorem tapD1_4 (c : Fin 64) (o : Fin 64) : (RPD1 V (Proc.devRef .tc main_v116) : FVec Ideal S64x64 .f32) (ix2 c o) = (V (Proc.devRef .tc main_arg8) : FVec Ideal S64x64x4x4 .f32) (ix4 o c 1 0) := by
  rw [cPD1 V (by decide +kernel)]; unfold RW R0; after_reads_at

theorem tapD1_5 (c : Fin 64) (o : Fin 64) : (RPD1 V (Proc.devRef .tc main_v118) : FVec Ideal S64x64 .f32) (ix2 c o) = (V (Proc.devRef .tc main_arg8) : FVec Ideal S64x64x4x4 .f32) (ix4 o c 1 1) := by
  rw [cPD1 V (by decide +kernel)]; unfold RW R0; after_reads_at

theorem tapD1_6 (c : Fin 64) (o : Fin 64) : (RPD1 V (Proc.devRef .tc main_v120) : FVec Ideal S64x64 .f32) (ix2 c o) = (V (Proc.devRef .tc main_arg8) : FVec Ideal S64x64x4x4 .f32) (ix4 o c 1 2) := by
  rw [cPD1 V (by decide +kernel)]; unfold RW R0; after_reads_at

theorem tapD1_7 (c : Fin 64) (o : Fin 64) : (RPD1 V (Proc.devRef .tc main_v122) : FVec Ideal S64x64 .f32) (ix2 c o) = (V (Proc.devRef .tc main_arg8) : FVec Ideal S64x64x4x4 .f32) (ix4 o c 1 3) := by
  rw [cPD1 V (by decide +kernel)]; unfold RW R0; after_reads_at

theorem tapD1_8 (c : Fin 64) (o : Fin 64) : (RPD1 V (Proc.devRef .tc main_v124) : FVec Ideal S64x64 .f32) (ix2 c o) = (V (Proc.devRef .tc main_arg8) : FVec Ideal S64x64x4x4 .f32) (ix4 o c 2 0) := by
  rw [cPD1 V (by decide +kernel)]; unfold RW R0; after_reads_at

theorem tapD1_9 (c : Fin 64) (o : Fin 64) : (RPD1 V (Proc.devRef .tc main_v126) : FVec Ideal S64x64 .f32) (ix2 c o) = (V (Proc.devRef .tc main_arg8) : FVec Ideal S64x64x4x4 .f32) (ix4 o c 2 1) := by
  rw [cPD1 V (by decide +kernel)]; unfold RW R0; after_reads_at

theorem tapD1_10 (c : Fin 64) (o : Fin 64) : (RPD1 V (Proc.devRef .tc main_v128) : FVec Ideal S64x64 .f32) (ix2 c o) = (V (Proc.devRef .tc main_arg8) : FVec Ideal S64x64x4x4 .f32) (ix4 o c 2 2) := by
  rw [cPD1 V (by decide +kernel)]; unfold RW R0; after_reads_at

theorem tapD1_11 (c : Fin 64) (o : Fin 64) : (RPD1 V (Proc.devRef .tc main_v130) : FVec Ideal S64x64 .f32) (ix2 c o) = (V (Proc.devRef .tc main_arg8) : FVec Ideal S64x64x4x4 .f32) (ix4 o c 2 3) := by
  rw [cPD1 V (by decide +kernel)]; unfold RW R0; after_reads_at

theorem tapD1_12 (c : Fin 64) (o : Fin 64) : (RPD1 V (Proc.devRef .tc main_v132) : FVec Ideal S64x64 .f32) (ix2 c o) = (V (Proc.devRef .tc main_arg8) : FVec Ideal S64x64x4x4 .f32) (ix4 o c 3 0) := by
  rw [cPD1 V (by decide +kernel)]; unfold RW R0; after_reads_at

theorem tapD1_13 (c : Fin 64) (o : Fin 64) : (RPD1 V (Proc.devRef .tc main_v134) : FVec Ideal S64x64 .f32) (ix2 c o) = (V (Proc.devRef .tc main_arg8) : FVec Ideal S64x64x4x4 .f32) (ix4 o c 3 1) := by
  rw [cPD1 V (by decide +kernel)]; unfold RW R0; after_reads_at

theorem tapD1_14 (c : Fin 64) (o : Fin 64) : (RPD1 V (Proc.devRef .tc main_v136) : FVec Ideal S64x64 .f32) (ix2 c o) = (V (Proc.devRef .tc main_arg8) : FVec Ideal S64x64x4x4 .f32) (ix4 o c 3 2) := by
  rw [cPD1 V (by decide +kernel)]; unfold RW R0; after_reads_at

theorem tapD1_15 (c : Fin 64) (o : Fin 64) : (RPD1 V (Proc.devRef .tc main_v138) : FVec Ideal S64x64 .f32) (ix2 c o) = (V (Proc.devRef .tc main_arg8) : FVec Ideal S64x64x4x4 .f32) (ix4 o c 3 3) := by
  rw [cPD1 V (by decide +kernel)]; unfold RW R0; after_reads_at

end Cert.RVal
end
-- ==== Proof.RTD1.lean ====
module

public import proofs.«01_k».proof.Proof.RTapD1
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Idealize.ShloMosaic Idealize.ShloMosaic.TcCoe Idealize.SL.Sem Idealize.ShloMosaic.StableHlo

variable (V : Valuation τ sig (Elt Ideal))

/-- The layer's weights and biases. -/
abbrev wD1 : T4 64 64 4 4 := fun o c a b => (V (Proc.devRef .tc main_arg8) : FVec Ideal S64x64x4x4 .f32) (ix4 o c a b)
abbrev bD1 : Fin 64 → EReal := fun o => (V (Proc.devRef .tc main_arg9) : FVec Ideal S64 .f32) (ix1 o)

set_option maxHeartbeats 4000000 in
theorem inD1 (n : Fin 512) (p q : Fin 19) (c : Fin 64) : (RPD1 V (Proc.devRef .tc main_v441) : FVec Ideal S512x19x19x64 .f32) (ix4 n p q c)
    = padD1 (fun r o => (RL V (Proc.devRef .tc main_v439) : FVec Ideal S32768x64 .f32) (ix2 r o)) n p q c := by
  unfold RPD1
  after_reads_at
  simp only [sitofp_zero, padD1]

theorem biasD1 : RPD1 V (Proc.devRef .tc main_arg9) = V (Proc.devRef .tc main_arg9) :=
  (cPD1 V (by decide +kernel)).trans (kW V (by decide +kernel))

set_option maxHeartbeats 4000000 in
theorem outD1 (r : Fin 131072) (o : Fin 64) : (RTD1 V (Proc.devRef .tc main_v507) : FVec Ideal S131072x64 .f32) (ix2 r o)
    = dec1 (padD1 (fun r o => (RL V (Proc.devRef .tc main_v439) : FVec Ideal S32768x64 .f32) (ix2 r o))) (wD1 V) (bD1 V) r o := by
  unfold RTD1
  have h0 := tapD1_0 V
  have h1 := tapD1_1 V
  have h2 := tapD1_2 V
  have h3 := tapD1_3 V
  have h4 := tapD1_4 V
  have h5 := tapD1_5 V
  have h6 := tapD1_6 V
  have h7 := tapD1_7 V
  have h8 := tapD1_8 V
  have h9 := tapD1_9 V
  have h10 := tapD1_10 V
  have h11 := tapD1_11 V
  have h12 := tapD1_12 V
  have h13 := tapD1_13 V
  have h14 := tapD1_14 V
  have h15 := tapD1_15 V
  have hi := inD1 V
  have hb := biasD1 V
  generalize RPD1 V = U at *
  after_reads_at
  simp only [h0, h1, h2, h3, h4, h5, h6, h7, h8, h9, h10, h11, h12, h13, h14, h15, hi, hb]
  unfold dec1
  rw [sum16]
  refine addc (addc (addc (addc (addc (addc (addc (addc (addc (addc (addc (addc (addc (addc (addc (addc ?_ ?_) ?_) ?_) ?_) ?_) ?_) ?_) ?_) ?_) ?_) ?_) ?_) ?_) ?_) ?_) rfl <;> exact Finset.sum_congr rfl fun c _ => mulc (t4 _ rfl (by dsimp only; omega) (by dsimp only; omega) (by omega)) rfl

end Cert.RVal
end
-- ==== Proof.RTapD2.lean ====
module

public import proofs.«01_k».proof.Proof.RCarry
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

theorem tapD2_0 (c : Fin 64) (o : Fin 32) : (RPD2 V (Proc.devRef .tc main_v142) : FVec Ideal S64x32 .f32) (ix2 c o) = (V (Proc.devRef .tc main_arg10) : FVec Ideal S32x64x4x4 .f32) (ix4 o c 0 0) := by
  rw [cPD2 V (by decide +kernel)]; unfold RW R0; after_reads_at

theorem tapD2_1 (c : Fin 64) (o : Fin 32) : (RPD2 V (Proc.devRef .tc main_v144) : FVec Ideal S64x32 .f32) (ix2 c o) = (V (Proc.devRef .tc main_arg10) : FVec Ideal S32x64x4x4 .f32) (ix4 o c 0 1) := by
  rw [cPD2 V (by decide +kernel)]; unfold RW R0; after_reads_at

theorem tapD2_2 (c : Fin 64) (o : Fin 32) : (RPD2 V (Proc.devRef .tc main_v146) : FVec Ideal S64x32 .f32) (ix2 c o) = (V (Proc.devRef .tc main_arg10) : FVec Ideal S32x64x4x4 .f32) (ix4 o c 0 2) := by
  rw [cPD2 V (by decide +kernel)]; unfold RW R0; after_reads_at

theorem tapD2_3 (c : Fin 64) (o : Fin 32) : (RPD2 V (Proc.devRef .tc main_v148) : FVec Ideal S64x32 .f32) (ix2 c o) = (V (Proc.devRef .tc main_arg10) : FVec Ideal S32x64x4x4 .f32) (ix4 o c 0 3) := by
  rw [cPD2 V (by decide +kernel)]; unfold RW R0; after_reads_at

theorem tapD2_4 (c : Fin 64) (o : Fin 32) : (RPD2 V (Proc.devRef .tc main_v150) : FVec Ideal S64x32 .f32) (ix2 c o) = (V (Proc.devRef .tc main_arg10) : FVec Ideal S32x64x4x4 .f32) (ix4 o c 1 0) := by
  rw [cPD2 V (by decide +kernel)]; unfold RW R0; after_reads_at

theorem tapD2_5 (c : Fin 64) (o : Fin 32) : (RPD2 V (Proc.devRef .tc main_v152) : FVec Ideal S64x32 .f32) (ix2 c o) = (V (Proc.devRef .tc main_arg10) : FVec Ideal S32x64x4x4 .f32) (ix4 o c 1 1) := by
  rw [cPD2 V (by decide +kernel)]; unfold RW R0; after_reads_at

theorem tapD2_6 (c : Fin 64) (o : Fin 32) : (RPD2 V (Proc.devRef .tc main_v154) : FVec Ideal S64x32 .f32) (ix2 c o) = (V (Proc.devRef .tc main_arg10) : FVec Ideal S32x64x4x4 .f32) (ix4 o c 1 2) := by
  rw [cPD2 V (by decide +kernel)]; unfold RW R0; after_reads_at

theorem tapD2_7 (c : Fin 64) (o : Fin 32) : (RPD2 V (Proc.devRef .tc main_v156) : FVec Ideal S64x32 .f32) (ix2 c o) = (V (Proc.devRef .tc main_arg10) : FVec Ideal S32x64x4x4 .f32) (ix4 o c 1 3) := by
  rw [cPD2 V (by decide +kernel)]; unfold RW R0; after_reads_at

theorem tapD2_8 (c : Fin 64) (o : Fin 32) : (RPD2 V (Proc.devRef .tc main_v158) : FVec Ideal S64x32 .f32) (ix2 c o) = (V (Proc.devRef .tc main_arg10) : FVec Ideal S32x64x4x4 .f32) (ix4 o c 2 0) := by
  rw [cPD2 V (by decide +kernel)]; unfold RW R0; after_reads_at

theorem tapD2_9 (c : Fin 64) (o : Fin 32) : (RPD2 V (Proc.devRef .tc main_v160) : FVec Ideal S64x32 .f32) (ix2 c o) = (V (Proc.devRef .tc main_arg10) : FVec Ideal S32x64x4x4 .f32) (ix4 o c 2 1) := by
  rw [cPD2 V (by decide +kernel)]; unfold RW R0; after_reads_at

theorem tapD2_10 (c : Fin 64) (o : Fin 32) : (RPD2 V (Proc.devRef .tc main_v162) : FVec Ideal S64x32 .f32) (ix2 c o) = (V (Proc.devRef .tc main_arg10) : FVec Ideal S32x64x4x4 .f32) (ix4 o c 2 2) := by
  rw [cPD2 V (by decide +kernel)]; unfold RW R0; after_reads_at

theorem tapD2_11 (c : Fin 64) (o : Fin 32) : (RPD2 V (Proc.devRef .tc main_v164) : FVec Ideal S64x32 .f32) (ix2 c o) = (V (Proc.devRef .tc main_arg10) : FVec Ideal S32x64x4x4 .f32) (ix4 o c 2 3) := by
  rw [cPD2 V (by decide +kernel)]; unfold RW R0; after_reads_at

theorem tapD2_12 (c : Fin 64) (o : Fin 32) : (RPD2 V (Proc.devRef .tc main_v166) : FVec Ideal S64x32 .f32) (ix2 c o) = (V (Proc.devRef .tc main_arg10) : FVec Ideal S32x64x4x4 .f32) (ix4 o c 3 0) := by
  rw [cPD2 V (by decide +kernel)]; unfold RW R0; after_reads_at

theorem tapD2_13 (c : Fin 64) (o : Fin 32) : (RPD2 V (Proc.devRef .tc main_v168) : FVec Ideal S64x32 .f32) (ix2 c o) = (V (Proc.devRef .tc main_arg10) : FVec Ideal S32x64x4x4 .f32) (ix4 o c 3 1) := by
  rw [cPD2 V (by decide +kernel)]; unfold RW R0; after_reads_at

theorem tapD2_14 (c : Fin 64) (o : Fin 32) : (RPD2 V (Proc.devRef .tc main_v170) : FVec Ideal S64x32 .f32) (ix2 c o) = (V (Proc.devRef .tc main_arg10) : FVec Ideal S32x64x4x4 .f32) (ix4 o c 3 2) := by
  rw [cPD2 V (by decide +kernel)]; unfold RW R0; after_reads_at

theorem tapD2_15 (c : Fin 64) (o : Fin 32) : (RPD2 V (Proc.devRef .tc main_v172) : FVec Ideal S64x32 .f32) (ix2 c o) = (V (Proc.devRef .tc main_arg10) : FVec Ideal S32x64x4x4 .f32) (ix4 o c 3 3) := by
  rw [cPD2 V (by decide +kernel)]; unfold RW R0; after_reads_at

end Cert.RVal
end
-- ==== Proof.RTD2.lean ====
module

public import proofs.«01_k».proof.Proof.RTapD2
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Idealize.ShloMosaic Idealize.ShloMosaic.TcCoe Idealize.SL.Sem Idealize.ShloMosaic.StableHlo

variable (V : Valuation τ sig (Elt Ideal))

/-- The layer's weights and biases. -/
abbrev wD2 : T4 32 64 4 4 := fun o c a b => (V (Proc.devRef .tc main_arg10) : FVec Ideal S32x64x4x4 .f32) (ix4 o c a b)
abbrev bD2 : Fin 32 → EReal := fun o => (V (Proc.devRef .tc main_arg11) : FVec Ideal S32 .f32) (ix1 o)

set_option maxHeartbeats 4000000 in
theorem inD2 (n : Fin 512) (p q : Fin 35) (c : Fin 64) : (RPD2 V (Proc.devRef .tc main_v510) : FVec Ideal S512x35x35x64 .f32) (ix4 n p q c)
    = padD2 (fun r o => (RTD1 V (Proc.devRef .tc main_v507) : FVec Ideal S131072x64 .f32) (ix2 r o)) n p q c := by
  unfold RPD2
  after_reads_at
  simp only [sitofp_zero, padD2]

theorem biasD2 : RPD2 V (Proc.devRef .tc main_arg11) = V (Proc.devRef .tc main_arg11) :=
  (cPD2 V (by decide +kernel)).trans (kW V (by decide +kernel))

set_option maxHeartbeats 4000000 in
theorem outD2 (r : Fin 524288) (o : Fin 32) : (RTD2 V (Proc.devRef .tc main_v576) : FVec Ideal S524288x32 .f32) (ix2 r o)
    = dec2 (padD2 (fun r o => (RTD1 V (Proc.devRef .tc main_v507) : FVec Ideal S131072x64 .f32) (ix2 r o))) (wD2 V) (bD2 V) r o := by
  unfold RTD2
  have h0 := tapD2_0 V
  have h1 := tapD2_1 V
  have h2 := tapD2_2 V
  have h3 := tapD2_3 V
  have h4 := tapD2_4 V
  have h5 := tapD2_5 V
  have h6 := tapD2_6 V
  have h7 := tapD2_7 V
  have h8 := tapD2_8 V
  have h9 := tapD2_9 V
  have h10 := tapD2_10 V
  have h11 := tapD2_11 V
  have h12 := tapD2_12 V
  have h13 := tapD2_13 V
  have h14 := tapD2_14 V
  have h15 := tapD2_15 V
  have hi := inD2 V
  have hb := biasD2 V
  generalize RPD2 V = U at *
  after_reads_at
  simp only [h0, h1, h2, h3, h4, h5, h6, h7, h8, h9, h10, h11, h12, h13, h14, h15, hi, hb]
  unfold dec2
  rw [sum16]
  refine addc (addc (addc (addc (addc (addc (addc (addc (addc (addc (addc (addc (addc (addc (addc (addc ?_ ?_) ?_) ?_) ?_) ?_) ?_) ?_) ?_) ?_) ?_) ?_) ?_) ?_) ?_) ?_) rfl <;> exact Finset.sum_congr rfl fun c _ => mulc (t4 _ rfl (by dsimp only; omega) (by dsimp only; omega) (by omega)) rfl

end Cert.RVal
end
-- ==== Proof.RTapD3.lean ====
module

public import proofs.«01_k».proof.Proof.RCarry
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Idealize.ShloMosaic Idealize.ShloMosaic.TcCoe Idealize.SL.Sem Idealize.ShloMosaic.StableHlo

variable (V : Valuation τ sig (Elt Ideal))

theorem tapD3_0 (c : Fin 32) (o : Fin 1) : (RPD3 V (Proc.devRef .tc main_v176) : FVec Ideal S32x1 .f32) (ix2 c o) = (V (Proc.devRef .tc main_arg12) : FVec Ideal S1x32x4x4 .f32) (ix4 o c 0 0) := by
  obtain rfl : o = 0 := Subsingleton.elim _ _
  rw [cPD3 V (by decide +kernel)]; unfold RW R0; after_reads_at

theorem tapD3_1 (c : Fin 32) (o : Fin 1) : (RPD3 V (Proc.devRef .tc main_v178) : FVec Ideal S32x1 .f32) (ix2 c o) = (V (Proc.devRef .tc main_arg12) : FVec Ideal S1x32x4x4 .f32) (ix4 o c 0 1) := by
  obtain rfl : o = 0 := Subsingleton.elim _ _
  rw [cPD3 V (by decide +kernel)]; unfold RW R0; after_reads_at

theorem tapD3_2 (c : Fin 32) (o : Fin 1) : (RPD3 V (Proc.devRef .tc main_v180) : FVec Ideal S32x1 .f32) (ix2 c o) = (V (Proc.devRef .tc main_arg12) : FVec Ideal S1x32x4x4 .f32) (ix4 o c 0 2) := by
  obtain rfl : o = 0 := Subsingleton.elim _ _
  rw [cPD3 V (by decide +kernel)]; unfold RW R0; after_reads_at

theorem tapD3_3 (c : Fin 32) (o : Fin 1) : (RPD3 V (Proc.devRef .tc main_v182) : FVec Ideal S32x1 .f32) (ix2 c o) = (V (Proc.devRef .tc main_arg12) : FVec Ideal S1x32x4x4 .f32) (ix4 o c 0 3) := by
  obtain rfl : o = 0 := Subsingleton.elim _ _
  rw [cPD3 V (by decide +kernel)]; unfold RW R0; after_reads_at

theorem tapD3_4 (c : Fin 32) (o : Fin 1) : (RPD3 V (Proc.devRef .tc main_v184) : FVec Ideal S32x1 .f32) (ix2 c o) = (V (Proc.devRef .tc main_arg12) : FVec Ideal S1x32x4x4 .f32) (ix4 o c 1 0) := by
  obtain rfl : o = 0 := Subsingleton.elim _ _
  rw [cPD3 V (by decide +kernel)]; unfold RW R0; after_reads_at

theorem tapD3_5 (c : Fin 32) (o : Fin 1) : (RPD3 V (Proc.devRef .tc main_v186) : FVec Ideal S32x1 .f32) (ix2 c o) = (V (Proc.devRef .tc main_arg12) : FVec Ideal S1x32x4x4 .f32) (ix4 o c 1 1) := by
  obtain rfl : o = 0 := Subsingleton.elim _ _
  rw [cPD3 V (by decide +kernel)]; unfold RW R0; after_reads_at

theorem tapD3_6 (c : Fin 32) (o : Fin 1) : (RPD3 V (Proc.devRef .tc main_v188) : FVec Ideal S32x1 .f32) (ix2 c o) = (V (Proc.devRef .tc main_arg12) : FVec Ideal S1x32x4x4 .f32) (ix4 o c 1 2) := by
  obtain rfl : o = 0 := Subsingleton.elim _ _
  rw [cPD3 V (by decide +kernel)]; unfold RW R0; after_reads_at

theorem tapD3_7 (c : Fin 32) (o : Fin 1) : (RPD3 V (Proc.devRef .tc main_v190) : FVec Ideal S32x1 .f32) (ix2 c o) = (V (Proc.devRef .tc main_arg12) : FVec Ideal S1x32x4x4 .f32) (ix4 o c 1 3) := by
  obtain rfl : o = 0 := Subsingleton.elim _ _
  rw [cPD3 V (by decide +kernel)]; unfold RW R0; after_reads_at

theorem tapD3_8 (c : Fin 32) (o : Fin 1) : (RPD3 V (Proc.devRef .tc main_v192) : FVec Ideal S32x1 .f32) (ix2 c o) = (V (Proc.devRef .tc main_arg12) : FVec Ideal S1x32x4x4 .f32) (ix4 o c 2 0) := by
  obtain rfl : o = 0 := Subsingleton.elim _ _
  rw [cPD3 V (by decide +kernel)]; unfold RW R0; after_reads_at

theorem tapD3_9 (c : Fin 32) (o : Fin 1) : (RPD3 V (Proc.devRef .tc main_v194) : FVec Ideal S32x1 .f32) (ix2 c o) = (V (Proc.devRef .tc main_arg12) : FVec Ideal S1x32x4x4 .f32) (ix4 o c 2 1) := by
  obtain rfl : o = 0 := Subsingleton.elim _ _
  rw [cPD3 V (by decide +kernel)]; unfold RW R0; after_reads_at

theorem tapD3_10 (c : Fin 32) (o : Fin 1) : (RPD3 V (Proc.devRef .tc main_v196) : FVec Ideal S32x1 .f32) (ix2 c o) = (V (Proc.devRef .tc main_arg12) : FVec Ideal S1x32x4x4 .f32) (ix4 o c 2 2) := by
  obtain rfl : o = 0 := Subsingleton.elim _ _
  rw [cPD3 V (by decide +kernel)]; unfold RW R0; after_reads_at

theorem tapD3_11 (c : Fin 32) (o : Fin 1) : (RPD3 V (Proc.devRef .tc main_v198) : FVec Ideal S32x1 .f32) (ix2 c o) = (V (Proc.devRef .tc main_arg12) : FVec Ideal S1x32x4x4 .f32) (ix4 o c 2 3) := by
  obtain rfl : o = 0 := Subsingleton.elim _ _
  rw [cPD3 V (by decide +kernel)]; unfold RW R0; after_reads_at

theorem tapD3_12 (c : Fin 32) (o : Fin 1) : (RPD3 V (Proc.devRef .tc main_v200) : FVec Ideal S32x1 .f32) (ix2 c o) = (V (Proc.devRef .tc main_arg12) : FVec Ideal S1x32x4x4 .f32) (ix4 o c 3 0) := by
  obtain rfl : o = 0 := Subsingleton.elim _ _
  rw [cPD3 V (by decide +kernel)]; unfold RW R0; after_reads_at

theorem tapD3_13 (c : Fin 32) (o : Fin 1) : (RPD3 V (Proc.devRef .tc main_v202) : FVec Ideal S32x1 .f32) (ix2 c o) = (V (Proc.devRef .tc main_arg12) : FVec Ideal S1x32x4x4 .f32) (ix4 o c 3 1) := by
  obtain rfl : o = 0 := Subsingleton.elim _ _
  rw [cPD3 V (by decide +kernel)]; unfold RW R0; after_reads_at

theorem tapD3_14 (c : Fin 32) (o : Fin 1) : (RPD3 V (Proc.devRef .tc main_v204) : FVec Ideal S32x1 .f32) (ix2 c o) = (V (Proc.devRef .tc main_arg12) : FVec Ideal S1x32x4x4 .f32) (ix4 o c 3 2) := by
  obtain rfl : o = 0 := Subsingleton.elim _ _
  rw [cPD3 V (by decide +kernel)]; unfold RW R0; after_reads_at

theorem tapD3_15 (c : Fin 32) (o : Fin 1) : (RPD3 V (Proc.devRef .tc main_v206) : FVec Ideal S32x1 .f32) (ix2 c o) = (V (Proc.devRef .tc main_arg12) : FVec Ideal S1x32x4x4 .f32) (ix4 o c 3 3) := by
  obtain rfl : o = 0 := Subsingleton.elim _ _
  rw [cPD3 V (by decide +kernel)]; unfold RW R0; after_reads_at

end Cert.RVal
end
-- ==== Proof.RTD3.lean ====
module

public import proofs.«01_k».proof.Proof.RTapD3
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.RVal

open Cert.ReferenceIdeal Cert.ReferenceIdeal.Gen Cert.RefRun Cert.Spec Idealize.ShloMosaic Idealize.ShloMosaic.TcCoe Idealize.SL.Sem Idealize.ShloMosaic.StableHlo

variable (V : Valuation τ sig (Elt Ideal))

/-- The layer's weights and biases. -/
abbrev wD3 : T4 1 32 4 4 := fun o c a b => (V (Proc.devRef .tc main_arg12) : FVec Ideal S1x32x4x4 .f32) (ix4 o c a b)
abbrev bD3 : Fin 1 → EReal := fun o => (V (Proc.devRef .tc main_arg13) : FVec Ideal S1 .f32) (ix1 o)

set_option maxHeartbeats 4000000 in
theorem inD3 (n : Fin 512) (p q : Fin 67) (c : Fin 32) : (RPD3 V (Proc.devRef .tc main_v579) : FVec Ideal S512x67x67x32 .f32) (ix4 n p q c)
    = padD3 (fun r o => (RTD2 V (Proc.devRef .tc main_v576) : FVec Ideal S524288x32 .f32) (ix2 r o)) n p q c := by
  unfold RPD3
  after_reads_at
  simp only [sitofp_zero, padD3]

theorem biasD3 : RPD3 V (Proc.devRef .tc main_arg13) = V (Proc.devRef .tc main_arg13) :=
  (cPD3 V (by decide +kernel)).trans (kW V (by decide +kernel))

set_option maxHeartbeats 4000000 in
theorem outD3 (r : Fin 2097152) (o : Fin 1) : (RTD3 V (Proc.devRef .tc main_v645) : FVec Ideal S2097152x1 .f32) (ix2 r o)
    = dec3 (padD3 (fun r o => (RTD2 V (Proc.devRef .tc main_v576) : FVec Ideal S524288x32 .f32) (ix2 r o))) (wD3 V) (bD3 V) r o := by
  obtain rfl : o = 0 := Subsingleton.elim _ _
  unfold RTD3
  have h0 := tapD3_0 V
  have h1 := tapD3_1 V
  have h2 := tapD3_2 V
  have h3 := tapD3_3 V
  have h4 := tapD3_4 V
  have h5 := tapD3_5 V
  have h6 := tapD3_6 V
  have h7 := tapD3_7 V
  have h8 := tapD3_8 V
  have h9 := tapD3_9 V
  have h10 := tapD3_10 V
  have h11 := tapD3_11 V
  have h12 := tapD3_12 V
  have h13 := tapD3_13 V
  have h14 := tapD3_14 V
  have h15 := tapD3_15 V
  have hi := inD3 V
  have hb := biasD3 V
  generalize RPD3 V = U at *
  after_reads_at
  simp only [h0, h1, h2, h3, h4, h5, h6, h7, h8, h9, h10, h11, h12, h13, h14, h15, hi, hb]
  unfold dec3
  rw [sum16]
  refine addc (addc (addc (addc (addc (addc (addc (addc (addc (addc (addc (addc (addc (addc (addc (addc ?_ ?_) ?_) ?_) ?_) ?_) ?_) ?_) ?_) ?_) ?_) ?_) ?_) ?_) ?_) ?_) rfl <;> exact Finset.sum_congr rfl fun c _ => mulc (t4 _ rfl (by dsimp only; omega) (by dsimp only; omega) (by omega)) rfl

end Cert.RVal
end
-- ==== Proof.RTop.lean ====
/-
  The reference's four results, each as a function of its arguments.
-/
module

public import proofs.«01_k».proof.Proof.RVq
public import proofs.«01_k».proof.Proof.RT1
public import proofs.«01_k».proof.Proof.RT2
public import proofs.«01_k».proof.Proof.RT3
public import proofs.«01_k».proof.Proof.RTD1
public import proofs.«01_k».proof.Proof.RTD2
public import proofs.«01_k».proof.Proof.RTD3
public import proofs.«01_k».proof.Proof.Finite

@[expose] public section

set_option maxRecDepth 16384

noncomputable section

namespace Cert.RVal

open Cert.ReferenceIdeal Cert.ReferenceIdeal.Gen Cert.RefRun Cert.Spec Cert.Best Idealize.ShloMosaic Idealize.ShloMosaic.TcCoe Idealize.SL.Sem Idealize.ShloMosaic.StableHlo

variable (V : Valuation τ sig (Elt Ideal))

/-- The images. -/
abbrev x0 : T4 32 16 64 64 := fun a b c d => (V (Proc.devRef .tc main_arg0) : FVec Ideal S32x16x64x64 .f32) (ix4 a b c d)

/-- The encoder's rows are the three layers of the images. -/
theorem zR_eq : zR V = enc (x0 V) (w1 V) (b1 V) (w2 V) (b2 V) (w3 V) (b3 V) := by
  have h1 : (fun r o => (RT1 V (Proc.devRef .tc main_v274) : FVec Ideal S524288x32 .f32) (ix2 r o)) = conv1 (pad1 (x0 V)) (w1 V) (b1 V) :=
    funext fun r => funext fun o => out1 V r o
  have h2 : (fun r o => (RT2 V (Proc.devRef .tc main_v343) : FVec Ideal S131072x64 .f32) (ix2 r o)) = _ := funext fun r => funext fun o => out2 V r o
  have h3 : zR V = _ := funext fun r => funext fun o => out3 V r o
  rw [h1] at h2
  rw [h2] at h3
  exact h3

/-- The decoder's rows before the last step, of any rows that the straight-through sum is equal to. -/
theorem dec_eq (y : T2 32768 64) (hy : (fun r k => (RL V (Proc.devRef .tc main_v439) : FVec Ideal S32768x64 .f32) (ix2 r k)) = y) (r : Fin 2097152) (o : Fin 1) :
    (RTD3 V (Proc.devRef .tc main_v645) : FVec Ideal S2097152x1 .f32) (ix2 r o) = decd y (wD1 V) (bD1 V) (wD2 V) (bD2 V) (wD3 V) (bD3 V) r o := by
  have h1 : (fun r o => (RTD1 V (Proc.devRef .tc main_v507) : FVec Ideal S131072x64 .f32) (ix2 r o)) = _ := funext fun r => funext fun o => outD1 V r o
  have h2 : (fun r o => (RTD2 V (Proc.devRef .tc main_v576) : FVec Ideal S524288x32 .f32) (ix2 r o)) = _ := funext fun r => funext fun o => outD2 V r o
  have h3 := outD3 V r o
  rw [hy] at h1
  rw [h1] at h2
  rw [h2] at h3
  exact h3

/-- An argument is what it was at the launch. -/
theorem arg_eq {r : Ref sig .tc} (h : r ∉ uE) (h' : r ∉ wW) : RE V (Proc.devRef .tc r) = V (Proc.devRef .tc r) :=
  (cE V h).trans (kW V h')

variable (hz : ∀ r k, Fin' (zR V r k))
include hz

theorem st_eq : (fun r k => (RL V (Proc.devRef .tc main_v439) : FVec Ideal S32768x64 .f32) (ix2 r k)) = fun r k => eR V (near (zR V) (eR V) r) k :=
  funext fun r => funext fun k => (outST V r k).trans (add_sub_back (hz r k) _)

theorem reconR (n : Fin 512) (i : Fin 1) (p q : Fin 64) : (RE V (Proc.devRef .tc main_v647) : FVec Ideal S512x1x64x64 .f32) (ix4 n i p q)
    = Ideal.tanh (decd (fun r k => eR V (near (zR V) (eR V) r) k) (wD1 V) (bD1 V) (wD2 V) (bD2 V) (wD3 V) (bD3 V) ⟨n.val * 4096 + p.val * 64 + q.val, by omega⟩ 0) :=
  (resRecon V n i p q).trans (congrArg Ideal.tanh (dec_eq V _ (st_eq V hz) _ _))

theorem pooledR (n : Fin 32) (p : Fin 16) (k : Fin 64) : (RE V (Proc.devRef .tc main_v652) : FVec Ideal S32x16x64 .f32) (ix3 n p k)
    = Ideal.div (∑ x : Fin 64, eR V (near (zR V) (eR V) ⟨(n.val * 16 + p.val) * 64 + x.val, by omega⟩) k) (Ideal.ofBits .f32 1115684864#32) :=
  (resPooled V n p k).trans (congrArg (fun v : EReal => Ideal.div v (Ideal.ofBits .f32 1115684864#32)) (Finset.sum_congr rfl fun x _ => add_sub_back (hz _ _) _))

omit hz in
theorem lossR : (RE V (Proc.devRef .tc main_v437) : FVec Ideal S_ .f32) ix0
    = Ideal.div (Ideal.ofBits .f32 1067450368#32 * ∑ r, ∑ k, (eR V (near (zR V) (eR V) r) k - zR V r k) * (eR V (near (zR V) (eR V) r) k - zR V r k)) (Ideal.ofBits .f32 1241513984#32) :=
  ((resLoss V).trans (outL V)).trans (loss_eq (Finset.sum_nonneg fun r _ => Finset.sum_nonneg fun k _ => sq_nonneg' _)).symm

end Cert.RVal
end
-- ==== Proof.Value.lean ====
/-
  The kernel's results and the reference's are the same, from equal arguments with the encoder's finite.
-/
module

public import proofs.«01_k».proof.Proof.KTop
public import proofs.«01_k».proof.Proof.RTop

@[expose] public section

set_option maxRecDepth 16384

noncomputable section

namespace Cert.Value

open Cert.Spec Idealize.ShloMosaic Idealize.ShloMosaic.TcCoe Idealize.SL.Sem Idealize.ShloMosaic.StableHlo
open Cert.KVal Cert.RVal

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : Valuation Cert.ReferenceIdeal.τ Cert.ReferenceIdeal.sig (Elt Ideal))

/-- The reference's arguments are the kernel's, each read by its coordinates. -/
structure Same : Prop where
  x : x0 V = xK m c
  w1 : w1 V = wK1 m c
  b1 : b1 V = bK1 m c
  w2 : w2 V = wK2 m c
  b2 : b2 V = bK2 m c
  w3 : w3 V = wK3 m c
  b3 : b3 V = bK3 m c
  e : eR V = eK m c
  w4 : wD1 V = wK4 m c
  b4 : bD1 V = bK4 m c
  w5 : wD2 V = wK5 m c
  b5 : bD2 V = bK5 m c
  w6 : wD3 V = wK6 m c
  b6 : bD3 V = bK6 m c

/-- The encoder's arguments are real numbers. -/
structure Real : Prop where
  x : ∀ a b i j, Fin' (xK m c a b i j)
  w1 : ∀ o k i j, Fin' (wK1 m c o k i j)
  b1 : ∀ o, Fin' (bK1 m c o)
  w2 : ∀ o k i j, Fin' (wK2 m c o k i j)
  b2 : ∀ o, Fin' (bK2 m c o)
  w3 : ∀ o k i j, Fin' (wK3 m c o k i j)
  b3 : ∀ o, Fin' (bK3 m c o)

variable {m c V} (s : Same m c V) (f : Real m c)
include s

theorem z_eq : zR V = zK m c := by
  rw [zR_eq, s.x, s.w1, s.b1, s.w2, s.b2, s.w3, s.b3]; rfl

theorem loss_same : (Cert.RefRun.RE V (Proc.devRef .tc Cert.ReferenceIdeal.main_v437) : FVec Ideal Cert.ReferenceIdeal.S_ .f32)
    = (Cert.KernelIdeal.Gen.W27 m ρ c (Proc.devRef .tc Cert.KernelIdeal.main_v170) : FVec Ideal Cert.KernelIdeal.S_ .f32) := by
  funext i
  obtain rfl : i = ix0 := ValueIdx.eq_ix0 i
  refine (lossR V).trans (Eq.trans ?_ (lossK m ρ c).symm)
  rw [z_eq s, s.e]

theorem idx_same : (Cert.RefRun.RE V (Proc.devRef .tc Cert.ReferenceIdeal.main_v655) : IVec Cert.ReferenceIdeal.S32x16 32)
    = (Cert.KernelIdeal.Gen.W27 m ρ c (Proc.devRef .tc Cert.KernelIdeal.main_v174) : IVec Cert.KernelIdeal.S32x16 32) := by
  funext i
  obtain ⟨n, p, rfl⟩ : ∃ (n : Fin 32) (p : Fin 16), i = ix2 n p := ⟨_, _, eq_ix2 i⟩
  refine (resIdx V n p).trans (Eq.trans ?_ (idxK m ρ c n p).symm)
  rw [z_eq s, s.e]

include f

theorem z_fin : ∀ r k, Fin' (zR V r k) := fun r k => by
  rw [z_eq s]; exact fin_enc f.x f.w1 f.b1 f.w2 f.b2 f.w3 f.b3 r k

theorem pooled_same : (Cert.RefRun.RE V (Proc.devRef .tc Cert.ReferenceIdeal.main_v652) : FVec Ideal Cert.ReferenceIdeal.S32x16x64 .f32)
    = (Cert.KernelIdeal.Gen.W27 m ρ c (Proc.devRef .tc Cert.KernelIdeal.main_v171) : FVec Ideal Cert.KernelIdeal.S32x16x64 .f32) := by
  funext i
  obtain ⟨n, p, k, rfl⟩ : ∃ (n : Fin 32) (p : Fin 16) (k : Fin 64), i = ix3 n p k := ⟨_, _, _, eq_ix3 i⟩
  refine (pooledR V (z_fin s f) n p k).trans (Eq.trans ?_ (pooledK m ρ c n p k).symm)
  rw [z_eq s, s.e]

theorem recon_same : (Cert.RefRun.RE V (Proc.devRef .tc Cert.ReferenceIdeal.main_v647) : FVec Ideal Cert.ReferenceIdeal.S512x1x64x64 .f32)
    = (Cert.KernelIdeal.Gen.W27 m ρ c (Proc.devRef .tc Cert.KernelIdeal.main_v380) : FVec Ideal Cert.KernelIdeal.S512x1x64x64 .f32) := by
  funext i
  obtain ⟨n, j, p, q, rfl⟩ : ∃ (n : Fin 512) (j : Fin 1) (p q : Fin 64), i = ix4 n j p q := ⟨_, _, _, _, eq_ix4 i⟩
  refine (reconR V (z_fin s f) n j p q).trans (Eq.trans ?_ (reconK m ρ c n j p q).symm)
  rw [z_eq s, s.e, s.w4, s.b4, s.w5, s.b5, s.w6, s.b6]

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_encoder_finite
public import proofs.«01_k».proof.Proof.KRun
public import proofs.«01_k».proof.Proof.PreFin
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference's run: each result and each argument, and every counter at zero. -/
theorem refRun (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0) :=
  θ_run_mono (Cert.RefRun.run m g) fun r h => ⟨fun c => ⟨
    (h c Cert.ReferenceIdeal.main_arg0).trans (Cert.RVal.arg_eq _ (by decide +kernel) (by decide +kernel)),
    (h c Cert.ReferenceIdeal.main_arg1).trans (Cert.RVal.arg_eq _ (by decide +kernel) (by decide +kernel)),
    (h c Cert.ReferenceIdeal.main_arg2).trans (Cert.RVal.arg_eq _ (by decide +kernel) (by decide +kernel)),
    (h c Cert.ReferenceIdeal.main_arg3).trans (Cert.RVal.arg_eq _ (by decide +kernel) (by decide +kernel)),
    (h c Cert.ReferenceIdeal.main_arg4).trans (Cert.RVal.arg_eq _ (by decide +kernel) (by decide +kernel)),
    (h c Cert.ReferenceIdeal.main_arg5).trans (Cert.RVal.arg_eq _ (by decide +kernel) (by decide +kernel)),
    (h c Cert.ReferenceIdeal.main_arg6).trans (Cert.RVal.arg_eq _ (by decide +kernel) (by decide +kernel)),
    (h c Cert.ReferenceIdeal.main_arg7).trans (Cert.RVal.arg_eq _ (by decide +kernel) (by decide +kernel)),
    (h c Cert.ReferenceIdeal.main_arg8).trans (Cert.RVal.arg_eq _ (by decide +kernel) (by decide +kernel)),
    (h c Cert.ReferenceIdeal.main_arg9).trans (Cert.RVal.arg_eq _ (by decide +kernel) (by decide +kernel)),
    (h c Cert.ReferenceIdeal.main_arg10).trans (Cert.RVal.arg_eq _ (by decide +kernel) (by decide +kernel)),
    (h c Cert.ReferenceIdeal.main_arg11).trans (Cert.RVal.arg_eq _ (by decide +kernel) (by decide +kernel)),
    (h c Cert.ReferenceIdeal.main_arg12).trans (Cert.RVal.arg_eq _ (by decide +kernel) (by decide +kernel)),
    (h c Cert.ReferenceIdeal.main_arg13).trans (Cert.RVal.arg_eq _ (by decide +kernel) (by decide +kernel))⟩,
    sem_eq_zero_of_no_sems (by decide) r.2⟩

/-- The kernel's run: each buffer that is not scoped, at the last boundary's contents. -/
theorem kerRun (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ (c : Dev Cert.KernelIdeal.nD) (b : Ref Cert.KernelIdeal.sig .tc),
      ¬ (Proc.devRef .tc b : DevRef Cert.KernelIdeal.τ Cert.KernelIdeal.sig).isScoped → r.2.mem ((c.tc : Thread Cert.KernelIdeal.nD Cert.KernelIdeal.τ).loc b) = Cert.KernelIdeal.Gen.W27 (F := Ideal) m g c (Proc.devRef .tc b)) :=
  θ_run_mono (Cert.KVal.run m g) fun r h c b hb => h c _ (Cert.KernelIdeal.Gen.mem_uc b hb)

/-- Equal arguments, read by their coordinates. -/
theorem same_of (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) : Cert.Value.Same m c (launchContents m' c) := by
  obtain ⟨h0, h1, h2, h3, h4, h5, h6, h7, h8, h9, h10, h11, h12, h13⟩ := h
  exact {
    x := funext fun _ => funext fun _ => funext fun _ => funext fun _ => congrFun h0 _
    w1 := funext fun _ => funext fun _ => funext fun _ => funext fun _ => congrFun h1 _
    b1 := funext fun _ => congrFun h2 _
    w2 := funext fun _ => funext fun _ => funext fun _ => funext fun _ => congrFun h3 _
    b2 := funext fun _ => congrFun h4 _
    w3 := funext fun _ => funext fun _ => funext fun _ => funext fun _ => congrFun h5 _
    b3 := funext fun _ => congrFun h6 _
    e := funext fun _ => funext fun _ => congrFun h7 _
    w4 := funext fun _ => funext fun _ => funext fun _ => funext fun _ => congrFun h8 _
    b4 := funext fun _ => congrFun h9 _
    w5 := funext fun _ => funext fun _ => funext fun _ => funext fun _ => congrFun h10 _
    b5 := funext fun _ => congrFun h11 _
    w6 := funext fun _ => funext fun _ => funext fun _ => funext fun _ => congrFun h12 _
    b6 := funext fun _ => congrFun h13 _
  }

/-- The precondition's say on the encoder's arguments. -/
theorem real_of (m : (ℓ : Loc Cert.KernelIdeal.nD Cert.KernelIdeal.τ Cert.KernelIdeal.sig) → Buf (Elt Ideal) ℓ) (c : Dev Cert.KernelIdeal.nD) [Cert.Pre_encoder_finite.Facts]
    (h : Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) : Cert.Value.Real m c := by
  obtain ⟨h0, h1, h2, h3, h4, h5, h6⟩ := Cert.PreFin.args_fin _ _ _ _ _ _ _ _ _ _ _ _ _ _ h
  exact {
    x := fun _ _ _ _ => h0 _
    w1 := fun _ _ _ _ => h1 _
    b1 := fun _ => h2 _
    w2 := fun _ _ _ _ => h3 _
    b2 := fun _ => h4 _
    w3 := fun _ _ _ _ => h5 _
    b3 := fun _ => h6 _
  }

theorem claim : Cert.Claim := ⟨Cert.Kernel.Gen.facts, Cert.KernelIdeal.Gen.facts, Cert.ReferenceIdeal.Gen.facts, Cert.Pre_encoder_finite.Gen.facts,
  fun m g _ => Cert.Kernel.Gen.frame m g,
  fun m g _ => Cert.KernelIdeal.Gen.frame m g,
  fun m g _ => Cert.KernelIdeal.Gen.frame m g,
  fun m g _ => refRun m g,
  fun m g _ => refRun m g,
  trivial,
  fun m g m' g' hpre hagree => by
    refine ⟨fun c => Cert.KernelIdeal.Gen.W27 (F := Ideal) m g c (Proc.devRef .tc Cert.KernelIdeal.main_v171), fun c => Cert.KernelIdeal.Gen.W27 (F := Ideal) m g c (Proc.devRef .tc Cert.KernelIdeal.main_v174),
      fun c => Cert.KernelIdeal.Gen.W27 (F := Ideal) m g c (Proc.devRef .tc Cert.KernelIdeal.main_v170), fun c => Cert.KernelIdeal.Gen.W27 (F := Ideal) m g c (Proc.devRef .tc Cert.KernelIdeal.main_v380), ?_, ?_⟩
    · exact θ_run_mono (kerRun m g) fun r h c => ⟨h c _ (by decide), h c _ (by decide), h c _ (by decide), h c _ (by decide),
        (h c _ (by decide)).trans (Cert.KernelIdeal.Gen.W27_main_arg0 m g c),
        (h c _ (by decide)).trans (Cert.KernelIdeal.Gen.W27_main_arg1 m g c),
        (h c _ (by decide)).trans (Cert.KernelIdeal.Gen.W27_main_arg2 m g c),
        (h c _ (by decide)).trans (Cert.KernelIdeal.Gen.W27_main_arg3 m g c),
        (h c _ (by decide)).trans (Cert.KernelIdeal.Gen.W27_main_arg4 m g c),
        (h c _ (by decide)).trans (Cert.KernelIdeal.Gen.W27_main_arg5 m g c),
        (h c _ (by decide)).trans (Cert.KernelIdeal.Gen.W27_main_arg6 m g c),
        (h c _ (by decide)).trans (Cert.KernelIdeal.Gen.W27_main_arg7 m g c),
        (h c _ (by decide)).trans (Cert.KernelIdeal.Gen.W27_main_arg8 m g c),
        (h c _ (by decide)).trans (Cert.KernelIdeal.Gen.W27_main_arg9 m g c),
        (h c _ (by decide)).trans (Cert.KernelIdeal.Gen.W27_main_arg10 m g c),
        (h c _ (by decide)).trans (Cert.KernelIdeal.Gen.W27_main_arg11 m g c),
        (h c _ (by decide)).trans (Cert.KernelIdeal.Gen.W27_main_arg12 m g c),
        (h c _ (by decide)).trans (Cert.KernelIdeal.Gen.W27_main_arg13 m g c)⟩
    · refine θ_run_mono (Cert.RefRun.run m' g') fun r h c => ?_
      have s := same_of m m' c (hagree c)
      have f := real_of m c (hpre c)
      exact ⟨(h c _).trans (Cert.Value.pooled_same g s f), (h c _).trans (Cert.Value.idx_same g s), (h c _).trans (Cert.Value.loss_same g s),
        (h c _).trans (Cert.Value.recon_same g s f),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel)),
        (h c _).trans (Cert.RVal.arg_eq _ (by decide +kernel) (by decide +kernel))⟩⟩

end Cert.Proof

end
